-- ==== Defs.lean ====
def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherRefIdeal [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1)) (m ((c.tc : Thread Cert.GatherRefIdeal.nD Cert.GatherRefIdeal.τ).loc Cert.GatherRefIdeal.main_arg2))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite2 [hPre_finite2 : Cert.Pre_finite2.Facts] (m : (ℓ : Loc Cert.SelectIdeal.nD Cert.SelectIdeal.τ Cert.SelectIdeal.sig) → Buf (Elt Ideal) ℓ) : Prop :=
  ∀ c : Dev Cert.SelectIdeal.nD,
    (Cert.Pre_finite2.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_finite2 [hPre_finite2 : Cert.Pre_finite2.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_finite2.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_KernelRefIdeal (m : (ℓ : Loc Cert.KernelRefIdeal.nD Cert.KernelRefIdeal.τ Cert.KernelRefIdeal.sig) → Buf (Elt Ideal) ℓ) : Prop :=
  True

def Pre_KernelRefIdeal_finite [hPre_finite : Cert.Pre_finite.Facts] (m : (ℓ : Loc Cert.KernelRefIdeal.nD Cert.KernelRefIdeal.τ Cert.KernelRefIdeal.sig) → Buf (Elt Ideal) ℓ) : Prop :=
  ∀ c : Dev Cert.KernelRefIdeal.nD,
    (Cert.Pre_finite.fn (F := Ideal) (m ((c.tc : Thread Cert.KernelRefIdeal.nD Cert.KernelRefIdeal.τ).loc Cert.KernelRefIdeal.main_arg0))) = (fun _ => 1#1)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_finite2 [hSelectIdeal : Cert.SelectIdeal.Facts] [hPre_finite2 : Cert.Pre_finite2.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite2 m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_SelectRefIdeal_pre_finite2 [hSelectRefIdeal : Cert.SelectRefIdeal.Facts] [hPre_finite2 : Cert.Pre_finite2.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_finite2 m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0))
      ∧ r.2.sem = fun _ => 0)

def quiescent_KernelRefIdeal_pre_finite [hKernelRefIdeal : Cert.KernelRefIdeal.Facts] [hPre_finite : Cert.Pre_finite.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal_finite m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v21)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v21) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v6) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v6_1)) (v1 : (c : Dev Cert.SampleIdeal.nD) → Buf (Elt Ideal) ((c.tc : Thread Cert.SampleIdeal.nD Cert.SampleIdeal.τ).loc Cert.SampleIdeal.main_v6_2)) (v2 : (c : Dev Cert.SampleIdeal.nD) → Buf (Elt Ideal) ((c.tc : Thread Cert.SampleIdeal.nD Cert.SampleIdeal.τ).loc Cert.SampleIdeal.main_v6_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v6_1) = v0 c
          ∧ r.2.mem ((c.tc : Thread Cert.SampleIdeal.nD Cert.SampleIdeal.τ).loc Cert.SampleIdeal.main_v6_2) = v1 c
          ∧ r.2.mem ((c.tc : Thread Cert.SampleIdeal.nD Cert.SampleIdeal.τ).loc Cert.SampleIdeal.main_v6_3) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v9) = v0 c
          ∧ r.2.mem ((c.tc : Thread Cert.SampleRefIdeal.nD Cert.SampleRefIdeal.τ).loc Cert.SampleRefIdeal.main_v13) = v1 c
          ∧ r.2.mem ((c.tc : Thread Cert.SampleRefIdeal.nD Cert.SampleRefIdeal.τ).loc Cert.SampleRefIdeal.main_v17) = v2 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0))

def preserves_Select_SelectIdeal : Prop :=
  True

def algebraic_SelectIdeal_SelectRefIdeal_pre_finite2 [hSelectIdeal : Cert.SelectIdeal.Facts] [hSelectRefIdeal : Cert.SelectRefIdeal.Facts] [hPre_finite2 : Cert.Pre_finite2.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_finite2 m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v18)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v18) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_indices) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1))

def algebraic_KernelIdeal_KernelRefIdeal_pre_finite [hKernelIdeal : Cert.KernelIdeal.Facts] [hKernelRefIdeal : Cert.KernelRefIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal_finite m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v29) = v0 c
          ∧ r.2.mem ((c.tc : Thread Cert.KernelRefIdeal.nD Cert.KernelRefIdeal.τ).loc Cert.KernelRefIdeal.main_v5) = v1 c
          ∧ r.2.mem ((c.tc : Thread Cert.KernelRefIdeal.nD Cert.KernelRefIdeal.τ).loc Cert.KernelRefIdeal.main_indices) = v2 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0))

def Claim : Prop :=
  ∃ (hGather : Cert.Gather.Facts) (hGatherIdeal : Cert.GatherIdeal.Facts) (hGatherRefIdeal : Cert.GatherRefIdeal.Facts) (hSample : Cert.Sample.Facts) (hSampleIdeal : Cert.SampleIdeal.Facts) (hSampleRefIdeal : Cert.SampleRefIdeal.Facts) (hSelect : Cert.Select.Facts) (hSelectIdeal : Cert.SelectIdeal.Facts) (hSelectRefIdeal : Cert.SelectRefIdeal.Facts) (hKernelIdeal : Cert.KernelIdeal.Facts) (hKernelRefIdeal : Cert.KernelRefIdeal.Facts) (hPre_idx_in_rows : Cert.Pre_idx_in_rows.Facts) (hPre_finite2 : Cert.Pre_finite2.Facts) (hPre_finite : Cert.Pre_finite.Facts),
    quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal) (hPre_idx_in_rows := hPre_idx_in_rows)
    ∧ quiescent_Sample (hSample := hSample)
    ∧ quiescent_SampleIdeal (hSampleIdeal := hSampleIdeal)
    ∧ quiescent_SampleRefIdeal (hSampleRefIdeal := hSampleRefIdeal)
    ∧ quiescent_Select (hSelect := hSelect)
    ∧ quiescent_SelectIdeal (hSelectIdeal := hSelectIdeal)
    ∧ quiescent_SelectIdeal_pre_finite2 (hSelectIdeal := hSelectIdeal) (hPre_finite2 := hPre_finite2)
    ∧ quiescent_SelectRefIdeal (hSelectRefIdeal := hSelectRefIdeal)
    ∧ quiescent_SelectRefIdeal_pre_finite2 (hSelectRefIdeal := hSelectRefIdeal) (hPre_finite2 := hPre_finite2)
    ∧ quiescent_KernelIdeal (hKernelIdeal := hKernelIdeal)
    ∧ quiescent_KernelIdeal_pre_finite (hKernelIdeal := hKernelIdeal) (hPre_finite := hPre_finite)
    ∧ quiescent_KernelRefIdeal (hKernelRefIdeal := hKernelRefIdeal)
    ∧ quiescent_KernelRefIdeal_pre_finite (hKernelRefIdeal := hKernelRefIdeal) (hPre_finite := hPre_finite)
    ∧ preserves_Gather_GatherIdeal
    ∧ algebraic_GatherIdeal_GatherRefIdeal (hGatherIdeal := hGatherIdeal) (hGatherRefIdeal := hGatherRefIdeal) (hPre_idx_in_rows := hPre_idx_in_rows)
    ∧ preserves_Sample_SampleIdeal
    ∧ algebraic_SampleIdeal_SampleRefIdeal (hSampleIdeal := hSampleIdeal) (hSampleRefIdeal := hSampleRefIdeal)
    ∧ preserves_Select_SelectIdeal
    ∧ algebraic_SelectIdeal_SelectRefIdeal_pre_finite2 (hSelectIdeal := hSelectIdeal) (hSelectRefIdeal := hSelectRefIdeal) (hPre_finite2 := hPre_finite2)
    ∧ algebraic_KernelIdeal_KernelRefIdeal_pre_finite (hKernelIdeal := hKernelIdeal) (hKernelRefIdeal := hKernelRefIdeal) (hPre_finite := hPre_finite)
-- ==== Pre_finite.lean ====
abbrev S16x8192x3 : Shape := ⟨3, ![16, 8192, 3]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel

variable [Facts]

def fn {F : FTy → Type} [FloatOps F] (main_arg0 : FVec F S16x8192x3 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  main_v3
-- ==== Pre_finite2.lean ====
abbrev S16x8192x3 : Shape := ⟨3, ![16, 8192, 3]⟩
abbrev S16x1024x3 : Shape := ⟨3, ![16, 1024, 3]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel
  bcast_S_S16x1024x3 : S_.BroadcastsInDim S16x1024x3 (![] : Fin 0 → Fin S16x1024x3.rank)
  reducesTo_S16x1024x3_S_d0_1_2 : S16x1024x3.ReducesTo [0, 1, 2] S_

variable [Facts]

def fn {F : FTy → Type} [FloatOps F] (main_arg0 : FVec F S16x8192x3 .f32) (main_arg1 : FVec F S16x1024x3 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  let main_v4 : FVec F S16x1024x3 .f32 := Host.absf main_arg1
  let main_cst_0 : FVec F S_ .f32 := constant S_ .f32 0x7F800000#32
  let main_v5 : FVec F S16x1024x3 .f32 := broadcastInDim S16x1024x3 ![] bcast_S_S16x1024x3 main_cst_0
  let main_v6 : IVec S16x1024x3 1 := cmpf .olt main_v4 main_v5
  let main_c_1 : IVec S_ 1 := constantI S_ 1 1#1
  let main_v7 : IVec S_ 1 := (fun x v => Host.reduce IntOp.andi x v reducesTo_S16x1024x3_S_d0_1_2 h_S_) main_v6 main_c_1
  let main_v8 : IVec S_ 1 := andi main_v3 main_v7
  main_v8
-- ==== Pre_idx_in_rows.lean ====
abbrev S16x8192x3 : Shape := ⟨3, ![16, 8192, 3]⟩
abbrev S16x1024x3 : Shape := ⟨3, ![16, 1024, 3]⟩
abbrev S16x1024x32 : Shape := ⟨3, ![16, 1024, 32]⟩
abbrev S_ : Shape := ⟨0, ![]⟩

class Facts : Prop where
  bcast_S_S16x1024x32 : S_.BroadcastsInDim S16x1024x32 (![] : Fin 0 → Fin S16x1024x32.rank)

variable [Facts]

def fn {F : FTy → Type} [FloatOps F] (main_arg0 : FVec F S16x8192x3 .f32) (main_arg1 : FVec F S16x1024x3 .f32) (main_arg2 : IVec S16x1024x32 32) : IVec S16x1024x32 1 :=
  let main_c : IVec S_ 32 := constantI S_ 32 0#32
  let main_v0 : IVec S16x1024x32 32 := broadcastInDim S16x1024x32 ![] bcast_S_S16x1024x32 main_c
  let main_v1 : IVec S16x1024x32 1 := cmpi .sge main_arg2 main_v0
  let main_c_0 : IVec S_ 32 := constantI S_ 32 8192#32
  let main_v2 : IVec S16x1024x32 32 := broadcastInDim S16x1024x32 ![] bcast_S_S16x1024x32 main_c_0
  let main_v3 : IVec S16x1024x32 1 := cmpi .slt main_arg2 main_v2
  let main_v4 : IVec S16x1024x32 1 := andi main_v1 main_v3
  main_v4
-- ==== Gather.lean ====
abbrev S16x8192x3 : Shape := ⟨3, ![16, 8192, 3]⟩
abbrev S16x1024x3 : Shape := ⟨3, ![16, 1024, 3]⟩
abbrev S16x1024x32 : Shape := ⟨3, ![16, 1024, 32]⟩
abbrev S393216 : Shape := ⟨1, ![393216]⟩
abbrev S16 : Shape := ⟨1, ![16]⟩
abbrev S_ : Shape := ⟨0, ![]⟩
abbrev S16x1x1 : Shape := ⟨3, ![16, 1, 1]⟩
abbrev S16x32768 : Shape := ⟨2, ![16, 32768]⟩
abbrev S16x32768x1 : Shape := ⟨3, ![16, 32768, 1]⟩
abbrev S3 : Shape := ⟨1, ![3]⟩
abbrev S1x1x3 : Shape := ⟨3, ![1, 1, 3]⟩
abbrev S16x32768x3 : Shape := ⟨3, ![16, 32768, 3]⟩
abbrev S32x384x128 : Shape := ⟨3, ![32, 384, 128]⟩
abbrev S32x49152 : Shape := ⟨2, ![32, 49152]⟩
abbrev S384x128 : Shape := ⟨2, ![384, 128]⟩
abbrev S49152 : Shape := ⟨1, ![49152]⟩
abbrev S1x384x128 : Shape := ⟨3, ![1, 384, 128]⟩
abbrev S128 : Shape := ⟨1, ![128]⟩
abbrev S1x128 : Shape := ⟨2, ![1, 128]⟩
abbrev S1x49152 : Shape := ⟨2, ![1, 49152]⟩
abbrev S16x1024x32x3 : Shape := ⟨4, ![16, 1024, 32, 3]⟩
abbrev S16x1024x1x3 : Shape := ⟨4, ![16, 1024, 1, 3]⟩

abbrev nBuf : Table → Nat
  | .hbm => 27
  | .local .scVector .vmem => 2
  | _ => 0

abbrev bufTy : (tb : Table) → Fin (nBuf tb) → BufTy
  | .hbm, ⟨0, _⟩ => ⟨S16x8192x3, .f32⟩
  | .hbm, ⟨1, _⟩ => ⟨S16x1024x3, .f32⟩
  | .hbm, ⟨2, _⟩ => ⟨S16x1024x32, .i32⟩
  | .hbm, ⟨3, _⟩ => ⟨S393216, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16x1x1, .i32⟩
  | .hbm, ⟨9, _⟩ => ⟨S16x1024x32, .i32⟩
  | .hbm, ⟨10, _⟩ => ⟨S16x1024x32, .i32⟩
  | .hbm, ⟨11, _⟩ => ⟨S16x32768, .i32⟩
  | .hbm, ⟨12, _⟩ => ⟨S16x32768x1, .i32⟩
  | .hbm, ⟨13, _⟩ => ⟨S_, .i32⟩
  | .hbm, ⟨14, _⟩ => ⟨S16x32768x1, .i32⟩
  | .hbm, ⟨15, _⟩ => ⟨S16x32768x1, .i32⟩
  | .hbm, ⟨16, _⟩ => ⟨S3, .i32⟩
  | .hbm, ⟨17, _⟩ => ⟨S1x1x3, .i32⟩
  | .hbm, ⟨18, _⟩ => ⟨S16x32768x3, .i32⟩
  | .hbm, ⟨19, _⟩ => ⟨S16x32768x3, .i32⟩
  | .hbm, ⟨20, _⟩ => ⟨S16x32768x3, .i32⟩
  | .hbm, ⟨21, _⟩ => ⟨S32x384x128, .i32⟩
  | .hbm, ⟨22, _⟩ => ⟨S32x49152, .f32⟩
  | .hbm, ⟨23, _⟩ => ⟨S16x1024x32x3, .f32⟩
  | .hbm, ⟨24, _⟩ => ⟨S16x1024x1x3, .f32⟩
  | .hbm, ⟨25, _⟩ => ⟨S16x1024x32x3, .f32⟩
  | .hbm, ⟨26, _⟩ => ⟨S16x1024x32x3, .f32⟩
  | .local .scVector .vmem, ⟨0, _⟩ => ⟨S384x128, .i32⟩
  | .local .scVector .vmem, ⟨1, _⟩ => ⟨S49152, .f32⟩
  | _, _ => ⟨S16x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v0_scv : Ref sig .scVector := ⟨.hbm, 3, rfl⟩
abbrev main_v16_scv : Ref sig .scVector := ⟨.hbm, 21, rfl⟩
abbrev main_v17_scv : Ref sig .scVector := ⟨.hbm, 22, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c384_i32 : BitVec 32 := 384#32
  let v2 : BitVec 32 := Scalar.addi c0_i32_0 c384_i32
  let c1_i32 : BitVec 32 := 1#32
  ⟨c0_i32_0, v2, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c128_i32 : BitVec 32 := 128#32
  let v3 : BitVec 32 := Scalar.muli arg8 c128_i32
  ![v3.toNat]
def k0_off3 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S16x8192x3 : Shape := ⟨3, ![16, 8192, 3]⟩
abbrev S16x1024x3 : Shape := ⟨3, ![16, 1024, 3]⟩
abbrev S16x1024x32 : Shape := ⟨3, ![16, 1024, 32]⟩
abbrev S16x32768 : Shape := ⟨2, ![16, 32768]⟩
abbrev S16x32768x1 : Shape := ⟨3, ![16, 32768, 1]⟩
abbrev S_ : Shape := ⟨0, ![]⟩
abbrev S1 : Shape := ⟨1, ![1]⟩
abbrev S1x1x1 : Shape := ⟨3, ![1, 1, 1]⟩
abbrev S16x32768x3 : Shape := ⟨3, ![16, 32768, 3]⟩
abbrev S16x1024x32x3 : Shape := ⟨4, ![16, 1024, 32, 3]⟩
abbrev S16x1024x1x3 : Shape := ⟨4, ![16, 1024, 1, 3]⟩

abbrev nBuf : Space → Nat
  | .hbm => 31
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x1024x3, .f32⟩
  | .hbm, ⟨2, _⟩ => ⟨S16x1024x32, .i32⟩
  | .hbm, ⟨3, _⟩ => ⟨S16x32768, .i32⟩
  | .hbm, ⟨4, _⟩ => ⟨S16x32768x1, .i32⟩
  | .hbm, ⟨5, _⟩ => ⟨S_, .i32⟩
  | .hbm, ⟨6, _⟩ => ⟨S16x32768x1, .i32⟩
  | .hbm, ⟨7, _⟩ => ⟨S16x32768x1, .i1⟩
  | .hbm, ⟨8, _⟩ => ⟨S_, .i32⟩
  | .hbm, ⟨9, _⟩ => ⟨S16x32768x1, .i32⟩
  | .hbm, ⟨10, _⟩ => ⟨S16x32768x1, .i32⟩
  | .hbm, ⟨11, _⟩ => ⟨S16x32768x1, .i32⟩
  | .hbm, ⟨12, _⟩ => ⟨S1, .i32⟩
  | .hbm, ⟨13, _⟩ => ⟨S_, .i32⟩
  | .hbm, ⟨14, _⟩ => ⟨S16x32768x1, .i32⟩
  | .hbm, ⟨15, _⟩ => ⟨S16x32768x1, .i1⟩
  | .hbm, ⟨16, _⟩ => ⟨S1x1x1, .i32⟩
  | .hbm, ⟨17, _⟩ => ⟨S16x32768x1, .i32⟩
  | .hbm, ⟨18, _⟩ => ⟨S16x32768x1, .i1⟩
  | .hbm, ⟨19, _⟩ => ⟨S16x32768x1, .i1⟩
  | .hbm, ⟨20, _⟩ => ⟨S_, .i1⟩
  | .hbm, ⟨21, _⟩ => ⟨S16x32768, .i1⟩
  | .hbm, ⟨22, _⟩ => ⟨S16x32768x3, .f32⟩
  | .hbm, ⟨23, _⟩ => ⟨S16x32768x3, .i1⟩
  | .hbm, ⟨24, _⟩ => ⟨S_, .f32⟩
  | .hbm, ⟨25, _⟩ => ⟨S16x32768x3, .f32⟩
  | .hbm, ⟨26, _⟩ => ⟨S16x32768x3, .f32⟩
  | .hbm, ⟨27, _⟩ => ⟨S16x1024x32x3, .f32⟩
  | .hbm, ⟨28, _⟩ => ⟨S16x1024x1x3, .f32⟩
  | .hbm, ⟨29, _⟩ => ⟨S16x1024x32x3, .f32⟩
  | .hbm, ⟨30, _⟩ => ⟨S16x1024x32x3, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩

abbrev nD : Nat := 1
abbrev τ : Topo := Topo.v7x

variable {F : FTy → Type} [FloatOps F]
-- ==== Sample.lean ====
abbrev S16x8192x3 : Shape := ⟨3, ![16, 8192, 3]⟩
abbrev S16x8192x1 : Shape := ⟨3, ![16, 8192, 1]⟩
abbrev S16x8192 : Shape := ⟨2, ![16, 8192]⟩
abbrev S1024x16x1 : Shape := ⟨3, ![1024, 16, 1]⟩
abbrev S1x16x1 : Shape := ⟨3, ![1, 16, 1]⟩
abbrev S16x1 : Shape := ⟨2, ![16, 1]⟩
abbrev S16 : Shape := ⟨1, ![16]⟩

abbrev nBuf : Space → Nat
  | .hbm => 12
  | .vmem => 15
  | .smem => 0
  | _ => 0

abbrev bufTy : (tb : Table) → Fin (tcTables nBuf tb) → BufTy
  | .hbm, ⟨0, _⟩ => ⟨S16x8192x3, .f32⟩
  | .hbm, ⟨1, _⟩ => ⟨S16x8192x1, .f32⟩
  | .hbm, ⟨2, _⟩ => ⟨S16x8192, .f32⟩
  | .hbm, ⟨3, _⟩ => ⟨S16x8192x1, .f32⟩
  | .hbm, ⟨4, _⟩ => ⟨S16x8192, .f32⟩
  | .hbm, ⟨5, _⟩ => ⟨S16x8192x1, .f32⟩
  | .hbm, ⟨6, _⟩ => ⟨S16x8192, .f32⟩
  | .hbm, ⟨7, _⟩ => ⟨S1024x16x1, .i32⟩
  | .hbm, ⟨8, _⟩ => ⟨S1024x16x1, .f32⟩
  | .hbm, ⟨9, _⟩ => ⟨S1024x16x1, .f32⟩
  | .hbm, ⟨10, _⟩ => ⟨S1024x16x1, .f32⟩
  | .hbm, ⟨11, _⟩ => ⟨S1024x16x1, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S1x16x1, .i32⟩
  | .local _ .vmem, ⟨4, _⟩ => ⟨S1x16x1, .i32⟩
  | .local _ .vmem, ⟨5, _⟩ => ⟨S1x16x1, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | .local _ .vmem, ⟨11, _⟩ => ⟨S1x16x1, .f32⟩
  | .local _ .vmem, ⟨12, _⟩ => ⟨S1x16x1, .f32⟩
  | .local _ .vmem, ⟨13, _⟩ => ⟨S16x8192, .f32⟩
  | .local _ .vmem, ⟨14, _⟩ => ⟨S16x1, .i32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v6_2 : Ref sig .tc := ⟨.hbm, 9, rfl⟩
abbrev main_v6_3 : Ref sig .tc := ⟨.hbm, 10, rfl⟩
abbrev main_v6_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleRefIdeal.lean ====
abbrev S16x8192x3 : Shape := ⟨3, ![16, 8192, 3]⟩
abbrev S_ : Shape := ⟨0, ![]⟩
abbrev S16x1024 : Shape := ⟨2, ![16, 1024]⟩
abbrev S16x8192 : Shape := ⟨2, ![16, 8192]⟩
abbrev S16 : Shape := ⟨1, ![16]⟩
abbrev S1 : Shape := ⟨1, ![1]⟩
abbrev S16x1x1 : Shape := ⟨3, ![16, 1, 1]⟩
abbrev S1x1x1 : Shape := ⟨3, ![1, 1, 1]⟩
abbrev S16x1 : Shape := ⟨2, ![16, 1]⟩
abbrev S16x1x3 : Shape := ⟨3, ![16, 1, 3]⟩
abbrev S16x1024x1 : Shape := ⟨3, ![16, 1024, 1]⟩
abbrev S16x1024x3 : Shape := ⟨3, ![16, 1024, 3]⟩
abbrev S1024x16 : Shape := ⟨2, ![1024, 16]⟩
abbrev S1024x16x1 : Shape := ⟨3, ![1024, 16, 1]⟩

abbrev nBuf : Space → Nat
  | .hbm => 99
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S_, .i32⟩
  | .hbm, ⟨2, _⟩ => ⟨S16x1024, .i32⟩
  | .hbm, ⟨3, _⟩ => ⟨S_, .f32⟩
  | .hbm, ⟨4, _⟩ => ⟨S16x8192, .f32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x8192x3, .f32⟩
  | .hbm, ⟨10, _⟩ => ⟨S_, .i32⟩
  | .hbm, ⟨11, _⟩ => ⟨S_, .i32⟩
  | .hbm, ⟨12, _⟩ => ⟨S16x1024, .i32⟩
  | .hbm, ⟨13, _⟩ => ⟨S16x8192, .f32⟩
  | .hbm, ⟨14, _⟩ => ⟨S16, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S16x1024, .i32⟩
  | .hbm, ⟨27, _⟩ => ⟨S16x1x1, .i32⟩
  | .hbm, ⟨28, _⟩ => ⟨S_, .i32⟩
  | .hbm, ⟨29, _⟩ => ⟨S16x1x1, .i32⟩
  | .hbm, ⟨30, _⟩ => ⟨S16x1x1, .i1⟩
  | .hbm, ⟨31, _⟩ => ⟨S_, .i32⟩
  | .hbm, ⟨32, _⟩ => ⟨S16x1x1, .i32⟩
  | .hbm, ⟨33, _⟩ => ⟨S16x1x1, .i32⟩
  | .hbm, ⟨34, _⟩ => ⟨S16x1x1, .i32⟩
  | .hbm, ⟨35, _⟩ => ⟨S1, .i32⟩
  | .hbm, ⟨36, _⟩ => ⟨S_, .i32⟩
  | .hbm, ⟨37, _⟩ => ⟨S16x1x1, .i32⟩
  | .hbm, ⟨38, _⟩ => ⟨S16x1x1, .i1⟩
  | .hbm, ⟨39, _⟩ => ⟨S1x1x1, .i32⟩
  | .hbm, ⟨40, _⟩ => ⟨S16x1x1, .i32⟩
  | .hbm, ⟨41, _⟩ => ⟨S16x1x1, .i1⟩
  | .hbm, ⟨42, _⟩ => ⟨S16x1x1, .i1⟩
  | .hbm, ⟨43, _⟩ => ⟨S_, .i1⟩
  | .hbm, ⟨44, _⟩ => ⟨S16x1, .i1⟩
  | .hbm, ⟨45, _⟩ => ⟨S16x1x3, .f32⟩
  | .hbm, ⟨46, _⟩ => ⟨S16x1x3, .i1⟩
  | .hbm, ⟨47, _⟩ => ⟨S_, .f32⟩
  | .hbm, ⟨48, _⟩ => ⟨S16x1x3, .f32⟩
  | .hbm, ⟨49, _⟩ => ⟨S16x1x3, .f32⟩
  | .hbm, ⟨50, _⟩ => ⟨S16x8192x3, .f32⟩
  | .hbm, ⟨51, _⟩ => ⟨S16x8192x3, .f32⟩
  | .hbm, ⟨52, _⟩ => ⟨S16x8192x3, .f32⟩
  | .hbm, ⟨53, _⟩ => ⟨S_, .f32⟩
  | .hbm, ⟨54, _⟩ => ⟨S16x8192, .f32⟩
  | .hbm, ⟨55, _⟩ => ⟨S16x8192, .i1⟩
  | .hbm, ⟨56, _⟩ => ⟨S16x8192, .f32⟩
  | .hbm, ⟨57, _⟩ => ⟨S16x8192, .i32⟩
  | .hbm, ⟨58, _⟩ => ⟨S_, .f32⟩
  | .hbm, ⟨59, _⟩ => ⟨S_, .i32⟩
  | .hbm, ⟨60, _⟩ => ⟨S16, .f32⟩
  | .hbm, ⟨61, _⟩ => ⟨S16, .i32⟩
  | .hbm, ⟨62, _⟩ => ⟨S_, .i32⟩
  | .hbm, ⟨63, _⟩ => ⟨S_, .i32⟩
  | .hbm, ⟨64, _⟩ => ⟨S16x1024x1, .i32⟩
  | .hbm, ⟨65, _⟩ => ⟨S_, .i32⟩
  | .hbm, ⟨66, _⟩ => ⟨S16x1024x1, .i32⟩
  | .hbm, ⟨67, _⟩ => ⟨S16x1024x1, .i1⟩
  | .hbm, ⟨68, _⟩ => ⟨S_, .i32⟩
  | .hbm, ⟨69, _⟩ => ⟨S16x1024x1, .i32⟩
  | .hbm, ⟨70, _⟩ => ⟨S16x1024x1, .i32⟩
  | .hbm, ⟨71, _⟩ => ⟨S16x1024x1, .i32⟩
  | .hbm, ⟨72, _⟩ => ⟨S1, .i32⟩
  | .hbm, ⟨73, _⟩ => ⟨S_, .i32⟩
  | .hbm, ⟨74, _⟩ => ⟨S16x1024x1, .i32⟩
  | .hbm, ⟨75, _⟩ => ⟨S16x1024x1, .i1⟩
  | .hbm, ⟨76, _⟩ => ⟨S1x1x1, .i32⟩
  | .hbm, ⟨77, _⟩ => ⟨S16x1024x1, .i32⟩
  | .hbm, ⟨78, _⟩ => ⟨S16x1024x1, .i1⟩
  | .hbm, ⟨79, _⟩ => ⟨S16x1024x1, .i1⟩
  | .hbm, ⟨80, _⟩ => ⟨S_, .i1⟩
  | .hbm, ⟨81, _⟩ => ⟨S16x1024, .i1⟩
  | .hbm, ⟨82, _⟩ => ⟨S16x1024x3, .f32⟩
  | .hbm, ⟨83, _⟩ => ⟨S16x1024x3, .i1⟩
  | .hbm, ⟨84, _⟩ => ⟨S_, .f32⟩
  | .hbm, ⟨85, _⟩ => ⟨S16x1024x3, .f32⟩
  | .hbm, ⟨86, _⟩ => ⟨S16x1024x3, .f32⟩
  | .hbm, ⟨87, _⟩ => ⟨S16x1024x1, .f32⟩
  | .hbm, ⟨88, _⟩ => ⟨S16x1024, .f32⟩
  | .hbm, ⟨89, _⟩ => ⟨S1024x16, .f32⟩
  | .hbm, ⟨90, _⟩ => ⟨S1024x16x1, .f32⟩
  | .hbm, ⟨91, _⟩ => ⟨S16x1024x1, .f32⟩
  | .hbm, ⟨92, _⟩ => ⟨S16x1024, .f32⟩
  | .hbm, ⟨93, _⟩ => ⟨S1024x16, .f32⟩
  | .hbm, ⟨94, _⟩ => ⟨S1024x16x1, .f32⟩
  | .hbm, ⟨95, _⟩ => ⟨S16x1024x1, .f32⟩
  | .hbm, ⟨96, _⟩ => ⟨S16x1024, .f32⟩
  | .hbm, ⟨97, _⟩ => ⟨S1024x16, .f32⟩
  | .hbm, ⟨98, _⟩ => ⟨S1024x16x1, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v18 : Ref sig .tc := ⟨.hbm, 16, rfl⟩
abbrev main_while0b_c_8 : Ref sig .tc := ⟨.hbm, 17, rfl⟩
abbrev main_while0b_v18 : Ref sig .tc := ⟨.hbm, 18, rfl⟩
abbrev main_while0b_c_9 : Ref sig .tc := ⟨.hbm, 19, rfl⟩
abbrev main_while0b_v19 : Ref sig .tc := ⟨.hbm, 20, rfl⟩
abbrev main_while0b_c_10 : Ref sig .tc := ⟨.hbm, 21, rfl⟩
abbrev main_while0b_v20 : Ref sig .tc := ⟨.hbm, 22, rfl⟩
abbrev main_while0b_v21 : Ref sig .tc := ⟨.hbm, 23, rfl⟩
abbrev main_while0b_v22 : Ref sig .tc := ⟨.hbm, 24, rfl⟩
abbrev main_while0b_v23 : Ref sig .tc := ⟨.hbm, 25, rfl⟩
abbrev main_while0b_v24 : Ref sig .tc := ⟨.hbm, 26, rfl⟩
abbrev main_while0b_v25 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_call0_v1 : Ref sig .tc := ⟨.hbm, 30, rfl⟩
abbrev main_while0b_call0_c_0 : Ref sig .tc := ⟨.hbm, 31, rfl⟩
abbrev main_while0b_call0_v2 : Ref sig .tc := ⟨.hbm, 32, rfl⟩
abbrev main_while0b_call0_v3 : Ref sig .tc := ⟨.hbm, 33, rfl⟩
abbrev main_while0b_call0_v4 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v5 : Ref sig .tc := ⟨.hbm, 37, rfl⟩
abbrev main_while0b_call0_v6 : Ref sig .tc := ⟨.hbm, 38, rfl⟩
abbrev main_while0b_call0_v7 : Ref sig .tc := ⟨.hbm, 39, rfl⟩
abbrev main_while0b_call0_v8 : Ref sig .tc := ⟨.hbm, 40, rfl⟩
abbrev main_while0b_call0_v9 : Ref sig .tc := ⟨.hbm, 41, rfl⟩
abbrev main_while0b_call0_v10 : Ref sig .tc := ⟨.hbm, 42, rfl⟩
abbrev main_while0b_call0_c_3 : Ref sig .tc := ⟨.hbm, 43, rfl⟩
abbrev main_while0b_call0_v11 : Ref sig .tc := ⟨.hbm, 44, rfl⟩
abbrev main_while0b_call0_v12 : Ref sig .tc := ⟨.hbm, 45, rfl⟩
abbrev main_while0b_call0_v13 : Ref sig .tc := ⟨.hbm, 46, rfl⟩
abbrev main_while0b_call0_cst : Ref sig .tc := ⟨.hbm, 47, rfl⟩
abbrev main_while0b_call0_v14 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_cst_11 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_call2_v0 : Ref sig .tc := ⟨.hbm, 57, rfl⟩
abbrev main_while0b_call2_cst : Ref sig .tc := ⟨.hbm, 58, rfl⟩
abbrev main_while0b_call2_c : Ref sig .tc := ⟨.hbm, 59, rfl⟩
abbrev main_while0b_call2_v1_0 : Ref sig .tc := ⟨.hbm, 60, rfl⟩
abbrev main_while0b_v33 : Ref sig .tc := ⟨.hbm, 61, rfl⟩
abbrev main_while0b_c_12 : Ref sig .tc := ⟨.hbm, 62, rfl⟩
abbrev main_while0b_v34 : Ref sig .tc := ⟨.hbm, 63, rfl⟩
abbrev main_v4 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_c_2 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_c_3 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩

abbrev nD : Nat := 1
abbrev τ : Topo := Topo.v7x

variable {F : FTy → Type} [FloatOps F]

abbrev main_while0_count : Scf.Loop 32 := ⟨0#32, 1024#32, 1#32⟩
-- ==== Select.lean ====
abbrev S16x8192x3 : Shape := ⟨3, ![16, 8192, 3]⟩
abbrev S16x1024x3 : Shape := ⟨3, ![16, 1024, 3]⟩
abbrev S16x8192x1 : Shape := ⟨3, ![16, 8192, 1]⟩
abbrev S16x8192 : Shape := ⟨2, ![16, 8192]⟩
abbrev S16x1024x1 : Shape := ⟨3, ![16, 1024, 1]⟩
abbrev S16x1024 : Shape := ⟨2, ![16, 1024]⟩
abbrev S16384x1 : Shape := ⟨2, ![16384, 1]⟩
abbrev S16x1x8192 : Shape := ⟨3, ![16, 1, 8192]⟩
abbrev S16x1024x32 : Shape := ⟨3, ![16, 1024, 32]⟩
abbrev S128x1 : Shape := ⟨2, ![128, 1]⟩
abbrev S1x1x8192 : Shape := ⟨3, ![1, 1, 8192]⟩
abbrev S1x128x32 : Shape := ⟨3, ![1, 128, 32]⟩
abbrev S1x8192 : Shape := ⟨2, ![1, 8192]⟩
abbrev S128x8192 : Shape := ⟨2, ![128, 8192]⟩
abbrev S128x32 : Shape := ⟨2, ![128, 32]⟩
abbrev S128 : Shape := ⟨1, ![128]⟩

abbrev nBuf : Space → Nat
  | .hbm => 21
  | .vmem => 14
  | .smem => 0
  | _ => 0

abbrev bufTy : (tb : Table) → Fin (tcTables nBuf tb) → BufTy
  | .hbm, ⟨0, _⟩ => ⟨S16x8192x3, .f32⟩
  | .hbm, ⟨1, _⟩ => ⟨S16x1024x3, .f32⟩
  | .hbm, ⟨2, _⟩ => ⟨S16x8192x1, .f32⟩
  | .hbm, ⟨3, _⟩ => ⟨S16x8192, .f32⟩
  | .hbm, ⟨4, _⟩ => ⟨S16x8192x1, .f32⟩
  | .hbm, ⟨5, _⟩ => ⟨S16x8192, .f32⟩
  | .hbm, ⟨6, _⟩ => ⟨S16x8192x1, .f32⟩
  | .hbm, ⟨7, _⟩ => ⟨S16x8192, .f32⟩
  | .hbm, ⟨8, _⟩ => ⟨S16x1024x1, .f32⟩
  | .hbm, ⟨9, _⟩ => ⟨S16x1024, .f32⟩
  | .hbm, ⟨10, _⟩ => ⟨S16384x1, .f32⟩
  | .hbm, ⟨11, _⟩ => ⟨S16x1024x1, .f32⟩
  | .hbm, ⟨12, _⟩ => ⟨S16x1024, .f32⟩
  | .hbm, ⟨13, _⟩ => ⟨S16384x1, .f32⟩
  | .hbm, ⟨14, _⟩ => ⟨S16x1024x1, .f32⟩
  | .hbm, ⟨15, _⟩ => ⟨S16x1024, .f32⟩
  | .hbm, ⟨16, _⟩ => ⟨S16384x1, .f32⟩
  | .hbm, ⟨17, _⟩ => ⟨S16x1x8192, .f32⟩
  | .hbm, ⟨18, _⟩ => ⟨S16x1x8192, .f32⟩
  | .hbm, ⟨19, _⟩ => ⟨S16x1x8192, .f32⟩
  | .hbm, ⟨20, _⟩ => ⟨S16x1024x32, .i32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S1x1x8192, .f32⟩
  | .local _ .vmem, ⟨7, _⟩ => ⟨S1x1x8192, .f32⟩
  | .local _ .vmem, ⟨8, _⟩ => ⟨S1x1x8192, .f32⟩
  | .local _ .vmem, ⟨9, _⟩ => ⟨S1x1x8192, .f32⟩
  | .local _ .vmem, ⟨10, _⟩ => ⟨S1x1x8192, .f32⟩
  | .local _ .vmem, ⟨11, _⟩ => ⟨S1x1x8192, .f32⟩
  | .local _ .vmem, ⟨12, _⟩ => ⟨S1x128x32, .i32⟩
  | .local _ .vmem, ⟨13, _⟩ => ⟨S1x128x32, .i32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SelectRefIdeal.lean ====
abbrev S16x8192x3 : Shape := ⟨3, ![16, 8192, 3]⟩
abbrev S16x1024x3 : Shape := ⟨3, ![16, 1024, 3]⟩
abbrev S_ : Shape := ⟨0, ![]⟩
abbrev S16x1024 : Shape := ⟨2, ![16, 1024]⟩
abbrev S16x1024x1 : Shape := ⟨3, ![16, 1024, 1]⟩
abbrev S16x8192 : Shape := ⟨2, ![16, 8192]⟩
abbrev S16x1x8192 : Shape := ⟨3, ![16, 1, 8192]⟩
abbrev S16x1024x8192 : Shape := ⟨3, ![16, 1024, 8192]⟩
abbrev S16x1024x32 : Shape := ⟨3, ![16, 1024, 32]⟩

abbrev nBuf : Space → Nat
  | .hbm => 25
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x1024x3, .f32⟩
  | .hbm, ⟨2, _⟩ => ⟨S16x1024x3, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S16x8192x3, .f32⟩
  | .hbm, ⟨7, _⟩ => ⟨S_, .f32⟩
  | .hbm, ⟨8, _⟩ => ⟨S16x8192, .f32⟩
  | .hbm, ⟨9, _⟩ => ⟨S16x1x8192, .f32⟩
  | .hbm, ⟨10, _⟩ => ⟨S16x1024x8192, .f32⟩
  | .hbm, ⟨11, _⟩ => ⟨S16x1024x8192, .f32⟩
  | .hbm, ⟨12, _⟩ => ⟨S16x1024x8192, .f32⟩
  | .hbm, ⟨13, _⟩ => ⟨S16x1024x8192, .f32⟩
  | .hbm, ⟨14, _⟩ => ⟨S_, .f32⟩
  | .hbm, ⟨15, _⟩ => ⟨S16x1024x8192, .f32⟩
  | .hbm, ⟨16, _⟩ => ⟨S16x1024x8192, .f32⟩
  | .hbm, ⟨17, _⟩ => ⟨S16x1024x8192, .f32⟩
  | .hbm, ⟨18, _⟩ => ⟨S_, .f32⟩
  | .hbm, ⟨19, _⟩ => ⟨S16x1024x8192, .f32⟩
  | .hbm, ⟨20, _⟩ => ⟨S16x1024x8192, .f32⟩
  | .hbm, ⟨21, _⟩ => ⟨S16x1024x8192, .f32⟩
  | .hbm, ⟨22, _⟩ => ⟨S16x1024x8192, .f32⟩
  | .hbm, ⟨23, _⟩ => ⟨S16x1024x32, .f32⟩
  | .hbm, ⟨24, _⟩ => ⟨S16x1024x32, .i32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩

abbrev nD : Nat := 1
abbrev τ : Topo := Topo.v7x

variable {F : FTy → Type} [FloatOps F]
-- ==== KernelIdeal.lean ====
abbrev S16x8192x3 : Shape := ⟨3, ![16, 8192, 3]⟩
abbrev S16x8192x1 : Shape := ⟨3, ![16, 8192, 1]⟩
abbrev S16x8192 : Shape := ⟨2, ![16, 8192]⟩
abbrev S1024x16x1 : Shape := ⟨3, ![1024, 16, 1]⟩
abbrev S1x16x1 : Shape := ⟨3, ![1, 16, 1]⟩
abbrev S16x1 : Shape := ⟨2, ![16, 1]⟩
abbrev S16 : Shape := ⟨1, ![16]⟩
abbrev S1024x16 : Shape := ⟨2, ![1024, 16]⟩
abbrev S16x1024 : Shape := ⟨2, ![16, 1024]⟩
abbrev S16x1024x1 : Shape := ⟨3, ![16, 1024, 1]⟩
abbrev S16x1024x3 : Shape := ⟨3, ![16, 1024, 3]⟩
abbrev S16384x1 : Shape := ⟨2, ![16384, 1]⟩
abbrev S16x1x8192 : Shape := ⟨3, ![16, 1, 8192]⟩
abbrev S16x1024x32 : Shape := ⟨3, ![16, 1024, 32]⟩
abbrev S128x1 : Shape := ⟨2, ![128, 1]⟩
abbrev S1x1x8192 : Shape := ⟨3, ![1, 1, 8192]⟩
abbrev S1x128x32 : Shape := ⟨3, ![1, 128, 32]⟩
abbrev S1x8192 : Shape := ⟨2, ![1, 8192]⟩
abbrev S128x8192 : Shape := ⟨2, ![128, 8192]⟩
abbrev S128x32 : Shape := ⟨2, ![128, 32]⟩
abbrev S128 : Shape := ⟨1, ![128]⟩
abbrev S393216 : Shape := ⟨1, ![393216]⟩
abbrev S_ : Shape := ⟨0, ![]⟩
abbrev S16x1x1 : Shape := ⟨3, ![16, 1, 1]⟩
abbrev S16x32768 : Shape := ⟨2, ![16, 32768]⟩
abbrev S16x32768x1 : Shape := ⟨3, ![16, 32768, 1]⟩
abbrev S3 : Shape := ⟨1, ![3]⟩
abbrev S1x1x3 : Shape := ⟨3, ![1, 1, 3]⟩
abbrev S16x32768x3 : Shape := ⟨3, ![16, 32768, 3]⟩
abbrev S32x384x128 : Shape := ⟨3, ![32, 384, 128]⟩
abbrev S32x49152 : Shape := ⟨2, ![32, 49152]⟩
abbrev S384x128 : Shape := ⟨2, ![384, 128]⟩
abbrev S49152 : Shape := ⟨1, ![49152]⟩
abbrev S1x384x128 : Shape := ⟨3, ![1, 384, 128]⟩
abbrev S1x128 : Shape := ⟨2, ![1, 128]⟩
abbrev S1x49152 : Shape := ⟨2, ![1, 49152]⟩
abbrev S16x1024x32x3 : Shape := ⟨4, ![16, 1024, 32, 3]⟩
abbrev S16x1024x1x3 : Shape := ⟨4, ![16, 1024, 1, 3]⟩

abbrev nBuf : Table → Nat
  | .hbm => 59
  | .local .tc .vmem => 29
  | .local .scVector .vmem => 2
  | _ => 0

abbrev bufTy : (tb : Table) → Fin (nBuf tb) → BufTy
  | .hbm, ⟨0, _⟩ => ⟨S16x8192x3, .f32⟩
  | .hbm, ⟨1, _⟩ => ⟨S16x8192x1, .f32⟩
  | .hbm, ⟨2, _⟩ => ⟨S16x8192, .f32⟩
  | .hbm, ⟨3, _⟩ => ⟨S16x8192x1, .f32⟩
  | .hbm, ⟨4, _⟩ => ⟨S16x8192, .f32⟩
  | .hbm, ⟨5, _⟩ => ⟨S16x8192x1, .f32⟩
  | .hbm, ⟨6, _⟩ => ⟨S16x8192, .f32⟩
  | .hbm, ⟨7, _⟩ => ⟨S1024x16x1, .i32⟩
  | .hbm, ⟨8, _⟩ => ⟨S1024x16x1, .f32⟩
  | .hbm, ⟨9, _⟩ => ⟨S1024x16x1, .f32⟩
  | .hbm, ⟨10, _⟩ => ⟨S1024x16x1, .f32⟩
  | .hbm, ⟨11, _⟩ => ⟨S1024x16x1, .f32⟩
  | .hbm, ⟨12, _⟩ => ⟨S1024x16, .f32⟩
  | .hbm, ⟨13, _⟩ => ⟨S16x1024, .f32⟩
  | .hbm, ⟨14, _⟩ => ⟨S1024x16, .f32⟩
  | .hbm, ⟨15, _⟩ => ⟨S16x1024, .f32⟩
  | .hbm, ⟨16, _⟩ => ⟨S1024x16, .f32⟩
  | .hbm, ⟨17, _⟩ => ⟨S16x1024, .f32⟩
  | .hbm, ⟨18, _⟩ => ⟨S16x1024x1, .f32⟩
  | .hbm, ⟨19, _⟩ => ⟨S16x1024x1, .f32⟩
  | .hbm, ⟨20, _⟩ => ⟨S16x1024x1, .f32⟩
  | .hbm, ⟨21, _⟩ => ⟨S16x1024x3, .f32⟩
  | .hbm, ⟨22, _⟩ => ⟨S1024x16, .f32⟩
  | .hbm, ⟨23, _⟩ => ⟨S16x1024, .f32⟩
  | .hbm, ⟨24, _⟩ => ⟨S16384x1, .f32⟩
  | .hbm, ⟨25, _⟩ => ⟨S1024x16, .f32⟩
  | .hbm, ⟨26, _⟩ => ⟨S16x1024, .f32⟩
  | .hbm, ⟨27, _⟩ => ⟨S16384x1, .f32⟩
  | .hbm, ⟨28, _⟩ => ⟨S1024x16, .f32⟩
  | .hbm, ⟨29, _⟩ => ⟨S16x1024, .f32⟩
  | .hbm, ⟨30, _⟩ => ⟨S16384x1, .f32⟩
  | .hbm, ⟨31, _⟩ => ⟨S16x1x8192, .f32⟩
  | .hbm, ⟨32, _⟩ => ⟨S16x1x8192, .f32⟩
  | .hbm, ⟨33, _⟩ => ⟨S16x1x8192, .f32⟩
  | .hbm, ⟨34, _⟩ => ⟨S16x1024x32, .i32⟩
  | .hbm, ⟨35, _⟩ => ⟨S393216, .f32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16x1x1, .i32⟩
  | .hbm, ⟨41, _⟩ => ⟨S16x1024x32, .i32⟩
  | .hbm, ⟨42, _⟩ => ⟨S16x1024x32, .i32⟩
  | .hbm, ⟨43, _⟩ => ⟨S16x32768, .i32⟩
  | .hbm, ⟨44, _⟩ => ⟨S16x32768x1, .i32⟩
  | .hbm, ⟨45, _⟩ => ⟨S_, .i32⟩
  | .hbm, ⟨46, _⟩ => ⟨S16x32768x1, .i32⟩
  | .hbm, ⟨47, _⟩ => ⟨S16x32768x1, .i32⟩
  | .hbm, ⟨48, _⟩ => ⟨S3, .i32⟩
  | .hbm, ⟨49, _⟩ => ⟨S1x1x3, .i32⟩
  | .hbm, ⟨50, _⟩ => ⟨S16x32768x3, .i32⟩
  | .hbm, ⟨51, _⟩ => ⟨S16x32768x3, .i32⟩
  | .hbm, ⟨52, _⟩ => ⟨S16x32768x3, .i32⟩
  | .hbm, ⟨53, _⟩ => ⟨S32x384x128, .i32⟩
  | .hbm, ⟨54, _⟩ => ⟨S32x49152, .f32⟩
  | .hbm, ⟨55, _⟩ => ⟨S16x1024x32x3, .f32⟩
  | .hbm, ⟨56, _⟩ => ⟨S16x1024x1x3, .f32⟩
  | .hbm, ⟨57, _⟩ => ⟨S16x1024x32x3, .f32⟩
  | .hbm, ⟨58, _⟩ => ⟨S16x1024x32x3, .f32⟩
  | .local .tc .vmem, ⟨0, _⟩ => ⟨S16x8192, .f32⟩
  | .local .tc .vmem, ⟨1, _⟩ => ⟨S16x8192, .f32⟩
  | .local .tc .vmem, ⟨2, _⟩ => ⟨S16x8192, .f32⟩
  | .local .tc .vmem, ⟨3, _⟩ => ⟨S1x16x1, .i32⟩
  | .local .tc .vmem, ⟨4, _⟩ => ⟨S1x16x1, .i32⟩
  | .local .tc .vmem, ⟨5, _⟩ => ⟨S1x16x1, .f32⟩
  | .local .tc .vmem, ⟨6, _⟩ => ⟨S1x16x1, .f32⟩
  | .local .tc .vmem, ⟨7, _⟩ => ⟨S1x16x1, .f32⟩
  | .local .tc .vmem, ⟨8, _⟩ => ⟨S1x16x1, .f32⟩
  | .local .tc .vmem, ⟨9, _⟩ => ⟨S1x16x1, .f32⟩
  | .local .tc .vmem, ⟨10, _⟩ => ⟨S1x16x1, .f32⟩
  | .local .tc .vmem, ⟨11, _⟩ => ⟨S1x16x1, .f32⟩
  | .local .tc .vmem, ⟨12, _⟩ => ⟨S1x16x1, .f32⟩
  | .local .tc .vmem, ⟨13, _⟩ => ⟨S16x8192, .f32⟩
  | .local .tc .vmem, ⟨14, _⟩ => ⟨S16x1, .i32⟩
  | .local .tc .vmem, ⟨15, _⟩ => ⟨S128x1, .f32⟩
  | .local .tc .vmem, ⟨16, _⟩ => ⟨S128x1, .f32⟩
  | .local .tc .vmem, ⟨17, _⟩ => ⟨S128x1, .f32⟩
  | .local .tc .vmem, ⟨18, _⟩ => ⟨S128x1, .f32⟩
  | .local .tc .vmem, ⟨19, _⟩ => ⟨S128x1, .f32⟩
  | .local .tc .vmem, ⟨20, _⟩ => ⟨S128x1, .f32⟩
  | .local .tc .vmem, ⟨21, _⟩ => ⟨S1x1x8192, .f32⟩
  | .local .tc .vmem, ⟨22, _⟩ => ⟨S1x1x8192, .f32⟩
  | .local .tc .vmem, ⟨23, _⟩ => ⟨S1x1x8192, .f32⟩
  | .local .tc .vmem, ⟨24, _⟩ => ⟨S1x1x8192, .f32⟩
  | .local .tc .vmem, ⟨25, _⟩ => ⟨S1x1x8192, .f32⟩
  | .local .tc .vmem, ⟨26, _⟩ => ⟨S1x1x8192, .f32⟩
  | .local .tc .vmem, ⟨27, _⟩ => ⟨S1x128x32, .i32⟩
  | .local .tc .vmem, ⟨28, _⟩ => ⟨S1x128x32, .i32⟩
  | .local .scVector .vmem, ⟨0, _⟩ => ⟨S384x128, .i32⟩
  | .local .scVector .vmem, ⟨1, _⟩ => ⟨S49152, .f32⟩
  | _, _ => ⟨S16x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v6_2 : Ref sig .tc := ⟨.hbm, 9, rfl⟩
abbrev main_v6_3 : Ref sig .tc := ⟨.hbm, 10, rfl⟩
abbrev main_v6_4 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_0 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v30_scv : Ref sig .scVector := ⟨.hbm, 35, rfl⟩
abbrev main_v46_scv : Ref sig .scVector := ⟨.hbm, 53, rfl⟩
abbrev main_v47_scv : Ref sig .scVector := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x32 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k2_t1_loop : Scf.Loop 32 :=
  let c0_i32_0 : BitVec 32 := 0#32
  let c384_i32 : BitVec 32 := 384#32
  let v2 : BitVec 32 := Scalar.addi c0_i32_0 c384_i32
  let c1_i32 : BitVec 32 := 1#32
  ⟨c0_i32_0, v2, c1_i32⟩
def k2_off2 (k2_t1 : Fin k2_t1_loop.trips) : Fin 1 → Nat :=
  let c0_i32_0 : BitVec 32 := 0#32
  let c1_i32 : BitVec 32 := 1#32
  let arg8 : BitVec 32 := Scf.iv c0_i32_0 c1_i32 k2_t1
  let c128_i32 : BitVec 32 := 128#32
  let v3 : BitVec 32 := Scalar.muli arg8 c128_i32
  ![v3.toNat]
def k2_off3 (k2_t1 : Fin k2_t1_loop.trips) : Fin 2 → Nat :=
  let c0_i32_0 : BitVec 32 := 0#32
  let c1_i32 : BitVec 32 := 1#32
  let arg8 : BitVec 32 := Scf.iv c0_i32_0 c1_i32 k2_t1
  let c0_i32_2 : BitVec 32 := 0#32
  ![arg8.toNat, 0]
def k2_off4 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelRefIdeal.lean ====
abbrev S16x8192x3 : Shape := ⟨3, ![16, 8192, 3]⟩
abbrev S_ : Shape := ⟨0, ![]⟩
abbrev S16x1024 : Shape := ⟨2, ![16, 1024]⟩
abbrev S16x8192 : Shape := ⟨2, ![16, 8192]⟩
abbrev S16 : Shape := ⟨1, ![16]⟩
abbrev S1 : Shape := ⟨1, ![1]⟩
abbrev S16x1x1 : Shape := ⟨3, ![16, 1, 1]⟩
abbrev S1x1x1 : Shape := ⟨3, ![1, 1, 1]⟩
abbrev S16x1 : Shape := ⟨2, ![16, 1]⟩
abbrev S16x1x3 : Shape := ⟨3, ![16, 1, 3]⟩
abbrev S16x1024x1 : Shape := ⟨3, ![16, 1024, 1]⟩
abbrev S16x1024x3 : Shape := ⟨3, ![16, 1024, 3]⟩
abbrev S16x1x8192 : Shape := ⟨3, ![16, 1, 8192]⟩
abbrev S16x1024x8192 : Shape := ⟨3, ![16, 1024, 8192]⟩
abbrev S16x1024x32 : Shape := ⟨3, ![16, 1024, 32]⟩
abbrev S16x32768 : Shape := ⟨2, ![16, 32768]⟩
abbrev S16x32768x1 : Shape := ⟨3, ![16, 32768, 1]⟩
abbrev S16x32768x3 : Shape := ⟨3, ![16, 32768, 3]⟩
abbrev S16x1024x32x3 : Shape := ⟨4, ![16, 1024, 32, 3]⟩
abbrev S16x1024x1x3 : Shape := ⟨4, ![16, 1024, 1, 3]⟩

abbrev nBuf : Space → Nat
  | .hbm => 138
  | .vmem => 0
  | .smem => 0
  | _ => 0

abbrev hbmTy0_0 (i : Nat) : BufTy := match i % 128 with
  | 0 => ⟨S16x8192x3, .f32⟩
  | 1 => ⟨S_, .i32⟩
  | 2 => ⟨S16x1024, .i32⟩
  | 3 => ⟨S_, .f32⟩
  | 4 => ⟨S16x8192, .f32⟩
  | 5 => ⟨S_, .i32⟩
  | 6 => ⟨S16, .i32⟩
  | 7 => ⟨S_, .i32⟩
  | 8 => ⟨S_, .i32⟩
  | 9 => ⟨S16x8192x3, .f32⟩
  | 10 => ⟨S_, .i32⟩
  | 11 => ⟨S_, .i32⟩
  | 12 => ⟨S16x1024, .i32⟩
  | 13 => ⟨S16x8192, .f32⟩
  | 14 => ⟨S16, .i32⟩
  | 15 => ⟨S_, .i32⟩
  | 16 => ⟨S_, .i1⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S1, .i32⟩
  | 26 => ⟨S16x1024, .i32⟩
  | 27 => ⟨S16x1x1, .i32⟩
  | 28 => ⟨S_, .i32⟩
  | 29 => ⟨S16x1x1, .i32⟩
  | 30 => ⟨S16x1x1, .i1⟩
  | 31 => ⟨S_, .i32⟩
  | 32 => ⟨S16x1x1, .i32⟩
  | 33 => ⟨S16x1x1, .i32⟩
  | 34 => ⟨S16x1x1, .i32⟩
  | 35 => ⟨S1, .i32⟩
  | 36 => ⟨S_, .i32⟩
  | 37 => ⟨S16x1x1, .i32⟩
  | 38 => ⟨S16x1x1, .i1⟩
  | 39 => ⟨S1x1x1, .i32⟩
  | 40 => ⟨S16x1x1, .i32⟩
  | 41 => ⟨S16x1x1, .i1⟩
  | 42 => ⟨S16x1x1, .i1⟩
  | 43 => ⟨S_, .i1⟩
  | 44 => ⟨S16x1, .i1⟩
  | 45 => ⟨S16x1x3, .f32⟩
  | 46 => ⟨S16x1x3, .i1⟩
  | 47 => ⟨S_, .f32⟩
  | 48 => ⟨S16x1x3, .f32⟩
  | 49 => ⟨S16x1x3, .f32⟩
  | 50 => ⟨S16x8192x3, .f32⟩
  | 51 => ⟨S16x8192x3, .f32⟩
  | 52 => ⟨S16x8192x3, .f32⟩
  | 53 => ⟨S_, .f32⟩
  | 54 => ⟨S16x8192, .f32⟩
  | 55 => ⟨S16x8192, .i1⟩
  | 56 => ⟨S16x8192, .f32⟩
  | 57 => ⟨S16x8192, .i32⟩
  | 58 => ⟨S_, .f32⟩
  | 59 => ⟨S_, .i32⟩
  | 60 => ⟨S16, .f32⟩
  | 61 => ⟨S16, .i32⟩
  | 62 => ⟨S_, .i32⟩
  | 63 => ⟨S_, .i32⟩
  | 64 => ⟨S16x1024x1, .i32⟩
  | 65 => ⟨S_, .i32⟩
  | 66 => ⟨S16x1024x1, .i32⟩
  | 67 => ⟨S16x1024x1, .i1⟩
  | 68 => ⟨S_, .i32⟩
  | 69 => ⟨S16x1024x1, .i32⟩
  | 70 => ⟨S16x1024x1, .i32⟩
  | 71 => ⟨S16x1024x1, .i32⟩
  | 72 => ⟨S1, .i32⟩
  | 73 => ⟨S_, .i32⟩
  | 74 => ⟨S16x1024x1, .i32⟩
  | 75 => ⟨S16x1024x1, .i1⟩
  | 76 => ⟨S1x1x1, .i32⟩
  | 77 => ⟨S16x1024x1, .i32⟩
  | 78 => ⟨S16x1024x1, .i1⟩
  | 79 => ⟨S16x1024x1, .i1⟩
  | 80 => ⟨S_, .i1⟩
  | 81 => ⟨S16x1024, .i1⟩
  | 82 => ⟨S16x1024x3, .f32⟩
  | 83 => ⟨S16x1024x3, .i1⟩
  | 84 => ⟨S_, .f32⟩
  | 85 => ⟨S16x1024x3, .f32⟩
  | 86 => ⟨S16x1024x3, .f32⟩
  | 87 => ⟨S16x1024x3, .f32⟩
  | 88 => ⟨S_, .f32⟩
  | 89 => ⟨S16x1024, .f32⟩
  | 90 => ⟨S16x1024x1, .f32⟩
  | 91 => ⟨S16x8192x3, .f32⟩
  | 92 => ⟨S_, .f32⟩
  | 93 => ⟨S16x8192, .f32⟩
  | 94 => ⟨S16x1x8192, .f32⟩
  | 95 => ⟨S16x1024x8192, .f32⟩
  | 96 => ⟨S16x1024x8192, .f32⟩
  | 97 => ⟨S16x1024x8192, .f32⟩
  | 98 => ⟨S16x1024x8192, .f32⟩
  | 99 => ⟨S_, .f32⟩
  | 100 => ⟨S16x1024x8192, .f32⟩
  | 101 => ⟨S16x1024x8192, .f32⟩
  | 102 => ⟨S16x1024x8192, .f32⟩
  | 103 => ⟨S_, .f32⟩
  | 104 => ⟨S16x1024x8192, .f32⟩
  | 105 => ⟨S16x1024x8192, .f32⟩
  | 106 => ⟨S16x1024x8192, .f32⟩
  | 107 => ⟨S16x1024x8192, .f32⟩
  | 108 => ⟨S16x1024x32, .f32⟩
  | 109 => ⟨S16x1024x32, .i32⟩
  | 110 => ⟨S16x32768, .i32⟩
  | 111 => ⟨S16x32768x1, .i32⟩
  | 112 => ⟨S_, .i32⟩
  | 113 => ⟨S16x32768x1, .i32⟩
  | 114 => ⟨S16x32768x1, .i1⟩
  | 115 => ⟨S_, .i32⟩
  | 116 => ⟨S16x32768x1, .i32⟩
  | 117 => ⟨S16x32768x1, .i32⟩
  | 118 => ⟨S16x32768x1, .i32⟩
  | 119 => ⟨S1, .i32⟩
  | 120 => ⟨S_, .i32⟩
  | 121 => ⟨S16x32768x1, .i32⟩
  | 122 => ⟨S16x32768x1, .i1⟩
  | 123 => ⟨S1x1x1, .i32⟩
  | 124 => ⟨S16x32768x1, .i32⟩
  | 125 => ⟨S16x32768x1, .i1⟩
  | 126 => ⟨S16x32768x1, .i1⟩
  | 127 => ⟨S_, .i1⟩
  | _ => ⟨S16x8192x3, .f32⟩

abbrev hbmTy0_1 (i : Nat) : BufTy := match i % 128 with
  | 0 => ⟨S16x32768, .i1⟩
  | 1 => ⟨S16x32768x3, .f32⟩
  | 2 => ⟨S16x32768x3, .i1⟩
  | 3 => ⟨S_, .f32⟩
  | 4 => ⟨S16x32768x3, .f32⟩
  | 5 => ⟨S16x32768x3, .f32⟩
  | 6 => ⟨S16x1024x32x3, .f32⟩
  | 7 => ⟨S16x1024x1x3, .f32⟩
  | 8 => ⟨S16x1024x32x3, .f32⟩
  | 9 => ⟨S16x1024x32x3, .f32⟩
  | _ => ⟨S16x8192x3, .f32⟩

abbrev hbmTy (i : Nat) : BufTy := match i / 128 with
  | 0 => hbmTy0_0 i
  | 1 => hbmTy0_1 i
  | _ => ⟨S16x8192x3, .f32⟩

abbrev bufTy : (tb : Table) → Fin (tcTables nBuf tb) → BufTy
  | .hbm, ⟨i, _⟩ => hbmTy i
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_12 : Ref sig .tc := ⟨.hbm, 15, rfl⟩
abbrev main_while0c_v30 : Ref sig .tc := ⟨.hbm, 16, rfl⟩
abbrev main_while0b_c_12 : Ref sig .tc := ⟨.hbm, 17, rfl⟩
abbrev main_while0b_v30 : Ref sig .tc := ⟨.hbm, 18, rfl⟩
abbrev main_while0b_c_13 : Ref sig .tc := ⟨.hbm, 19, rfl⟩
abbrev main_while0b_v31 : Ref sig .tc := ⟨.hbm, 20, rfl⟩
abbrev main_while0b_c_14 : Ref sig .tc := ⟨.hbm, 21, rfl⟩
abbrev main_while0b_v32 : Ref sig .tc := ⟨.hbm, 22, rfl⟩
abbrev main_while0b_v33 : Ref sig .tc := ⟨.hbm, 23, rfl⟩
abbrev main_while0b_v34 : Ref sig .tc := ⟨.hbm, 24, rfl⟩
abbrev main_while0b_v35 : Ref sig .tc := ⟨.hbm, 25, rfl⟩
abbrev main_while0b_v36 : Ref sig .tc := ⟨.hbm, 26, rfl⟩
abbrev main_while0b_v37 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_call0_v1 : Ref sig .tc := ⟨.hbm, 30, rfl⟩
abbrev main_while0b_call0_c_0 : Ref sig .tc := ⟨.hbm, 31, rfl⟩
abbrev main_while0b_call0_v2 : Ref sig .tc := ⟨.hbm, 32, rfl⟩
abbrev main_while0b_call0_v3 : Ref sig .tc := ⟨.hbm, 33, rfl⟩
abbrev main_while0b_call0_v4 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v5 : Ref sig .tc := ⟨.hbm, 37, rfl⟩
abbrev main_while0b_call0_v6 : Ref sig .tc := ⟨.hbm, 38, rfl⟩
abbrev main_while0b_call0_v7 : Ref sig .tc := ⟨.hbm, 39, rfl⟩
abbrev main_while0b_call0_v8 : Ref sig .tc := ⟨.hbm, 40, rfl⟩
abbrev main_while0b_call0_v9 : Ref sig .tc := ⟨.hbm, 41, rfl⟩
abbrev main_while0b_call0_v10 : Ref sig .tc := ⟨.hbm, 42, rfl⟩
abbrev main_while0b_call0_c_3 : Ref sig .tc := ⟨.hbm, 43, rfl⟩
abbrev main_while0b_call0_v11 : Ref sig .tc := ⟨.hbm, 44, rfl⟩
abbrev main_while0b_call0_v12 : Ref sig .tc := ⟨.hbm, 45, rfl⟩
abbrev main_while0b_call0_v13 : Ref sig .tc := ⟨.hbm, 46, rfl⟩
abbrev main_while0b_call0_cst : Ref sig .tc := ⟨.hbm, 47, rfl⟩
abbrev main_while0b_call0_v14 : Ref sig .tc := ⟨.hbm, 48, rfl⟩
abbrev main_while0b_v38 : Ref sig .tc := ⟨.hbm, 49, rfl⟩
abbrev main_while0b_v39 : Ref sig .tc := ⟨.hbm, 50, rfl⟩
abbrev main_while0b_v40 : Ref sig .tc := ⟨.hbm, 51, rfl⟩
abbrev main_while0b_v41 : Ref sig .tc := ⟨.hbm, 52, rfl⟩
abbrev main_while0b_cst_15 : Ref sig .tc := ⟨.hbm, 53, rfl⟩
abbrev main_while0b_v42 : Ref sig .tc := ⟨.hbm, 54, rfl⟩
abbrev main_while0b_v43 : Ref sig .tc := ⟨.hbm, 55, rfl⟩
abbrev main_while0b_v44 : Ref sig .tc := ⟨.hbm, 56, rfl⟩
abbrev main_while0b_call2_v0 : Ref sig .tc := ⟨.hbm, 57, rfl⟩
abbrev main_while0b_call2_cst : Ref sig .tc := ⟨.hbm, 58, rfl⟩
abbrev main_while0b_call2_c : Ref sig .tc := ⟨.hbm, 59, rfl⟩
abbrev main_while0b_call2_v1_0 : Ref sig .tc := ⟨.hbm, 60, rfl⟩
abbrev main_while0b_v45 : Ref sig .tc := ⟨.hbm, 61, rfl⟩
abbrev main_while0b_c_16 : Ref sig .tc := ⟨.hbm, 62, rfl⟩
abbrev main_while0b_v46 : Ref sig .tc := ⟨.hbm, 63, rfl⟩
abbrev main_v4 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_c_2 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_c_3 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v5 : Ref sig .tc := ⟨.hbm, 86, rfl⟩
abbrev main_v6 : Ref sig .tc := ⟨.hbm, 87, rfl⟩
abbrev main_cst_3 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_cst_4 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_cst_5 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_cst_6 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_values : Ref sig .tc := ⟨.hbm, 108, rfl⟩
abbrev main_indices : Ref sig .tc := ⟨.hbm, 109, rfl⟩
abbrev main_v23 : Ref sig .tc := ⟨.hbm, 110, rfl⟩
abbrev main_v24 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_1 : Ref sig .tc := ⟨.hbm, 119, rfl⟩
abbrev main_call4_c_2 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_c_3 : Ref sig .tc := ⟨.hbm, 127, rfl⟩
abbrev main_call4_v11 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩

abbrev nD : Nat := 1
abbrev τ : Topo := Topo.v7x

variable {F : FTy → Type} [FloatOps F]

abbrev main_while0_count : Scf.Loop 32 := ⟨0#32, 1024#32, 1#32⟩
-- ==== Proof.Points.lean ====
/-
  The mathematics that the programs share, over literal shapes: a row of the points picked per batch and index word
  (the gather `x[b, i]` of `take_along_axis`), the conjunction over a unit axis, and the neighbourhood array: each
  group's points with the group's centre taken away.
-/
module

public import Idealize.ShloMosaic.Lib.Pipeline.Value
public import Idealize.ShloMosaic.Lib.ValueIdxCore
public import Idealize.ShloMosaic.Lib.IdealHost

@[expose] public section

set_option maxRecDepth 16384

noncomputable section

namespace Cert.Proof.Points

open Idealize.ShloMosaic Idealize.ShloMosaic.ValueIdx Idealize.ShloMosaic.Pipeline

/-! ## The gather of one row per batch and index -/

section Gather
variable {α : Type}

/-- The dimension numbers of that gather: operand `[B, N, C]`, start indices `[B, R, 1]`, result `[B, R, C]`. -/
abbrev pickDims (B N C R : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- Entry `(b, r, c)` of the gather: the operand's batch `b`, at the row the index word `(b, r, 0)` names (read signed,
    clamped into the operand), coordinate `c`. -/
theorem pick_apply {B N C R w : Nat} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (c : Fin C) :
    Host.gather (pickDims B N C R wf) x idx (ix3 b r c)
      = x (ix3 b ⟨min (idx (ix3 b r (0 : Fin 1))).toInt.toNat (N - 1), by omega⟩ c) := by
  unfold Host.gather
  refine congrArg x (funext fun a => Fin.ext ?_)
  show (pickDims B N C R wf).start (ix3 b r c) idx a + (pickDims B N C R wf).batchCoord (ix3 b r c) a
      + (pickDims B N C R wf).offCoord (ix3 b r c) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pickDims B N C R wf).startIndexMap from List.mem_singleton.mpr rfl)]
    have hsi : (pickDims B N C R wf).siIdx (ix3 b r c) ⟨List.idxOf (1 : Fin 3) (pickDims B N C R wf).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => by simp at h)]
    unfold GatherDims.start GatherDims.offCoord
    rw [dif_neg (show (2 : Fin 3) ∉ (pickDims B N C R wf).startIndexMap from fun h => by simp at h)]
    rw [dif_pos (show (2 : Fin 3) ∈ (pickDims B N C R wf).sKept from (GatherDims.mem_sKept _ _).mpr ⟨fun h => by simp at h, fun h => by simp at h⟩)]
    simp only [Nat.zero_add]
    rfl

end Gather

/-! ## A conjunction of ones -/

/-- A fold of "and" from one over words that are all one is one. -/
theorem foldl_andi_one {α : Type} (f : α → BitVec 1) (l : List α) (h : ∀ a ∈ l, f a = 1#1) :
    l.foldl (fun r a => IntOp.andi r (f a)) 1#1 = 1#1 := by
  induction l with
  | nil => rfl
  | cons a l ih =>
    rw [List.foldl_cons, h a (List.mem_cons_self ..)]
    exact ih fun b hb => h b (List.mem_cons_of_mem _ hb)

/-- The conjunction over some axes of an array of ones, from one, is one everywhere. -/
theorem reduce_andi_one {s t u : Shape} {axes : List (Fin s.rank)} (x : IVec s 1) (v : IVec u 1) (h : s.ReducesTo axes t)
    (hu : 0 < u.numel) (hx : ∀ i, x i = 1#1) (hv : ∀ i, v i = 1#1) (j : t.Idx) : Host.reduce IntOp.andi x v h hu j = 1#1 := by
  unfold Host.reduce
  rw [hv]
  exact foldl_andi_one _ _ fun n _ => hx _

/-! ## Index words -/

/-- A word below `2³¹` read signed. -/
theorem toInt_toNat {x : BitVec 32} (h : x.toNat < 2 ^ 31) : x.toInt.toNat = x.toNat := by
  rw [BitVec.toInt_eq_toNat_cond]; split <;> omega

/-- A word below `2³¹` is not negative. -/
theorem slt_zero {x : BitVec 32} (h : x.toNat < 2 ^ 31) : IntOp.cmpi .slt x 0#32 = 0#1 := by
  simp only [IntOp.cmpi]
  have : x.slt 0#32 = false := by
    rw [BitVec.slt_eq_decide, BitVec.toInt_eq_toNat_cond]
    simp only [decide_eq_false_iff_not]
    split <;> simp <;> omega
  rw [this]; rfl

theorem sge_zero {x : BitVec 32} (h : x.toNat < 2 ^ 31) : IntOp.cmpi .sge x 0#32 = 1#1 := by
  simp only [IntOp.cmpi]
  have : (0#32).sle x = true := by
    rw [BitVec.sle_eq_decide, BitVec.toInt_eq_toNat_cond (x := x)]
    simp only [decide_eq_true_eq]
    split <;> simp <;> omega
  rw [this]; rfl

theorem sle_8191 {x : BitVec 32} (h : x.toNat < 8192) : IntOp.cmpi .sle x 8191#32 = 1#1 := by
  simp only [IntOp.cmpi]
  have : x.sle 8191#32 = true := by
    rw [BitVec.sle_eq_decide, BitVec.toInt_eq_toNat_cond (x := x)]
    simp only [decide_eq_true_eq]
    split <;> simp <;> omega
  rw [this]; rfl

/-! ## The neighbourhoods -/

variable {F : FTy → Type} [FloatOps F]

/-- The coordinates of each group's points less its centre's. -/
def nbr (x : (⟨3, ![16, 8192, 3]⟩ : Shape).Idx → F .f32) (c : (⟨3, ![16, 1024, 3]⟩ : Shape).Idx → F .f32)
    (g : (⟨3, ![16, 1024, 32]⟩ : Shape).Idx → BitVec 32) : (⟨4, ![16, 1024, 32, 3]⟩ : Shape).Idx → F .f32 := fun j =>
  FloatOps.subf (x (ix3 (j 0) (⟨(g (ix3 (j 0) (j 1) (j 2))).toNat % 8192, Nat.mod_lt _ (by decide)⟩ : Fin 8192) (j 3)))
    (c (ix3 (j 0) (j 1) (j 3)))

end Cert.Proof.Points

end
-- ==== Proof.GatherIdealTile.lean ====
/-
  One vector subcore's part of the SparseCore call. Subcore `s` of SparseCore `c` is worker `w = 2 s + c`. It copies row
  `w` of the index array into its memory, then gathers 384 groups of 128 table entries, one group after the other, and
  copies the 49152 words it has gathered to row `w` of the result.

  The table and the index array are arbitrary here (`tb`, `ix`), every index below 393216. What the worker leaves is
  stated as a value: word `p` of its row is the table's entry at the index `(w, p / 128, p % 128)` of the index array.
  Everything is for an arbitrary float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ViewIndex
public import Idealize.ShloMosaic.Lib.ValueIdxCore
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdeal

open Cert.GatherIdeal Cert.GatherIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The arrays -/

/-- The table, the index array and the result of the call, on device `d`. -/
abbrev tLoc (d : Dev nD) : Loc nD τ sig := (SparseCore.T d).loc main_v0
abbrev iLoc (d : Dev nD) : Loc nD τ sig := (SparseCore.T d).loc main_v16
abbrev oLoc (d : Dev nD) : Loc nD τ sig := (SparseCore.T d).loc main_v17

/-- The three arrays, and the two scratch arrays, as a vector subcore names them. -/
abbrev tV : Memref sig .scVector .hbm S393216 .f32 := Memref.whole main_v0_scv
abbrev iV : Memref sig .scVector .hbm S32x384x128 .i32 := Memref.whole main_v16_scv
abbrev oV : Memref sig .scVector .hbm S32x49152 .f32 := Memref.whole main_v17_scv
abbrev sV : Memref sig .scVector .vmem S384x128 .i32 := Memref.whole cc0_scratch0
abbrev rV : Memref sig .scVector .vmem S49152 .f32 := Memref.whole cc0_scratch1

/-- Entry `n` of the table's index set (a number past the end wraps round). -/
def entry (n : ℕ) : S393216.Idx := ix1 (⟨n % 393216, Nat.mod_lt _ (by decide)⟩ : Fin 393216)

/-- Word `p` of worker `w`'s result: the table at the `p`-th index of the worker's row. -/
def word (tb : S393216.Idx → Elt F .f32) (ix : S32x384x128.Idx → BitVec 32) (w : Fin 32) (p : Fin 49152) : Elt F .f32 :=
  tb (entry (ix (ix3 w (⟨p.val / 128, by omega⟩ : Fin 384) (⟨p.val % 128, by omega⟩ : Fin 128))).toNat)

/-- The whole result: row `w` holds worker `w`'s words. -/
def gathered (tb : S393216.Idx → Elt F .f32) (ix : S32x384x128.Idx → BitVec 32) : S32x49152.Idx → Elt F .f32 :=
  fun j => word tb ix (j 0) (j 1)

/-- Row `w` of the index array and of the result. -/
def iSet (w : Fin 32) : Finset S32x384x128.Idx := Finset.univ.filter fun j => (j 0).val = w.val
def oSet (w : Fin 32) : Finset S32x49152.Idx := Finset.univ.filter fun j => (j 0).val = w.val

/-- Worker `w`'s share of the table: one of the thirty-two halvings of the whole. -/
abbrev tq (w : Fin 32) : PosShare TreeShare := ShareLeaves.leaf 5 fullShare w

/-! ## The worker's views -/

section Tile

variable (d : Dev nD) (L : grid0.Coords)

abbrev cV (L : grid0.Coords) : Fin τ.nSC := (L 0).castLE hcore0
abbrev jV (L : grid0.Coords) : Fin τ.nSub := (L 1).castLE hsub0

theorem L0_lt : (L 0).val < 2 := (L 0).isLt
theorem L1_lt : (L 1).val < 16 := (L 1).isLt

/-- The worker's number. -/
def wk (L : grid0.Coords) : Fin 32 := ⟨2 * (L 1).val + (L 0).val, by have := L0_lt L; have := L1_lt L; omega⟩

/-- The worker's row of the index array and of the result, squeezed to the row's own shape. -/
abbrev iRow (L : grid0.Coords) : Memref sig .scVector .hbm S384x128 .i32 :=
  ((iV).slice (Rect.unit (s := S32x384x128) (k0_off1 L) S1x384x128.size (k0_off1_inb L)) (fun _ => rfl)).squeeze S384x128 squeezes_S1x384x128_S384x128
abbrev oRow (L : grid0.Coords) : Memref sig .scVector .hbm S49152 .f32 :=
  ((oV).slice (Rect.unit (s := S32x49152) (k0_off4 L) S1x49152.size (k0_off4_inb L)) (fun _ => rfl)).squeeze S49152 squeezes_S1x49152_S49152
/-- Trip `t`'s 128 words of the gathered array, its 128 indices, and the whole table. -/
abbrev dstW (t : Fin k0_t1_loop.trips) : Memref sig .scVector .vmem S128 .f32 :=
  (rV).slice (Rect.unit (s := S49152) (k0_off2 t) S128.size (k0_off2_inb t)) (fun _ => rfl)
abbrev idxW (t : Fin k0_t1_loop.trips) : Memref sig .scVector .vmem S128 .i32 :=
  ((sV).slice (Rect.unit (s := S384x128) (k0_off3 t) S1x128.size (k0_off3_inb t)) (fun _ => rfl)).squeeze S128 squeezes_S1x128_S128
abbrev tAll : Memref sig .scVector .hbm S393216 .f32 :=
  (tV).slice (Rect.unit (s := S393216) ![0] S393216.size inb_S393216_S393216_0) (fun _ => rfl)

theorem trips_eq : k0_t1_loop.trips = 384 := by decide +kernel
theorem trip_lt (t : Fin k0_t1_loop.trips) : t.val < 384 := trips_eq ▸ t.isLt

theorem set_iRow : (iRow L).view.set = iSet (wk L) := by
  show (((iV).view.slice (Rect.unit (s := S32x384x128) (k0_off1 L) S1x384x128.size (k0_off1_inb L))).reshape S384x128 _).set = _
  rw [View.set_reshape]
  refine (View.set_slice_whole _ _).trans ?_
  ext (j : S32x384x128.Idx)
  have b1 : (j 1).val < 384 := (j 1).isLt
  have b2 : (j 2).val < 128 := (j 2).isLt
  refine (Rect.mem_set_unit).trans ?_
  rw [k0_off1_eq]
  refine Iff.trans ?_ (Finset.mem_filter.trans (and_iff_right (Finset.mem_univ j))).symm
  constructor
  · intro h
    have h0 : 2 * (L 1).val + (L 0).val ≤ (j 0).val ∧ (j 0).val < 2 * (L 1).val + (L 0).val + 1 := h 0
    exact show (j 0).val = 2 * (L 1).val + (L 0).val by omega
  · intro h
    have h0 : (j 0).val = 2 * (L 1).val + (L 0).val := h
    intro a
    match a with
    | 0 => exact show 2 * (L 1).val + (L 0).val ≤ (j 0).val ∧ (j 0).val < 2 * (L 1).val + (L 0).val + 1 by omega
    | 1 => exact show 0 ≤ (j 1).val ∧ (j 1).val < 0 + 384 by omega
    | 2 => exact show 0 ≤ (j 2).val ∧ (j 2).val < 0 + 128 by omega

theorem set_oRow : (oRow L).view.set = oSet (wk L) := by
  show (((oV).view.slice (Rect.unit (s := S32x49152) (k0_off4 L) S1x49152.size (k0_off4_inb L))).reshape S49152 _).set = _
  rw [View.set_reshape]
  refine (View.set_slice_whole _ _).trans ?_
  ext (j : S32x49152.Idx)
  have b1 : (j 1).val < 49152 := (j 1).isLt
  refine (Rect.mem_set_unit).trans ?_
  rw [k0_off4_eq]
  refine Iff.trans ?_ (Finset.mem_filter.trans (and_iff_right (Finset.mem_univ j))).symm
  constructor
  · intro h
    have h0 : 2 * (L 1).val + (L 0).val ≤ (j 0).val ∧ (j 0).val < 2 * (L 1).val + (L 0).val + 1 := h 0
    exact show (j 0).val = 2 * (L 1).val + (L 0).val by omega
  · intro h
    have h0 : (j 0).val = 2 * (L 1).val + (L 0).val := h
    intro a
    match a with
    | 0 => exact show 2 * (L 1).val + (L 0).val ≤ (j 0).val ∧ (j 0).val < 2 * (L 1).val + (L 0).val + 1 by omega
    | 1 => exact show 0 ≤ (j 1).val ∧ (j 1).val < 0 + 49152 by omega

/-! Where the worker's views place their words. -/

theorem iRow_emb (r : Fin 384) (l : Fin 128) : (iRow L).view.emb (ix2 r l) = ix3 (wk L) r l := by
  show (Rect.unit (s := S32x384x128) (k0_off1 L) S1x384x128.size (k0_off1_inb L)).emb (Shape.reshapeEquiv _ (ix2 r l)) = _
  rw [show Shape.reshapeEquiv squeezes_S1x384x128_S384x128.numel_eq (ix2 r l) = (ix3 (0 : Fin 1) r l : S1x384x128.Idx) from
    Shape.reshapeEquiv_eq_of_rowMajor _ (by rw [Shape.rowMajor_val_two, Shape.rowMajor_val_three]; simp)]
  funext a
  refine Fin.ext ?_
  rw [Rect.emb_apply]
  refine (congrArg (· + 1 * _) (congrFun (k0_off1_eq L) a)).trans ?_
  match a with
  | 0 => exact Nat.add_zero _
  | 1 => exact show 0 + 1 * r.val = r.val by omega
  | 2 => exact show 0 + 1 * l.val = l.val by omega

theorem oRow_emb (p : Fin 49152) : (oRow L).view.emb (ix1 p) = ix2 (wk L) p := by
  show (Rect.unit (s := S32x49152) (k0_off4 L) S1x49152.size (k0_off4_inb L)).emb (Shape.reshapeEquiv _ (ix1 p)) = _
  rw [show Shape.reshapeEquiv squeezes_S1x49152_S49152.numel_eq (ix1 p) = (ix2 (0 : Fin 1) p : S1x49152.Idx) from
    Shape.reshapeEquiv_eq_of_rowMajor _ (by rw [Shape.rowMajor_val_one, Shape.rowMajor_val_two]; simp)]
  funext a
  refine Fin.ext ?_
  rw [Rect.emb_apply]
  refine (congrArg (· + 1 * _) (congrFun (k0_off4_eq L) a)).trans ?_
  match a with
  | 0 => exact Nat.add_zero _
  | 1 => exact show 0 + 1 * p.val = p.val by omega

theorem idxW_emb (t : Fin k0_t1_loop.trips) (l : Fin 128) : (idxW t).view.emb (ix1 l) = ix2 (⟨t.val, trip_lt t⟩ : Fin 384) l := by
  show (Rect.unit (s := S384x128) (k0_off3 t) S1x128.size (k0_off3_inb t)).emb (Shape.reshapeEquiv _ (ix1 l)) = _
  rw [show Shape.reshapeEquiv squeezes_S1x128_S128.numel_eq (ix1 l) = (ix2 (0 : Fin 1) l : S1x128.Idx) from
    Shape.reshapeEquiv_eq_of_rowMajor _ (by rw [Shape.rowMajor_val_one, Shape.rowMajor_val_two]; simp)]
  funext a
  refine Fin.ext ?_
  rw [Rect.emb_apply]
  refine (congrArg (· + 1 * _) (congrFun (k0_off3_eq t) a)).trans ?_
  match a with
  | 0 => exact Nat.add_zero _
  | 1 => exact show 0 + 1 * l.val = l.val by omega

theorem dstW_emb (t : Fin k0_t1_loop.trips) (l : Fin 128) :
    (dstW t).view.emb (ix1 l) = ix1 (⟨128 * t.val + l.val, by have := trip_lt t; omega⟩ : Fin 49152) := by
  show (Rect.unit (s := S49152) (k0_off2 t) S128.size (k0_off2_inb t)).emb (ix1 l) = _
  funext a
  refine Fin.ext ?_
  rw [Rect.emb_apply]
  refine (congrArg (· + 1 * _) (congrFun (k0_off2_eq t) a)).trans ?_
  match a with
  | 0 => exact show 128 * t.val + 1 * l.val = 128 * t.val + l.val by omega

theorem tAll_emb (x : S393216.Idx) : (tAll).view.emb x = x := by
  show (Rect.unit (s := S393216) ![0] S393216.size inb_S393216_S393216_0).emb x = x
  funext a
  refine Fin.ext ?_
  rw [Rect.emb_apply]
  match a with
  | 0 => exact show 0 + 1 * (x 0).val = (x 0).val by omega

theorem mem_dstW {t : Fin k0_t1_loop.trips} {p : Fin 49152} :
    (ix1 p : S49152.Idx) ∈ (dstW t).view.set ↔ 128 * t.val ≤ p.val ∧ p.val < 128 * t.val + 128 := by
  show (ix1 p : S49152.Idx) ∈ ((rV).view.slice (Rect.unit (s := S49152) (k0_off2 t) S128.size (k0_off2_inb t))).set ↔ _
  rw [show ((rV).view.slice (Rect.unit (s := S49152) (k0_off2 t) S128.size (k0_off2_inb t))).set = _ from View.set_slice_whole _ _]
  refine (Rect.mem_set_unit).trans ?_
  rw [k0_off2_eq]
  exact ⟨fun h => h 0, fun h a => match a with | 0 => h⟩

/-! ## The worker's run -/

variable [FloatOps F]
variable (tb : S393216.Idx → Elt F .f32) (ix : S32x384x128.Idx → BitVec 32)

/-- The worker's row of the index array, as its scratch holds it. -/
def idxRow (ix : S32x384x128.Idx → BitVec 32) (w : Fin 32) : S384x128.Idx → BitVec 32 := fun j => ix (ix3 w (j 0) (j 1))

omit [FloatOps F] in
theorem fetched (fs : S384x128.Idx → BitVec 32) (pay : S384x128.Idx → BitVec 32) (hpay : pay = (iRow L).view.read (Elt F) ix) :
    View.write (Elt F) (sV).view fs pay Finset.univ = idxRow ix (wk L) := by
  subst hpay
  rw [View.write_whole_univ]
  funext j
  rw [View.read_apply]
  refine (cast_eq _ _).trans ?_
  rw [eq_ix2 j]
  exact congrArg ix (iRow_emb L _ _)

/-- Trip `t`'s indices, as the gather reads them. -/
theorem read_idxW (w : Fin 32) (t : Fin k0_t1_loop.trips) (x : S128.Idx) :
    (idxW t).view.read (Elt F) (idxRow ix w) x = ix (ix3 w (⟨t.val, trip_lt t⟩ : Fin 384) (x 0)) := by
  rw [View.read_apply]
  refine (cast_eq _ _).trans ?_
  rw [eq_ix1 x]
  exact congrArg (idxRow ix w) (idxW_emb t _)

abbrev thr (d : Dev nD) (L : grid0.Coords) : Thread nD τ := V d (cV L) (jV L)

/-- What holds before trip `k`: the first `128 k` words gathered are the worker's first words. -/
def inv (O : CellTallies nD τ sig (HIx 1)) (W : Waits sig (HIx 1)) (k : Nat) (_ : PUnit) : sProp 𝕄 :=
  iprop(Transfers.MayWaits (thr d L) (default : HIx 1) O
    ∗ ((tV).view.loc (thr d L) ↦{tq (wk L)} tb)
    ∗ ((sV).view.loc (thr d L) ↦{fullShare} idxRow ix (wk L))
    ∗ (∃ f : S49152.Idx → Elt F .f32, ⌜∀ p : Fin 49152, p.val < 128 * k → f (ix1 p) = word tb ix (wk L) p⌝
        ∗ ((rV).view.loc (thr d L) ↦{fullShare} f))
    ∗ semVal (thr d L, SemLoc.dma cc0_scratch2.sem) 0
    ∗ ∃ W', ⌜∀ p ∈ W', p ∈ W ∨ p.2 = none⌝ ∗ owes (thr d L) O W')

/-- The table's entry that a trip's gather puts at place `l` of its 128 words. -/
theorem payload (w : Fin 32) (t : Fin k0_t1_loop.trips)
    (hin : ∀ x : S128.Idx, ((idxW t).view.read (Elt F) (idxRow ix w) x).toNat < S393216.size gathers_S393216_S128.axis)
    (hn : S128.numel = S128.size gathers_S393216_S128.axis') (l : Fin 128) (p : Fin 49152) (hp : p.val = 128 * t.val + l.val) :
    SparseCore.gatherPayload gathers_S393216_S128 ((tAll).view.read (Elt F) tb)
      (SparseCore.rows ((idxW t).view.read (Elt F) (idxRow ix w)) hn hin) (ix1 l : S128.Idx) = word tb ix w p := by
  unfold SparseCore.gatherPayload
  rw [View.read_apply]
  refine (cast_eq _ _).trans ?_
  rw [tAll_emb]
  unfold word
  refine congrArg tb ?_
  rw [eq_ix1 (Shape.Gathers.idx _ _ _)]
  unfold entry
  refine congrArg ix1 (Fin.ext ?_)
  refine (congrArg Fin.val (Shape.Gathers.idx_axis gathers_S393216_S128 _ _)).trans ?_
  have hsym : S128.rowMajor.symm ((l : Fin 128).cast (rfl : (128 : ℕ) = S128.numel)) = ix1 l := by
    rw [Equiv.symm_apply_eq]
    exact Fin.ext (Shape.rowMajor_val_one (d := ![128]) (ix1 l)).symm
  show ((idxW t).view.read (Elt F) (idxRow ix w) (S128.rowMajor.symm ((l : Fin 128).cast _))).toNat = _
  have hlt := hin (ix1 l)
  rw [hsym]
  have hl : p.val % 128 = l.val := by omega
  have ht : p.val / 128 = t.val := by omega
  rw [read_idxW] at hlt ⊢
  have e : (ix3 w (⟨t.val, trip_lt t⟩ : Fin 384) ((ix1 l : S128.Idx) 0) : S32x384x128.Idx)
      = ix3 w (⟨p.val / 128, by omega⟩ : Fin 384) (⟨p.val % 128, by omega⟩ : Fin 128) := by
    congr 1
    · exact Fin.ext ht.symm
    · exact Fin.ext hl.symm
  rw [e] at hlt ⊢
  exact (Nat.mod_eq_of_lt hlt).symm

/-- A trip's gather leaves the first `128 (t + 1)` words as they should be, when the first `128 t` are. -/
theorem stored (w : Fin 32) (t : Fin k0_t1_loop.trips) (f : S49152.Idx → Elt F .f32) (pay : S128.Idx → Elt F .f32)
    (hpay : ∀ (l : Fin 128) (p : Fin 49152), p.val = 128 * t.val + l.val → pay (ix1 l) = word tb ix w p)
    (hf : ∀ p : Fin 49152, p.val < 128 * t.val → f (ix1 p) = word tb ix w p) (p : Fin 49152) (hp : p.val < 128 * (t.val + 1)) :
    View.write (Elt F) (dstW t).view f pay Finset.univ (ix1 p) = word tb ix w p := by
  by_cases h : p.val < 128 * t.val
  · refine (View.write_of_not_mem (v := (dstW t).view) f pay Finset.univ ?_).trans (hf p h)
    rw [View.setOn_univ, mem_dstW]
    omega
  · have e : (dstW t).view.emb (ix1 (⟨p.val - 128 * t.val, by omega⟩ : Fin 128)) = (ix1 p : S49152.Idx) := by
      rw [dstW_emb]
      exact congrArg ix1 (Fin.ext (by simp only; omega))
    refine (congrArg (View.write (Elt F) (dstW t).view f pay Finset.univ) e.symm).trans ?_
    refine (View.write_emb_of_mem (v := (dstW t).view) f pay (Finset.mem_univ _)).trans ?_
    exact (cast_eq _ _).trans (hpay _ p (by simp only; omega))

/-- One trip: the gather of its 128 words and its wait. -/
theorem trip (hix : ∀ j, (ix j).toNat < 393216) (O : CellTallies nD τ sig (HIx 1)) (W : Waits sig (HIx 1)) (t : Fin k0_t1_loop.trips) :
    inv d L tb ix O W t.val ⟨⟩ ⊢ wp frame (wpE (defs₀ (F := F)) 𝒱₀ (thr d L) none) Set.univ
      (k0_t1_body L tV (Memref.isWhole_whole _) iV (Memref.isWhole_whole _) oV (Memref.isWhole_whole _)
            sV (Memref.isWhole_whole _) rV (Memref.isWhole_whole _) cc0_scratch2 cc0_scoped0 cc0_scoped1 t ())
      (inv d L tb ix O W (t.val + 1)) := by
  have hin : ∀ x, ((idxW t).view.read (Elt F) (idxRow ix (wk L)) x).toNat < S393216.size gathers_S393216_S128.axis := fun x => by
    rw [read_idxW]; exact hix _
  unfold inv k0_t1_body
  iintro ⟨Hmw, Ht, Hs, ⟨%f, %hf, Hr⟩, Hsem, %W', %hW', HO⟩
  sl_exec
  sl_step
  isplitl [Hmw]; · iexact Hmw
  isplitl [Ht]; · iexact Ht
  isplitl [Hs]; · iexact Hs
  isplitl [Hr]
  · iexists _
    isplitr
    swap; · iexact Hr
    ipureintro
    exact stored tb ix (wk L) t f _ (fun l p hp => payload tb ix (wk L) t hin rfl l p hp) hf
  isplitl [Hsem]; · iexact Hsem
  iexists _
  isplitr
  swap; · iexact HO
  ipureintro
  intro p hp
  rcases Finset.mem_insert.mp hp with hp | hp
  · exact .inr (hp ▸ rfl)
  · exact hW' p hp

/-- Contents whose row, as the worker sees it, holds the gathered words agree with the result on that row. -/
theorem written (g : S32x49152.Idx → Elt F .f32)
    (hg : ∀ p : Fin 49152, (oRow L).view.read (Elt F) g (ix1 p) = word tb ix (wk L) p) (j : S32x49152.Idx) (hj : j ∈ oSet (wk L)) :
    g j = gathered tb ix j := by
  have h0 : j 0 = wk L := Fin.ext (Finset.mem_filter.mp hj).2
  have e : (oRow L).view.emb (ix1 (j 1 : Fin 49152)) = j := by
    refine (oRow_emb L _).trans (Eq.trans ?_ (eq_ix2 j).symm)
    exact congrArg (fun w : Fin 32 => (ix2 w (j 1 : Fin 49152) : S32x49152.Idx)) h0.symm
  refine (congrArg g e.symm).trans ?_
  refine ((cast_eq _ _).symm.trans (hg (j 1 : Fin 49152))).trans ?_
  exact congrArg (fun w : Fin 32 => word tb ix w (j 1 : Fin 49152)) h0.symm

/-! The worker's own semaphores and buffers: those the kernel names, and the rest. -/

abbrev gCell : GSem nD τ sig := (thr d L, .dma cc0_scratch2.sem)
abbrev aCell : GSem nD τ sig := (thr d L, .dma cc0_scoped0.sem)
abbrev bCell : GSem nD τ sig := (thr d L, .dma cc0_scoped1.sem)

omit [FloatOps F] in
theorem ownSems_eq :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  have hg : gCell d L ∈ ownCells (thr d L) := mem_ownCells.mpr ⟨rfl, show (SemLoc.dma cc0_scratch2.sem : SemLoc sig).isScoped .scVector = true by decide⟩
  have ha : aCell d L ∈ ownCells (thr d L) := mem_ownCells.mpr ⟨rfl, show (SemLoc.dma cc0_scoped0.sem : SemLoc sig).isScoped .scVector = true by decide⟩
  have hb : bCell d L ∈ ownCells (thr d L) := mem_ownCells.mpr ⟨rfl, show (SemLoc.dma cc0_scoped1.sem : SemLoc sig).isScoped .scVector = true by decide⟩
  have hag : aCell d L ≠ gCell d L := fun e =>
    absurd (congrArg Prod.snd e) (show (SemLoc.dma cc0_scoped0.sem : SemLoc sig) ≠ .dma cc0_scratch2.sem by decide)
  have hbg : bCell d L ≠ gCell d L := fun e =>
    absurd (congrArg Prod.snd e) (show (SemLoc.dma cc0_scoped1.sem : SemLoc sig) ≠ .dma cc0_scratch2.sem by decide)
  have hba : bCell d L ≠ aCell d L := fun e =>
    absurd (congrArg Prod.snd e) (show (SemLoc.dma cc0_scoped1.sem : SemLoc sig) ≠ .dma cc0_scoped0.sem by decide)
  unfold SparseCore.Cfg.ownSems0
  rw [SparseCore.bigSep_erase' hg, SparseCore.bigSep_erase' (Finset.mem_erase.mpr ⟨hag, ha⟩),
    SparseCore.bigSep_erase' (Finset.mem_erase.mpr ⟨hba, Finset.mem_erase.mpr ⟨hbg, hb⟩⟩)]

omit [FloatOps F] in
theorem ownBufs_eq :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hne : (cc0_scratch1 : Ref sig .scVector) ≠ cc0_scratch0 := by decide
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => hne (Proc.devRef_injective _ e),
    SparseCore.Cfg.mem_ownRefs_of_owner (p := Proc.scVector (cV L) (jV L)) (b := (Proc.scVector (cV L) (jV L)).devRef cc0_scratch1) rfl⟩)]

omit [FloatOps F] in
theorem pts_iRow (f : Buf (Elt F) (iLoc d)) :
    ((iRow L).view.loc (thr d L) ↦[(iRow L).view.set]{fullShare} f : sProp 𝕄) = iLoc d ↦[iSet (wk L)]{fullShare} f := by
  rw [set_iRow]
omit [FloatOps F] in
theorem pts_oRow (f : Buf (Elt F) (oLoc d)) :
    ((oRow L).view.loc (thr d L) ↦[(oRow L).view.set]{fullShare} f : sProp 𝕄) = oLoc d ↦[oSet (wk L)]{fullShare} f := by
  rw [set_oRow]

/-- The worker's row of the result, once written out. -/
theorem out_row (fo : S32x49152.Idx → Elt F .f32) (pay : S49152.Idx → Elt F .f32)
    (hpay : ∀ p : Fin 49152, pay (ix1 p) = word tb ix (wk L) p) :
    ((oRow L).view.loc (thr d L) ↦[(oRow L).view.set]{fullShare} (oRow L).view.writes (Elt F) fo [⟨Rect.whole S49152, pay⟩] : sProp 𝕄)
      ⊢ oLoc d ↦[oSet (wk L)]{fullShare} gathered tb ix := by
  rw [set_oRow]
  refine Entails.of_eq (pointsTo_congr (ℓ := oLoc d) (I := oSet (wk L)) (q := fullShare) (g := gathered tb ix)
      (fun (j : S32x49152.Idx) hj => written L tb ix _ (fun p => ?_) j hj))
  rw [View.read_writes_whole]
  exact hpay p

/-- What a worker is handed — its row of the index array, its share of the table, its row of the result — and what it
    hands back, the row of the result at its value. -/
abbrev piece (d : Dev nD) (w : Fin 32) : sProp 𝕄 :=
  iprop((tLoc d ↦{tq w} tb) ∗ (iLoc d ↦[iSet w]{fullShare} ix) ∗ ∃ f, oLoc d ↦[oSet w]{fullShare} f)
abbrev piece' (d : Dev nD) (w : Fin 32) : sProp 𝕄 :=
  iprop((tLoc d ↦{tq w} tb) ∗ (iLoc d ↦[iSet w]{fullShare} ix) ∗ oLoc d ↦[oSet w]{fullShare} gathered tb ix)

set_option maxHeartbeats 2000000 in
/-- The worker's whole run. -/
theorem tile_body (hF : (K (F := F)).Facts) (hix : ∀ j, (ix j).toNat < 393216) (O : CellTallies nD τ sig (HIx 1)) (W : Waits sig (HIx 1))
    (hO : ∀ g, O g none = 0) :
    iprop(levAts (K (F := F)).L (K (F := F)).lev ∗ emp ∗ piece tb ix d (wk L)
        ∗ scopedBufs (thr d L) ∗ scopedSems0 (thr d L) ∗ owes (thr d L) O W)
      ⊢ wp frame (wpE (defs₀ (F := F)) 𝒱₀ (thr d L) none) Set.univ
          (cc0__sc_gather_kernel L tV (Memref.isWhole_whole _) iV (Memref.isWhole_whole _) oV (Memref.isWhole_whole _)
            sV (Memref.isWhole_whole _) rV (Memref.isWhole_whole _) cc0_scratch2 cc0_scoped0 cc0_scoped1)
          fun _ => iprop(piece' tb ix d (wk L) ∗ scopedBufs (thr d L) ∗ scopedSems0 (thr d L)
            ∗ ∃ W', ⌜∀ p ∈ W', p ∈ W ∨ p.2 = none⌝ ∗ owes (thr d L) O W') := by
  simp only [cc0__sc_gather_kernel_eq_skeleton]; unfold cc0__sc_gather_kernel_skel
  rw [(K (F := F)).scopedBufs_V hF d (cV L) (jV L), SparseCore.Cfg.scopedSems0_V (Val := Elt F) d (cV L) (jV L), ownSems_eq, ownBufs_eq]
  iintro ⟨#Hlv, -, ⟨Ht, Hi, %fo, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRow (F := F) d L _).symm) $$ Hi
  ihave Ho' := (Entails.of_eq (pts_oRow (F := F) d L _).symm) $$ Ho
  ihave Ht' := (Entails.of_eq (show (tLoc d ↦{tq (wk L)} tb : sProp 𝕄) = (tV).view.loc (thr d L) ↦{tq (wk L)} tb from rfl)) $$ Ht
  ihave Hs' := (Entails.of_eq (show ((thr d L).loc cc0_scratch0 ↦{fullShare} fs : sProp 𝕄) = (sV).view.loc (thr d L) ↦{fullShare} fs from rfl)) $$ Hs
  ihave Hr' := (Entails.of_eq (show ((thr d L).loc cc0_scratch1 ↦{fullShare} fr : sProp 𝕄) = (rV).view.loc (thr d L) ↦{fullShare} fr from rfl)) $$ Hr
  sl_exec
  ihave Hs2 := (Entails.of_eq (congrArg (fun f => ((sV).view.loc (thr d L) ↦{fullShare} f : sProp 𝕄))
    (fetched L ix fs (tile_body.sl.dma0 L ix) rfl))) $$ Hs'
  sl_for (inv d L tb ix O W) $$ [Hmw Ht' Hs2 Hr' HsemG HO]
  case region =>
    intro k _
    exact trip d L tb ix hix O W k
  · unfold inv
    isplitl [Hmw]; · iexact Hmw
    isplitl [Ht']; · iexact Ht'
    isplitl [Hs2]; · iexact Hs2
    isplitl [Hr']
    · iexists fr
      isplitr
      · ipureintro
        intro p hp
        exact absurd hp (Nat.not_lt_zero _)
      · iexact Hr'
    isplitl [HsemG]; · iexact HsemG
    iexists _; isplitr
    swap; · iexact HO
    ipureintro
    intro p hp
    rcases Finset.mem_insert.mp hp with hp | hp; · exact .inr (hp ▸ rfl)
    exact .inl hp
  iintro %_ HI
  unfold inv
  icases HI with ⟨Hmw, Ht, Hs, ⟨%f, %hf, Hr⟩, HsemG, %W', %hW', HO⟩
  have hword : ∀ p : Fin 49152, f (ix1 p) = word tb ix (wk L) p := fun p => hf p (by
    have e : Scf.trips k0_t1_loop.lb k0_t1_loop.ub k0_t1_loop.st = 384 := trips_eq
    rw [e]; have := p.isLt; omega)
  sl_exec
  sl_step
  isplitl [Ht Hi' Ho']
  · isplitl [Ht]; · iexact Ht
    isplitl [Hi']; · iapply (Entails.of_eq (pts_iRow (F := F) d L _)); iexact Hi'
    iapply (out_row d L tb ix fo _ ?_) $$ Ho'
    exact fun p => hword p
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  exact hW' p hp

end Tile

end Cert.Proof.GatherIdeal

end
-- ==== Proof.GatherIdealLaunch.lean ====
/-
  The program around the SparseCore call, and the launch of the whole. @main reshapes the points into one table, computes
  the index array from the group indices, runs the call, reshapes its result and subtracts the centres. The call hands each
  of the thirty-two workers its row of the index array, its share of the table and its row of the result, and takes them
  back with the rows of the result filled in; @main's other operations run over the arrays it holds whole. The run's end is
  stated as a value for every array of @main (`VB`), and the arguments are what they were.
  Everything is for an arbitrary float instance.
-/
module

public import proofs.«01_k».proof.Proof.GatherIdealTile
public import Idealize.ShloMosaic.Lib.Pipeline.Frame

@[expose] public section

set_option maxRecDepth 16384

noncomputable section

namespace Cert.Proof.GatherIdeal

open Cert.GatherIdeal Cert.GatherIdeal.Gen

open Idealize.ShloMosaic Idealize.ShloMosaic.ValueIdx Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## @main's operations before and after the call -/

abbrev opsA : List (HloOp τ sig (Elt F)) :=
  [ reshape main_arg0 main_v0 (rfl : (.f32 : EltTy) = .f32) shapeCasts_S16x8192x3_S393216,
    nullary main_v1 (iotaInDim S16 32 0),
    nullary main_c (constantI S_ 32 8192#32),
    unary main_c main_v2 (broadcastInDim S16 ![] bcast_S_S16 : (⟨S_, .i32⟩ : BufTy).Contents (Elt F) → (⟨S16, .i32⟩ : BufTy).Contents (Elt F)),
    binary main_v1 main_v2 main_v3 (muli : (⟨S16, .i32⟩ : BufTy).Contents (Elt F) → (⟨S16, .i32⟩ : BufTy).Contents (Elt F) → (⟨S16, .i32⟩ : BufTy).Contents (Elt F)),
    unary main_v3 main_v4 (broadcastInDim S16x1x1 ![0] bcast_S16_S16x1x1_0 : (⟨S16, .i32⟩ : BufTy).Contents (Elt F) → (⟨S16x1x1, .i32⟩ : BufTy).Contents (Elt F)),
    unary main_v4 main_v5 (broadcastInDim S16x1024x32 ![0, 1, 2] bcast_S16x1x1_S16x1024x32_0_1_2 : (⟨S16x1x1, .i32⟩ : BufTy).Contents (Elt F) → (⟨S16x1024x32, .i32⟩ : BufTy).Contents (Elt F)),
    binary main_arg2 main_v5 main_v6 (addi : (⟨S16x1024x32, .i32⟩ : BufTy).Contents (Elt F) → (⟨S16x1024x32, .i32⟩ : BufTy).Contents (Elt F) → (⟨S16x1024x32, .i32⟩ : BufTy).Contents (Elt F)),
    reshape main_v6 main_v7 (rfl : (.i32 : EltTy) = .i32) shapeCasts_S16x1024x32_S16x32768,
    unary main_v7 main_v8 (broadcastInDim S16x32768x1 ![0, 1] bcast_S16x32768_S16x32768x1_0_1 : (⟨S16x32768, .i32⟩ : BufTy).Contents (Elt F) → (⟨S16x32768x1, .i32⟩ : BufTy).Contents (Elt F)),
    nullary main_c_0 (constantI S_ 32 3#32),
    unary main_c_0 main_v9 (broadcastInDim S16x32768x1 ![] bcast_S_S16x32768x1 : (⟨S_, .i32⟩ : BufTy).Contents (Elt F) → (⟨S16x32768x1, .i32⟩ : BufTy).Contents (Elt F)),
    binary main_v8 main_v9 main_v10 (muli : (⟨S16x32768x1, .i32⟩ : BufTy).Contents (Elt F) → (⟨S16x32768x1, .i32⟩ : BufTy).Contents (Elt F) → (⟨S16x32768x1, .i32⟩ : BufTy).Contents (Elt F)),
    nullary main_v11 (iotaInDim S3 32 0),
    unary main_v11 main_v12 (broadcastInDim S1x1x3 ![2] bcast_S3_S1x1x3_2 : (⟨S3, .i32⟩ : BufTy).Contents (Elt F) → (⟨S1x1x3, .i32⟩ : BufTy).Contents (Elt F)),
    unary main_v10 main_v13 (broadcastInDim S16x32768x3 ![0, 1, 2] bcast_S16x32768x1_S16x32768x3_0_1_2 : (⟨S16x32768x1, .i32⟩ : BufTy).Contents (Elt F) → (⟨S16x32768x3, .i32⟩ : BufTy).Contents (Elt F)),
    unary main_v12 main_v14 (broadcastInDim S16x32768x3 ![0, 1, 2] bcast_S1x1x3_S16x32768x3_0_1_2 : (⟨S1x1x3, .i32⟩ : BufTy).Contents (Elt F) → (⟨S16x32768x3, .i32⟩ : BufTy).Contents (Elt F)),
    binary main_v13 main_v14 main_v15 (addi : (⟨S16x32768x3, .i32⟩ : BufTy).Contents (Elt F) → (⟨S16x32768x3, .i32⟩ : BufTy).Contents (Elt F) → (⟨S16x32768x3, .i32⟩ : BufTy).Contents (Elt F)),
    reshape main_v15 main_v16 (rfl : (.i32 : EltTy) = .i32) shapeCasts_S16x32768x3_S32x384x128 ]

abbrev opsB : List (HloOp τ sig (Elt F)) :=
  [ reshape main_v17 main_v18 (rfl : (.f32 : EltTy) = .f32) shapeCasts_S32x49152_S16x1024x32x3,
    unary main_arg1 main_v19 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    unary main_v19 main_v20 (broadcastInDim S16x1024x32x3 ![0, 1, 2, 3] bcast_S16x1024x1x3_S16x1024x32x3_0_1_2_3 : (⟨S16x1024x1x3, .f32⟩ : BufTy).Contents (Elt F) → (⟨S16x1024x32x3, .f32⟩ : BufTy).Contents (Elt F)),
    binary main_v18 main_v20 main_v21 (subf : (⟨S16x1024x32x3, .f32⟩ : BufTy).Contents (Elt F) → (⟨S16x1024x32x3, .f32⟩ : BufTy).Contents (Elt F) → (⟨S16x1024x32x3, .f32⟩ : BufTy).Contents (Elt F)) ]

theorem opsA_sub : (opsA : List (HloOp τ sig (Elt F))).Forall fun op => op.bufs ⊆ tcRefs τ sig :=
  ⟨reshape_bufs_sub .., nullary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
theorem opsB_sub : (opsB : List (HloOp τ sig (Elt F))).Forall fun op => op.bufs ⊆ tcRefs τ sig :=
  ⟨reshape_bufs_sub .., unary_bufs_sub .., unary_bufs_sub .., binary_bufs_sub ..⟩
theorem opsA_fresh : (opsA : List (HloOp τ sig (Elt F))).Forall fun op => op.fresh = ∅ := forall_fresh_of_map rfl
theorem opsB_fresh : (opsB : List (HloOp τ sig (Elt F))).Forall fun op => op.fresh = ∅ := forall_fresh_of_map rfl

theorem main_eq (d : Dev nD) :
    main (F := F) d = seq opsA >>= fun _ => (K (F := F)).run d 0 >>= fun _ => seq opsB >>= fun _ => pure ⟨⟩ := by
  simp only [main, opsA, opsB, seq, bind_assoc, pure_bind]
  try rfl

/-! ## The arrays' contents along @main -/

variable (m : (ℓ : Loc nD τ sig) → Buf (Elt F) ℓ) (ρ : Dev nD → PrngReg)

/-- At the launch, before the call, after the call (its result written), and at the end. -/
def V0 (d : Dev nD) : Valuation τ sig (Elt F) := fun b => m (d, b)
def VA (d : Dev nD) : Valuation τ sig (Elt F) := after opsA (V0 m d)
/-- The table and the index array the call is given. -/
def tb (d : Dev nD) : S393216.Idx → Elt F .f32 := VA m d (Proc.devRef .tc main_v0)
def ix (d : Dev nD) : S32x384x128.Idx → BitVec 32 := VA m d (Proc.devRef .tc main_v16)
def V1 (d : Dev nD) : Valuation τ sig (Elt F) := Function.update (VA m d) (Proc.devRef .tc main_v17) (gathered (tb m d) (ix m d))
def VB (d : Dev nD) : Valuation τ sig (Elt F) := after opsB (V1 m d)

/-- What the proof asks of the launch memory: every index of the index array is an entry of the table. -/
def IxOK : Prop := ∀ (d : Dev nD) (j : S32x384x128.Idx), (ix m d j).toNat < 393216

/-! ## What the handshakes carry -/

/-- The worker that subcore `i` of SparseCore `c` is. -/
def wOf (c : Fin ((K (F := F)).nCore 0)) (i : Fin ((K (F := F)).nSub 0)) : Fin 32 :=
  ⟨2 * i.val + c.val, by
    have h1 : i.val < 16 := i.isLt
    have h2 : c.val < 2 := c.isLt
    omega⟩

/-- Each worker is handed its piece and hands it back filled in; a sequencer, its sixteen workers' pieces. -/
def P : (K (F := F)).Pay (nD := nD) (Val := Elt F) (Name := ℕ) (U := UU) where
  st := fun q d c => match q with
    | 0 => bigSep Finset.univ fun i : Fin ((K (F := F)).nSub 0) => piece (tb m d) (ix m d) d (wOf c i)
  dn := fun q d c => match q with
    | 0 => bigSep Finset.univ fun i : Fin ((K (F := F)).nSub 0) => piece' (tb m d) (ix m d) d (wOf c i)
  go := fun q d c i => match q with | 0 => piece (tb m d) (ix m d) d (wOf c i)
  td := fun q d c i => match q with | 0 => piece' (tb m d) (ix m d) d (wOf c i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => piece (tb m d) (ix m d) d (wOf c i)))
  dn q d c := match q with
    | 0 => (inferInstance : BI.Storable (upEmb : UEmb _ 𝕄)
      (bigSep Finset.univ fun i : Fin ((K (F := F)).nSub 0) => piece' (tb m d) (ix m d) d (wOf c i)))
  go q d c i := match q with
    | 0 => (inferInstance : BI.Storable (upEmb : UEmb _ 𝕄) (piece (tb m d) (ix m d) d (wOf c i)))
  td q d c i := match q with
    | 0 => (inferInstance : BI.Storable (upEmb : UEmb _ 𝕄) (piece' (tb m d) (ix m d) d (wOf c i)))

/-! ## The workers' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_kernel (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : IxOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb m d) (ix m d) hF (hix d) O W hO).trans (wp_mono frame _ _ fun _ => obl_post)

theorem vecSplit : (K (F := F)).VecSplit' (P m) 0 := by
  intro d c
  show (bigSep Finset.univ fun i : Fin ((K (F := F)).nSub 0) => piece (tb m d) (ix m d) d (wOf c i)) ⊢ |={Set.univ}=> iprop(
      (bigSep Finset.univ fun i : Fin ((K (F := F)).nSub 0) => piece (tb m d) (ix m d) d (wOf c i))
      ∗ ((bigSep Finset.univ fun i : Fin ((K (F := F)).nSub 0) => piece' (tb m d) (ix m d) d (wOf c i))
          -∗ (bigSep Finset.univ fun i : Fin ((K (F := F)).nSub 0) => piece' (tb m d) (ix m d) d (wOf c i))))
  iintro H; imodintro
  isplitl [H]; · iexact H
  iintro H; iexact H

/-! ## The three arrays dealt to the workers, and taken back -/

/-- Every worker is one subcore of one SparseCore. -/
def workers : Fin ((K (F := F)).nCore 0) × Fin ((K (F := F)).nSub 0) ≃ Fin 32 where
  toFun x := wOf x.1 x.2
  invFun w := ((⟨w.val % 2, show w.val % 2 < 2 by omega⟩ : Fin ((K (F := F)).nCore 0)), (⟨w.val / 2, show w.val / 2 < 16 by omega⟩ : Fin ((K (F := F)).nSub 0)))
  left_inv x := by
    obtain ⟨c, i⟩ := x
    have h1 : i.val < 16 := i.isLt
    have h2 : c.val < 2 := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem bigSep_workers (Φ : Fin 32 → sProp 𝕄) :
    (bigSep Finset.univ fun c : Fin ((K (F := F)).nCore 0) => bigSep Finset.univ fun i : Fin ((K (F := F)).nSub 0) => Φ (wOf c i))
      = bigSep Finset.univ Φ := by
  rw [bigSep_univ_equiv (workers (F := F)) Φ, bigSep_univ_prod]
  rfl

omit [FloatOps F] in
theorem iSet_disjoint : ∀ w ∈ (Finset.univ : Finset (Fin 32)), ∀ w' ∈ (Finset.univ : Finset (Fin 32)), w ≠ w' → Disjoint (iSet w) (iSet w') :=
  fun w _ w' _ h => Finset.disjoint_left.mpr fun j hj hj' =>
    h (Fin.ext ((Finset.mem_filter.mp hj).2.symm.trans (Finset.mem_filter.mp hj').2))
omit [FloatOps F] in
theorem oSet_disjoint : ∀ w ∈ (Finset.univ : Finset (Fin 32)), ∀ w' ∈ (Finset.univ : Finset (Fin 32)), w ≠ w' → Disjoint (oSet w) (oSet w') :=
  fun w _ w' _ h => Finset.disjoint_left.mpr fun j hj hj' =>
    h (Fin.ext ((Finset.mem_filter.mp hj).2.symm.trans (Finset.mem_filter.mp hj').2))
omit [FloatOps F] in
theorem iSet_cover : (Finset.univ : Finset (Fin 32)).biUnion iSet = Finset.univ :=
  Finset.eq_univ_of_forall fun (j : S32x384x128.Idx) => Finset.mem_biUnion.mpr
    ⟨(⟨(j 0).val, (j 0).isLt⟩ : Fin 32), Finset.mem_univ _, Finset.mem_filter.mpr ⟨Finset.mem_univ _, rfl⟩⟩
omit [FloatOps F] in
theorem oSet_cover : (Finset.univ : Finset (Fin 32)).biUnion oSet = Finset.univ :=
  Finset.eq_univ_of_forall fun (j : S32x49152.Idx) => Finset.mem_biUnion.mpr
    ⟨(⟨(j 0).val, (j 0).isLt⟩ : Fin 32), Finset.mem_univ _, Finset.mem_filter.mpr ⟨Finset.mem_univ _, rfl⟩⟩

omit [FloatOps F] in
theorem pts_rows_i (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
omit [FloatOps F] in
theorem pts_rows_o (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
omit [FloatOps F] in
theorem pts_shares (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

omit [FloatOps F] in
/-- The three arrays whole are the workers' pieces, before … -/
theorem deal (d : Dev nD) (t : Buf (Elt F) (tLoc d)) (x : Buf (Elt F) (iLoc d)) (f : Buf (Elt F) (oLoc d)) :
    iprop((tLoc d ↦{fullShare} t) ∗ (iLoc d ↦{fullShare} x) ∗ oLoc d ↦{fullShare} f)
      ⊢ (bigSep Finset.univ fun w : Fin 32 => piece t x d w : sProp 𝕄) := by
  rw [bigSep_sep', bigSep_sep', pts_shares, pts_rows_i, pts_rows_o]
  iintro ⟨Ht, Hi, Ho⟩
  isplitl [Ht]; · iexact Ht
  isplitl [Hi]; · iexact Hi
  have h : (bigSep Finset.univ fun w : Fin 32 => oLoc d ↦[oSet w]{fullShare} f : sProp 𝕄)
      ⊢ bigSep Finset.univ fun w : Fin 32 => iprop(∃ f, oLoc d ↦[oSet w]{fullShare} f) :=
    bigSep_mono fun w _ => exists_intro (Φ := fun f => (oLoc d ↦[oSet w]{fullShare} f : sProp 𝕄)) f
  iapply h
  iexact Ho
omit [FloatOps F] in
/-- … and after. -/
theorem undeal (d : Dev nD) (t : Buf (Elt F) (tLoc d)) (x : Buf (Elt F) (iLoc d)) :
    (bigSep Finset.univ fun w : Fin 32 => piece' t x d w : sProp 𝕄)
      = iprop((tLoc d ↦{fullShare} t) ∗ (iLoc d ↦{fullShare} x) ∗ oLoc d ↦{fullShare} gathered t x) := by
  rw [bigSep_sep', bigSep_sep', pts_shares, pts_rows_i, pts_rows_o]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The arrays the call reads and writes. -/
def callRefs : Finset (DevRef τ sig) := {Proc.devRef .tc main_v0, Proc.devRef .tc main_v16, Proc.devRef .tc main_v17}

theorem callRefs_sub : callRefs ⊆ Pipeline.ucRefs τ sig := by decide

theorem held_call (d : Dev nD) (W : Valuation τ sig (Elt F)) :
    (held (T d) callRefs W : sProp 𝕄)
      = iprop((tLoc d ↦{fullShare} W (Proc.devRef .tc main_v0)) ∗ (iLoc d ↦{fullShare} W (Proc.devRef .tc main_v16))
          ∗ oLoc d ↦{fullShare} W (Proc.devRef .tc main_v17)) := by
  unfold held callRefs
  rw [SparseCore.bigSep_insert' (by decide), SparseCore.bigSep_insert' (by decide), bigSep_singleton]

theorem V1_v0 (d : Dev nD) : V1 m d (Proc.devRef .tc main_v0) = tb m d := Function.update_of_ne (by decide) _ _
theorem V1_v16 (d : Dev nD) : V1 m d (Proc.devRef .tc main_v16) = ix m d := Function.update_of_ne (by decide) _ _
theorem V1_v17 (d : Dev nD) : V1 m d (Proc.devRef .tc main_v17) = gathered (tb m d) (ix m d) := Function.update_self _ _ _

theorem held_rest (d : Dev nD) :
    (held d.tc (Pipeline.ucRefs τ sig \ callRefs) (after opsA (V0 m d)) : sProp 𝕄) = held d.tc (Pipeline.ucRefs τ sig \ callRefs) (V1 m d) :=
  held_congr d.tc fun b hb => by
    have h : b ≠ Proc.devRef .tc main_v17 := fun e => (Finset.mem_sdiff.mp hb).2 (by rw [e]; decide)
    exact (Function.update_of_ne h _ _).symm

theorem unscoped_held (d : Dev nD) :
    (unscopedBufs d (fun b => m ((SparseCore.T d).loc b)) : sProp 𝕄) = held (T d) (Pipeline.ucRefs τ sig) (V0 m d) :=
  Pipeline.unscopedBufs_held d (V0 m d)

theorem st_eq (d : Dev nD) : (bigSep Finset.univ fun c : Fin ((K (F := F)).nCore 0) => (P m).st 0 d c)
    = bigSep Finset.univ fun w : Fin 32 => piece (tb m d) (ix m d) d w :=
  bigSep_workers fun w => piece (tb m d) (ix m d) d w
theorem dn_eq (d : Dev nD) : (bigSep Finset.univ fun c : Fin ((K (F := F)).nCore 0) => (P m).dn 0 d c)
    = bigSep Finset.univ fun w : Fin 32 => piece' (tb m d) (ix m d) d w :=
  bigSep_workers fun w => piece' (tb m d) (ix m d) d w

theorem deal_call (d : Dev nD) : (held d.tc callRefs (after opsA (V0 m d)) : sProp 𝕄)
    ⊢ bigSep Finset.univ fun w : Fin 32 => piece (tb m d) (ix m d) d w :=
  (Entails.of_eq (held_call d (after opsA (V0 m d)))).trans (deal d (tb m d) (ix m d) _)

theorem undeal_call (d : Dev nD) : (bigSep Finset.univ fun w : Fin 32 => piece' (tb m d) (ix m d) d w : sProp 𝕄)
    ⊢ held d.tc callRefs (V1 m d) := by
  refine (Entails.of_eq (undeal d (tb m d) (ix m d))).trans (Entails.of_eq ?_)
  refine Eq.trans ?_ (held_call d (V1 m d)).symm
  rw [V1_v0, V1_v16, V1_v17]

/-- What @main ends with: every array, at its final contents. -/
abbrev FIN (d : Dev nD) : sProp 𝕄 := held (T d) (Pipeline.ucRefs τ sig) (VB m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ opsA
    (fun op h => Pipeline.sub_ucRefs op ((List.forall_iff_forall_mem.mp opsA_sub) op h))
    (List.forall_iff_forall_mem.mp opsA_fresh) (V0 m d)) $$ [Hb Hheld]
  · isplitl [Hb] <;> iassumption
  iintro ⟨Hb, Hheld⟩
  ihave Hh := (Entails.of_eq (held_sub_split d.tc callRefs_sub (after opsA (V0 m d)))) $$ Hheld
  icases Hh with ⟨Hcall, Hrest⟩
  ihave Hp := (deal_call m d) $$ Hcall
  rw [wp_bind]
  iapply ((K (F := F)).wp_run (D (F := F)) 𝒱 (EH := EH) (P := P m) κ d 0) $$ [Hst Hp Hb Hrest Hts]
  isplitr; · iexact Hctx
  isplitl [Hst]; · iexact Hst
  isplitl [Hp]
  · rw [st_eq]; iexact Hp
  iintro ⟨Hst, Hdn⟩
  ihave Hdn' := (Entails.of_eq (dn_eq m d)) $$ Hdn
  ihave Hc := (undeal_call m d) $$ Hdn'
  ihave Hr := (Entails.of_eq (held_rest m d)) $$ Hrest
  iapply (wp_seq 𝒱 none Set.univ d (Pipeline.ucRefs τ sig) _ opsB
    (fun op h => Pipeline.sub_ucRefs op ((List.forall_iff_forall_mem.mp opsB_sub) op h))
    (List.forall_iff_forall_mem.mp opsB_fresh) (V1 m d)) $$ [Hb Hc Hr]
  · isplitl [Hb]; · iexact Hb
    iapply (Entails.of_eq (held_sub_split d.tc callRefs_sub (V1 m d)).symm)
    isplitl [Hc]; · iexact Hc
    iexact Hr
  iintro ⟨Hb, Hheld⟩
  rw [wp_pure]; imodintro
  isplitl [Hst]; · iexact Hst
  isplitl [Hheld]; · iexact Hheld
  isplitl [Hb] <;> iassumption

/-! ## The run -/

def fq (d : Dev nD) (s' : Phys nD τ sig (Elt F)) : Prop := ∀ b ∈ Pipeline.ucRefs τ sig, s'.mem.mem (d, b) = VB m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

def QC : PUnit × MemSt nD τ sig (Elt F) → Prop := fun r =>
  (∀ c : Dev nD, ∀ b ∈ Pipeline.ucRefs τ sig, r.2.mem (c, b) = VB m c b) ∧ r.2.sem = fun _ => 0

/-- Every execution ends, every array of @main at its final contents and every semaphore at zero. -/
theorem run_main [∀ e, Nonempty (Elt F e)] (hix : IxOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hix)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.GatherIdealValue.lean ====
/-
  What @main's arrays hold, in closed form. At the flat position `((b·1024 + s)·32 + k)·3 + c` the index array the
  SparseCore call is given names entry `(b·8192 + g)·3 + c` of the table, `g` being the group index at `(b, s, k)`; that
  entry is coordinate `c` of point `g` of batch `b`. The result is therefore the neighbourhood array of the arguments,
  and the arguments end unchanged. From the precondition every group index is below 8192, so every index is inside the
  table.
-/
module

public import proofs.«01_k».proof.Proof.GatherIdealLaunch
public import proofs.«01_k».proof.Proof.Points
public import proofs.«01_k».proof.Proof.Gen.Pre_idx_in_rows

@[expose] public section

set_option maxRecDepth 16384

noncomputable section

namespace Cert.Proof.GatherIdeal

open Cert.GatherIdeal Cert.GatherIdeal.Gen

open Idealize.ShloMosaic Idealize.ShloMosaic.ValueIdx Idealize.ShloMosaic.StableHlo Idealize.SL.Sem
open Cert.Proof.Points

variable {F : FTy → Type} [FloatOps F]
variable (m : (ℓ : Loc nD τ sig) → Buf (Elt F) ℓ) (ρ : Dev nD → PrngReg)

/-- The arguments: the points, the centres, the group indices. -/
abbrev pts (d : Dev nD) : S16x8192x3.Idx → F .f32 := m (d, Proc.devRef .tc main_arg0)
abbrev ctr (d : Dev nD) : S16x1024x3.Idx → F .f32 := m (d, Proc.devRef .tc main_arg1)
abbrev grp (d : Dev nD) : S16x1024x32.Idx → BitVec 32 := m (d, Proc.devRef .tc main_arg2)

theorem tb_eq (d : Dev nD) : tb m d = shapeCast S393216 (pts m d) shapeCasts_S16x8192x3_S393216 := by
  unfold tb VA V0
  simp only [opsA]
  after_results <;> rfl

/-- The row numbers, batch by batch, of the table of points: `g + 8192 b`. -/
def rows (g : S16x1024x32.Idx → BitVec 32) : IVec S16x1024x32 32 :=
  addi g (broadcastInDim S16x1024x32 ![0, 1, 2] bcast_S16x1x1_S16x1024x32_0_1_2
    (broadcastInDim S16x1x1 ![0] bcast_S16_S16x1x1_0 (muli (iotaInDim S16 32 0) (broadcastInDim S16 ![] bcast_S_S16 (constantI S_ 32 8192#32)))))

/-- The entry numbers: three times the row number, plus the coordinate. -/
def entries (g : S16x1024x32.Idx → BitVec 32) : IVec S16x32768x3 32 :=
  addi (broadcastInDim S16x32768x3 ![0, 1, 2] bcast_S16x32768x1_S16x32768x3_0_1_2
      (muli (broadcastInDim S16x32768x1 ![0, 1] bcast_S16x32768_S16x32768x1_0_1 (shapeCast S16x32768 (rows g) shapeCasts_S16x1024x32_S16x32768))
        (broadcastInDim S16x32768x1 ![] bcast_S_S16x32768x1 (constantI S_ 32 3#32))))
    (broadcastInDim S16x32768x3 ![0, 1, 2] bcast_S1x1x3_S16x32768x3_0_1_2 (broadcastInDim S1x1x3 ![2] bcast_S3_S1x1x3_2 (iotaInDim S3 32 0)))

theorem ix_eq (d : Dev nD) : ix m d = shapeCast S32x384x128 (entries (grp m d)) shapeCasts_S16x32768x3_S32x384x128 := by
  unfold ix VA V0
  simp only [opsA]
  after_results <;> rfl

theorem rows_apply (g : S16x1024x32.Idx → BitVec 32) (b : Fin 16) (s : Fin 1024) (k : Fin 32) :
    rows g (ix3 b s k) = g (ix3 b s k) + BitVec.ofNat 32 b.val * 8192#32 := by
  unfold rows
  show g (ix3 b s k) + broadcastInDim (s := S16x1x1) S16x1024x32 ![0, 1, 2] bcast_S16x1x1_S16x1024x32_0_1_2 _ (ix3 b s k) = _
  rw [broadcastInDim_apply ![0, 1, 2] bcast_S16x1x1_S16x1024x32_0_1_2 _ (ix3 b s k) (ix3 b (0 : Fin 1) (0 : Fin 1))
      (fun a => match a with | ⟨0, _⟩ => rfl | ⟨1, _⟩ => rfl | ⟨2, _⟩ => rfl),
    broadcastInDim_apply ![0] bcast_S16_S16x1x1_0 _ (ix3 b (0 : Fin 1) (0 : Fin 1)) (ix1 b) (fun a => match a with | ⟨0, _⟩ => rfl)]
  rfl

theorem entries_apply (g : S16x1024x32.Idx → BitVec 32) (b : Fin 16) (s : Fin 1024) (k : Fin 32) (q : Fin 32768) (c : Fin 3)
    (hq : q.val = s.val * 32 + k.val) :
    entries g (ix3 b q c) = (g (ix3 b s k) + BitVec.ofNat 32 b.val * 8192#32) * 3#32 + BitVec.ofNat 32 c.val := by
  unfold entries
  show broadcastInDim (s := S16x32768x1) S16x32768x3 ![0, 1, 2] bcast_S16x32768x1_S16x32768x3_0_1_2 _ (ix3 b q c)
    + broadcastInDim (s := S1x1x3) S16x32768x3 ![0, 1, 2] bcast_S1x1x3_S16x32768x3_0_1_2 _ (ix3 b q c) = _
  rw [broadcastInDim_apply ![0, 1, 2] bcast_S16x32768x1_S16x32768x3_0_1_2 _ (ix3 b q c) (ix3 b q (0 : Fin 1))
      (fun a => match a with | ⟨0, _⟩ => rfl | ⟨1, _⟩ => rfl | ⟨2, _⟩ => rfl),
    broadcastInDim_apply ![0, 1, 2] bcast_S1x1x3_S16x32768x3_0_1_2 _ (ix3 b q c) (ix3 (0 : Fin 1) (0 : Fin 1) c)
      (fun a => match a with | ⟨0, _⟩ => rfl | ⟨1, _⟩ => rfl | ⟨2, _⟩ => rfl),
    broadcastInDim_apply ![2] bcast_S3_S1x1x3_2 _ (ix3 (0 : Fin 1) (0 : Fin 1) c) (ix1 c) (fun a => match a with | ⟨0, _⟩ => rfl)]
  show broadcastInDim (s := S16x32768) S16x32768x1 ![0, 1] bcast_S16x32768_S16x32768x1_0_1 _ (ix3 b q (0 : Fin 1)) * 3#32 + BitVec.ofNat 32 c.val = _
  rw [broadcastInDim_apply ![0, 1] bcast_S16x32768_S16x32768x1_0_1 _ (ix3 b q (0 : Fin 1)) (ix2 b q)
      (fun a => match a with | ⟨0, _⟩ => rfl | ⟨1, _⟩ => rfl),
    shapeCast_apply _ _ (ix2 b q) (ix3 b s k) (by
      rw [Shape.rowMajor_val_three, Shape.rowMajor_val_two]
      show (b.val * 1024 + s.val) * 32 + k.val = b.val * 32768 + q.val
      omega), rows_apply]

/-- The number of coordinate `c` of point `g < 8192` of batch `b`, as a word: nothing overflows. -/
theorem entry_word {g : BitVec 32} (hg : g.toNat < 8192) (b : Fin 16) (c : Fin 3) :
    ((g + BitVec.ofNat 32 b.val * 8192#32) * 3#32 + BitVec.ofNat 32 c.val).toNat = (b.val * 8192 + g.toNat) * 3 + c.val := by
  have hb := b.isLt
  have hc := c.isLt
  simp only [BitVec.toNat_add, BitVec.toNat_mul, BitVec.toNat_ofNat]
  omega

/-- The index array at the place of coordinate `c` of the group index `(b, s, k)`. -/
theorem ix_at (d : Dev nD) (hg : ∀ j, (grp m d j).toNat < 8192) (w : Fin 32) (r : Fin 384) (l : Fin 128) (b : Fin 16) (s : Fin 1024) (k : Fin 32)
    (c : Fin 3) (h : (w.val * 384 + r.val) * 128 + l.val = ((b.val * 1024 + s.val) * 32 + k.val) * 3 + c.val) :
    (ix m d (ix3 w r l)).toNat = (b.val * 8192 + (grp m d (ix3 b s k)).toNat) * 3 + c.val := by
  have hs := s.isLt
  have hk := k.isLt
  rw [ix_eq, shapeCast_apply _ _ (ix3 w r l) (ix3 b (⟨s.val * 32 + k.val, by omega⟩ : Fin 32768) c) (by
    rw [Shape.rowMajor_val_three, Shape.rowMajor_val_three]
    show (b.val * 32768 + (s.val * 32 + k.val)) * 3 + c.val = (w.val * 384 + r.val) * 128 + l.val
    omega), entries_apply _ b s k _ c rfl, entry_word (hg _)]

/-- Every index is inside the table. -/
theorem ix_ok (hg : ∀ d j, (grp m d j).toNat < 8192) : IxOK m := by
  intro d j
  obtain ⟨w, r, l, rfl⟩ : ∃ (w : Fin 32) (r : Fin 384) (l : Fin 128), j = ix3 w r l := ⟨j 0, j 1, j 2, eq_ix3 j⟩
  have h0 := w.isLt
  have h1 := r.isLt
  have h2 := l.isLt
  let b : Fin 16 := ⟨((w.val * 384 + r.val) * 128 + l.val) / 3 / 32 / 1024, by omega⟩
  let s : Fin 1024 := ⟨((w.val * 384 + r.val) * 128 + l.val) / 3 / 32 % 1024, by omega⟩
  let k : Fin 32 := ⟨((w.val * 384 + r.val) * 128 + l.val) / 3 % 32, by omega⟩
  let c : Fin 3 := ⟨((w.val * 384 + r.val) * 128 + l.val) % 3, by omega⟩
  have hb := b.isLt
  have hc := c.isLt
  have hgb := hg d (ix3 b s k)
  rw [ix_at m d (hg d) w r l b s k c (by
    show (w.val * 384 + r.val) * 128 + l.val = ((((w.val * 384 + r.val) * 128 + l.val) / 3 / 32 / 1024 * 1024
      + ((w.val * 384 + r.val) * 128 + l.val) / 3 / 32 % 1024) * 32 + ((w.val * 384 + r.val) * 128 + l.val) / 3 % 32) * 3
      + ((w.val * 384 + r.val) * 128 + l.val) % 3
    omega)]
  omega

/-- The gathered words, at the place of coordinate `c` of the group index `(b, s, k)`: coordinate `c` of that point. -/
theorem gathered_at (d : Dev nD) (hg : ∀ j, (grp m d j).toNat < 8192) (w : Fin 32) (p : Fin 49152) (b : Fin 16) (s : Fin 1024) (k : Fin 32)
    (c : Fin 3) (h : w.val * 49152 + p.val = ((b.val * 1024 + s.val) * 32 + k.val) * 3 + c.val) :
    gathered (tb m d) (ix m d) (ix2 w p)
      = pts m d (ix3 b (⟨(grp m d (ix3 b s k)).toNat % 8192, Nat.mod_lt _ (by decide)⟩ : Fin 8192) c) := by
  show word (tb m d) (ix m d) w p = _
  unfold word
  have hb := b.isLt
  have hc := c.isLt
  have hg' := hg (ix3 b s k)
  rw [ix_at m d hg w _ _ b s k c (by dsimp only; omega), tb_eq]
  refine shapeCast_apply _ _ _ _ ?_
  rw [Shape.rowMajor_val_three, Shape.rowMajor_val_one]
  show (b.val * 8192 + (grp m d (ix3 b s k)).toNat % 8192) * 3 + c.val = ((b.val * 8192 + (grp m d (ix3 b s k)).toNat) * 3 + c.val) % 393216
  omega

theorem V1_other (d : Dev nD) (b : Ref sig .tc) (h : b ≠ main_v17) : V1 m d (Proc.devRef .tc b) = VA m d (Proc.devRef .tc b) := by
  unfold V1
  exact Function.update_of_ne (fun e => h (Proc.devRef_injective _ e)) _ _

/-- The arguments end as they were. -/
theorem VB_arg0 (d : Dev nD) : VB m d (Proc.devRef .tc main_arg0) = pts m d := by
  unfold VB; simp only [opsB]; after_results
  rw [V1_other m d _ (by decide)]; unfold VA; simp only [opsA]; after_results <;> rfl
theorem VB_arg1 (d : Dev nD) : VB m d (Proc.devRef .tc main_arg1) = ctr m d := by
  unfold VB; simp only [opsB]; after_results
  rw [V1_other m d _ (by decide)]; unfold VA; simp only [opsA]; after_results <;> rfl
theorem VB_arg2 (d : Dev nD) : VB m d (Proc.devRef .tc main_arg2) = grp m d := by
  unfold VB; simp only [opsB]; after_results
  rw [V1_other m d _ (by decide)]; unfold VA; simp only [opsA]; after_results <;> rfl

/-- The result before the pointwise reading. -/
theorem VB_res (d : Dev nD) : VB m d (Proc.devRef .tc main_v21)
    = subf (shapeCast S16x1024x32x3 (gathered (tb m d) (ix m d)) shapeCasts_S32x49152_S16x1024x32x3)
        (broadcastInDim S16x1024x32x3 ![0, 1, 2, 3] bcast_S16x1024x1x3_S16x1024x32x3_0_1_2_3
          (broadcastInDim S16x1024x1x3 ![0, 1, 3] bcast_S16x1024x3_S16x1024x1x3_0_1_3 (ctr m d))) := by
  have h17 : V1 m d (Proc.devRef .tc main_v17) = gathered (tb m d) (ix m d) := by
    unfold V1; exact Function.update_self ..
  have h1 : V1 m d (Proc.devRef .tc main_arg1) = ctr m d := by
    rw [V1_other m d _ (by decide)]; unfold VA; simp only [opsA]; after_results <;> rfl
  unfold VB; simp only [opsB]; after_results
  rw [h17, h1] <;> rfl

/-- The result is the neighbourhood array of the arguments. -/
theorem VB_nbr (d : Dev nD) (hg : ∀ j, (grp m d j).toNat < 8192) :
    VB m d (Proc.devRef .tc main_v21) = nbr (F := F) (pts m d) (ctr m d) (grp m d) := by
  rw [VB_res]
  funext j
  obtain ⟨b, s, k, c, rfl⟩ : ∃ (b : Fin 16) (s : Fin 1024) (k : Fin 32) (c : Fin 3), j = ix4 b s k c := ⟨j 0, j 1, j 2, j 3, eq_ix4 j⟩
  have h0 := b.isLt
  have h1 := s.isLt
  have h2 := k.isLt
  have h3 := c.isLt
  obtain ⟨w, p, hn⟩ : ∃ (w : Fin 32) (p : Fin 49152), w.val * 49152 + p.val = ((b.val * 1024 + s.val) * 32 + k.val) * 3 + c.val :=
    ⟨⟨(((b.val * 1024 + s.val) * 32 + k.val) * 3 + c.val) / 49152, by omega⟩,
      ⟨(((b.val * 1024 + s.val) * 32 + k.val) * 3 + c.val) % 49152, Nat.mod_lt _ (by decide)⟩, by dsimp only; omega⟩
  have hx := shapeCast_apply (gathered (tb m d) (ix m d)) shapeCasts_S32x49152_S16x1024x32x3 (ix4 b s k c) (ix2 w p) (by
    rw [Shape.rowMajor_val_two, Shape.rowMajor_val_four]
    exact hn)
  rw [gathered_at m d hg w p b s k c hn] at hx
  have hc := broadcastInDim_apply ![0, 1, 2, 3] bcast_S16x1024x1x3_S16x1024x32x3_0_1_2_3
    (broadcastInDim S16x1024x1x3 ![0, 1, 3] bcast_S16x1024x3_S16x1024x1x3_0_1_3 (ctr m d)) (ix4 b s k c) (ix4 b s (0 : Fin 1) c)
    (fun a => match a with | ⟨0, _⟩ => rfl | ⟨1, _⟩ => rfl | ⟨2, _⟩ => rfl | ⟨3, _⟩ => rfl)
  rw [broadcastInDim_apply ![0, 1, 3] bcast_S16x1024x3_S16x1024x1x3_0_1_3 (ctr m d) (ix4 b s (0 : Fin 1) c) (ix3 b s c)
    (fun a => match a with | ⟨0, _⟩ => rfl | ⟨1, _⟩ => rfl | ⟨2, _⟩ => rfl)] at hc
  unfold nbr
  exact congrArg₂ FloatOps.subf hx hc

/-- The program runs from group indices in range: it ends with the neighbourhoods, the arguments unchanged, every
    semaphore at zero. -/
theorem run [∀ e, Nonempty (Elt F e)] (hg : ∀ d j, (grp m d j).toNat < 8192) :
    θ_run (Cert.GatherIdeal.defs (F := F)) (Cert.GatherIdeal.threads (F := F)) ⟨m, fun _ => 0, ρ⟩ fun r =>
      (∀ d : Dev nD, r.2.mem (d, Proc.devRef .tc main_v21) = nbr (F := F) (pts m d) (ctr m d) (grp m d)
        ∧ r.2.mem (d, Proc.devRef .tc main_arg0) = pts m d ∧ r.2.mem (d, Proc.devRef .tc main_arg1) = ctr m d
        ∧ r.2.mem (d, Proc.devRef .tc main_arg2) = grp m d) ∧ r.2.sem = fun _ => 0 :=
  (θ_run _ _ _).mono (fun r h => ⟨fun d =>
    ⟨(h.1 d _ (by decide)).trans (VB_nbr m d (hg d)), (h.1 d _ (by decide)).trans (VB_arg0 m d),
      (h.1 d _ (by decide)).trans (VB_arg1 m d), (h.1 d _ (by decide)).trans (VB_arg2 m d)⟩, h.2⟩)
    (run_main m ρ (ix_ok m hg))

end Cert.Proof.GatherIdeal

end
-- ==== Proof.GatherRef.lean ====
/-
  What the reference computes: it takes, per batch, the points the group indices name, and subtracts the centres. Its index
  word is the group index itself, a word that is not negative; its range test is one everywhere; so the value it would put
  at an index out of range never shows, and its result is the neighbourhood array of its arguments.
-/
module

public import proofs.«01_k».proof.Proof.Gen.GatherRefIdeal.Run
public import proofs.«01_k».proof.Proof.Points

@[expose] public section

set_option maxRecDepth 16384

noncomputable section

namespace Cert.Proof.GatherRef

open Cert.GatherRefIdeal Cert.GatherRefIdeal.Gen

open Idealize.ShloMosaic Idealize.ShloMosaic.ValueIdx Idealize.ShloMosaic.StableHlo Idealize.ShloMosaic.TcCoe Idealize.SL.Sem
open Cert.Proof.Points

variable {F : FTy → Type} [FloatOps F]

/-- The group indices as the gather's index words, and the words after a negative one is counted from the end. -/
def word (g : S16x1024x32.Idx → BitVec 32) : IVec S16x32768x1 32 :=
  broadcastInDim S16x32768x1 ![0, 1] bcast_S16x32768_S16x32768x1_0_1 (shapeCast S16x32768 g shapeCasts_S16x1024x32_S16x32768)
def wrapped (g : S16x1024x32.Idx → BitVec 32) : IVec S16x32768x1 32 :=
  select (cmpi .slt (word g) (broadcastInDim S16x32768x1 ![] bcast_S_S16x32768x1 (constantI S_ 32 0#32)))
    (addi (word g) (broadcastInDim S16x32768x1 ![] bcast_S_S16x32768x1 (constantI S_ 32 8192#32))) (word g)

theorem word_apply (g : S16x1024x32.Idx → BitVec 32) (b : Fin 16) (s : Fin 1024) (k : Fin 32) (q : Fin 32768) (hq : q.val = s.val * 32 + k.val) :
    word g (ix3 b q (0 : Fin 1)) = g (ix3 b s k) := by
  unfold word
  rw [broadcastInDim_apply ![0, 1] bcast_S16x32768_S16x32768x1_0_1 _ (ix3 b q (0 : Fin 1)) (ix2 b q)
      (fun a => match a with | ⟨0, _⟩ => rfl | ⟨1, _⟩ => rfl),
    shapeCast_apply _ _ (ix2 b q) (ix3 b s k) (by
      rw [Shape.rowMajor_val_three, Shape.rowMajor_val_two]
      show (b.val * 1024 + s.val) * 32 + k.val = b.val * 32768 + q.val
      omega)]

/-- Every word is some group index. -/
theorem word_mem (g : S16x1024x32.Idx → BitVec 32) (i : S16x32768x1.Idx) : ∃ j, word g i = g j := by
  obtain ⟨b, q, z, rfl⟩ : ∃ (b : Fin 16) (q : Fin 32768) (z : Fin 1), i = ix3 b q z := ⟨i 0, i 1, i 2, eq_ix3 i⟩
  obtain rfl : z = 0 := Subsingleton.elim _ _
  have hq := q.isLt
  exact ⟨_, word_apply g b ⟨q.val / 32, by omega⟩ ⟨q.val % 32, by omega⟩ q (by dsimp only; omega)⟩

theorem wrapped_eq (g : S16x1024x32.Idx → BitVec 32) (hg : ∀ j, (g j).toNat < 8192) : wrapped g = word g := by
  funext i
  obtain ⟨j, hj⟩ := word_mem g i
  have h : (word g i).toNat < 2 ^ 31 := by rw [hj]; have := hg j; omega
  show Scalar.select (IntOp.cmpi .slt (word g i) 0#32) (word g i + 8192#32) (word g i) = _
  rw [slt_zero h]; rfl

/-- The reference's result, in its own operations. -/
def result (x : S16x8192x3.Idx → F .f32) (c : S16x1024x3.Idx → F .f32) (g : S16x1024x32.Idx → BitVec 32) : S16x1024x32x3.Idx → F .f32 :=
  subf (shapeCast S16x1024x32x3 (select
      (broadcastInDim S16x32768x3 ![0, 1] bcast_S16x32768_S16x32768x3_0_1
        (Host.reduce IntOp.andi (andi (cmpi .sge (wrapped g) (broadcastInDim S16x32768x1 ![] bcast_S_S16x32768x1 (constantI S_ 32 0#32)))
            (cmpi .sle (wrapped g) (broadcastInDim S16x32768x1 ![0, 1, 2] bcast_S1x1x1_S16x32768x1_0_1_2
              (broadcastInDim S1x1x1 ![2] bcast_S1_S1x1x1_2 (constantI S1 32 8191#32)))))
          (constantI S_ 1 1#1) reducesTo_S16x32768x1_S16x32768_d2 h_S_))
      (Host.gather gather_S16x8192x3_S16x32768x1_S16x32768x3_2_1_0_0_1_2_113 x (wrapped g))
      (broadcastInDim S16x32768x3 ![] bcast_S_S16x32768x3 (constant S_ .f32 0x7FC00000#32))) shapeCasts_S16x32768x3_S16x1024x32x3)
    (broadcastInDim S16x1024x32x3 ![0, 1, 2, 3] bcast_S16x1024x1x3_S16x1024x32x3_0_1_2_3
      (broadcastInDim S16x1024x1x3 ![0, 1, 3] bcast_S16x1024x3_S16x1024x1x3_0_1_3 c))

/-- The points picked, at batch `b`, flat position `q = 32 s + k` and coordinate `c`. -/
theorem picked (x : S16x8192x3.Idx → F .f32) (g : S16x1024x32.Idx → BitVec 32) (hg : ∀ j, (g j).toNat < 8192) (b : Fin 16) (s : Fin 1024)
    (k : Fin 32) (c : Fin 3) (q : Fin 32768) (hq : q.val = s.val * 32 + k.val) :
    Host.gather gather_S16x8192x3_S16x32768x1_S16x32768x3_2_1_0_0_1_2_113 x (word g) (ix3 b q c)
      = x (ix3 b (⟨(g (ix3 b s k)).toNat % 8192, Nat.mod_lt _ (by decide)⟩ : Fin 8192) c) := by
  have h := hg (ix3 b s k)
  refine (pick_apply (by decide) gather_S16x8192x3_S16x32768x1_S16x32768x3_2_1_0_0_1_2_113_wf x (word g) b q c).trans ?_
  refine congrArg (fun n : Fin 8192 => x (ix3 b n c)) (Fin.ext ?_)
  show min (word g (ix3 b q (0 : Fin 1))).toInt.toNat (8192 - 1) = (g (ix3 b s k)).toNat % 8192
  rw [word_apply g b s k q hq, toInt_toNat (by omega)]
  omega

theorem result_eq (x : S16x8192x3.Idx → F .f32) (c : S16x1024x3.Idx → F .f32) (g : S16x1024x32.Idx → BitVec 32)
    (hg : ∀ j, (g j).toNat < 8192) : result x c g = nbr (F := F) x c g := by
  unfold result
  rw [wrapped_eq g hg]
  funext j
  obtain ⟨b, s, k, e, rfl⟩ : ∃ (b : Fin 16) (s : Fin 1024) (k : Fin 32) (e : Fin 3), j = ix4 b s k e := ⟨j 0, j 1, j 2, j 3, eq_ix4 j⟩
  obtain ⟨q, hq⟩ : ∃ q : Fin 32768, q.val = s.val * 32 + k.val := ⟨⟨s.val * 32 + k.val, by have := s.isLt; have := k.isLt; omega⟩, rfl⟩
  have hone : ∀ i : S16x32768x1.Idx, andi (cmpi .sge (word g) (broadcastInDim S16x32768x1 ![] bcast_S_S16x32768x1 (constantI S_ 32 0#32)))
            (cmpi .sle (word g) (broadcastInDim S16x32768x1 ![0, 1, 2] bcast_S1x1x1_S16x32768x1_0_1_2
              (broadcastInDim S1x1x1 ![2] bcast_S1_S1x1x1_2 (constantI S1 32 8191#32)))) i = 1#1 := fun i => by
    obtain ⟨l, hl⟩ := word_mem g i
    have h : (word g i).toNat < 8192 := hl ▸ hg l
    show IntOp.andi (IntOp.cmpi .sge (word g i) 0#32) (IntOp.cmpi .sle (word g i) 8191#32) = 1#1
    rw [sge_zero (by omega), sle_8191 h]; rfl
  have hx := shapeCast_apply (select
      (broadcastInDim S16x32768x3 ![0, 1] bcast_S16x32768_S16x32768x3_0_1
        (Host.reduce IntOp.andi (andi (cmpi .sge (word g) (broadcastInDim S16x32768x1 ![] bcast_S_S16x32768x1 (constantI S_ 32 0#32)))
            (cmpi .sle (word g) (broadcastInDim S16x32768x1 ![0, 1, 2] bcast_S1x1x1_S16x32768x1_0_1_2
              (broadcastInDim S1x1x1 ![2] bcast_S1_S1x1x1_2 (constantI S1 32 8191#32)))))
          (constantI S_ 1 1#1) reducesTo_S16x32768x1_S16x32768_d2 h_S_))
      (Host.gather gather_S16x8192x3_S16x32768x1_S16x32768x3_2_1_0_0_1_2_113 x (word g))
      (broadcastInDim S16x32768x3 ![] bcast_S_S16x32768x3 (constant S_ .f32 0x7FC00000#32))) shapeCasts_S16x32768x3_S16x1024x32x3
      (ix4 b s k e) (ix3 b q e) (by
        rw [Shape.rowMajor_val_three, Shape.rowMajor_val_four]
        show (b.val * 32768 + q.val) * 3 + e.val = ((b.val * 1024 + s.val) * 32 + k.val) * 3 + e.val
        omega)
  rw [select_apply, broadcastInDim_apply ![0, 1] bcast_S16x32768_S16x32768x3_0_1 _ (ix3 b q e) (ix2 b q)
      (fun a => match a with | ⟨0, _⟩ => rfl | ⟨1, _⟩ => rfl),
    reduce_andi_one _ (constantI S_ 1 1#1) _ _ hone (fun _ => rfl), select_one, picked x g hg b s k e q hq] at hx
  have hc := broadcastInDim_apply ![0, 1, 2, 3] bcast_S16x1024x1x3_S16x1024x32x3_0_1_2_3
    (broadcastInDim S16x1024x1x3 ![0, 1, 3] bcast_S16x1024x3_S16x1024x1x3_0_1_3 c) (ix4 b s k e) (ix4 b s (0 : Fin 1) e)
    (fun a => match a with | ⟨0, _⟩ => rfl | ⟨1, _⟩ => rfl | ⟨2, _⟩ => rfl | ⟨3, _⟩ => rfl)
  rw [broadcastInDim_apply ![0, 1, 3] bcast_S16x1024x3_S16x1024x1x3_0_1_3 c (ix4 b s (0 : Fin 1) e) (ix3 b s e)
    (fun a => match a with | ⟨0, _⟩ => rfl | ⟨1, _⟩ => rfl | ⟨2, _⟩ => rfl)] at hc
  unfold nbr
  exact congrArg₂ FloatOps.subf hx hc

/-- The reference runs and ends with the neighbourhoods, from group indices in range. -/
theorem run (m : (ℓ : Loc nD τ sig) → Buf (Elt F) ℓ) (ρ : Dev nD → PrngReg)
    (hg : ∀ (d : Dev nD) j, ((m ((d.tc : Thread nD τ).loc main_arg2) : S16x1024x32.Idx → BitVec 32) j).toNat < 8192) :
    θ_run defs (onTc (τ := τ) (main (F := F))) ⟨m, fun _ => 0, ρ⟩ fun r => ∀ d : Dev nD,
      r.2.mem ((d.tc : Thread nD τ).loc main_v6) = nbr (F := F) (m ((d.tc : Thread nD τ).loc main_arg0)) (m ((d.tc : Thread nD τ).loc main_arg1))
          (m ((d.tc : Thread nD τ).loc main_arg2))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2) :=
  (θ_run defs _ _).mono (fun r h d => ⟨(h d).1.trans (result_eq _ _ _ (hg d)), (h d).2⟩) (Cert.GatherRefIdeal.Value.run m ρ)

end Cert.Proof.GatherRef

end
-- ==== Proof.IdxRange.lean ====
/-
  What the precondition says: every group index is a row of the points, below 8192.
-/
module

public import proofs.«01_k».proof.Proof.Points
public import proofs.«01_k».proof.Proof.Gen.Pre_idx_in_rows

@[expose] public section

set_option maxRecDepth 16384

noncomputable section

namespace Cert.Proof.Points

open Idealize.ShloMosaic Idealize.ShloMosaic.ValueIdx
open Cert.Pre_idx_in_rows Cert.Pre_idx_in_rows.Gen

/-- "And" of two truth words is one only where both are. -/
theorem andi_one {a b : Bool} (h : IntOp.andi (BitVec.ofBool a) (BitVec.ofBool b) = 1#1) : a = true ∧ b = true := by
  cases a <;> cases b <;> simp_all [IntOp.andi]

/-- A word that is at least zero and less than 8192, read signed, is less than 8192. -/
theorem lt_of_range {x : BitVec 32} (h : IntOp.andi (IntOp.cmpi .sge x 0#32) (IntOp.cmpi .slt x 8192#32) = 1#1) : x.toNat < 8192 := by
  obtain ⟨h0, h1⟩ := andi_one h
  replace h0 : (0#32).sle x = true := h0
  replace h1 : x.slt 8192#32 = true := h1
  rw [BitVec.sle_eq_decide, decide_eq_true_eq, BitVec.toInt_eq_toNat_cond (x := x)] at h0
  rw [BitVec.slt_eq_decide, decide_eq_true_eq, BitVec.toInt_eq_toNat_cond (x := x)] at h1
  simp at h0 h1
  have hx := x.isLt
  split at h1 <;> omega

variable {F : FTy → Type} [FloatOps F]

theorem idx_lt (x : (⟨3, ![16, 8192, 3]⟩ : Shape).Idx → F .f32) (c : (⟨3, ![16, 1024, 3]⟩ : Shape).Idx → F .f32)
    (g : (⟨3, ![16, 1024, 32]⟩ : Shape).Idx → BitVec 32)
    (h : Cert.Pre_idx_in_rows.fn (F := F) x c g = fun _ => 1#1) (j : (⟨3, ![16, 1024, 32]⟩ : Shape).Idx) : (g j).toNat < 8192 :=
  lt_of_range (congrFun h j)

end Cert.Proof.Points

end
-- ==== Proof.GatherClaims.lean ====
/-
  The claims about the gathering of the neighbourhoods: the program runs as printed, its reading over the extended reals
  runs, the reference runs, and the last two end with equal results.
-/
module

public import proofs.«01_k».proof.Proof.GatherValue
public import proofs.«01_k».proof.Proof.GatherIdealValue
public import proofs.«01_k».proof.Proof.GatherRef
public import proofs.«01_k».proof.Proof.IdxRange
public import Idealize.ShloMosaic.Lib.Quiescent

@[expose] public section

set_option maxRecDepth 16384

noncomputable section

namespace Cert.Proof.GatherClaims

open Idealize.ShloMosaic Idealize.ShloMosaic.TcCoe Idealize.SL.Sem Cert.Proof.Points

/-- The two launch memories hold the same arguments, so the two results are the same neighbourhoods. -/
theorem nbr_congr {F : FTy → Type} [FloatOps F] {x x' : (⟨3, ![16, 8192, 3]⟩ : Shape).Idx → F .f32}
    {c c' : (⟨3, ![16, 1024, 3]⟩ : Shape).Idx → F .f32} {g g' : (⟨3, ![16, 1024, 32]⟩ : Shape).Idx → BitVec 32}
    (hx : x' = x) (hc : c' = c) (hg : g' = g) : nbr (F := F) x' c' g' = nbr (F := F) x c g := by
  subst hx; subst hc; subst hg; rfl

theorem frame_p : Cert.quiescent_Gather := fun m ρ h =>
  (θ_run Cert.Gather.defs _ _).mono (fun _ r => ⟨fun c => (r.1 c).2, r.2⟩)
    (Cert.Proof.Gather.run (F := Bits) m ρ fun d => idx_lt _ _ _ (h d))

theorem frame_pi : Cert.quiescent_GatherIdeal := fun m ρ h =>
  (θ_run Cert.GatherIdeal.defs _ _).mono (fun _ r => ⟨fun c => (r.1 c).2, r.2⟩)
    (Cert.Proof.GatherIdeal.run (F := Ideal) m ρ fun d => idx_lt _ _ _ (h d))

theorem frame_ri : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

theorem algebraic : Cert.algebraic_GatherIdeal_GatherRefIdeal := by
  intro m ρ m' ρ' h hagree
  have hg : ∀ d j, (Cert.Proof.GatherIdeal.grp m d j).toNat < 8192 := fun d => idx_lt _ _ _ (h d)
  refine ⟨fun c => nbr (F := Ideal) (Cert.Proof.GatherIdeal.pts m c) (Cert.Proof.GatherIdeal.ctr m c) (Cert.Proof.GatherIdeal.grp m c),
    (θ_run Cert.GatherIdeal.defs _ _).mono (fun _ r c => r.1 c) (Cert.Proof.GatherIdeal.run (F := Ideal) m ρ hg), ?_⟩
  refine (θ_run Cert.GatherRefIdeal.defs _ _).mono (fun _ r c => ⟨(r c).1.trans (nbr_congr (hagree c).1 (hagree c).2.1 (hagree c).2.2), (r c).2⟩)
    (Cert.Proof.GatherRef.run (F := Ideal) m' ρ' fun d j => (congrArg BitVec.toNat (congrFun (hagree d).2.2 j)).trans_lt (hg d j))

end Cert.Proof.GatherClaims

end
-- ==== Proof.SampleIdealStep.lean ====
/-
  One round of the sampling kernel as a function of vectors: what the body of the sampling call leaves in its outputs and in
  the two buffers it carries from round to round, over what it found in those buffers and in the three coordinate planes.
-/
module

public import proofs.«01_k».proof.Proof.Gen.SampleIdeal.Value
public import Idealize.ShloMosaic.Lib.Tactic

@[expose] public section

set_option maxRecDepth 16384

noncomputable section

namespace Cert.Proof.SampleIdeal

open Cert.SampleIdeal Cert.SampleIdeal.Gen Idealize.ShloMosaic Idealize.ShloMosaic.TcCoe Idealize.SL.Sem
open Idealize.ShloMosaic.Pipeline (Dat)

variable {F : FTy → Type} [FloatOps F]

/-- The offset of a whole load or store of rank 2. -/
theorem hz2 : (![0, 0] : Fin 2 → Nat) = fun _ => 0 := funext fun a => by fin_cases a <;> rfl

/-- The offset of a whole load or store of rank 3. -/
theorem hz3 : (![0, 0, 0] : Fin 3 → Nat) = fun _ => 0 := funext fun a => by fin_cases a <;> rfl

/-- The lane numbers. -/
abbrev lanes : IVec S16x8192 32 := iota .tc S16x8192 32 [1] iota_S16x8192_d1_w32

/-- The distances after a round, over the row `far` it was given and the distances before it. -/
abbrev stepD (x y z : Vec F S16x8192 .f32) (d : Vec F S16x8192 .f32) (far : Vec F S16x1 .i32) : Vec F S16x8192 .f32 :=
  k0_pay3 (k0_pay11 x) (k0_pay12 y) (k0_pay13 z) (k0_pay14 far x) (k0_pay15 far y) (k0_pay16 far z) d

/-- The row the next round is given. -/
abbrev stepF (x y z : Vec F S16x8192 .f32) (d : Vec F S16x8192 .f32) (far : Vec F S16x1 .i32) : Vec F S16x1 .i32 :=
  k0_pay5 lanes (k0_pay11 x) (k0_pay12 y) (k0_pay13 z) (k0_pay14 far x) (k0_pay15 far y) (k0_pay16 far z) d

section Cases

variable (c : Dev nD) (i : grid0.Coords) (a1 : Memref sig .tc .vmem S16x8192 .f32) (h1 : a1.IsWhole)
  (a2 : Memref sig .tc .vmem S16x8192 .f32) (h2 : a2.IsWhole) (a3 : Memref sig .tc .vmem S16x8192 .f32) (h3 : a3.IsWhole)
  (a4 : Memref sig .tc .vmem S1x16x1 .i32) (h4 : a4.IsWhole) (a5 : Memref sig .tc .vmem S1x16x1 .f32) (h5 : a5.IsWhole)
  (a6 : Memref sig .tc .vmem S1x16x1 .f32) (h6 : a6.IsWhole) (a7 : Memref sig .tc .vmem S1x16x1 .f32) (h7 : a7.IsWhole)
  (a8 : Memref sig .tc .vmem S1x16x1 .f32) (h8 : a8.IsWhole) (a9 : Memref sig .tc .vmem S16x8192 .f32) (h9 : a9.IsWhole)
  (a10 : Memref sig .tc .vmem S16x1 .i32) (h10 : a10.IsWhole) (x y z d : Vec F S16x8192 .f32) (far : Vec F S16x1 .i32)

/-- A later round's centre, first coordinate. -/
theorem outB_4 (hc : ¬cond0_0 i) :
    out0_B_4 c i a1 h1 a2 h2 a3 h3 a4 h4 a5 h5 a6 h6 a7 h7 a8 h8 a9 h9 a10 h10 hc x y z d far = k0_pay17 far x := by
  unfold out0_B_4
  rw [View.read_writes_eq_canon _ _ _ (cover0_B_4 c i a1 h1 a2 h2 a3 h3 a4 h4 a5 h5 a6 h6 a7 h7 a8 h8 a9 h9 a10 h10 hc x y z d far)]
  unfold kernelRun0_B
  dsimp only
  sl_unfold_words
  rw [View.canon_unit_zero hz3]
  simp only [View.readAt_eq_ld, h1.read_unread, h2.read_unread, h3.read_unread, h9.read_unread, h10.read_unread,
    View.ld_unit_zero (S := S16x8192) hz2, View.ld_unit_zero (S := S16x1) hz2]

theorem outB_5 (hc : ¬cond0_0 i) :
    out0_B_5 c i a1 h1 a2 h2 a3 h3 a4 h4 a5 h5 a6 h6 a7 h7 a8 h8 a9 h9 a10 h10 hc x y z d far = k0_pay18 far y := by
  unfold out0_B_5
  rw [View.read_writes_eq_canon _ _ _ (cover0_B_5 c i a1 h1 a2 h2 a3 h3 a4 h4 a5 h5 a6 h6 a7 h7 a8 h8 a9 h9 a10 h10 hc x y z d far)]
  unfold kernelRun0_B
  dsimp only
  sl_unfold_words
  rw [View.canon_unit_zero hz3]
  simp only [View.readAt_eq_ld, h1.read_unread, h2.read_unread, h3.read_unread, h9.read_unread, h10.read_unread,
    View.ld_unit_zero (S := S16x8192) hz2, View.ld_unit_zero (S := S16x1) hz2]

theorem outB_6 (hc : ¬cond0_0 i) :
    out0_B_6 c i a1 h1 a2 h2 a3 h3 a4 h4 a5 h5 a6 h6 a7 h7 a8 h8 a9 h9 a10 h10 hc x y z d far = k0_pay1 (k0_pay16 far z) := by
  unfold out0_B_6
  rw [View.read_writes_eq_canon _ _ _ (cover0_B_6 c i a1 h1 a2 h2 a3 h3 a4 h4 a5 h5 a6 h6 a7 h7 a8 h8 a9 h9 a10 h10 hc x y z d far)]
  unfold kernelRun0_B
  dsimp only
  sl_unfold_words
  rw [View.canon_unit_zero hz3]
  simp only [View.readAt_eq_ld, h1.read_unread, h2.read_unread, h3.read_unread, h9.read_unread, h10.read_unread,
    View.ld_unit_zero (S := S16x8192) hz2, View.ld_unit_zero (S := S16x1) hz2]

/-- A later round's distances. -/
theorem soutB_0 (hc : ¬cond0_0 i) :
    sout0_B_0 c i a1 h1 a2 h2 a3 h3 a4 h4 a5 h5 a6 h6 a7 h7 a8 h8 a9 h9 a10 h10 hc x y z d far = stepD x y z d far := by
  unfold sout0_B_0
  rw [View.read_writes_eq_canon _ _ _ (scover0_B_0 c i a1 h1 a2 h2 a3 h3 a4 h4 a5 h5 a6 h6 a7 h7 a8 h8 a9 h9 a10 h10 hc x y z d far)]
  unfold kernelRun0_B
  dsimp only
  sl_unfold_words
  rw [View.canon_unit_zero hz2]
  simp only [View.readAt_eq_ld, h1.read_unread, h2.read_unread, h3.read_unread, h9.read_unread, h10.read_unread,
    View.ld_unit_zero (S := S16x8192) hz2, View.ld_unit_zero (S := S16x1) hz2]

/-- A later round's next row. -/
theorem soutB_1 (hc : ¬cond0_0 i) :
    sout0_B_1 c i a1 h1 a2 h2 a3 h3 a4 h4 a5 h5 a6 h6 a7 h7 a8 h8 a9 h9 a10 h10 hc x y z d far = stepF x y z d far := by
  unfold sout0_B_1
  rw [View.read_writes_eq_canon _ _ _ (scover0_B_1 c i a1 h1 a2 h2 a3 h3 a4 h4 a5 h5 a6 h6 a7 h7 a8 h8 a9 h9 a10 h10 hc x y z d far)]
  unfold kernelRun0_B
  dsimp only
  sl_unfold_words
  rw [View.canon_unit_zero hz2]
  simp only [View.readAt_eq_ld, h1.read_unread, h2.read_unread, h3.read_unread, h9.read_unread, h10.read_unread,
    View.ld_unit_zero (S := S16x8192) hz2, View.ld_unit_zero (S := S16x1) hz2]

/-- The first round's centre, first coordinate: as a later round's, from the buffers it has just reset. -/
theorem outA_4 (hc : cond0_0 i) :
    out0_A_4 c i a1 h1 a2 h2 a3 h3 a4 h4 a5 h5 a6 h6 a7 h7 a8 h8 a9 h9 a10 h10 hc x y z = k0_pay17 (F := F) k0_pay8 x := by
  unfold out0_A_4
  rw [View.read_writes_eq_canon _ _ _ (cover0_A_4 c i a1 h1 a2 h2 a3 h3 a4 h4 a5 h5 a6 h6 a7 h7 a8 h8 a9 h9 a10 h10 hc x y z)]
  unfold kernelRun0_A
  dsimp only
  sl_unfold_words
  rw [View.canon_unit_zero hz3]
  simp only [View.readCov_unit_zero (S := S16x8192) _ hz2, View.readCov_unit_zero (S := S16x1) _ hz2, View.readAt_eq_ld, h1.read_unread, h2.read_unread, h3.read_unread, h9.read_unread, h10.read_unread,
    View.ld_unit_zero (S := S16x8192) hz2, View.ld_unit_zero (S := S16x1) hz2]

theorem outA_5 (hc : cond0_0 i) :
    out0_A_5 c i a1 h1 a2 h2 a3 h3 a4 h4 a5 h5 a6 h6 a7 h7 a8 h8 a9 h9 a10 h10 hc x y z = k0_pay18 (F := F) k0_pay8 y := by
  unfold out0_A_5
  rw [View.read_writes_eq_canon _ _ _ (cover0_A_5 c i a1 h1 a2 h2 a3 h3 a4 h4 a5 h5 a6 h6 a7 h7 a8 h8 a9 h9 a10 h10 hc x y z)]
  unfold kernelRun0_A
  dsimp only
  sl_unfold_words
  rw [View.canon_unit_zero hz3]
  simp only [View.readCov_unit_zero (S := S16x8192) _ hz2, View.readCov_unit_zero (S := S16x1) _ hz2, View.readAt_eq_ld, h1.read_unread, h2.read_unread, h3.read_unread, h9.read_unread, h10.read_unread,
    View.ld_unit_zero (S := S16x8192) hz2, View.ld_unit_zero (S := S16x1) hz2]

theorem outA_6 (hc : cond0_0 i) :
    out0_A_6 c i a1 h1 a2 h2 a3 h3 a4 h4 a5 h5 a6 h6 a7 h7 a8 h8 a9 h9 a10 h10 hc x y z = k0_pay1 (k0_pay16 (F := F) k0_pay8 z) := by
  unfold out0_A_6
  rw [View.read_writes_eq_canon _ _ _ (cover0_A_6 c i a1 h1 a2 h2 a3 h3 a4 h4 a5 h5 a6 h6 a7 h7 a8 h8 a9 h9 a10 h10 hc x y z)]
  unfold kernelRun0_A
  dsimp only
  sl_unfold_words
  rw [View.canon_unit_zero hz3]
  simp only [View.readCov_unit_zero (S := S16x8192) _ hz2, View.readCov_unit_zero (S := S16x1) _ hz2, View.readAt_eq_ld, h1.read_unread, h2.read_unread, h3.read_unread, h9.read_unread, h10.read_unread,
    View.ld_unit_zero (S := S16x8192) hz2, View.ld_unit_zero (S := S16x1) hz2]

theorem soutA_0 (hc : cond0_0 i) :
    sout0_A_0 c i a1 h1 a2 h2 a3 h3 a4 h4 a5 h5 a6 h6 a7 h7 a8 h8 a9 h9 a10 h10 hc x y z = stepD x y z (k0_pay7 (F := F)) (k0_pay8) := by
  unfold sout0_A_0
  rw [View.read_writes_eq_canon _ _ _ (scover0_A_0 c i a1 h1 a2 h2 a3 h3 a4 h4 a5 h5 a6 h6 a7 h7 a8 h8 a9 h9 a10 h10 hc x y z)]
  unfold kernelRun0_A
  dsimp only
  sl_unfold_words
  rw [View.canon_cons_unit_zero (S := S16x8192) hz2]
  simp only [View.readCov_unit_zero (S := S16x8192) _ hz2, View.readCov_unit_zero (S := S16x1) _ hz2, View.readAt_eq_ld, h1.read_unread, h2.read_unread, h3.read_unread, h9.read_unread, h10.read_unread,
    View.ld_unit_zero (S := S16x8192) hz2, View.ld_unit_zero (S := S16x1) hz2]

theorem soutA_1 (hc : cond0_0 i) :
    sout0_A_1 c i a1 h1 a2 h2 a3 h3 a4 h4 a5 h5 a6 h6 a7 h7 a8 h8 a9 h9 a10 h10 hc x y z = stepF x y z (k0_pay7 (F := F)) (k0_pay8) := by
  unfold sout0_A_1
  rw [View.read_writes_eq_canon _ _ _ (scover0_A_1 c i a1 h1 a2 h2 a3 h3 a4 h4 a5 h5 a6 h6 a7 h7 a8 h8 a9 h9 a10 h10 hc x y z)]
  unfold kernelRun0_A
  dsimp only
  sl_unfold_words
  rw [View.canon_cons_unit_zero (S := S16x1) hz2]
  simp only [View.readCov_unit_zero (S := S16x8192) _ hz2, View.readCov_unit_zero (S := S16x1) _ hz2, View.readAt_eq_ld, h1.read_unread, h2.read_unread, h3.read_unread, h9.read_unread, h10.read_unread,
    View.ld_unit_zero (S := S16x8192) hz2, View.ld_unit_zero (S := S16x1) hz2]

end Cases

end Cert.Proof.SampleIdeal

end
-- ==== Proof.SampleIdealValue.lean ====
/-
  The sampling kernel over all its rounds: round `n` finds in its two carried buffers the distances and the farthest points
  of `n` rounds before it, and writes the coordinates of that point; so the three arrays of coordinates, read at a centre,
  are the coordinates picked at the farthest point that round was given.
-/
module

public import proofs.«01_k».proof.Proof.SampleIdealStep
public import Idealize.ShloMosaic.Lib.ValueIdxCore

@[expose] public section

set_option maxRecDepth 16384

noncomputable section

namespace Cert.Proof.SampleIdeal

open Cert.SampleIdeal Cert.SampleIdeal.Gen Cert.SampleIdeal.Value
open Idealize.ShloMosaic Idealize.ShloMosaic.TcCoe Idealize.SL.Sem Idealize.ShloMosaic.StableHlo Idealize.ShloMosaic.ValueIdx
open Idealize.ShloMosaic.Pipeline (Dat)

variable {F : FTy → Type} [FloatOps F]

/-- The distances and the farthest points before round `n`. -/
def kst (x y z : Vec F S16x8192 .f32) : ℕ → Vec F S16x8192 .f32 × Vec F S16x1 .i32
  | 0 => (k0_pay7, k0_pay8)
  | n + 1 => (stepD x y z (kst x y z n).1 (kst x y z n).2, stepF x y z (kst x y z n).1 (kst x y z n).2)

theorem kst_dist (x y z : Vec F S16x8192 .f32) (n : ℕ) : (kst x y z (n + 1)).1 = stepD x y z (kst x y z n).1 (kst x y z n).2 := by rw [kst]
theorem kst_far (x y z : Vec F S16x8192 .f32) (n : ℕ) : (kst x y z (n + 1)).2 = stepF x y z (kst x y z n).1 (kst x y z n).2 := by rw [kst]

/-- The three coordinate planes of the points. -/
def planeX (p : S16x8192x3.Idx → F .f32) : Vec F S16x8192 .f32 :=
  shapeCast S16x8192 (extractStridedSlice S16x8192x1 ![0, 0, 0] p slices_S16x8192x3_S16x8192x1_0_0_0) shapeCasts_S16x8192x1_S16x8192
def planeY (p : S16x8192x3.Idx → F .f32) : Vec F S16x8192 .f32 :=
  shapeCast S16x8192 (extractStridedSlice S16x8192x1 ![0, 0, 1] p slices_S16x8192x3_S16x8192x1_0_0_1) shapeCasts_S16x8192x1_S16x8192
def planeZ (p : S16x8192x3.Idx → F .f32) : Vec F S16x8192 .f32 :=
  shapeCast S16x8192 (extractStridedSlice S16x8192x1 ![0, 0, 2] p slices_S16x8192x3_S16x8192x1_0_0_2) shapeCasts_S16x8192x1_S16x8192

variable (m : (ℓ : Loc nD τ sig) → Buf (Elt F) ℓ)

/-- The argument at launch. -/
def arg (c : Dev nD) : S16x8192x3.Idx → F .f32 := m ((c : Thread nD τ).loc main_arg0)

theorem V_x (c : Dev nD) : (V m c main_v1 : Vec F S16x8192 .f32) = planeX (arg m c) := by
  unfold V
  simp only [hostOps0]
  after_results <;> rfl
theorem V_y (c : Dev nD) : (V m c main_v3 : Vec F S16x8192 .f32) = planeY (arg m c) := by
  unfold V
  simp only [hostOps0]
  after_results <;> rfl
theorem V_z (c : Dev nD) : (V m c main_v5 : Vec F S16x8192 .f32) = planeZ (arg m c) := by
  unfold V
  simp only [hostOps0]
  after_results <;> rfl

theorem index0 (t : Fin cfg0.N) (a : Fin 2) : win0_0.index t a = 0 := by
  have ha : a = (0 : Fin 2) ∨ a = (1 : Fin 2) := by
    match a with
    | ⟨0, _⟩ => exact Or.inl rfl
    | ⟨1, _⟩ => exact Or.inr rfl
  rcases ha with rfl | rfl <;> rfl
theorem index1 (t : Fin cfg0.N) (a : Fin 2) : win0_1.index t a = 0 := by
  have ha : a = (0 : Fin 2) ∨ a = (1 : Fin 2) := by
    match a with
    | ⟨0, _⟩ => exact Or.inl rfl
    | ⟨1, _⟩ => exact Or.inr rfl
  rcases ha with rfl | rfl <;> rfl
theorem index2 (t : Fin cfg0.N) (a : Fin 2) : win0_2.index t a = 0 := by
  have ha : a = (0 : Fin 2) ∨ a = (1 : Fin 2) := by
    match a with
    | ⟨0, _⟩ => exact Or.inl rfl
    | ⟨1, _⟩ => exact Or.inr rfl
  rcases ha with rfl | rfl <;> rfl

/-- Each input window is its whole plane at every round. -/
theorem iblk_x (c : Dev nD) (t : Fin cfg0.N) : (iblk m c 0 t : Vec F S16x8192 .f32) = planeX (arg m c) := by
  rw [← V_x]
  funext j
  unfold iblk
  rw [View.read_apply]
  show V m c main_v1 _ = V m c main_v1 _
  congr 1
  funext a
  apply Fin.ext
  match a with
  | ⟨0, _⟩ => show win0_0.index t 0 * 16 + 1 * (j 0).val = (j 0).val; rw [index0]; omega
  | ⟨1, _⟩ => show win0_0.index t 1 * 8192 + 1 * (j 1).val = (j 1).val; rw [index0]; omega
theorem iblk_y (c : Dev nD) (t : Fin cfg0.N) : (iblk m c 1 t : Vec F S16x8192 .f32) = planeY (arg m c) := by
  rw [← V_y]
  funext j
  unfold iblk
  rw [View.read_apply]
  show V m c main_v3 _ = V m c main_v3 _
  congr 1
  funext a
  apply Fin.ext
  match a with
  | ⟨0, _⟩ => show win0_1.index t 0 * 16 + 1 * (j 0).val = (j 0).val; rw [index1]; omega
  | ⟨1, _⟩ => show win0_1.index t 1 * 8192 + 1 * (j 1).val = (j 1).val; rw [index1]; omega
theorem iblk_z (c : Dev nD) (t : Fin cfg0.N) : (iblk m c 2 t : Vec F S16x8192 .f32) = planeZ (arg m c) := by
  rw [← V_z]
  funext j
  unfold iblk
  rw [View.read_apply]
  show V m c main_v5 _ = V m c main_v5 _
  congr 1
  funext a
  apply Fin.ext
  match a with
  | ⟨0, _⟩ => show win0_2.index t 0 * 16 + 1 * (j 0).val = (j 0).val; rw [index2]; omega
  | ⟨1, _⟩ => show win0_2.index t 1 * 8192 + 1 * (j 1).val = (j 1).val; rw [index2]; omega

/-- The state of the launch before round `n`. -/
abbrev stM (c : Dev nD) (n : ℕ) := kst (planeX (arg m c)) (planeY (arg m c)) (planeZ (arg m c)) n

/-- What round `n` leaves: the coordinates of the point it was given, and the state of round `n + 1`. -/
def Leaves (c : Dev nD) (n : ℕ) (hn : n < cfg0.N) : Prop :=
  (outsAt0 m c n hn).2.1 = k0_pay17 (stM m c n).2 (planeX (arg m c))
    ∧ (outsAt0 m c n hn).2.2.1 = k0_pay18 (stM m c n).2 (planeY (arg m c))
    ∧ (outsAt0 m c n hn).2.2.2.1 = k0_pay1 (k0_pay16 (stM m c n).2 (planeZ (arg m c)))
    ∧ (outsAt0 m c n hn).2.2.2.2.2.1 = (stM m c (n + 1)).1
    ∧ (outsAt0 m c n hn).2.2.2.2.2.2 = (stM m c (n + 1)).2

theorem leaves (c : Dev nD) : ∀ (n : ℕ) (hn : n < cfg0.N), Leaves m c n hn
  | 0, hn => by
    have e := outsAt0_A m c ⟨0, hn⟩ rfl
    unfold Leaves
    rw [show outsAt0 m c 0 hn = _ from e]
    simp only [outA_4, outA_5, outA_6, soutA_0, soutA_1, iblk_x, iblk_y, iblk_z, stM, kst, Nat.zero_add, and_self]
  | n + 1, hn => by
    obtain ⟨-, -, -, hd, hf⟩ := leaves c n (Nat.lt_of_succ_lt hn)
    have hN : n + 1 < 1024 := lt_of_lt_of_eq hn (show cfg0.N = 1024 from N_0)
    have e := outsAt0_B m c ⟨n + 1, hn⟩ (by show ¬(n + 1) % 1024 = 0; omega)
    simp only [Nat.add_sub_cancel] at e
    unfold Leaves
    rw [show outsAt0 m c (n + 1) hn = _ from e, hd, hf]
    simp only [outB_4, outB_5, outB_6, soutB_0, soutB_1, iblk_x, iblk_y, iblk_z, stM, kst, Nat.zero_add, and_self]

theorem G4_eq (c : Dev nD) (s : Fin 1024) (b : Fin 16) :
    G4 m c (ix3 s b (0 : Fin 1)) = k0_pay17 (stM m c s.val).2 (planeX (arg m c)) (ix3 (0 : Fin 1) b (0 : Fin 1)) := by
  have hs : s.val < cfg0.N := lt_of_lt_of_eq s.isLt N_0.symm
  have hb := b.isLt
  have hp : pt4Of (ix3 s b (0 : Fin 1)) = s.val := by
    show 1 * (s.val / 1 - 0) + 1 * (b.val / 16 - 0) + 1 * (0 / 1 - 0) = s.val; omega
  unfold G4
  rw [dif_pos (hp ▸ hs)]
  simp only [hp]
  rw [← outsAt0_sweep m c s.val hs, (leaves m c s.val hs).1]
  refine congrArg _ (funext fun a => Fin.ext ?_)
  match a with
  | ⟨0, _⟩ => show s.val % 1 = 0; omega
  | ⟨1, _⟩ => show b.val % 16 = b.val; omega
  | ⟨2, _⟩ => rfl
theorem G5_eq (c : Dev nD) (s : Fin 1024) (b : Fin 16) :
    G5 m c (ix3 s b (0 : Fin 1)) = k0_pay18 (stM m c s.val).2 (planeY (arg m c)) (ix3 (0 : Fin 1) b (0 : Fin 1)) := by
  have hs : s.val < cfg0.N := lt_of_lt_of_eq s.isLt N_0.symm
  have hb := b.isLt
  have hp : pt5Of (ix3 s b (0 : Fin 1)) = s.val := by
    show 1 * (s.val / 1 - 0) + 1 * (b.val / 16 - 0) + 1 * (0 / 1 - 0) = s.val; omega
  unfold G5
  rw [dif_pos (hp ▸ hs)]
  simp only [hp]
  rw [← outsAt0_sweep m c s.val hs, (leaves m c s.val hs).2.1]
  refine congrArg _ (funext fun a => Fin.ext ?_)
  match a with
  | ⟨0, _⟩ => show s.val % 1 = 0; omega
  | ⟨1, _⟩ => show b.val % 16 = b.val; omega
  | ⟨2, _⟩ => rfl
theorem G6_eq (c : Dev nD) (s : Fin 1024) (b : Fin 16) :
    G6 m c (ix3 s b (0 : Fin 1)) = k0_pay1 (k0_pay16 (stM m c s.val).2 (planeZ (arg m c))) (ix3 (0 : Fin 1) b (0 : Fin 1)) := by
  have hs : s.val < cfg0.N := lt_of_lt_of_eq s.isLt N_0.symm
  have hb := b.isLt
  have hp : pt6Of (ix3 s b (0 : Fin 1)) = s.val := by
    show 1 * (s.val / 1 - 0) + 1 * (b.val / 16 - 0) + 1 * (0 / 1 - 0) = s.val; omega
  unfold G6
  rw [dif_pos (hp ▸ hs)]
  simp only [hp]
  rw [← outsAt0_sweep m c s.val hs, (leaves m c s.val hs).2.2.1]
  refine congrArg _ (funext fun a => Fin.ext ?_)
  match a with
  | ⟨0, _⟩ => show s.val % 1 = 0; omega
  | ⟨1, _⟩ => show b.val % 16 = b.val; omega
  | ⟨2, _⟩ => rfl

end Cert.Proof.SampleIdeal

end
-- ==== Proof.FirstMax.lean ====
/-
  The first index at which a row is largest, in the two ways the programs find it: the smallest of the lane numbers where the
  row equals its maximum, and a fold that keeps the larger of two entries and, of equal ones, the smaller index.
-/
module

public import Idealize.ShloMosaic.Lib.Pipeline.Value
public import Idealize.ShloMosaic.Lib.ValueIdxCore
public import Idealize.ShloMosaic.Lib.IdealHost
public import Idealize.ShloMosaic.Lib.Pointwise.Reduce
public import Idealize.ShloMosaic.Lib.SortNet.Extract
public import Idealize.ShloMosaic.PureOps.Ideal.Laws
public import Idealize.ShloMosaic.PureOps.Reduce

@[expose] public section

set_option maxRecDepth 16384

noncomputable section

namespace Cert.Proof.FirstMax

open Idealize.ShloMosaic hiding ix1 ix2 ix3 ix4 eq_ix1 eq_ix2 eq_ix3 eq_ix4
open Idealize.ShloMosaic.ValueIdx

/-- `k` is the first of the indices at which `d` is largest. -/
def Is {n : ℕ} (d : Fin n → EReal) (k : Fin n) : Prop := (∀ i, d i ≤ d k) ∧ ∀ i, d i = d k → k ≤ i

/-- A small number read back from its word. -/
theorem toInt_ofNat {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this]
  split <;> omega

/-- The word of minus infinity. -/
theorem ofBits_bot : FloatOps.ofBits (F := Ideal) .f32 0xFF800000#32 = (⊥ : EReal) := by
  show Ideal.ofBits .f32 0xFF800000#32 = ⊥
  simp [Ideal.ofBits, Ideal.ieee]

/-! ## The smallest lane at the maximum -/

/-- A row's maximum. -/
theorem fold_max {n : ℕ} {d : Fin n → EReal} {k : Fin n} (h : Is d k) : Finset.univ.fold max (⊥ : EReal) d = d k :=
  le_antisymm ((Finset.fold_max_le _).2 ⟨bot_le, fun i _ => h.1 i⟩) ((Finset.le_fold_max _).2 (Or.inr ⟨k, Finset.mem_univ _, le_rfl⟩))

/-- The smallest of the lane numbers where the row is at its maximum. -/
theorem fold_min {n : ℕ} (hn : n ≤ 8192) {d : Fin n → EReal} {k : Fin n} (h : Is d k) (v : Fin n → BitVec 32)
    (hv : ∀ i, v i = if d i = d k then BitVec.ofNat 32 i.val else 8192#32) [Std.Commutative (IKind.minsi.op)] [Std.Associative (IKind.minsi.op)] :
    Finset.univ.fold IKind.minsi.op 2147483647#32 v = BitVec.ofNat 32 k.val := by
  have hk := k.isLt
  have hi : ∀ i, (v i).toInt = if d i = d k then (i.val : ℤ) else 8192 := fun i => by
    have := i.isLt
    rw [hv i]
    split
    · exact toInt_ofNat (by omega)
    · rfl
  refine BitVec.eq_of_toInt_eq ?_
  rw [toInt_ofNat (by omega)]
  have hm : (Finset.univ.fold IKind.minsi.op 2147483647#32 v).toInt
      = Finset.univ.fold min (2147483647 : ℤ) fun i => (v i).toInt :=
    (Finset.fold_hom (m := BitVec.toInt) (b := 2147483647#32) (f := v) (fun a b => (SortNet.toInt_minsi a b).symm ▸ rfl)).symm
  rw [hm]
  refine le_antisymm ((Finset.fold_min_le _).2 (Or.inr ⟨k, Finset.mem_univ _, ?_⟩)) ((Finset.le_fold_min _).2 ⟨by omega, fun i _ => ?_⟩)
  · rw [hi k, if_pos rfl]
  · rw [hi i]
    split
    · next e => exact_mod_cast Fin.le_def.1 (h.2 i e)
    · omega

/-! ## The fold that keeps the better of two -/

/-- `r` is at least as good as `p`: larger, or as large with no larger an index. -/
def Dom (p r : EReal × BitVec 32) : Prop := p.1 < r.1 ∨ (p.1 = r.1 ∧ r.2.toInt ≤ p.2.toInt)

theorem Dom.refl (p : EReal × BitVec 32) : Dom p p := Or.inr ⟨rfl, le_rfl⟩
theorem Dom.trans {p q r : EReal × BitVec 32} (h : Dom p q) (h' : Dom q r) : Dom p r := by
  rcases h with h | ⟨h, e⟩ <;> rcases h' with h' | ⟨h', e'⟩
  · exact Or.inl (h.trans h')
  · exact Or.inl (h' ▸ h)
  · exact Or.inl (h ▸ h')
  · exact Or.inr ⟨h.trans h', e'.trans e⟩

/-- A body that keeps one of its two arguments, at least as good as both. -/
def Keeps (f : EReal × BitVec 32 → EReal × BitVec 32 → EReal × BitVec 32) : Prop :=
  ∀ a b, (f a b = a ∨ f a b = b) ∧ Dom a (f a b) ∧ Dom b (f a b)

/-- The fold of such a body is one of the entries, at least as good as all. -/
theorem foldl_dom {f : EReal × BitVec 32 → EReal × BitVec 32 → EReal × BitVec 32} (hf : Keeps f) (l : List (EReal × BitVec 32)) :
    ∀ a, (l.foldl f a = a ∨ l.foldl f a ∈ l) ∧ Dom a (l.foldl f a) ∧ ∀ p ∈ l, Dom p (l.foldl f a) := by
  induction l with
  | nil => exact fun a => ⟨Or.inl rfl, Dom.refl _, fun p h => absurd h (List.not_mem_nil)⟩
  | cons b l ih =>
    intro a
    obtain ⟨h1, h2, h3⟩ := ih (f a b)
    obtain ⟨g1, g2, g3⟩ := hf a b
    rw [List.foldl_cons]
    refine ⟨?_, g2.trans h2, fun p hp => ?_⟩
    · rcases h1 with h1 | h1
      · rcases g1 with g1 | g1
        · exact Or.inl (h1.trans g1)
        · exact Or.inr (List.mem_cons.2 (Or.inl (h1.trans g1)))
      · exact Or.inr (List.mem_cons_of_mem _ h1)
    · rcases List.mem_cons.1 hp with rfl | hp
      · exact g3.trans h2
      · exact h3 p hp

/-- Over the pairs of a row's entries and lane numbers, from minus infinity and zero, the fold's index is the first of the largest. -/
theorem foldl_is {n : ℕ} (hn : 0 < n) (hn' : n ≤ 8192) {f : EReal × BitVec 32 → EReal × BitVec 32 → EReal × BitVec 32} (hf : Keeps f)
    (d : Fin n → EReal) (l : List (EReal × BitVec 32)) (hl : ∀ p, p ∈ l ↔ ∃ i : Fin n, p = (d i, BitVec.ofNat 32 i.val)) :
    ∃ k : Fin n, Is d k ∧ (l.foldl f (⊥, 0#32)).2 = BitVec.ofNat 32 k.val := by
  obtain ⟨h1, h2, h3⟩ := foldl_dom hf l (⊥, 0#32)
  obtain ⟨k, hk⟩ : ∃ k : Fin n, l.foldl f (⊥, 0#32) = (d k, BitVec.ofNat 32 k.val) := by
    rcases h1 with h1 | h1
    · refine ⟨⟨0, hn⟩, ?_⟩
      have h0 := h3 _ ((hl _).2 ⟨⟨0, hn⟩, rfl⟩)
      rw [h1] at h0 ⊢
      rcases h0 with h0 | h0
      · exact absurd h0 not_lt_bot
      · exact Prod.ext h0.1.symm rfl
    · exact (hl _).1 h1
  refine ⟨k, ⟨fun i => ?_, fun i e => ?_⟩, by rw [hk]⟩
  · have := h3 _ ((hl _).2 ⟨i, rfl⟩)
    rw [hk] at this
    rcases this with h | h
    · exact le_of_lt h
    · exact le_of_eq h.1
  · have := h3 _ ((hl _).2 ⟨i, rfl⟩)
    rw [hk] at this
    rcases this with h | h
    · exact absurd h (by dsimp only; rw [e]; exact lt_irrefl _)
    · have hi := i.isLt; have hk := k.isLt
      have := h.2
      dsimp only at this
      rw [toInt_ofNat (by omega), toInt_ofNat (by omega)] at this
      exact Fin.le_def.2 (by omega)

/-- The members of the list that a two-operand reduction over the lanes folds at row `j`. -/
theorem mem_fiber {a n : ℕ} (h : (⟨2, ![a, n]⟩ : Shape).ReducesTo [1] ⟨1, ![a]⟩) (d : (⟨2, ![a, n]⟩ : Shape).Idx → EReal)
    (y : (⟨2, ![a, n]⟩ : Shape).Idx → BitVec 32) (b : Fin a) (p : EReal × BitVec 32) :
    p ∈ Host.argReduceFiber d y h (ix1 b) ↔ ∃ i : Fin n, p = (d (ix2 b i), y (ix2 b i)) := by
  unfold Host.argReduceFiber
  simp only [List.mem_map, List.mem_filter, List.mem_finRange, true_and, decide_eq_true_eq]
  constructor
  · rintro ⟨q, hq, rfl⟩
    obtain ⟨i, hi⟩ := (h.fiber_r2_a1 (ix1 b) _).1 hq
    exact ⟨i, by rw [← hi]; rfl⟩
  · rintro ⟨i, rfl⟩
    refine ⟨(⟨2, ![a, n]⟩ : Shape).rowMajor (ix2 b i), ?_, by rw [Equiv.symm_apply_apply]⟩
    rw [Equiv.symm_apply_apply]
    exact (h.fiber_r2_a1 (ix1 b) _).2 ⟨i, rfl⟩

end Cert.Proof.FirstMax

end
-- ==== Proof.SampleIdealMath.lean ====
/-
  A round of the sampling kernel read at an index, on the extended reals: the centre's coordinates, the distances after the
  round, and the row for the next round: the first at which the distances are largest.
-/
module

public import proofs.«01_k».proof.Proof.SampleIdealValue
public import proofs.«01_k».proof.Proof.FirstMax

@[expose] public section

set_option maxRecDepth 16384

noncomputable section

namespace Cert.Proof.SampleIdeal

open Cert.SampleIdeal Cert.SampleIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

/-! ## Layout -/

section Layout
variable {α : Type}

/-- A column added to a vector. -/
theorem col_at (v : S16.Idx → α) (b : Fin 16) : shapeCast S16x1 v shapeCasts_S16_S16x1 (ix2 b (0 : Fin 1)) = v (ix1 b) :=
  shapeCast_apply _ _ (ix2 b (0 : Fin 1)) (ix1 b) (by
    rw [Shape.rowMajor_val_one, Shape.rowMajor_val_two]
    show b.val = b.val * 1 + 0
    omega)

/-- A column spread over the lanes. -/
theorem spread_at (v : S16x1.Idx → α) (b : Fin 16) (n : Fin 8192) : broadcastTo S16x8192 v broadcasts_S16x1_S16x8192 (ix2 b n) = v (ix2 b (0 : Fin 1)) :=
  broadcastTo_apply _ _ (ix2 b n) (ix2 b (0 : Fin 1)) fun a => by
    match a with
    | ⟨0, _⟩ => rfl
    | ⟨1, _⟩ => rfl

theorem drop_at (v : S16x8192x1.Idx → α) (b : Fin 16) (n : Fin 8192) :
    shapeCast S16x8192 v shapeCasts_S16x8192x1_S16x8192 (ix2 b n) = v (ix3 b n (0 : Fin 1)) :=
  shapeCast_apply _ _ (ix2 b n) (ix3 b n (0 : Fin 1)) (by
    rw [Shape.rowMajor_val_three, Shape.rowMajor_val_two]
    show (b.val * 8192 + n.val) * 1 + 0 = b.val * 8192 + n.val
    omega)

theorem add_at (v : S16x1.Idx → α) (b : Fin 16) :
    shapeCast S1x16x1 v shapeCasts_S16x1_S1x16x1 (ix3 (0 : Fin 1) b (0 : Fin 1)) = v (ix2 b (0 : Fin 1)) :=
  shapeCast_apply _ _ (ix3 (0 : Fin 1) b (0 : Fin 1)) (ix2 b (0 : Fin 1)) (by
    rw [Shape.rowMajor_val_three, Shape.rowMajor_val_two]
    show b.val * 1 + 0 = (0 * 16 + b.val) * 1 + 0
    omega)

end Layout

section Planes
variable {F : FTy → Type} [FloatOps F] (p : S16x8192x3.Idx → F .f32) (b : Fin 16) (n : Fin 8192)

theorem planeX_at : planeX p (ix2 b n) = p (ix3 b n (0 : Fin 3)) := by
  unfold planeX
  rw [drop_at]
  exact extractStridedSlice_apply ![0, 0, 0] p _ (ix3 b n (0 : Fin 1)) (ix3 b n (0 : Fin 3)) fun a => by
    match a with
    | ⟨0, _⟩ => exact (Nat.zero_add _).symm
    | ⟨1, _⟩ => exact (Nat.zero_add _).symm
    | ⟨2, _⟩ => rfl
theorem planeY_at : planeY p (ix2 b n) = p (ix3 b n (1 : Fin 3)) := by
  unfold planeY
  rw [drop_at]
  exact extractStridedSlice_apply ![0, 0, 1] p _ (ix3 b n (0 : Fin 1)) (ix3 b n (1 : Fin 3)) fun a => by
    match a with
    | ⟨0, _⟩ => exact (Nat.zero_add _).symm
    | ⟨1, _⟩ => exact (Nat.zero_add _).symm
    | ⟨2, _⟩ => rfl
theorem planeZ_at : planeZ p (ix2 b n) = p (ix3 b n (2 : Fin 3)) := by
  unfold planeZ
  rw [drop_at]
  exact extractStridedSlice_apply ![0, 0, 2] p _ (ix3 b n (0 : Fin 1)) (ix3 b n (2 : Fin 3)) fun a => by
    match a with
    | ⟨0, _⟩ => exact (Nat.zero_add _).symm
    | ⟨1, _⟩ => exact (Nat.zero_add _).symm
    | ⟨2, _⟩ => rfl

end Planes

/-! ## The reductions over the lanes -/

theorem max_at (v : FVec Ideal S16x8192 .f32) (b : Fin 16) :
    multiReduction .maximumf [1] S16 v 0xFF800000#32 reduces_S16x8192_S16 (.inl rfl) rfl (ix1 b)
      = Finset.univ.fold (max : EReal → EReal → EReal) ⊥ fun n : Fin 8192 => v (ix2 b n) := by
  refine (multiReduction_maximumf_eq_fold (F := Ideal) (φ := .f32) v 0xFF800000#32 reduces_S16x8192_S16 (.inl rfl) rfl (ix1 b)).trans ?_
  rw [FirstMax.ofBits_bot]
  exact Shape.Reduces.fold_fiber_r2_a1 reduces_S16x8192_S16 (ix1 b) (max : EReal → EReal → EReal) ⊥ v

theorem min_at (v : IVec S16x8192 32) (b : Fin 16) :
    multiReductionI .minsi [1] S16 v 2147483647#32 reduces_S16x8192_S16 rfl (ix1 b)
      = Finset.univ.fold IKind.minsi.op 2147483647#32 fun n : Fin 8192 => v (ix2 b n) :=
  (multiReductionI_eq_fold .minsi v 2147483647#32 reduces_S16x8192_S16 rfl (ix1 b)).trans
    (Shape.Reduces.fold_fiber_r2_a1 reduces_S16x8192_S16 (ix1 b) IKind.minsi.op 2147483647#32 v)

/-! ## The centre -/

variable (x y z : Vec Ideal S16x8192 .f32) (d : Vec Ideal S16x8192 .f32) (far : Vec Ideal S16x1 .i32)

/-- Lane `n` is the one that the row `far` names. -/
theorem sel_at (b : Fin 16) (k n : Fin 8192) (hk : far (ix2 b (0 : Fin 1)) = BitVec.ofNat 32 k.val) :
    k0_pay10 (F := Ideal) far (ix2 b n) = if n = k then 1#1 else 0#1 := by
  unfold k0_pay10
  show IntOp.cmpi .eq (BitVec.ofNat 32 (0 * 8192 + n.val)) (broadcastTo S16x8192 far broadcasts_S16x1_S16x8192 (ix2 b n)) = _
  rw [spread_at, hk]
  have hn := n.isLt; have hk' := k.isLt
  simp only [IntOp.cmpi]
  by_cases h : n = k
  · subst h; simp
  · rw [if_neg h]
    have : (BitVec.ofNat 32 (0 * 8192 + n.val) == BitVec.ofNat 32 k.val) = false := by
      rw [beq_eq_false_iff_ne]
      intro e
      have := congrArg BitVec.toNat e
      simp only [BitVec.toNat_ofNat] at this
      exact h (Fin.ext (by omega))
    rw [this]; rfl

/-- The maximum over the lanes of a row shown at one lane only is the entry there. -/
theorem pick_at (v : FVec Ideal S16x8192 .f32) (b : Fin 16) (k : Fin 8192) (hk : far (ix2 b (0 : Fin 1)) = BitVec.ofNat 32 k.val) :
    shapeCast S16x1 (multiReduction .maximumf [1] S16 (select (k0_pay10 (F := Ideal) far) v
        (broadcast S16x8192 (Scalar.ofBits .f32 0xFF800000#32))) 0xFF800000#32 reduces_S16x8192_S16 (.inl rfl) rfl)
      shapeCasts_S16_S16x1 (ix2 b (0 : Fin 1)) = v (ix2 b k) := by
  rw [col_at]
  refine (max_at _ b).trans ?_
  have h : ∀ n : Fin 8192, select (k0_pay10 (F := Ideal) far) v (broadcast S16x8192 (Scalar.ofBits .f32 0xFF800000#32)) (ix2 b n)
      = if n = k then (v (ix2 b k) : EReal) else ⊥ := fun n => by
    rw [select_apply, sel_at far b k n hk]
    by_cases e : n = k
    · rw [if_pos e, if_pos e, select_one, e]
    · rw [if_neg e, if_neg e, select_zero]
      exact FirstMax.ofBits_bot
  simp only [h]
  refine le_antisymm ((Finset.fold_max_le _).2 ⟨bot_le, fun n _ => ?_⟩) ((Finset.le_fold_max _).2 (Or.inr ⟨k, Finset.mem_univ _, ?_⟩))
  · split
    · exact le_rfl
    · exact bot_le
  · rw [if_pos rfl]

variable (b : Fin 16) (k : Fin 8192) (hk : far (ix2 b (0 : Fin 1)) = BitVec.ofNat 32 k.val)
include hk

theorem pay14_at : k0_pay14 far x (ix2 b (0 : Fin 1)) = x (ix2 b k) := by
  unfold k0_pay14
  exact (pick_at far (k0_pay11 x) b k hk).trans (congrFun (shapeCast_self x _) _)
theorem pay15_at : k0_pay15 far y (ix2 b (0 : Fin 1)) = y (ix2 b k) := by
  unfold k0_pay15
  exact (pick_at far (k0_pay12 y) b k hk).trans (congrFun (shapeCast_self y _) _)
theorem pay16_at : k0_pay16 far z (ix2 b (0 : Fin 1)) = z (ix2 b k) := by
  unfold k0_pay16
  exact (pick_at far (k0_pay13 z) b k hk).trans (congrFun (shapeCast_self z _) _)

theorem out4_at : k0_pay17 far x (ix3 (0 : Fin 1) b (0 : Fin 1)) = x (ix2 b k) := by
  unfold k0_pay17
  exact (add_at _ b).trans (pay14_at x far b k hk)
theorem out5_at : k0_pay18 far y (ix3 (0 : Fin 1) b (0 : Fin 1)) = y (ix2 b k) := by
  unfold k0_pay18
  exact (add_at _ b).trans (pay15_at y far b k hk)
theorem out6_at : k0_pay1 (k0_pay16 far z) (ix3 (0 : Fin 1) b (0 : Fin 1)) = z (ix2 b k) := by
  unfold k0_pay1
  exact (add_at _ b).trans (pay16_at z far b k hk)

/-! ## The distances and the next row -/

/-- The squared distance of point `n` to the centre. -/
def sq (x y z : Vec Ideal S16x8192 .f32) (b : Fin 16) (k n : Fin 8192) : EReal :=
  ((x (ix2 b n) : EReal) - x (ix2 b k)) * (x (ix2 b n) - x (ix2 b k)) + (z (ix2 b n) - z (ix2 b k)) * (z (ix2 b n) - z (ix2 b k))
    + (y (ix2 b n) - y (ix2 b k)) * (y (ix2 b n) - y (ix2 b k))

theorem stepD_at (n : Fin 8192) : (stepD x y z d far (ix2 b n) : EReal)
    = if sq x y z b k n < d (ix2 b n) then sq x y z b k n else d (ix2 b n) := by
  unfold stepD k0_pay3
  rw [shapeCast_self]
  unfold k0_pay2
  rw [show k0_pay11 x = x from shapeCast_self _ _, show k0_pay12 y = y from shapeCast_self _ _, show k0_pay13 z = z from shapeCast_self _ _]
  have e1 := spread_at (k0_pay14 far x) b n
  have e2 := spread_at (k0_pay15 far y) b n
  have e3 := spread_at (k0_pay16 far z) b n
  rw [pay14_at x far b k hk] at e1
  rw [pay15_at y far b k hk] at e2
  rw [pay16_at z far b k hk] at e3
  have hD : (addf (addf (mulf (subf x (broadcastTo S16x8192 (k0_pay14 far x) broadcasts_S16x1_S16x8192)) (subf x (broadcastTo S16x8192 (k0_pay14 far x) broadcasts_S16x1_S16x8192)))
      (mulf (subf z (broadcastTo S16x8192 (k0_pay16 far z) broadcasts_S16x1_S16x8192)) (subf z (broadcastTo S16x8192 (k0_pay16 far z) broadcasts_S16x1_S16x8192))))
      (mulf (subf y (broadcastTo S16x8192 (k0_pay15 far y) broadcasts_S16x1_S16x8192)) (subf y (broadcastTo S16x8192 (k0_pay15 far y) broadcasts_S16x1_S16x8192)))) (ix2 b n)
      = sq x y z b k n := by
    show ((x (ix2 b n) : EReal) - broadcastTo S16x8192 (k0_pay14 far x) broadcasts_S16x1_S16x8192 (ix2 b n)) * (x (ix2 b n) - broadcastTo S16x8192 (k0_pay14 far x) broadcasts_S16x1_S16x8192 (ix2 b n))
      + (z (ix2 b n) - broadcastTo S16x8192 (k0_pay16 far z) broadcasts_S16x1_S16x8192 (ix2 b n)) * (z (ix2 b n) - broadcastTo S16x8192 (k0_pay16 far z) broadcasts_S16x1_S16x8192 (ix2 b n))
      + (y (ix2 b n) - broadcastTo S16x8192 (k0_pay15 far y) broadcasts_S16x1_S16x8192 (ix2 b n)) * (y (ix2 b n) - broadcastTo S16x8192 (k0_pay15 far y) broadcasts_S16x1_S16x8192 (ix2 b n)) = _
    rw [e1, e2, e3]; rfl
  rw [select_apply, cmpf_apply, hD]
  show Scalar.select (BitVec.ofBool (decide (sq x y z b k n < d (ix2 b n)))) _ _ = _
  by_cases h : sq x y z b k n < d (ix2 b n)
  · rw [if_pos h, decide_eq_true h]; rfl
  · rw [if_neg h, decide_eq_false h]; rfl

omit hk

/-- The next row is the first at which the distances are largest. -/
theorem stepF_at (q : Fin 8192) (hq : FirstMax.Is (fun n : Fin 8192 => (stepD x y z d far (ix2 b n) : EReal)) q) :
    stepF x y z d far (ix2 b (0 : Fin 1)) = BitVec.ofNat 32 q.val := by
  have hD : k0_pay2 (k0_pay11 x) (k0_pay12 y) (k0_pay13 z) (k0_pay14 far x) (k0_pay15 far y) (k0_pay16 far z) d = stepD x y z d far :=
    (shapeCast_self _ _).symm
  unfold stepF k0_pay5 k0_pay4
  rw [hD, shapeCast_self]
  generalize stepD x y z d far = D at hq ⊢
  dsimp only
  rw [col_at]
  refine (min_at _ b).trans (FirstMax.fold_min (by decide) hq _ fun n => ?_)
  have hm :=
    (spread_at _ b n).trans ((col_at _ b).trans ((max_at D b).trans (FirstMax.fold_max hq)))
  refine (congrArg (fun w : EReal => Scalar.select (BitVec.ofBool (decide ((D (ix2 b n) : EReal) = w))) (BitVec.ofNat 32 (0 * 8192 + n.val)) 8192#32) hm).trans ?_
  by_cases h : (D (ix2 b n) : EReal) = D (ix2 b q)
  · rw [if_pos h, decide_eq_true h, Nat.zero_mul, Nat.zero_add]; rfl
  · rw [if_neg h, decide_eq_false h]; rfl

end Cert.Proof.SampleIdeal

end
-- ==== Proof.SampleRefRun.lean ====
/-
  The reference of the sampling call, run: its operations before the loop, its loop's condition and body, and its operations
  after the loop, as lists; and the run of the whole, which leaves every array at the lists' fold of the arguments.
-/
module

public import proofs.«01_k».proof.Proof.Gen.SampleRefIdeal
public import Idealize.ShloMosaic.Lib.StableHlo.RunLoop
public import Idealize.ShloMosaic.Lib.Scf.ExitTest
public import Idealize.ShloMosaic.Lib.Scf.Counter
public import Idealize.ShloMosaic.Lib.Pipeline.Regions

@[expose] public section

set_option maxRecDepth 16384

noncomputable section

namespace Cert.Proof.SampleRef

open Cert.SampleRefIdeal Cert.SampleRefIdeal.Gen

open Idealize.ShloMosaic Idealize.ShloMosaic.StableHlo Idealize.ShloMosaic.TcCoe Idealize.SL.Sem Idealize.SL Idealize.SL.BI
open Idealize.ShloMosaic.Pipeline

variable {F : FTy → Type} [FloatOps F]

/-- The operations before the loop. -/
abbrev pre : List (HloOp τ sig (Elt F)) :=
  [ nullary main_c (constantI S_ 32 0#32),
    unary main_c main_v0 (broadcastInDim S16x1024 ![] bcast_S_S16x1024 : (⟨S_, .i32⟩ : BufTy).Contents (Elt F) → (⟨S16x1024, .i32⟩ : BufTy).Contents (Elt F)),
    nullary main_cst (constant S_ .f32 0x501502F9#32),
    unary main_cst main_v1 (broadcastInDim S16x8192 ![] bcast_S_S16x8192 : (⟨S_, .f32⟩ : BufTy).Contents (Elt F) → (⟨S16x8192, .f32⟩ : BufTy).Contents (Elt F)),
    nullary main_c_0 (constantI S_ 32 0#32),
    unary main_c_0 main_v2 (broadcastInDim S16 ![] bcast_S_S16 : (⟨S_, .i32⟩ : BufTy).Contents (Elt F) → (⟨S16, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id ]

theorem pre_sub : (pre : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

/-- The operations of the loop's condition. -/
abbrev condOps : List (HloOp τ sig (Elt F)) :=
  [ nullary main_while0c_c_8 (constantI S_ 32 1024#32),
    binary main_v3_1 main_while0c_c_8 main_while0c_v18 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ tcRefs τ sig :=
  ⟨nullary_bufs_sub .., binary_bufs_sub ..⟩

/-- The body's first part: the centre's number goes into the list of centres. -/
abbrev body0 : List (HloOp τ sig (Elt F)) :=
  [ nullary main_while0b_c_8 (constantI S_ 32 1#32),
    binary main_v3_2 main_while0b_c_8 main_while0b_v18 (addi : (⟨S_, .i32⟩ : BufTy).Contents (Elt F) → (⟨S_, .i32⟩ : BufTy).Contents (Elt F) → (⟨S_, .i32⟩ : BufTy).Contents (Elt F)),
    nullary main_while0b_c_9 (constantI S_ 32 0#32),
    binary main_v3_2 main_while0b_c_9 main_while0b_v19 (cmpi .slt : (⟨S_, .i32⟩ : BufTy).Contents (Elt F) → (⟨S_, .i32⟩ : BufTy).Contents (Elt F) → (⟨S_, .i1⟩ : BufTy).Contents (Elt F)),
    nullary main_while0b_c_10 (constantI S_ 32 1024#32),
    binary main_v3_2 main_while0b_c_10 main_while0b_v20 (addi : (⟨S_, .i32⟩ : BufTy).Contents (Elt F) → (⟨S_, .i32⟩ : BufTy).Contents (Elt F) → (⟨S_, .i32⟩ : BufTy).Contents (Elt F)),
    ternary main_while0b_v19 main_while0b_v20 main_v3_2 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v21 main_while0b_v22 (id : (⟨S_, .i32⟩ : BufTy).Contents (Elt F) → (⟨S_, .i32⟩ : BufTy).Contents (Elt F)),
    unary main_while0b_v22 main_while0b_v23 (broadcastInDim S1 ![] bcast_S_S1 : (⟨S_, .i32⟩ : BufTy).Contents (Elt F) → (⟨S1, .i32⟩ : BufTy).Contents (Elt F)),
    ternary main_v3_3 main_while0b_v23 main_v3_5 main_while0b_v24 ((fun x i u => Host.scatter scatter_S16x1024_S1_S16_0_1_1_0 (fun _ b => b) x i u) : (⟨S16x1024, .i32⟩ : BufTy).Contents (Elt F) → (⟨S1, .i32⟩ : BufTy).Contents (Elt F) → (⟨S16, .i32⟩ : BufTy).Contents (Elt F) → (⟨S16x1024, .i32⟩ : BufTy).Contents (Elt F)),
    unary main_v3_5 main_while0b_v25 (broadcastInDim S16x1x1 ![0] bcast_S16_S16x1x1_0 : (⟨S16, .i32⟩ : BufTy).Contents (Elt F) → (⟨S16x1x1, .i32⟩ : BufTy).Contents (Elt F)) ]

theorem body0_sub : (body0 : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub ..⟩

/-- The body's second part: the centre's coordinates are taken. -/
abbrev body1 : List (HloOp τ sig (Elt F)) :=
  [ TRef.nullary (TRef.of (T := ⟨S_, .i32⟩) main_while0b_call0_c) (constantI S_ 32 0#32),
    TRef.unary (TRef.of (T := ⟨S_, .i32⟩) main_while0b_call0_c) (TRef.of (T := ⟨S16x1x1, .i32⟩) main_while0b_call0_v0) (broadcastInDim S16x1x1 ![] bcast_S_S16x1x1),
    TRef.binary (TRef.of (T := ⟨S16x1x1, .i32⟩) main_while0b_v25) (TRef.of (T := ⟨S16x1x1, .i32⟩) main_while0b_call0_v0) (TRef.of (T := ⟨S16x1x1, .i1⟩) main_while0b_call0_v1) (cmpi .slt),
    TRef.nullary (TRef.of (T := ⟨S_, .i32⟩) main_while0b_call0_c_0) (constantI S_ 32 8192#32),
    TRef.unary (TRef.of (T := ⟨S_, .i32⟩) main_while0b_call0_c_0) (TRef.of (T := ⟨S16x1x1, .i32⟩) main_while0b_call0_v2) (broadcastInDim S16x1x1 ![] bcast_S_S16x1x1),
    TRef.binary (TRef.of (T := ⟨S16x1x1, .i32⟩) main_while0b_v25) (TRef.of (T := ⟨S16x1x1, .i32⟩) main_while0b_call0_v2) (TRef.of (T := ⟨S16x1x1, .i32⟩) main_while0b_call0_v3) addi,
    TRef.ternary (TRef.of (T := ⟨S16x1x1, .i1⟩) main_while0b_call0_v1) (TRef.of (T := ⟨S16x1x1, .i32⟩) main_while0b_call0_v3) (TRef.of (T := ⟨S16x1x1, .i32⟩) main_while0b_v25) (TRef.of (T := ⟨S16x1x1, .i32⟩) main_while0b_call0_v4) select,
    TRef.nullary (TRef.of (T := ⟨S1, .i32⟩) main_while0b_call0_c_1) (constantI S1 32 8191#32),
    TRef.nullary (TRef.of (T := ⟨S_, .i32⟩) main_while0b_call0_c_2) (constantI S_ 32 0#32),
    TRef.unary (TRef.of (T := ⟨S_, .i32⟩) main_while0b_call0_c_2) (TRef.of (T := ⟨S16x1x1, .i32⟩) main_while0b_call0_v5) (broadcastInDim S16x1x1 ![] bcast_S_S16x1x1),
    TRef.binary (TRef.of (T := ⟨S16x1x1, .i32⟩) main_while0b_call0_v4) (TRef.of (T := ⟨S16x1x1, .i32⟩) main_while0b_call0_v5) (TRef.of (T := ⟨S16x1x1, .i1⟩) main_while0b_call0_v6) (cmpi .sge),
    TRef.unary (TRef.of (T := ⟨S1, .i32⟩) main_while0b_call0_c_1) (TRef.of (T := ⟨S1x1x1, .i32⟩) main_while0b_call0_v7) (broadcastInDim S1x1x1 ![2] bcast_S1_S1x1x1_2),
    TRef.unary (TRef.of (T := ⟨S1x1x1, .i32⟩) main_while0b_call0_v7) (TRef.of (T := ⟨S16x1x1, .i32⟩) main_while0b_call0_v8) (broadcastInDim S16x1x1 ![0, 1, 2] bcast_S1x1x1_S16x1x1_0_1_2),
    TRef.binary (TRef.of (T := ⟨S16x1x1, .i32⟩) main_while0b_call0_v4) (TRef.of (T := ⟨S16x1x1, .i32⟩) main_while0b_call0_v8) (TRef.of (T := ⟨S16x1x1, .i1⟩) main_while0b_call0_v9) (cmpi .sle),
    TRef.binary (TRef.of (T := ⟨S16x1x1, .i1⟩) main_while0b_call0_v6) (TRef.of (T := ⟨S16x1x1, .i1⟩) main_while0b_call0_v9) (TRef.of (T := ⟨S16x1x1, .i1⟩) main_while0b_call0_v10) andi,
    TRef.nullary (TRef.of (T := ⟨S_, .i1⟩) main_while0b_call0_c_3) (constantI S_ 1 1#1),
    TRef.binary (TRef.of (T := ⟨S16x1x1, .i1⟩) main_while0b_call0_v10) (TRef.of (T := ⟨S_, .i1⟩) main_while0b_call0_c_3) (TRef.of (T := ⟨S16x1, .i1⟩) main_while0b_call0_v11) (fun x v => Host.reduce IntOp.andi x v reducesTo_S16x1x1_S16x1_d2 h_S_),
    TRef.binary (TRef.of (T := ⟨S16x8192x3, .f32⟩) main_v3_0) (TRef.of (T := ⟨S16x1x1, .i32⟩) main_while0b_call0_v4) (TRef.of (T := ⟨S16x1x3, .f32⟩) main_while0b_call0_v12) (fun x i => Host.gather gather_S16x8192x3_S16x1x1_S16x1x3_2_1_0_0_1_2_113 x i),
    TRef.unary (TRef.of (T := ⟨S16x1, .i1⟩) main_while0b_call0_v11) (TRef.of (T := ⟨S16x1x3, .i1⟩) main_while0b_call0_v13) (broadcastInDim S16x1x3 ![0, 1] bcast_S16x1_S16x1x3_0_1),
    TRef.nullary (TRef.of (T := ⟨S_, .f32⟩) main_while0b_call0_cst) (constant S_ .f32 0x7FC00000#32),
    TRef.unary (TRef.of (T := ⟨S_, .f32⟩) main_while0b_call0_cst) (TRef.of (T := ⟨S16x1x3, .f32⟩) main_while0b_call0_v14) (broadcastInDim S16x1x3 ![] bcast_S_S16x1x3),
    TRef.ternary (TRef.of (T := ⟨S16x1x3, .i1⟩) main_while0b_call0_v13) (TRef.of (T := ⟨S16x1x3, .f32⟩) main_while0b_call0_v12) (TRef.of (T := ⟨S16x1x3, .f32⟩) main_while0b_call0_v14) (TRef.of (T := ⟨S16x1x3, .f32⟩) main_while0b_v26) select ]

theorem body1_sub : (body1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The body's third part: the new distances and the farthest point. -/
abbrev body2 : List (HloOp τ sig (Elt F)) :=
  [ unary main_while0b_v26 main_while0b_v27 (broadcastInDim S16x8192x3 ![0, 1, 2] bcast_S16x1x3_S16x8192x3_0_1_2 : (⟨S16x1x3, .f32⟩ : BufTy).Contents (Elt F) → (⟨S16x8192x3, .f32⟩ : BufTy).Contents (Elt F)),
    binary main_v3_0 main_while0b_v27 main_while0b_v28 (subf : (⟨S16x8192x3, .f32⟩ : BufTy).Contents (Elt F) → (⟨S16x8192x3, .f32⟩ : BufTy).Contents (Elt F) → (⟨S16x8192x3, .f32⟩ : BufTy).Contents (Elt F)),
    binary main_while0b_v28 main_while0b_v28 main_while0b_v29 (mulf : (⟨S16x8192x3, .f32⟩ : BufTy).Contents (Elt F) → (⟨S16x8192x3, .f32⟩ : BufTy).Contents (Elt F) → (⟨S16x8192x3, .f32⟩ : BufTy).Contents (Elt F)),
    nullary main_while0b_cst_11 (constant S_ .f32 0x00000000#32),
    binary main_while0b_v29 main_while0b_cst_11 main_while0b_v30 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    binary main_while0b_v30 main_v3_4 main_while0b_v31 (cmpf .olt : (⟨S16x8192, .f32⟩ : BufTy).Contents (Elt F) → (⟨S16x8192, .f32⟩ : BufTy).Contents (Elt F) → (⟨S16x8192, .i1⟩ : BufTy).Contents (Elt F)),
    TRef.ternary (TRef.of (T := ⟨S16x8192, .i1⟩) main_while0b_v31) (TRef.of (T := ⟨S16x8192, .f32⟩) main_while0b_v30) (TRef.of (T := ⟨S16x8192, .f32⟩) main_v3_4) (TRef.of (T := ⟨S16x8192, .f32⟩) main_while0b_v32) select,
    TRef.nullary (TRef.of (T := ⟨S16x8192, .i32⟩) main_while0b_call2_v0) (iotaInDim S16x8192 32 1),
    TRef.nullary (TRef.of (T := ⟨S_, .f32⟩) main_while0b_call2_cst) (constant S_ .f32 0xFF800000#32),
    TRef.nullary (TRef.of (T := ⟨S_, .i32⟩) main_while0b_call2_c) (constantI S_ 32 0#32),
    TRef.quaternary (TRef.of (T := ⟨S16x8192, .f32⟩) main_while0b_v32) (TRef.of (T := ⟨S16x8192, .i32⟩) main_while0b_call2_v0) (TRef.of (T := ⟨S_, .f32⟩) main_while0b_call2_cst) (TRef.of (T := ⟨S_, .i32⟩) main_while0b_call2_c) (TRef.of (T := ⟨S16, .f32⟩) main_while0b_call2_v1_0) (fun x y u v j => (Host.argReduce reducer_argmax_f32_i32 x y u v reducesTo_S16x8192_S16_d1 h_S_ j).1),
    TRef.quaternary (TRef.of (T := ⟨S16x8192, .f32⟩) main_while0b_v32) (TRef.of (T := ⟨S16x8192, .i32⟩) main_while0b_call2_v0) (TRef.of (T := ⟨S_, .f32⟩) main_while0b_call2_cst) (TRef.of (T := ⟨S_, .i32⟩) main_while0b_call2_c) (TRef.of (T := ⟨S16, .i32⟩) main_while0b_v33) (fun x y u v j => (Host.argReduce reducer_argmax_f32_i32 x y u v reducesTo_S16x8192_S16_d1 h_S_ j).2) ]

theorem body2_sub : (body2 : List (HloOp τ sig (Elt F))).Forall fun op => op.bufs ⊆ tcRefs τ sig :=
  ⟨unary_bufs_sub .., binary_bufs_sub .., binary_bufs_sub .., nullary_bufs_sub .., binary_bufs_sub .., binary_bufs_sub .., ternary_bufs_sub .., nullary_bufs_sub .., nullary_bufs_sub .., nullary_bufs_sub .., quaternary_bufs_sub .., quaternary_bufs_sub ..⟩

/-- The body's end: the counter, and the carried arrays are written back. -/
abbrev body3 : List (HloOp τ sig (Elt F)) :=
  [ nullary main_while0b_c_12 (constantI S_ 32 1#32),
    binary main_v3_1 main_while0b_c_12 main_while0b_v34 (addi : (⟨S_, .i32⟩ : BufTy).Contents (Elt F) → (⟨S_, .i32⟩ : BufTy).Contents (Elt F) → (⟨S_, .i32⟩ : BufTy).Contents (Elt F)),
    unary main_while0b_v34 main_v3_1 id,
    unary main_while0b_v18 main_v3_2 id,
    unary main_while0b_v24 main_v3_3 id,
    unary main_while0b_v32 main_v3_4 id,
    unary main_while0b_v33 main_v3_5 id ]

theorem body3_sub : (body3 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

/-- After the loop: the list of centres as indices. -/
abbrev post0 : List (HloOp τ sig (Elt F)) :=
  [ unary main_v3_3 main_v4 (broadcastInDim S16x1024x1 ![0, 1] bcast_S16x1024_S16x1024x1_0_1 : (⟨S16x1024, .i32⟩ : BufTy).Contents (Elt F) → (⟨S16x1024x1, .i32⟩ : BufTy).Contents (Elt F)) ]

theorem post0_sub : (post0 : List (HloOp τ sig (Elt F))).Forall fun op => op.bufs ⊆ tcRefs τ sig :=
  unary_bufs_sub ..

/-- After the loop: the centres are taken. -/
abbrev post1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16x1024x1, .i32⟩) main_call3_v0) (broadcastInDim S16x1024x1 ![] bcast_S_S16x1024x1),
    TRef.binary (TRef.of (T := ⟨S16x1024x1, .i32⟩) main_v4) (TRef.of (T := ⟨S16x1024x1, .i32⟩) main_call3_v0) (TRef.of (T := ⟨S16x1024x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S16x1024x1, .i32⟩) main_call3_v2) (broadcastInDim S16x1024x1 ![] bcast_S_S16x1024x1),
    TRef.binary (TRef.of (T := ⟨S16x1024x1, .i32⟩) main_v4) (TRef.of (T := ⟨S16x1024x1, .i32⟩) main_call3_v2) (TRef.of (T := ⟨S16x1024x1, .i32⟩) main_call3_v3) addi,
    TRef.ternary (TRef.of (T := ⟨S16x1024x1, .i1⟩) main_call3_v1) (TRef.of (T := ⟨S16x1024x1, .i32⟩) main_call3_v3) (TRef.of (T := ⟨S16x1024x1, .i32⟩) main_v4) (TRef.of (T := ⟨S16x1024x1, .i32⟩) main_call3_v4) select,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S16x1024x1, .i32⟩) main_call3_v5) (broadcastInDim S16x1024x1 ![] bcast_S_S16x1024x1),
    TRef.binary (TRef.of (T := ⟨S16x1024x1, .i32⟩) main_call3_v4) (TRef.of (T := ⟨S16x1024x1, .i32⟩) main_call3_v5) (TRef.of (T := ⟨S16x1024x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S16x1024x1, .i32⟩) main_call3_v8) (broadcastInDim S16x1024x1 ![0, 1, 2] bcast_S1x1x1_S16x1024x1_0_1_2),
    TRef.binary (TRef.of (T := ⟨S16x1024x1, .i32⟩) main_call3_v4) (TRef.of (T := ⟨S16x1024x1, .i32⟩) main_call3_v8) (TRef.of (T := ⟨S16x1024x1, .i1⟩) main_call3_v9) (cmpi .sle),
    TRef.binary (TRef.of (T := ⟨S16x1024x1, .i1⟩) main_call3_v6) (TRef.of (T := ⟨S16x1024x1, .i1⟩) main_call3_v9) (TRef.of (T := ⟨S16x1024x1, .i1⟩) main_call3_v10) andi,
    TRef.nullary (TRef.of (T := ⟨S_, .i1⟩) main_call3_c_3) (constantI S_ 1 1#1),
    TRef.binary (TRef.of (T := ⟨S16x1024x1, .i1⟩) main_call3_v10) (TRef.of (T := ⟨S_, .i1⟩) main_call3_c_3) (TRef.of (T := ⟨S16x1024, .i1⟩) main_call3_v11) (fun x v => Host.reduce IntOp.andi x v reducesTo_S16x1024x1_S16x1024_d2 h_S_),
    TRef.binary (TRef.of (T := ⟨S16x8192x3, .f32⟩) main_arg0) (TRef.of (T := ⟨S16x1024x1, .i32⟩) main_call3_v4) (TRef.of (T := ⟨S16x1024x3, .f32⟩) main_call3_v12) (fun x i => Host.gather gather_S16x8192x3_S16x1024x1_S16x1024x3_2_1_0_0_1_2_113 x i),
    TRef.unary (TRef.of (T := ⟨S16x1024, .i1⟩) main_call3_v11) (TRef.of (T := ⟨S16x1024x3, .i1⟩) main_call3_v13) (broadcastInDim S16x1024x3 ![0, 1] bcast_S16x1024_S16x1024x3_0_1),
    TRef.nullary (TRef.of (T := ⟨S_, .f32⟩) main_call3_cst) (constant S_ .f32 0x7FC00000#32),
    TRef.unary (TRef.of (T := ⟨S_, .f32⟩) main_call3_cst) (TRef.of (T := ⟨S16x1024x3, .f32⟩) main_call3_v14) (broadcastInDim S16x1024x3 ![] bcast_S_S16x1024x3),
    TRef.ternary (TRef.of (T := ⟨S16x1024x3, .i1⟩) main_call3_v13) (TRef.of (T := ⟨S16x1024x3, .f32⟩) main_call3_v12) (TRef.of (T := ⟨S16x1024x3, .f32⟩) main_call3_v14) (TRef.of (T := ⟨S16x1024x3, .f32⟩) main_v5) select ]

theorem post1_sub : (post1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- After the loop: the three coordinates apart, centre first. -/
abbrev post2 : List (HloOp τ sig (Elt F)) :=
  [ unary main_v5 main_v6 ((extractStridedSlice S16x1024x1 ![0, 0, 0] · slices_S16x1024x3_S16x1024x1_0_0_0) : (⟨S16x1024x3, .f32⟩ : BufTy).Contents (Elt F) → (⟨S16x1024x1, .f32⟩ : BufTy).Contents (Elt F)),
    reshape main_v6 main_v7 (rfl : (.f32 : EltTy) = .f32) shapeCasts_S16x1024x1_S16x1024,
    unary main_v7 main_v8 ((transpose S1024x16 [1, 0] · transposes_S16x1024_S1024x16_1_0) : (⟨S16x1024, .f32⟩ : BufTy).Contents (Elt F) → (⟨S1024x16, .f32⟩ : BufTy).Contents (Elt F)),
    unary main_v8 main_v9 (broadcastInDim S1024x16x1 ![0, 1] bcast_S1024x16_S1024x16x1_0_1 : (⟨S1024x16, .f32⟩ : BufTy).Contents (Elt F) → (⟨S1024x16x1, .f32⟩ : BufTy).Contents (Elt F)),
    unary main_v5 main_v10 ((extractStridedSlice S16x1024x1 ![0, 0, 1] · slices_S16x1024x3_S16x1024x1_0_0_1) : (⟨S16x1024x3, .f32⟩ : BufTy).Contents (Elt F) → (⟨S16x1024x1, .f32⟩ : BufTy).Contents (Elt F)),
    reshape main_v10 main_v11 (rfl : (.f32 : EltTy) = .f32) shapeCasts_S16x1024x1_S16x1024,
    unary main_v11 main_v12 ((transpose S1024x16 [1, 0] · transposes_S16x1024_S1024x16_1_0) : (⟨S16x1024, .f32⟩ : BufTy).Contents (Elt F) → (⟨S1024x16, .f32⟩ : BufTy).Contents (Elt F)),
    unary main_v12 main_v13 (broadcastInDim S1024x16x1 ![0, 1] bcast_S1024x16_S1024x16x1_0_1 : (⟨S1024x16, .f32⟩ : BufTy).Contents (Elt F) → (⟨S1024x16x1, .f32⟩ : BufTy).Contents (Elt F)),
    unary main_v5 main_v14 ((extractStridedSlice S16x1024x1 ![0, 0, 2] · slices_S16x1024x3_S16x1024x1_0_0_2) : (⟨S16x1024x3, .f32⟩ : BufTy).Contents (Elt F) → (⟨S16x1024x1, .f32⟩ : BufTy).Contents (Elt F)),
    reshape main_v14 main_v15 (rfl : (.f32 : EltTy) = .f32) shapeCasts_S16x1024x1_S16x1024,
    unary main_v15 main_v16 ((transpose S1024x16 [1, 0] · transposes_S16x1024_S1024x16_1_0) : (⟨S16x1024, .f32⟩ : BufTy).Contents (Elt F) → (⟨S1024x16, .f32⟩ : BufTy).Contents (Elt F)),
    unary main_v16 main_v17 (broadcastInDim S1024x16x1 ![0, 1] bcast_S1024x16_S1024x16x1_0_1 : (⟨S1024x16, .f32⟩ : BufTy).Contents (Elt F) → (⟨S1024x16x1, .f32⟩ : BufTy).Contents (Elt F)) ]

theorem post2_sub : (post2 : List (HloOp τ sig (Elt F))).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., unary_bufs_sub .., reshape_bufs_sub .., unary_bufs_sub .., unary_bufs_sub ..⟩

/-- The loop's body as its four parts, and what stands around the loop. -/
abbrev preI : List (List (HloOp τ sig (Elt F))) := [pre]
abbrev bodyI : List (List (HloOp τ sig (Elt F))) := [body0, body1, body2, body3]
abbrev postI : List (List (HloOp τ sig (Elt F))) := [post0, post1, post2]

theorem plain_pre : Plain (preI (F := F)) := .cons pre_sub .nil
theorem plain_body : Plain (bodyI (F := F)) := .cons body0_sub (.cons body1_sub (.cons body2_sub (.cons body3_sub .nil)))
theorem plain_post : Plain (postI (F := F)) := .cons post0_sub (.cons post1_sub (.cons post2_sub .nil))

theorem main_eq (c : Dev nD) : main (F := F) c
    = Pipeline.chain ((preI.map fun ops => (seq ops : Prog _ PUnit)) ++ HostLoop.enter 0 :: postI.map fun ops => (seq ops : Prog _ PUnit)) := by
  show _ = Pipeline.chain [seq pre, HostLoop.enter 0, seq post0, seq post1, seq post2]
  rewrite [StableHlo.chain_seq_cons, Pipeline.chain_cons, StableHlo.chain_seq_cons, StableHlo.chain_seq_cons, StableHlo.chain_seq_cons]
  chain_rfl

theorem body_eq : main_while0_body (F := F) = Pipeline.chain (bodyI.map fun ops => (seq ops : Prog _ PUnit)) := by
  show _ = Pipeline.chain [seq body0, seq body1, seq body2, seq body3]
  rewrite [StableHlo.chain_seq_cons, StableHlo.chain_seq_cons, StableHlo.chain_seq_cons, StableHlo.chain_seq_cons]
  chain_rfl

/-! ## What the body computes -/

/-- The column's number as the scatter's index word. -/
def wrapIdx (i : IVec S_ 32) : IVec S1 32 :=
  broadcastInDim S1 ![] bcast_S_S1 (id (select (cmpi .slt i (constantI S_ 32 0#32)) (addi i (constantI S_ 32 1024#32)) i))

/-- The list of centres with column `i` set. -/
def put (l : IVec S16x1024 32) (i : IVec S_ 32) (far : IVec S16 32) : IVec S16x1024 32 :=
  Host.scatter scatter_S16x1024_S1_S16_0_1_1_0 (fun _ b => b) l (wrapIdx i) far

/-- A negative index word counted from the end. -/
def wrap1 (w : IVec S16x1x1 32) : IVec S16x1x1 32 :=
  select (cmpi .slt w (broadcastInDim S16x1x1 ![] bcast_S_S16x1x1 (constantI S_ 32 0#32)))
    (addi w (broadcastInDim S16x1x1 ![] bcast_S_S16x1x1 (constantI S_ 32 8192#32))) w

/-- The points that the index words name, one per batch. -/
def take1 (x : FVec F S16x8192x3 .f32) (w : IVec S16x1x1 32) : FVec F S16x1x3 .f32 :=
  select (broadcastInDim S16x1x3 ![0, 1] bcast_S16x1_S16x1x3_0_1
      (Host.reduce IntOp.andi (andi (cmpi .sge (wrap1 w) (broadcastInDim S16x1x1 ![] bcast_S_S16x1x1 (constantI S_ 32 0#32)))
          (cmpi .sle (wrap1 w) (broadcastInDim S16x1x1 ![0, 1, 2] bcast_S1x1x1_S16x1x1_0_1_2
            (broadcastInDim S1x1x1 ![2] bcast_S1_S1x1x1_2 (constantI S1 32 8191#32)))))
        (constantI S_ 1 1#1) reducesTo_S16x1x1_S16x1_d2 h_S_))
    (Host.gather gather_S16x8192x3_S16x1x1_S16x1x3_2_1_0_0_1_2_113 x (wrap1 w))
    (broadcastInDim S16x1x3 ![] bcast_S_S16x1x3 (constant S_ .f32 0x7FC00000#32))

/-- The squared distances to one point per batch. -/
def dist2 (x : FVec F S16x8192x3 .f32) (p : FVec F S16x1x3 .f32) : FVec F S16x8192 .f32 :=
  Host.reduceAdd (mulf (subf x (broadcastInDim S16x8192x3 ![0, 1, 2] bcast_S16x1x3_S16x8192x3_0_1_2 p))
      (subf x (broadcastInDim S16x8192x3 ![0, 1, 2] bcast_S16x1x3_S16x8192x3_0_1_2 p)))
    (constant S_ .f32 0x00000000#32) reducesTo_S16x8192x3_S16x8192_d2 h_S_

/-- The distances to the nearest centre, with one more centre: point `far` of each batch. -/
def nextDist (x : FVec F S16x8192x3 .f32) (d : FVec F S16x8192 .f32) (far : IVec S16 32) : FVec F S16x8192 .f32 :=
  select (cmpf .olt (dist2 x (take1 x (broadcastInDim S16x1x1 ![0] bcast_S16_S16x1x1_0 far))) d)
    (dist2 x (take1 x (broadcastInDim S16x1x1 ![0] bcast_S16_S16x1x1_0 far))) d

/-- The number of the farthest point, per batch. -/
def nextFar (d : FVec F S16x8192 .f32) : IVec S16 32 := fun j =>
  (Host.argReduce reducer_argmax_f32_i32 d (iotaInDim S16x8192 32 1) (constant S_ .f32 0xFF800000#32) (constantI S_ 32 0#32)
    reducesTo_S16x8192_S16_d1 h_S_ j).2

theorem body_xyz (V : Valuation τ sig (Elt F)) : afterL bodyI V main_v3_0 = V main_v3_0 := by
  simp only [bodyI, afterL, body0, body1, body2, body3, TRef.binary, TRef.nullary, TRef.ternary, TRef.unary, TRef.quaternary, TRef.toBuf, TRef.ofBuf, cast_eq]
  after_results <;> rfl

theorem body_arg (V : Valuation τ sig (Elt F)) : afterL bodyI V main_arg0 = V main_arg0 := by
  simp only [bodyI, afterL, body0, body1, body2, body3, TRef.binary, TRef.nullary, TRef.ternary, TRef.unary, TRef.quaternary, TRef.toBuf, TRef.ofBuf, cast_eq]
  after_results <;> rfl

theorem body_ctr (V : Valuation τ sig (Elt F)) :
    (afterL bodyI V main_v3_1 : (⟨S_, .i32⟩ : BufTy).Contents (Elt F))
      = addi (V main_v3_1 : (⟨S_, .i32⟩ : BufTy).Contents (Elt F)) (constantI S_ 32 1#32) := by
  simp only [bodyI, afterL, body0, body1, body2, body3, TRef.binary, TRef.nullary, TRef.ternary, TRef.unary, TRef.quaternary, TRef.toBuf, TRef.ofBuf, cast_eq]
  after_results <;> rfl

theorem body_pos (V : Valuation τ sig (Elt F)) :
    (afterL bodyI V main_v3_2 : (⟨S_, .i32⟩ : BufTy).Contents (Elt F))
      = addi (V main_v3_2 : (⟨S_, .i32⟩ : BufTy).Contents (Elt F)) (constantI S_ 32 1#32) := by
  simp only [bodyI, afterL, body0, body1, body2, body3, TRef.binary, TRef.nullary, TRef.ternary, TRef.unary, TRef.quaternary, TRef.toBuf, TRef.ofBuf, cast_eq]
  after_results <;> rfl

theorem body_list (V : Valuation τ sig (Elt F)) :
    (afterL bodyI V main_v3_3 : (⟨S16x1024, .i32⟩ : BufTy).Contents (Elt F))
      = put (V main_v3_3 : (⟨S16x1024, .i32⟩ : BufTy).Contents (Elt F)) (V main_v3_2 : (⟨S_, .i32⟩ : BufTy).Contents (Elt F))
          (V main_v3_5 : (⟨S16, .i32⟩ : BufTy).Contents (Elt F)) := by
  simp only [bodyI, afterL, body0, body1, body2, body3, TRef.binary, TRef.nullary, TRef.ternary, TRef.unary, TRef.quaternary, TRef.toBuf, TRef.ofBuf, cast_eq]
  after_results
  exact id_eq _

set_option maxHeartbeats 4000000 in
theorem body_dist (V : Valuation τ sig (Elt F)) :
    (afterL bodyI V main_v3_4 : (⟨S16x8192, .f32⟩ : BufTy).Contents (Elt F))
      = nextDist (V main_v3_0 : (⟨S16x8192x3, .f32⟩ : BufTy).Contents (Elt F)) (V main_v3_4 : (⟨S16x8192, .f32⟩ : BufTy).Contents (Elt F))
          (V main_v3_5 : (⟨S16, .i32⟩ : BufTy).Contents (Elt F)) := by
  simp only [bodyI, afterL, body0, body1, body2, body3, TRef.binary, TRef.nullary, TRef.ternary, TRef.unary, TRef.quaternary, TRef.toBuf, TRef.ofBuf, cast_eq]
  after_results <;> rfl

set_option maxHeartbeats 4000000 in
theorem body_far (V : Valuation τ sig (Elt F)) :
    (afterL bodyI V main_v3_5 : (⟨S16, .i32⟩ : BufTy).Contents (Elt F))
      = nextFar (nextDist (V main_v3_0 : (⟨S16x8192x3, .f32⟩ : BufTy).Contents (Elt F)) (V main_v3_4 : (⟨S16x8192, .f32⟩ : BufTy).Contents (Elt F))
          (V main_v3_5 : (⟨S16, .i32⟩ : BufTy).Contents (Elt F))) := by
  simp only [bodyI, afterL, body0, body1, body2, body3, TRef.binary, TRef.nullary, TRef.ternary, TRef.unary, TRef.quaternary, TRef.toBuf, TRef.ofBuf, cast_eq]
  after_results <;> rfl

/-! ## What the condition and the two ends compute -/

theorem cond_keep (V : Valuation τ sig (Elt F)) (b : Ref sig .tc) (h₁ : b ≠ main_while0c_c_8) (h₂ : b ≠ main_while0c_v18) :
    after condOps V (Proc.devRef .tc b) = V (Proc.devRef .tc b) := by
  simp only [after_cons, after_nil]
  rw [binary_result_ne (h := h₂), nullary_result_ne (h := h₁)]

end Cert.Proof.SampleRef

end
-- ==== Proof.SampleRef.lean ====
/-
  The reference of the sampling call, over all its trips: trip `n` finds the distances and the farthest points that `n`
  trips before it left; the whole run ends with the list of the 1024 farthest points, its points taken and their
  coordinates set apart, and the argument unchanged.
-/
module

public import proofs.«01_k».proof.Proof.SampleRefRun

@[expose] public section

set_option maxRecDepth 16384

noncomputable section

namespace Cert.Proof.SampleRef

open Cert.SampleRefIdeal Cert.SampleRefIdeal.Gen

open Idealize.ShloMosaic Idealize.ShloMosaic.StableHlo Idealize.ShloMosaic.TcCoe Idealize.SL.Sem Idealize.SL Idealize.SL.BI
open Idealize.ShloMosaic.Pipeline

variable {F : FTy → Type} [FloatOps F]

/-- The distances and the farthest points before trip `n`. -/
def st (x : FVec F S16x8192x3 .f32) : ℕ → FVec F S16x8192 .f32 × IVec S16 32
  | 0 => (broadcastInDim S16x8192 ![] bcast_S_S16x8192 (constant S_ .f32 0x501502F9#32), broadcastInDim S16 ![] bcast_S_S16 (constantI S_ 32 0#32))
  | n + 1 => (nextDist x (st x n).1 (st x n).2, nextFar (nextDist x (st x n).1 (st x n).2))

theorem st_dist (x : FVec F S16x8192x3 .f32) (n : ℕ) : (st x (n + 1)).1 = nextDist x (st x n).1 (st x n).2 := by rw [st]
theorem st_far (x : FVec F S16x8192x3 .f32) (n : ℕ) : (st x (n + 1)).2 = nextFar (st x (n + 1)).1 := by rw [st]

/-- The list of centres before trip `n`. -/
def lst (x : FVec F S16x8192x3 .f32) : ℕ → IVec S16x1024 32
  | 0 => broadcastInDim S16x1024 ![] bcast_S_S16x1024 (constantI S_ 32 0#32)
  | n + 1 => put (lst x n) (fun _ => Scf.iv 0#32 1#32 n) (st x n).2

/-- The carried arrays of a valuation. -/
def Carries (V : Valuation τ sig (Elt F)) (x : FVec F S16x8192x3 .f32) (n : ℕ) : Prop :=
  (V main_arg0 : FVec F S16x8192x3 .f32) = x
    ∧ (V main_v3_0 : FVec F S16x8192x3 .f32) = x
    ∧ (V main_v3_1 : IVec S_ 32) = (fun _ => Scf.iv 0#32 1#32 n)
    ∧ (V main_v3_2 : IVec S_ 32) = (fun _ => Scf.iv 0#32 1#32 n)
    ∧ (V main_v3_3 : IVec S16x1024 32) = lst x n
    ∧ (V main_v3_4 : FVec F S16x8192 .f32) = (st x n).1
    ∧ (V main_v3_5 : IVec S16 32) = (st x n).2

theorem carries_cond {V : Valuation τ sig (Elt F)} {x : FVec F S16x8192x3 .f32} {n : ℕ} (h : Carries V x n) : Carries (after condOps V) x n := by
  obtain ⟨ha, h0, h1, h2, h3, h4, h5⟩ := h
  exact ⟨(cond_keep V main_arg0 (by decide) (by decide)).trans ha, (cond_keep V main_v3_0 (by decide) (by decide)).trans h0,
    (cond_keep V main_v3_1 (by decide) (by decide)).trans h1, (cond_keep V main_v3_2 (by decide) (by decide)).trans h2,
    (cond_keep V main_v3_3 (by decide) (by decide)).trans h3, (cond_keep V main_v3_4 (by decide) (by decide)).trans h4,
    (cond_keep V main_v3_5 (by decide) (by decide)).trans h5⟩

theorem iv_step (n : ℕ) : addi (fun _ => Scf.iv 0#32 1#32 n : IVec S_ 32) (constantI S_ 32 1#32) = fun _ => Scf.iv 0#32 1#32 (n + 1) :=
  funext fun _ => (Scf.iv_succ 0#32 1#32 n).symm

theorem put_congr {l l' : IVec S16x1024 32} {i i' : IVec S_ 32} {f f' : IVec S16 32} (hl : l = l') (hi : i = i') (hf : f = f') :
    put l i f = put l' i' f' := by subst hl hi hf; rfl

theorem carries_body {V : Valuation τ sig (Elt F)} {x : FVec F S16x8192x3 .f32} {n : ℕ} (h : Carries V x n) : Carries (afterL bodyI V) x (n + 1) := by
  obtain ⟨ha, h0, h1, h2, h3, h4, h5⟩ := h
  refine ⟨(body_arg V).trans ha, (body_xyz V).trans h0, (body_ctr V).trans ?_, (body_pos V).trans ?_, (body_list V).trans ?_,
    (body_dist V).trans ?_, (body_far V).trans ?_⟩
  · rw [h1]; exact iv_step n
  · rw [h2]; exact iv_step n
  · rw [lst]; exact put_congr h3 h2 h5
  · rw [h0, h4, h5, st]
  · rw [h0, h4, h5, st]

theorem pre_arg (V : Valuation τ sig (Elt F)) : afterL preI V main_arg0 = V main_arg0 := by
  simp only [preI, afterL]
  after_results

theorem carries_pre (V : Valuation τ sig (Elt F)) : Carries (afterL preI V) (V main_arg0 : FVec F S16x8192x3 .f32) 0 := by
  refine ⟨pre_arg V, ?_, ?_, ?_, ?_, ?_, ?_⟩
  · simp only [preI, afterL]; after_results <;> rfl
  · simp only [preI, afterL]; after_results <;> exact (id_eq _).trans (funext fun _ => (Scf.iv_zero 0#32 1#32).symm)
  · simp only [preI, afterL]; after_results <;> exact (id_eq _).trans (funext fun _ => (Scf.iv_zero 0#32 1#32).symm)
  · simp only [preI, afterL]; after_results <;> rfl
  · simp only [preI, afterL]; after_results <;> rfl
  · simp only [preI, afterL]; after_results <;> rfl

variable (m : (ℓ : Loc nD τ sig) → Buf (Elt F) ℓ)

/-- The argument at launch. -/
def arg (c : Dev nD) : FVec F S16x8192x3 .f32 := m ((c.tc : Thread nD τ).loc main_arg0)

theorem carries (n : ℕ) (c : Dev nD) : Carries (atTrip condOps bodyI (entryContents preI m) n c) (arg m c) n := by
  induction n with
  | zero => exact carries_pre (launchContents m c)
  | succ n ih => exact carries_body (carries_cond ih)

set_option backward.isDefEq.respectTransparency.types false in
/-- The condition before trip `k`: the counter is `k`, so the loop goes on while `k < 1024`. -/
theorem cond_spec [∀ e, Nonempty (Elt F e)] :
    CondSpec (pcfgs (F := F)) defs₀ loops main_while0_cond condOps bodyI (entryContents preI m) 1024 := by
  intro k hk c bd
  have hctr := (carries m k c).2.2.1
  generalize atTrip condOps bodyI (entryContents preI m) k c = V at hctr ⊢
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v3_1 HostLoop.idx0)
        (HloOp.result _ V main_while0c_c_8 HostLoop.idx0) = 1#1) (k < 1024)
    have e₁ : HloOp.result (nullary main_while0c_c_8 (constantI S_ 32 1024#32)) V main_v3_1 = V main_v3_1 :=
      StableHlo.nullary_result_ne (y := main_while0c_c_8) _ _ V (by decide)
    have e₂ : HloOp.result (nullary main_while0c_c_8 (constantI S_ 32 1024#32)) V main_while0c_c_8 = constantI S_ 32 1024#32 :=
      StableHlo.nullary_result (y := main_while0c_c_8) _ _ V
    rw [e₁, e₂, hctr]
    exact Scf.cmpi_slt_iv_ub_iff main_while0_ok hk
  isplitl [Hb]; · iexact Hb
  rw [StableHlo.after_cons, StableHlo.after_cons, StableHlo.after_nil]; iexact Hh

/-! ## The end -/

/-- A negative index word of the list counted from the end. -/
def wrap0 (w : IVec S16x1024x1 32) : IVec S16x1024x1 32 :=
  select (cmpi .slt w (broadcastInDim S16x1024x1 ![] bcast_S_S16x1024x1 (constantI S_ 32 0#32)))
    (addi w (broadcastInDim S16x1024x1 ![] bcast_S_S16x1024x1 (constantI S_ 32 8192#32))) w

/-- The points that the list names. -/
def take0 (x : FVec F S16x8192x3 .f32) (w : IVec S16x1024x1 32) : FVec F S16x1024x3 .f32 :=
  select (broadcastInDim S16x1024x3 ![0, 1] bcast_S16x1024_S16x1024x3_0_1
      (Host.reduce IntOp.andi (andi (cmpi .sge (wrap0 w) (broadcastInDim S16x1024x1 ![] bcast_S_S16x1024x1 (constantI S_ 32 0#32)))
          (cmpi .sle (wrap0 w) (broadcastInDim S16x1024x1 ![0, 1, 2] bcast_S1x1x1_S16x1024x1_0_1_2
            (broadcastInDim S1x1x1 ![2] bcast_S1_S1x1x1_2 (constantI S1 32 8191#32)))))
        (constantI S_ 1 1#1) reducesTo_S16x1024x1_S16x1024_d2 h_S_))
    (Host.gather gather_S16x8192x3_S16x1024x1_S16x1024x3_2_1_0_0_1_2_113 x (wrap0 w))
    (broadcastInDim S16x1024x3 ![] bcast_S_S16x1024x3 (constant S_ .f32 0x7FC00000#32))

/-- The centres. -/
def centres (x : FVec F S16x8192x3 .f32) : FVec F S16x1024x3 .f32 :=
  take0 x (broadcastInDim S16x1024x1 ![0, 1] bcast_S16x1024_S16x1024x1_0_1 (lst x 1024))

/-- One coordinate of the centres, centre first. -/
def plane (q : S16x1024x1.Idx → F .f32) : FVec F S1024x16x1 .f32 :=
  broadcastInDim S1024x16x1 ![0, 1] bcast_S1024x16_S1024x16x1_0_1
    (transpose S1024x16 [1, 0] (shapeCast S16x1024 q shapeCasts_S16x1024x1_S16x1024) transposes_S16x1024_S1024x16_1_0)

def xs (x : FVec F S16x8192x3 .f32) : FVec F S1024x16x1 .f32 :=
  plane (extractStridedSlice S16x1024x1 ![0, 0, 0] (centres x) slices_S16x1024x3_S16x1024x1_0_0_0)
def ys (x : FVec F S16x8192x3 .f32) : FVec F S1024x16x1 .f32 :=
  plane (extractStridedSlice S16x1024x1 ![0, 0, 1] (centres x) slices_S16x1024x3_S16x1024x1_0_0_1)
def zs (x : FVec F S16x8192x3 .f32) : FVec F S1024x16x1 .f32 :=
  plane (extractStridedSlice S16x1024x1 ![0, 0, 2] (centres x) slices_S16x1024x3_S16x1024x1_0_0_2)

set_option maxHeartbeats 4000000

theorem post_arg (V : Valuation τ sig (Elt F)) : afterL postI V main_arg0 = V main_arg0 := by
  simp only [postI, afterL, post0, post1, post2, TRef.binary, TRef.nullary, TRef.ternary, TRef.unary, TRef.quaternary, TRef.toBuf, TRef.ofBuf, cast_eq]
  after_results <;> rfl

theorem post_x (V : Valuation τ sig (Elt F)) (x : FVec F S16x8192x3 .f32) (ha : (V main_arg0 : FVec F S16x8192x3 .f32) = x)
    (hl : (V main_v3_3 : IVec S16x1024 32) = lst x 1024) : (afterL postI V main_v9 : FVec F S1024x16x1 .f32) = xs x := by
  unfold xs centres
  rw [← hl, ← ha]
  simp only [postI, afterL, post0, post1, post2, TRef.binary, TRef.nullary, TRef.ternary, TRef.unary, TRef.quaternary, TRef.toBuf, TRef.ofBuf, cast_eq]
  after_results <;> rfl

theorem post_y (V : Valuation τ sig (Elt F)) (x : FVec F S16x8192x3 .f32) (ha : (V main_arg0 : FVec F S16x8192x3 .f32) = x)
    (hl : (V main_v3_3 : IVec S16x1024 32) = lst x 1024) : (afterL postI V main_v13 : FVec F S1024x16x1 .f32) = ys x := by
  unfold ys centres
  rw [← hl, ← ha]
  simp only [postI, afterL, post0, post1, post2, TRef.binary, TRef.nullary, TRef.ternary, TRef.unary, TRef.quaternary, TRef.toBuf, TRef.ofBuf, cast_eq]
  after_results <;> rfl

theorem post_z (V : Valuation τ sig (Elt F)) (x : FVec F S16x8192x3 .f32) (ha : (V main_arg0 : FVec F S16x8192x3 .f32) = x)
    (hl : (V main_v3_3 : IVec S16x1024 32) = lst x 1024) : (afterL postI V main_v17 : FVec F S1024x16x1 .f32) = zs x := by
  unfold zs centres
  rw [← hl, ← ha]
  simp only [postI, afterL, post0, post1, post2, TRef.binary, TRef.nullary, TRef.ternary, TRef.unary, TRef.quaternary, TRef.toBuf, TRef.ofBuf, cast_eq]
  after_results <;> rfl

/-- Every weakly fair execution ends, with the three results at the coordinates of the centres and the argument unchanged. -/
theorem run [∀ e, Nonempty (Elt F e)] (ρ : Dev nD → PrngReg) :
    θ_run defs (onTc (τ := τ) (main (F := F))) ⟨m, fun _ => 0, ρ⟩ fun r => ∀ c : Dev nD,
      (r.2.mem ((c.tc : Thread nD τ).loc main_v9) = xs (arg m c)
        ∧ r.2.mem ((c.tc : Thread nD τ).loc main_v13) = ys (arg m c)
        ∧ r.2.mem ((c.tc : Thread nD τ).loc main_v17) = zs (arg m c))
      ∧ r.2.mem ((c.tc : Thread nD τ).loc main_arg0) = m ((c.tc : Thread nD τ).loc main_arg0) :=
  (θ_run defs _ _).mono (fun _ h c => by
      have hk := carries_cond (carries m 1024 c)
      exact ⟨⟨(h c main_v9 rfl).trans (post_x _ _ hk.1 hk.2.2.2.2.1), (h c main_v13 rfl).trans (post_y _ _ hk.1 hk.2.2.2.2.1),
          (h c main_v17 rfl).trans (post_z _ _ hk.1 hk.2.2.2.2.1)⟩, (h c main_arg0 rfl).trans ((post_arg _).trans hk.1)⟩)
    (StableHlo.run_loop pcfgs defs₀ loops main 0 main_while0_cond main_while0_body rfl preI bodyI postI condOps
      plain_pre plain_body plain_post main_eq body_eq 1024 m ρ (cond_spec m))

end Cert.Proof.SampleRef

end
-- ==== Proof.SampleRefMath.lean ====
/-
  A trip of the sampling reference read at an index, on the extended reals: the point taken, the distances after the trip,
  the first at which they are largest, and the list with one more column.
-/
module

public import proofs.«01_k».proof.Proof.SampleRef
public import proofs.«01_k».proof.Proof.FirstMax
public import proofs.«01_k».proof.Proof.Points
public import Idealize.ShloMosaic.Lib.Routing.OpsOne

@[expose] public section

set_option maxRecDepth 16384

noncomputable section

namespace Cert.Proof.SampleRef

open Cert.SampleRefIdeal Cert.SampleRefIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx
open Cert.Proof.Points

/-! ## The points taken -/

/-- A row number as a word. -/
theorem word_toNat (k : Fin 8192) : (BitVec.ofNat 32 k.val).toNat = k.val := by
  have := k.isLt
  rw [BitVec.toNat_ofNat]; omega

/-- Index words in range are all in range after the wrap, which leaves them. -/
theorem wrapped {s : Shape} (w : IVec s 32) (h : ∀ i, (w i).toNat < 8192) (w' : IVec s 32)
    (hw : ∀ i, w' i = Scalar.select (IntOp.cmpi .slt (w i) 0#32) (w i + 8192#32) (w i)) : w' = w := by
  funext i
  rw [hw, slt_zero (by have := h i; omega)]; rfl

theorem picked {R : ℕ} (wf : GatherDims.WF ⟨3, ![16, 8192, 3]⟩ ⟨3, ![16, R, 1]⟩ ⟨3, ![16, R, 3]⟩ [2] [1] [0] [1] [0] 2 ![1, 1, 3])
    (x : S16x8192x3.Idx → Ideal .f32) (w : IVec ⟨3, ![16, R, 1]⟩ 32) (b : Fin 16) (r : Fin R) (e : Fin 3) (k : Fin 8192)
    (hk : w (ix3 b r (0 : Fin 1)) = BitVec.ofNat 32 k.val) : Host.gather (pickDims 16 8192 3 R wf) x w (ix3 b r e) = x (ix3 b k e) := by
  have hlt := k.isLt
  refine (pick_apply (by decide) wf x w b r e).trans (congrArg (fun n : Fin 8192 => x (ix3 b n e)) (Fin.ext ?_))
  show min (w (ix3 b r (0 : Fin 1))).toInt.toNat (8192 - 1) = k.val
  rw [hk, toInt_toNat (by rw [word_toNat]; omega), word_toNat]
  omega

theorem take1_at (x : FVec Ideal S16x8192x3 .f32) (w : IVec S16x1x1 32) (k : Fin 16 → Fin 8192)
    (hk : ∀ b, w (ix3 b (0 : Fin 1) (0 : Fin 1)) = BitVec.ofNat 32 (k b).val) (b : Fin 16) (e : Fin 3) :
    take1 x w (ix3 b (0 : Fin 1) e) = x (ix3 b (k b) e) := by
  have hr : ∀ i, (w i).toNat < 8192 := fun i => by
    obtain ⟨b, q, z, rfl⟩ : ∃ (b : Fin 16) (q : Fin 1) (z : Fin 1), i = ix3 b q z := ⟨i 0, i 1, i 2, eq_ix3 i⟩
    obtain rfl : z = 0 := Subsingleton.elim _ _
    obtain rfl : q = 0 := Subsingleton.elim _ _
    rw [hk, word_toNat]; exact (k b).isLt
  unfold take1
  rw [show wrap1 w = w from wrapped w hr _ fun i => rfl, select_apply,
    broadcastInDim_apply ![0, 1] bcast_S16x1_S16x1x3_0_1 _ (ix3 b (0 : Fin 1) e) (ix2 b (0 : Fin 1))
      (fun a => match a with | ⟨0, _⟩ => rfl | ⟨1, _⟩ => rfl),
    reduce_andi_one _ (constantI S_ 1 1#1) _ _ (fun i => by
      show IntOp.andi (IntOp.cmpi .sge (w i) 0#32) (IntOp.cmpi .sle (w i) 8191#32) = 1#1
      rw [sge_zero (by have := hr i; omega), sle_8191 (hr i)]; rfl) (fun _ => rfl), select_one]
  exact picked gather_S16x8192x3_S16x1x1_S16x1x3_2_1_0_0_1_2_113_wf x w b 0 e (k b) (hk b)

theorem take0_at (x : FVec Ideal S16x8192x3 .f32) (w : IVec S16x1024x1 32) (k : Fin 16 → Fin 1024 → Fin 8192)
    (hk : ∀ b s, w (ix3 b s (0 : Fin 1)) = BitVec.ofNat 32 (k b s).val) (b : Fin 16) (s : Fin 1024) (e : Fin 3) :
    take0 x w (ix3 b s e) = x (ix3 b (k b s) e) := by
  have hr : ∀ i, (w i).toNat < 8192 := fun i => by
    obtain ⟨b, q, z, rfl⟩ : ∃ (b : Fin 16) (q : Fin 1024) (z : Fin 1), i = ix3 b q z := ⟨i 0, i 1, i 2, eq_ix3 i⟩
    obtain rfl : z = 0 := Subsingleton.elim _ _
    rw [hk, word_toNat]; exact (k b q).isLt
  unfold take0
  rw [show wrap0 w = w from wrapped w hr _ fun i => rfl, select_apply,
    broadcastInDim_apply ![0, 1] bcast_S16x1024_S16x1024x3_0_1 _ (ix3 b s e) (ix2 b s)
      (fun a => match a with | ⟨0, _⟩ => rfl | ⟨1, _⟩ => rfl),
    reduce_andi_one _ (constantI S_ 1 1#1) _ _ (fun i => by
      show IntOp.andi (IntOp.cmpi .sge (w i) 0#32) (IntOp.cmpi .sle (w i) 8191#32) = 1#1
      rw [sge_zero (by have := hr i; omega), sle_8191 (hr i)]; rfl) (fun _ => rfl), select_one]
  exact picked gather_S16x8192x3_S16x1024x1_S16x1024x3_2_1_0_0_1_2_113_wf x w b s e (k b s) (hk b s)

/-! ## The distances -/

/-- One coordinate's part of the squared distance of points `n` and `k` of batch `b`. -/
def part (x : FVec Ideal S16x8192x3 .f32) (b : Fin 16) (k n : Fin 8192) (e : Fin 3) : EReal :=
  ((x (ix3 b n e) : EReal) - x (ix3 b k e)) * (x (ix3 b n e) - x (ix3 b k e))

/-- A sum over the three coordinates. -/
theorem sum3_at (v : FVec Ideal S16x8192x3 .f32) (b : Fin 16) (n : Fin 8192) :
    (Host.reduceAdd v (constant S_ .f32 0x00000000#32) reducesTo_S16x8192x3_S16x8192_d2 h_S_ (ix2 b n) : EReal)
      = (v (ix3 b n (0 : Fin 3)) : EReal) + v (ix3 b n (1 : Fin 3)) + v (ix3 b n (2 : Fin 3)) := by
  rw [Host.reduceAdd_apply]
  refine (Ideal.hostReduceAdd_r3_a2 reducesTo_S16x8192x3_S16x8192_d2 v (Ideal.ofBits .f32 0x00000000#32) (ix2 b n)).trans ?_
  rw [Ideal.ofBits_zero_f32, zero_add, Fin.sum_univ_three]; rfl

theorem dist2_at (x : FVec Ideal S16x8192x3 .f32) (far : IVec S16 32) (k : Fin 16 → Fin 8192)
    (hk : ∀ b, far (ix1 b) = BitVec.ofNat 32 (k b).val) (b : Fin 16) (n : Fin 8192) :
    (dist2 x (take1 x (broadcastInDim S16x1x1 ![0] bcast_S16_S16x1x1_0 far)) (ix2 b n) : EReal)
      = part x b (k b) n 0 + part x b (k b) n 1 + part x b (k b) n 2 := by
  have ht := take1_at x (broadcastInDim S16x1x1 ![0] bcast_S16_S16x1x1_0 far) k (fun b =>
    (broadcastInDim_apply ![0] bcast_S16_S16x1x1_0 far (ix3 b (0 : Fin 1) (0 : Fin 1)) (ix1 b) (fun a => match a with | ⟨0, _⟩ => rfl)).trans (hk b)) b
  unfold dist2
  generalize take1 x (broadcastInDim S16x1x1 ![0] bcast_S16_S16x1x1_0 far) = p at ht ⊢
  have hp : ∀ e : Fin 3, broadcastInDim S16x8192x3 ![0, 1, 2] bcast_S16x1x3_S16x8192x3_0_1_2 p (ix3 b n e) = x (ix3 b (k b) e) := fun e =>
    (broadcastInDim_apply ![0, 1, 2] bcast_S16x1x3_S16x8192x3_0_1_2 p (ix3 b n e) (ix3 b (0 : Fin 1) e)
      (fun a => match a with | ⟨0, _⟩ => rfl | ⟨1, _⟩ => rfl | ⟨2, _⟩ => rfl)).trans (ht e)
  have hm : ∀ e : Fin 3, (mulf (subf x (broadcastInDim S16x8192x3 ![0, 1, 2] bcast_S16x1x3_S16x8192x3_0_1_2 p))
      (subf x (broadcastInDim S16x8192x3 ![0, 1, 2] bcast_S16x1x3_S16x8192x3_0_1_2 p)) (ix3 b n e) : EReal) = part x b (k b) n e := fun e => by
    show ((x (ix3 b n e) : EReal) - broadcastInDim S16x8192x3 ![0, 1, 2] bcast_S16x1x3_S16x8192x3_0_1_2 p (ix3 b n e))
      * (x (ix3 b n e) - broadcastInDim S16x8192x3 ![0, 1, 2] bcast_S16x1x3_S16x8192x3_0_1_2 p (ix3 b n e)) = _
    rw [hp]; rfl
  refine (sum3_at _ b n).trans ?_
  exact congrArg₂ (· + ·) (congrArg₂ (· + ·) (hm 0) (hm 1)) (hm 2)

/-! ## The farthest point -/

theorem keeps : FirstMax.Keeps (reducer_argmax_f32_i32 (F := Ideal)) := by
  rintro ⟨a, i⟩ ⟨b, j⟩
  have h2 : (FloatOps.cmpf (F := Ideal) (φ := .f32) .ogt a b) = BitVec.ofBool (decide ((b : EReal) < a)) := rfl
  have h3 : (FloatOps.cmpf (F := Ideal) (φ := .f32) .une a a) = 0#1 := by
    show BitVec.ofBool (decide ((a : EReal) ≠ a)) = 0#1
    simp
  have h5 : (FloatOps.cmpf (F := Ideal) (φ := .f32) .oeq a b) = BitVec.ofBool (decide ((a : EReal) = b)) := rfl
  have h6 : IntOp.cmpi .slt i j = BitVec.ofBool (decide (i.toInt < j.toInt)) := rfl
  have he : reducer_argmax_f32_i32 (F := Ideal) (a, i) (b, j)
      = if (b : EReal) < a then (a, i) else if (a : EReal) = b ∧ i.toInt < j.toInt then (b, i) else (b, j) := by
    unfold reducer_argmax_f32_i32
    dsimp only
    rw [h2, h3, h5, h6]
    by_cases g : (b : EReal) < a
    · rw [if_pos g, decide_eq_true g]
      by_cases g1 : (a : EReal) = b <;> by_cases g2 : i.toInt < j.toInt <;> simp [g1, g2, IntOp.ori, IntOp.andi, Scalar.select]
    · rw [if_neg g, decide_eq_false g]
      by_cases g1 : (a : EReal) = b <;> by_cases g2 : i.toInt < j.toInt <;> simp [g1, g2, IntOp.ori, IntOp.andi, Scalar.select]
  rw [he]
  by_cases g : (b : EReal) < a
  · rw [if_pos g]
    exact ⟨Or.inl rfl, FirstMax.Dom.refl _, Or.inl g⟩
  · rw [if_neg g]
    by_cases g1 : (a : EReal) = b ∧ i.toInt < j.toInt
    · rw [if_pos g1]
      obtain ⟨rfl, hlt⟩ := g1
      exact ⟨Or.inl rfl, FirstMax.Dom.refl _, Or.inr ⟨rfl, le_of_lt hlt⟩⟩
    · rw [if_neg g1]
      refine ⟨Or.inr rfl, ?_, FirstMax.Dom.refl _⟩
      rcases lt_or_eq_of_le (not_lt.1 g) with h | h
      · exact Or.inl h
      · exact Or.inr ⟨h, not_lt.1 fun hlt => g1 ⟨h, hlt⟩⟩

theorem nextFar_at (d : FVec Ideal S16x8192 .f32) (b : Fin 16) :
    ∃ k : Fin 8192, FirstMax.Is (fun n : Fin 8192 => (d (ix2 b n) : EReal)) k ∧ nextFar d (ix1 b) = BitVec.ofNat 32 k.val := by
  obtain ⟨k, hk, e⟩ := FirstMax.foldl_is (by decide) le_rfl keeps (fun n : Fin 8192 => (d (ix2 b n) : EReal))
    (Host.argReduceFiber d (iotaInDim S16x8192 32 1) reducesTo_S16x8192_S16_d1 (ix1 b)) fun p =>
      FirstMax.mem_fiber reducesTo_S16x8192_S16_d1 d (iotaInDim S16x8192 32 1) b p
  refine ⟨k, hk, Eq.trans ?_ e⟩
  unfold nextFar
  rw [Ideal.argReduce_eq_reduce2, Host.reduce2_eq_foldl_fiber]
  rw [show (constant S_ .f32 0xFF800000#32 : FVec Ideal S_ .f32) (Shape.Idx.first h_S_) = (⊥ : EReal) from FirstMax.ofBits_bot]
  rfl

/-! ## The list -/

/-- A counter's word. -/
theorem iv_toNat (n : ℕ) (h : n < 1024) : (Scf.iv 0#32 1#32 n).toNat = n := by
  unfold Scf.iv
  simp only [BitVec.zero_add, BitVec.mul_one, BitVec.toNat_ofNat]
  omega

theorem put_at (l : IVec S16x1024 32) (n : Fin 1024) (far : IVec S16 32) (b : Fin 16) (s : Fin 1024) :
    put l (fun _ => Scf.iv 0#32 1#32 n.val) far (ix2 b s) = if s = n then far (ix1 b) else l (ix2 b s) := by
  have hn := n.isLt
  have hv := iv_toNat n.val hn
  unfold put
  refine Routing.scatter_col_set scatter_S16x1024_S1_S16_0_1_1_0_wf l (wrapIdx fun _ => Scf.iv 0#32 1#32 n.val) far n ?_ b s
  show (Scalar.select (IntOp.cmpi .slt (Scf.iv 0#32 1#32 n.val) 0#32) (Scf.iv 0#32 1#32 n.val + 1024#32) (Scf.iv 0#32 1#32 n.val)).toInt = _
  rw [slt_zero (by omega), select_zero, BitVec.toInt_eq_toNat_cond, hv]
  split <;> omega

/-- The list's columns are the farthest points found so far. -/
theorem lst_at (x : FVec Ideal S16x8192x3 .f32) (b : Fin 16) (s : Fin 1024) : ∀ n : ℕ, n ≤ 1024 → s.val < n →
    lst x n (ix2 b s) = (st x s.val).2 (ix1 b)
  | 0, _, h => absurd h (Nat.not_lt_zero _)
  | n + 1, hn, h => by
    have e := put_at (lst x n) ⟨n, by omega⟩ (st x n).2 b s
    refine e.trans ?_
    by_cases hs : s = ⟨n, by omega⟩
    · rw [if_pos hs]
      rw [show n = s.val from (congrArg Fin.val hs).symm]
    · rw [if_neg hs]
      exact lst_at x b s n (by omega) (by
        have : s.val ≠ n := fun e => hs (Fin.ext e)
        omega)

/-! ## The coordinates set apart -/

theorem plane_at (q : S16x1024x1.Idx → Ideal .f32) (s : Fin 1024) (b : Fin 16) : plane q (ix3 s b (0 : Fin 1)) = q (ix3 b s (0 : Fin 1)) := by
  unfold plane
  rw [broadcastInDim_apply ![0, 1] bcast_S1024x16_S1024x16x1_0_1 _ (ix3 s b (0 : Fin 1)) (ix2 s b)
      (fun a => match a with | ⟨0, _⟩ => rfl | ⟨1, _⟩ => rfl),
    transpose_apply [1, 0] _ transposes_S16x1024_S1024x16_1_0 (ix2 s b) (ix2 b s) (fun a => match a with | ⟨0, _⟩ => rfl | ⟨1, _⟩ => rfl)]
  exact shapeCast_apply _ _ (ix2 b s) (ix3 b s (0 : Fin 1)) (by
    rw [Shape.rowMajor_val_three, Shape.rowMajor_val_two]
    show (b.val * 1024 + s.val) * 1 + 0 = b.val * 1024 + s.val
    omega)

section Out
variable (x : FVec Ideal S16x8192x3 .f32) (k : Fin 16 → Fin 1024 → Fin 8192)
  (hk : ∀ b s, (st x s.val).2 (ix1 b) = BitVec.ofNat 32 (k b s).val) (s : Fin 1024) (b : Fin 16)
include hk

theorem centres_at (e : Fin 3) : centres x (ix3 b s e) = x (ix3 b (k b s) e) :=
  take0_at x _ k (fun b s => (broadcastInDim_apply ![0, 1] bcast_S16x1024_S16x1024x1_0_1 (lst x 1024) (ix3 b s (0 : Fin 1)) (ix2 b s)
    (fun a => match a with | ⟨0, _⟩ => rfl | ⟨1, _⟩ => rfl)).trans ((lst_at x b s 1024 le_rfl s.isLt).trans (hk b s))) b s e

theorem xs_at : xs x (ix3 s b (0 : Fin 1)) = x (ix3 b (k b s) (0 : Fin 3)) := by
  unfold xs
  rw [plane_at, extractStridedSlice_apply ![0, 0, 0] _ slices_S16x1024x3_S16x1024x1_0_0_0 (ix3 b s (0 : Fin 1)) (ix3 b s (0 : Fin 3)) fun a => by
    match a with
    | ⟨0, _⟩ => exact (Nat.zero_add _).symm
    | ⟨1, _⟩ => exact (Nat.zero_add _).symm
    | ⟨2, _⟩ => rfl]
  exact centres_at x k hk s b 0
theorem ys_at : ys x (ix3 s b (0 : Fin 1)) = x (ix3 b (k b s) (1 : Fin 3)) := by
  unfold ys
  rw [plane_at, extractStridedSlice_apply ![0, 0, 1] _ slices_S16x1024x3_S16x1024x1_0_0_1 (ix3 b s (0 : Fin 1)) (ix3 b s (1 : Fin 3)) fun a => by
    match a with
    | ⟨0, _⟩ => exact (Nat.zero_add _).symm
    | ⟨1, _⟩ => exact (Nat.zero_add _).symm
    | ⟨2, _⟩ => rfl]
  exact centres_at x k hk s b 1
theorem zs_at : zs x (ix3 s b (0 : Fin 1)) = x (ix3 b (k b s) (2 : Fin 3)) := by
  unfold zs
  rw [plane_at, extractStridedSlice_apply ![0, 0, 2] _ slices_S16x1024x3_S16x1024x1_0_0_2 (ix3 b s (0 : Fin 1)) (ix3 b s (2 : Fin 3)) fun a => by
    match a with
    | ⟨0, _⟩ => exact (Nat.zero_add _).symm
    | ⟨1, _⟩ => exact (Nat.zero_add _).symm
    | ⟨2, _⟩ => rfl]
  exact centres_at x k hk s b 2

end Out

end Cert.Proof.SampleRef

end
-- ==== Proof.SampleEq.lean ====
/-
  The sampling call and its reference agree, on the extended reals: before every round they hold the same distances and name
  the same rows, so their results are the coordinates of the same points.
-/
module

public import proofs.«01_k».proof.Proof.SampleIdealMath
public import proofs.«01_k».proof.Proof.SampleRefMath

@[expose] public section

set_option maxRecDepth 16384

noncomputable section

namespace Cert.Proof.SampleEq

open Idealize.ShloMosaic hiding ix1 ix2 ix3 ix4 eq_ix1 eq_ix2 eq_ix3 eq_ix4
open Idealize.ShloMosaic.ValueIdx
open Cert.Proof.SampleIdeal (kst planeX planeY planeZ planeX_at planeY_at planeZ_at stepD stepF)

abbrev Pts := FVec Ideal ⟨3, ![16, 8192, 3]⟩ .f32

variable (x : Pts)

/-- The kernel's state before round `n`. -/
abbrev ks (n : ℕ) := kst (F := Ideal) (planeX x) (planeY x) (planeZ x) n

/-- The two states agree: the distances entry by entry, the rows as words of one row number. -/
def Agree (n : ℕ) : Prop :=
  (∀ (b : Fin 16) (i : Fin 8192), ((ks x n).1 (ix2 b i) : EReal) = (SampleRef.st x n).1 (ix2 b i))
  ∧ ∃ k : Fin 16 → Fin 8192, ∀ b : Fin 16, (ks x n).2 (ix2 b (0 : Fin 1)) = BitVec.ofNat 32 (k b).val
      ∧ (SampleRef.st x n).2 (ix1 b) = BitVec.ofNat 32 (k b).val

theorem agree_zero : Agree x 0 :=
  ⟨fun _ _ => rfl, fun _ => 0, fun _ => ⟨rfl, rfl⟩⟩

/-- The squared distance, its three parts in either order. -/
theorem sq_eq (b : Fin 16) (k n : Fin 8192) : SampleIdeal.sq (planeX x) (planeY x) (planeZ x) b k n
    = SampleRef.part x b k n 0 + SampleRef.part x b k n 1 + SampleRef.part x b k n 2 := by
  unfold SampleIdeal.sq SampleRef.part
  rw [planeX_at, planeX_at, planeY_at, planeY_at, planeZ_at, planeZ_at]
  exact add_right_comm _ _ _

theorem agree_succ (n : ℕ) (h : Agree x n) : Agree x (n + 1) := by
  obtain ⟨hd, k, hk⟩ := h
  have hD : ∀ (b : Fin 16) (i : Fin 8192), ((ks x (n + 1)).1 (ix2 b i) : EReal) = (SampleRef.st x (n + 1)).1 (ix2 b i) := fun b i => by
    have e1 := SampleIdeal.stepD_at (planeX x) (planeY x) (planeZ x) (ks x n).1 (ks x n).2 b (k b) (hk b).1 i
    have e2 := SampleRef.dist2_at x (SampleRef.st x n).2 k (fun b => (hk b).2) b i
    rw [SampleIdeal.kst_dist, SampleRef.st_dist]
    refine e1.trans ?_
    show _ = Scalar.select (BitVec.ofBool (decide ((SampleRef.dist2 x (SampleRef.take1 x _) (ix2 b i) : EReal) < (SampleRef.st x n).1 (ix2 b i))))
      (SampleRef.dist2 x (SampleRef.take1 x _) (ix2 b i) : EReal) ((SampleRef.st x n).1 (ix2 b i))
    rw [e2, sq_eq, hd b i]
    split
    · next hlt => rw [decide_eq_true hlt]; rfl
    · next hlt => rw [decide_eq_false hlt]; rfl
  refine ⟨hD, ?_⟩
  have hF : ∀ b : Fin 16, ∃ q : Fin 8192, (ks x (n + 1)).2 (ix2 b (0 : Fin 1)) = BitVec.ofNat 32 q.val
      ∧ (SampleRef.st x (n + 1)).2 (ix1 b) = BitVec.ofNat 32 q.val := fun b => by
    obtain ⟨q, hq, e⟩ := SampleRef.nextFar_at (SampleRef.st x (n + 1)).1 b
    refine ⟨q, ?_, (congrFun (SampleRef.st_far x n) (ix1 b)).trans e⟩
    rw [SampleIdeal.kst_far]
    refine SampleIdeal.stepF_at (planeX x) (planeY x) (planeZ x) (ks x n).1 (ks x n).2 b q ?_
    have hfun : (fun i : Fin 8192 => (stepD (planeX x) (planeY x) (planeZ x) (ks x n).1 (ks x n).2 (ix2 b i) : EReal))
        = fun i : Fin 8192 => ((SampleRef.st x (n + 1)).1 (ix2 b i) : EReal) := funext fun i => hD b i
    rw [hfun]
    exact hq
  choose q hq using hF
  exact ⟨q, hq⟩

theorem agree : ∀ n : ℕ, Agree x n
  | 0 => agree_zero x
  | n + 1 => agree_succ x n (agree n)

/-- The row that round `s` of batch `b` is given. -/
def row (b : Fin 16) (s : Fin 1024) : Fin 8192 := (agree x s.val).2.choose b

theorem row_kernel (b : Fin 16) (s : Fin 1024) : (ks x s.val).2 (ix2 b (0 : Fin 1)) = BitVec.ofNat 32 (row x b s).val :=
  ((agree x s.val).2.choose_spec b).1
theorem row_ref (b : Fin 16) (s : Fin 1024) : (SampleRef.st x s.val).2 (ix1 b) = BitVec.ofNat 32 (row x b s).val :=
  ((agree x s.val).2.choose_spec b).2

end Cert.Proof.SampleEq

end
-- ==== Proof.SampleClaims.lean ====
/-
  The claims about the sampling of the centres: the program runs as printed, its reading over the extended reals runs, the
  reference runs, and the last two end with equal coordinates of the centres.
-/
module

public import proofs.«01_k».proof.Defs
public import proofs.«01_k».proof.Proof.Gen.Sample.Frame
public import proofs.«01_k».proof.Proof.SampleEq
public import Idealize.ShloMosaic.Lib.Quiescent

@[expose] public section

set_option maxRecDepth 16384

noncomputable section

namespace Cert.Proof.SampleClaims

open Idealize.ShloMosaic hiding ix1 ix2 ix3 ix4 eq_ix1 eq_ix2 eq_ix3 eq_ix4
open Idealize.ShloMosaic.ValueIdx Idealize.ShloMosaic.TcCoe Idealize.SL.Sem
open Cert.Proof.SampleEq (row row_kernel row_ref)

theorem frame_p : Cert.quiescent_Sample := fun m ρ _ => Cert.Sample.Gen.frame m ρ

theorem frame_pi : Cert.quiescent_SampleIdeal := fun m ρ _ => Cert.SampleIdeal.Gen.frame m ρ

theorem frame_ri : Cert.quiescent_SampleRefIdeal := fun m ρ _ =>
  (θ_run Cert.SampleRefIdeal.defs _ _).mono (fun r h => ⟨fun c => (h c).2, sem_eq_zero_of_no_sems (by decide) r.2⟩)
    (Cert.Proof.SampleRef.run (F := Ideal) m ρ)

section Values

variable (m : (ℓ : Loc Cert.SampleIdeal.nD Cert.SampleIdeal.τ Cert.SampleIdeal.sig) → Buf (Elt Ideal) ℓ)

theorem x_eq (c : Dev Cert.SampleIdeal.nD) :
    Cert.SampleIdeal.Value.G4 m c = Cert.Proof.SampleRef.xs (F := Ideal) (Cert.Proof.SampleIdeal.arg m c) := by
  funext j
  obtain ⟨s, b, z, rfl⟩ : ∃ (s : Fin 1024) (b : Fin 16) (z : Fin 1), j = ix3 s b z := ⟨j 0, j 1, j 2, eq_ix3 j⟩
  obtain rfl : z = 0 := Subsingleton.elim _ _
  refine (Cert.Proof.SampleIdeal.G4_eq m c s b).trans ?_
  refine (Cert.Proof.SampleIdeal.out4_at _ _ b (row (Cert.Proof.SampleIdeal.arg m c) b s) (row_kernel _ b s)).trans ?_
  exact (Cert.Proof.SampleIdeal.planeX_at _ b _).trans (Cert.Proof.SampleRef.xs_at _ _ (row_ref _) s b).symm
theorem y_eq (c : Dev Cert.SampleIdeal.nD) :
    Cert.SampleIdeal.Value.G5 m c = Cert.Proof.SampleRef.ys (F := Ideal) (Cert.Proof.SampleIdeal.arg m c) := by
  funext j
  obtain ⟨s, b, z, rfl⟩ : ∃ (s : Fin 1024) (b : Fin 16) (z : Fin 1), j = ix3 s b z := ⟨j 0, j 1, j 2, eq_ix3 j⟩
  obtain rfl : z = 0 := Subsingleton.elim _ _
  refine (Cert.Proof.SampleIdeal.G5_eq m c s b).trans ?_
  refine (Cert.Proof.SampleIdeal.out5_at _ _ b (row (Cert.Proof.SampleIdeal.arg m c) b s) (row_kernel _ b s)).trans ?_
  exact (Cert.Proof.SampleIdeal.planeY_at _ b _).trans (Cert.Proof.SampleRef.ys_at _ _ (row_ref _) s b).symm
theorem z_eq (c : Dev Cert.SampleIdeal.nD) :
    Cert.SampleIdeal.Value.G6 m c = Cert.Proof.SampleRef.zs (F := Ideal) (Cert.Proof.SampleIdeal.arg m c) := by
  funext j
  obtain ⟨s, b, z, rfl⟩ : ∃ (s : Fin 1024) (b : Fin 16) (z : Fin 1), j = ix3 s b z := ⟨j 0, j 1, j 2, eq_ix3 j⟩
  obtain rfl : z = 0 := Subsingleton.elim _ _
  refine (Cert.Proof.SampleIdeal.G6_eq m c s b).trans ?_
  refine (Cert.Proof.SampleIdeal.out6_at _ _ b (row (Cert.Proof.SampleIdeal.arg m c) b s) (row_kernel _ b s)).trans ?_
  exact (Cert.Proof.SampleIdeal.planeZ_at _ b _).trans (Cert.Proof.SampleRef.zs_at _ _ (row_ref _) s b).symm

end Values

theorem algebraic : Cert.algebraic_SampleIdeal_SampleRefIdeal := by
  intro m ρ m' ρ' _ hagree
  refine ⟨fun c => Cert.SampleIdeal.Value.G4 m c, fun c => Cert.SampleIdeal.Value.G5 m c, fun c => Cert.SampleIdeal.Value.G6 m c,
    (θ_run Cert.SampleIdeal.defs _ _).mono (fun _ r c => ⟨(r c).2.1, (r c).2.2.1, (r c).2.2.2.1, (r c).2.2.2.2.2⟩)
      (Cert.SampleIdeal.Value.run (F := Ideal) m ρ), ?_⟩
  have ha : ∀ c, Cert.Proof.SampleRef.arg m' c = Cert.Proof.SampleIdeal.arg m c := fun c => hagree c
  refine (θ_run Cert.SampleRefIdeal.defs _ _).mono (fun _ r c => ?_) (Cert.Proof.SampleRef.run (F := Ideal) m' ρ')
  obtain ⟨⟨hx, hy, hz⟩, h0⟩ := r c
  rw [ha c] at hx hy hz
  exact ⟨hx.trans (x_eq m c).symm, hy.trans (y_eq m c).symm, hz.trans (z_eq m c).symm, h0⟩

end Cert.Proof.SampleClaims

end
-- ==== Proof.Nearest.lean ====
/-
  The nearest entries of a row, in the two ways the programs find them: the first places of a stable sort of the row, and
  one after another, each time the first entry that is smallest, which is then put at plus infinity.
-/
module

public import proofs.«01_k».proof.Proof.FirstMax
public import Idealize.ShloMosaic.Lib.SortPrefix

@[expose] public section

set_option maxRecDepth 16384

noncomputable section

namespace Cert.Proof.Nearest

open Idealize.ShloMosaic hiding ix1 ix2 ix3 ix4 eq_ix1 eq_ix2 eq_ix3 eq_ix4
open Idealize.ShloMosaic.ValueIdx

/-- `k` is the first of the indices at which `v` is smallest. -/
def Is {n : ℕ} (v : Fin n → EReal) (k : Fin n) : Prop := (∀ i, v k ≤ v i) ∧ ∀ i, v i = v k → k ≤ i

/-- The index that a stable sort of `d` puts at place `j`. -/
def pick {n : ℕ} (d : Fin n → EReal) (j : Fin n) : Fin n := sortedFrom (fun a b => decide (d a < d b)) j

/-- The row once the first `j` places of the sort are at plus infinity. -/
def left {n : ℕ} (d : Fin n → EReal) (j : ℕ) (i : Fin n) : EReal :=
  open Classical in if ∃ q : Fin n, q.val < j ∧ pick d q = i then ⊤ else d i

/-! ## The sort -/

/-- Smaller, or as small and earlier. -/
def before {n : ℕ} (d : Fin n → EReal) (a b : Fin n) : Bool := decide (d a < d b) || (decide (d a = d b) && decide (a < b))

theorem before_iff {n : ℕ} (d : Fin n → EReal) (a b : Fin n) : before d a b = true ↔ d a < d b ∨ (d a = d b ∧ a < b) := by
  simp [before]

/-- A stable sort of a list in rising order, by the entries alone, is the sort by the entries and then the indices. -/
theorem stable {n : ℕ} (d : Fin n → EReal) (l : List (Fin n)) (hl : l.Pairwise (· < ·)) :
    stableSort (fun a b => decide (d a < d b)) l = stableSort (before d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    have : decide (b < a) = false := decide_eq_false (not_lt.2 hab.le)
    simp [before, this]

theorem pick_eq {n : ℕ} (d : Fin n → EReal) (j : Fin n) : pick d j = sortedFrom (before d) j := by
  unfold pick sortedFrom
  rw [List.get_of_eq (show sortPositions n (fun a b => decide (d a < d b)) = sortPositions n (before d) from
    stable d _ (List.pairwise_lt_finRange n))]
  rfl

theorem strict {n : ℕ} (d : Fin n → EReal) : StrictTotalBefore (before d) where
  irrefl k := by simp [before]
  trans a b c hab hbc := by
    rw [before_iff] at hab hbc ⊢
    rcases hab with hab | ⟨eab, lab⟩ <;> rcases hbc with hbc | ⟨ebc, lbc⟩
    · exact Or.inl (hab.trans hbc)
    · exact Or.inl (ebc ▸ hab)
    · exact Or.inl (eab ▸ hbc)
    · exact Or.inr ⟨eab.trans ebc, lt_trans lab lbc⟩
  total a b hne := by
    rw [before_iff, before_iff]
    rcases lt_trichotomy (d a) (d b) with h | h | h
    · exact Or.inl (Or.inl h)
    · rcases lt_or_gt_of_ne hne with hlt | hgt
      · exact Or.inl (Or.inr ⟨h, hlt⟩)
      · exact Or.inr (Or.inr ⟨h.symm, hgt⟩)
    · exact Or.inr (Or.inl h)

theorem pick_injective {n : ℕ} (d : Fin n → EReal) : Function.Injective (pick d) := sortedFrom_injective _

theorem pick_ordered {n : ℕ} (d : Fin n → EReal) {i j : Fin n} (h : i < j) : before d (pick d j) (pick d i) = false := by
  rw [pick_eq, pick_eq]
  exact sortedFrom_noInversion (before d) (before d) (fun a b h => (strict d).asymm a b h) (fun _ _ h => h) (strict d).negTrans i j h

/-! ## One after another -/

theorem left_zero {n : ℕ} (d : Fin n → EReal) (i : Fin n) : left d 0 i = d i := by
  unfold left
  rw [if_neg]
  rintro ⟨q, hq, -⟩
  exact absurd hq (Nat.not_lt_zero _)

/-- With the entry at place `j` put at plus infinity as well. -/
theorem left_succ {n : ℕ} (d : Fin n → EReal) (j : Fin n) (i : Fin n) : left d (j.val + 1) i = if i = pick d j then ⊤ else left d j.val i := by
  unfold left
  by_cases e : i = pick d j
  · rw [if_pos e, if_pos ⟨j, Nat.lt_succ_self _, e.symm⟩]
  · rw [if_neg e]
    refine if_congr ⟨?_, ?_⟩ rfl rfl
    · rintro ⟨q, hq, hi⟩
      refine ⟨q, ?_, hi⟩
      rcases Nat.lt_succ_iff_lt_or_eq.1 hq with h | h
      · exact h
      · exact absurd (by rw [← hi, Fin.ext h]) e
    · rintro ⟨q, hq, hi⟩
      exact ⟨q, Nat.lt_succ_of_lt hq, hi⟩

theorem left_pick {n : ℕ} (d : Fin n → EReal) (j : Fin n) : left d j.val (pick d j) = d (pick d j) := by
  unfold left
  rw [if_neg]
  rintro ⟨q, hq, e⟩
  rw [pick_injective d e] at hq
  exact absurd hq (lt_irrefl _)

/-- Where every entry is below plus infinity, the first smallest of what is left is the sort's next. -/
theorem left_is {n : ℕ} (d : Fin n → EReal) (hd : ∀ i, d i < ⊤) (j : Fin n) : Is (left d j.val) (pick d j) := by
  have key : ∀ i, left d j.val i = ⊤ ∨ (left d j.val i = d i ∧ (i = pick d j ∨ before d i (pick d j) = false)) := fun i => by
    by_cases h : ∃ q : Fin n, q.val < j.val ∧ pick d q = i
    · left; unfold left; rw [if_pos h]
    · right
      refine ⟨by unfold left; rw [if_neg h], ?_⟩
      obtain ⟨q, rfl⟩ := sortedFrom_surjective (fun a b => decide (d a < d b)) i
      rcases lt_trichotomy q j with hq | hq | hq
      · exact absurd ⟨q, hq, rfl⟩ h
      · left; rw [hq]; rfl
      · right; exact pick_ordered d hq
  have hle : ∀ i, before d i (pick d j) = false → d (pick d j) ≤ d i ∧ (d i = d (pick d j) → pick d j ≤ i) := fun i h => by
    have h' : ¬ (d i < d (pick d j) ∨ (d i = d (pick d j) ∧ i < pick d j)) := fun hb => by
      rw [← before_iff] at hb; rw [hb] at h; exact absurd h (by decide)
    exact ⟨not_lt.1 fun hl => h' (Or.inl hl), fun e => not_lt.1 fun hl => h' (Or.inr ⟨e, hl⟩)⟩
  constructor
  · intro i
    rw [left_pick]
    rcases key i with h | ⟨h, h' | h'⟩
    · rw [h]; exact le_top
    · rw [h, h']
    · rw [h]; exact (hle i h').1
  · intro i e
    rw [left_pick] at e
    rcases key i with h | ⟨h, h' | h'⟩
    · rw [h] at e; exact absurd e.symm (hd _).ne
    · exact le_of_eq h'.symm
    · rw [h] at e; exact (hle i h').2 e

/-! ## One after another, whatever the entries -/

theorem is_unique {n : ℕ} {v : Fin n → EReal} {k k' : Fin n} (h : Is v k) (h' : Is v k') : k = k' :=
  le_antisymm (h.2 k' (le_antisymm (h'.1 k) (h.1 k'))) (h'.2 k (le_antisymm (h.1 k') (h'.1 k)))

theorem exists_is {n : ℕ} [NeZero n] (v : Fin n → EReal) : ∃ k, Is v k := by
  obtain ⟨l, hl⟩ := Finite.exists_min v
  obtain ⟨k, hk, hm⟩ := (Set.toFinite {i | v i = v l}).exists_minimalFor id _ ⟨l, rfl⟩
  have hk' : v k = v l := hk
  refine ⟨k, fun i => hk'.trans_le (hl i), fun i e => ?_⟩
  rcases le_total k i with h | h
  · exact h
  · exact hm (show v i = v l from e.trans hk') h

/-- The first index at which a row is smallest. -/
def smallest {n : ℕ} [NeZero n] (v : Fin n → EReal) : Fin n := Classical.choose (exists_is v)

theorem smallest_is {n : ℕ} [NeZero n] (v : Fin n → EReal) : Is v (smallest v) := Classical.choose_spec (exists_is v)

/-- The row after `j` rounds, each of which puts the smallest entry at plus infinity. -/
def rest {n : ℕ} [NeZero n] (d : Fin n → EReal) : ℕ → Fin n → EReal
  | 0 => d
  | j + 1 => fun i => if i = smallest (rest d j) then ⊤ else rest d j i

/-- The index that round `j` takes. -/
def taken {n : ℕ} [NeZero n] (d : Fin n → EReal) (j : ℕ) : Fin n := smallest (rest d j)

/-- Where every entry is below plus infinity, the rounds take the places of the sort. -/
theorem rest_eq {n : ℕ} [NeZero n] (d : Fin n → EReal) (hd : ∀ i, d i < ⊤) : ∀ j, j ≤ n → rest d j = left d j
  | 0, _ => funext fun i => (left_zero d i).symm
  | j + 1, h => funext fun i => by
    show (if i = smallest (rest d j) then ⊤ else rest d j i) = _
    rw [rest_eq d hd j (by omega), is_unique (smallest_is _) (left_is d hd ⟨j, h⟩)]
    exact (left_succ d ⟨j, h⟩ i).symm

theorem taken_eq {n : ℕ} [NeZero n] (d : Fin n → EReal) (hd : ∀ i, d i < ⊤) (j : Fin n) : taken d j.val = pick d j := by
  unfold taken
  rw [rest_eq d hd j.val j.isLt.le]
  exact is_unique (smallest_is _) (left_is d hd j)

/-! ## The smallest entry and its lane -/

/-- The word of plus infinity. -/
theorem ofBits_top : FloatOps.ofBits (F := Ideal) .f32 0x7F800000#32 = (⊤ : EReal) := by
  show Ideal.ofBits .f32 0x7F800000#32 = ⊤
  simp [Ideal.ofBits, Ideal.ieee]

/-- A row's minimum. -/
theorem fold_min {n : ℕ} {v : Fin n → EReal} {k : Fin n} (h : Is v k) : Finset.univ.fold min (⊤ : EReal) v = v k :=
  le_antisymm ((Finset.fold_min_le _).2 (Or.inr ⟨k, Finset.mem_univ _, le_rfl⟩)) ((Finset.le_fold_min _).2 ⟨le_top, fun i _ => h.1 i⟩)

/-- The smallest of the lane numbers where the row is at its minimum. -/
theorem fold_lane {n : ℕ} (hn : n ≤ 8192) {v : Fin n → EReal} {k : Fin n} (h : Is v k) (w : Fin n → BitVec 32)
    (hw : ∀ i, w i = if v i = v k then BitVec.ofNat 32 i.val else 8192#32) [Std.Commutative (IKind.minsi.op)] [Std.Associative (IKind.minsi.op)] :
    Finset.univ.fold IKind.minsi.op 2147483647#32 w = BitVec.ofNat 32 k.val :=
  FirstMax.fold_min hn (d := fun i => -v i) (k := k)
    ⟨fun i => EReal.neg_le_neg_iff.2 (h.1 i), fun i e => h.2 i (neg_injective e)⟩ w fun i => by
      rw [hw i]
      exact if_congr ⟨fun e => congrArg _ e, fun e => neg_injective e⟩ rfl rfl

end Cert.Proof.Nearest

end
-- ==== Proof.SelectIdealRound.lean ====
/-
  A round of the selecting kernel: the first lane at which a row of distances is smallest is written down as the round's
  index, and its distance is put at plus infinity. So after `j` rounds the first `j` places of the row's stable sort are
  written down, and what is left of the row is the rest.
-/
module

public import proofs.«01_k».proof.Proof.Gen.SelectIdeal.Value
public import proofs.«01_k».proof.Proof.Nearest

@[expose] public section

set_option maxRecDepth 16384

noncomputable section

namespace Cert.Proof.SelectIdeal

open Cert.SelectIdeal Cert.SelectIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

/-! ## The text of a round -/

section Text
variable {F : FTy → Type} [FloatOps F]

/-- The lane numbers, and the places of the list. -/
abbrev lane : IVec S128x8192 32 := iota .tc S128x8192 32 [1] iota_S128x8192_d1_w32
abbrev place : IVec S128x32 32 := iota .tc S128x32 32 [1] iota_S128x32_d1_w32

/-- The first lane at which each row is smallest. -/
def nearest (d : FVec F S128x8192 .f32) : IVec S128x1 32 :=
  shapeCast S128x1 (multiReductionI .minsi [1] S128
    (select (cmpf .oeq d (broadcastTo S128x8192 (shapeCast S128x1
      (multiReduction .minimumf [1] S128 d 0x7F800000#32 reduces_S128x8192_S128 (.inl rfl) rfl) shapeCasts_S128_S128x1) broadcasts_S128x1_S128x8192))
      lane (broadcast S128x8192 8192#32))
    2147483647#32 reduces_S128x8192_S128 rfl) shapeCasts_S128_S128x1

/-- The rows with the lanes `k` at plus infinity. -/
def strike (d : FVec F S128x8192 .f32) (k : IVec S128x1 32) : FVec F S128x8192 .f32 :=
  select (cmpi .eq lane (broadcastTo S128x8192 k broadcasts_S128x1_S128x8192)) (broadcast S128x8192 (Scalar.ofBits .f32 0x7F800000#32)) d

/-- The lists with the lanes `k` at place `j`. -/
def note (a : IVec S128x32 32) (j : BitVec 32) (k : IVec S128x1 32) : IVec S128x32 32 :=
  select (cmpi .eq place (broadcast S128x32 j)) (broadcastTo S128x32 (shapeCast S128x1 k shapeCasts_S128x1_S128x1) broadcasts_S128x1_S128x32) a

/-- A whole round's change of the rows. -/
def round (d : FVec F S128x8192 .f32) : FVec F S128x8192 .f32 := strike d (nearest d)

end Text

/-! ## Layout and reductions -/

section Layout
variable {α : Type}

theorem col_at (v : S128.Idx → α) (p : Fin 128) : shapeCast S128x1 v shapeCasts_S128_S128x1 (ix2 p (0 : Fin 1)) = v (ix1 p) :=
  shapeCast_apply _ _ (ix2 p (0 : Fin 1)) (ix1 p) (by
    rw [Shape.rowMajor_val_one, Shape.rowMajor_val_two]
    show p.val = p.val * 1 + 0
    omega)

theorem spread_at (v : S128x1.Idx → α) (p : Fin 128) (n : Fin 8192) :
    broadcastTo S128x8192 v broadcasts_S128x1_S128x8192 (ix2 p n) = v (ix2 p (0 : Fin 1)) :=
  broadcastTo_apply _ _ (ix2 p n) (ix2 p (0 : Fin 1)) fun a => by
    match a with
    | ⟨0, _⟩ => rfl
    | ⟨1, _⟩ => rfl

theorem spreadList_at (v : S128x1.Idx → α) (p : Fin 128) (i : Fin 32) :
    broadcastTo S128x32 v broadcasts_S128x1_S128x32 (ix2 p i) = v (ix2 p (0 : Fin 1)) :=
  broadcastTo_apply _ _ (ix2 p i) (ix2 p (0 : Fin 1)) fun a => by
    match a with
    | ⟨0, _⟩ => rfl
    | ⟨1, _⟩ => rfl

end Layout

theorem minf_at (v : FVec Ideal S128x8192 .f32) (p : Fin 128) :
    multiReduction .minimumf [1] S128 v 0x7F800000#32 reduces_S128x8192_S128 (.inl rfl) rfl (ix1 p)
      = Finset.univ.fold (min : EReal → EReal → EReal) ⊤ fun n : Fin 8192 => v (ix2 p n) := by
  refine (multiReduction_minimumf_eq_fold (F := Ideal) (φ := .f32) v 0x7F800000#32 reduces_S128x8192_S128 (.inl rfl) rfl (ix1 p)).trans ?_
  rw [Nearest.ofBits_top]
  exact Shape.Reduces.fold_fiber_r2_a1 reduces_S128x8192_S128 (ix1 p) (min : EReal → EReal → EReal) ⊤ v

theorem mini_at (v : IVec S128x8192 32) (p : Fin 128) :
    multiReductionI .minsi [1] S128 v 2147483647#32 reduces_S128x8192_S128 rfl (ix1 p)
      = Finset.univ.fold IKind.minsi.op 2147483647#32 fun n : Fin 8192 => v (ix2 p n) :=
  (multiReductionI_eq_fold .minsi v 2147483647#32 reduces_S128x8192_S128 rfl (ix1 p)).trans
    (Shape.Reduces.fold_fiber_r2_a1 reduces_S128x8192_S128 (ix1 p) IKind.minsi.op 2147483647#32 v)

/-! ## A round at an index -/

theorem nearest_at (d : FVec Ideal S128x8192 .f32) (p : Fin 128) (k : Fin 8192) (h : Nearest.Is (fun n => (d (ix2 p n) : EReal)) k) :
    nearest d (ix2 p (0 : Fin 1)) = BitVec.ofNat 32 k.val := by
  unfold nearest
  rw [col_at, mini_at]
  refine Nearest.fold_lane le_rfl h _ fun n => ?_
  have hs := (spread_at (shapeCast S128x1 (multiReduction .minimumf [1] S128 d 0x7F800000#32 reduces_S128x8192_S128 (.inl rfl) rfl)
    shapeCasts_S128_S128x1) p n).trans ((col_at _ p).trans ((minf_at d p).trans (Nearest.fold_min h)))
  rw [select_apply, cmpf_apply, hs]
  show Scalar.select (BitVec.ofBool (decide ((d (ix2 p n) : EReal) = d (ix2 p k)))) (BitVec.ofNat 32 (0 * 8192 + n.val)) 8192#32 = _
  by_cases e : (d (ix2 p n) : EReal) = d (ix2 p k)
  · rw [if_pos e, decide_eq_true e]
    show BitVec.ofNat 32 (0 * 8192 + n.val) = _
    rw [Nat.zero_mul, Nat.zero_add]
  · rw [if_neg e, decide_eq_false e]; rfl

/-- Two small numbers have equal words only when they are equal. -/
theorem word_eq {a b : ℕ} (ha : a < 2 ^ 32) (hb : b < 2 ^ 32) : IntOp.cmpi .eq (BitVec.ofNat 32 a) (BitVec.ofNat 32 b) = if a = b then 1#1 else 0#1 := by
  simp only [IntOp.cmpi]
  by_cases h : a = b
  · subst h; simp
  · rw [if_neg h]
    have : (BitVec.ofNat 32 a == BitVec.ofNat 32 b) = false := by
      rw [beq_eq_false_iff_ne]
      intro e
      have := congrArg BitVec.toNat e
      simp only [BitVec.toNat_ofNat] at this
      omega
    rw [this]; rfl

theorem strike_at (d : FVec Ideal S128x8192 .f32) (w : IVec S128x1 32) (p : Fin 128) (k n : Fin 8192) (hk : w (ix2 p (0 : Fin 1)) = BitVec.ofNat 32 k.val) :
    (strike d w (ix2 p n) : EReal) = if n = k then ⊤ else d (ix2 p n) := by
  unfold strike
  rw [select_apply]
  have hc : cmpi .eq lane (broadcastTo S128x8192 w broadcasts_S128x1_S128x8192) (ix2 p n) = if n.val = k.val then 1#1 else 0#1 := by
    show IntOp.cmpi .eq (BitVec.ofNat 32 (0 * 8192 + n.val)) (broadcastTo S128x8192 w broadcasts_S128x1_S128x8192 (ix2 p n)) = _
    rw [spread_at, hk, Nat.zero_mul, Nat.zero_add]
    have := n.isLt; have := k.isLt
    exact word_eq (by omega) (by omega)
  rw [hc]
  by_cases e : n = k
  · rw [if_pos e, if_pos (congrArg Fin.val e), select_one]
    exact Nearest.ofBits_top
  · rw [if_neg e, if_neg fun h => e (Fin.ext h), select_zero]

theorem note_at (a : IVec S128x32 32) (w : IVec S128x1 32) (p : Fin 128) (i : Fin 32) (j : ℕ) (hj : j < 32) :
    note a (BitVec.ofNat 32 j) w (ix2 p i) = if i.val = j then w (ix2 p (0 : Fin 1)) else a (ix2 p i) := by
  unfold note
  rw [select_apply]
  have hc : cmpi .eq place (broadcast S128x32 (BitVec.ofNat 32 j)) (ix2 p i) = if i.val = j then 1#1 else 0#1 := by
    show IntOp.cmpi .eq (BitVec.ofNat 32 (0 * 32 + i.val)) (BitVec.ofNat 32 j) = _
    rw [Nat.zero_mul, Nat.zero_add]
    have := i.isLt
    exact word_eq (by omega) (by omega)
  rw [hc]
  by_cases e : i.val = j
  · rw [if_pos e, if_pos e, select_one, spreadList_at, shapeCast_self]
  · rw [if_neg e, if_neg e, select_zero]

/-! ## The rounds -/

/-- After `j` rounds over rows of distances `D`: what is left of them, and the indices written down. -/
def After (D : Fin 128 → Fin 8192 → EReal) (j : ℕ) (d : FVec Ideal S128x8192 .f32) (a : IVec S128x32 32) : Prop :=
  (∀ p n, (d (ix2 p n) : EReal) = Nearest.rest (D p) j n)
    ∧ ∀ (p : Fin 128) (i : Fin 32), i.val < j → a (ix2 p i) = BitVec.ofNat 32 (Nearest.taken (D p) i.val).val

theorem after_zero (D : Fin 128 → Fin 8192 → EReal) (d : FVec Ideal S128x8192 .f32) (a : IVec S128x32 32)
    (h : ∀ p n, (d (ix2 p n) : EReal) = D p n) : After D 0 d a :=
  ⟨h, fun p i hi => absurd hi (Nat.not_lt_zero _)⟩

variable {D : Fin 128 → Fin 8192 → EReal}

theorem nearest_of {j : ℕ} {d : FVec Ideal S128x8192 .f32} {a : IVec S128x32 32} (h : After D j d a) (p : Fin 128) :
    nearest d (ix2 p (0 : Fin 1)) = BitVec.ofNat 32 (Nearest.taken (D p) j).val := by
  refine nearest_at d p _ ?_
  rw [show (fun n => (d (ix2 p n) : EReal)) = Nearest.rest (D p) j from funext (h.1 p)]
  exact Nearest.smallest_is _

/-- The last round, whose distances are not used again. -/
theorem after_note (j : ℕ) (hj : j < 32) {d : FVec Ideal S128x8192 .f32} {a : IVec S128x32 32} (h : After D j d a) (p : Fin 128) (i : Fin 32) (hi : i.val < j + 1) :
    note a (BitVec.ofNat 32 j) (nearest d) (ix2 p i) = BitVec.ofNat 32 (Nearest.taken (D p) i.val).val := by
  rw [note_at a _ p i j hj]
  by_cases e : i.val = j
  · rw [if_pos e, nearest_of h p]
    subst e; rfl
  · rw [if_neg e]
    exact h.2 p i (by omega)

theorem after_round (j : ℕ) (hj : j < 32) {d : FVec Ideal S128x8192 .f32} {a : IVec S128x32 32} (h : After D j d a) :
    After D (j + 1) (round d) (note a (BitVec.ofNat 32 j) (nearest d)) := by
  refine ⟨fun p n => ?_, fun p i hi => after_note j hj h p i hi⟩
  unfold round
  rw [strike_at d _ p (Nearest.taken (D p) j) n (nearest_of h p), h.1 p n]
  rfl

end Cert.Proof.SelectIdeal

end
-- ==== Proof.SelectIdealRounds.lean ====
/-
  The selecting kernel's 32 rounds one after another: its output block is the list of the indices that the rounds take.
-/
module

public import proofs.«01_k».proof.Proof.SelectIdealRound

@[expose] public section

set_option maxRecDepth 16384

noncomputable section

namespace Cert.Proof.SelectIdeal

open Cert.SelectIdeal Cert.SelectIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

variable (x0 x1 x2 : Vec Ideal S128x1 .f32) (x3 x4 x5 : Vec Ideal S1x1x8192 .f32)

/-- The block's distances. -/
def dists : FVec Ideal S128x8192 .f32 :=
  k0_pay13 (k0_pay94 x0 x1 x2 x3 x4 x5) (k0_pay95 x0 x1 x2 x3 x4 x5) (k0_pay96 x0 x1 x2 x3 x4 x5) (k0_pay97 x0 x1 x2 x3 x4 x5)
    (k0_pay98 x0 x1 x2 x3 x4 x5) (k0_pay99 x0 x1 x2 x3 x4 x5)

theorem listed_at (v : IVec S128x32 32) (p : Fin 128) (i : Fin 32) :
    shapeCast S1x128x32 v shapeCasts_S128x32_S1x128x32 (ix3 (0 : Fin 1) p i) = v (ix2 p i) :=
  shapeCast_apply _ _ (ix3 (0 : Fin 1) p i) (ix2 p i) (by
    rw [Shape.rowMajor_val_three, Shape.rowMajor_val_two]
    show p.val * 32 + i.val = (0 * 128 + p.val) * 32 + i.val
    omega)

/-! What a group of rounds leaves, whatever the rows it starts from: the next rows, and the list with one group more. -/

section Groups

/-- The smallest entry of each row. -/
abbrev low (d : FVec Ideal S128x8192 .f32) : FVec Ideal S128 .f32 :=
  multiReduction .minimumf [1] S128 d 0x7F800000#32 reduces_S128x8192_S128 (.inl rfl) rfl

/-- The same beside every lane. -/
abbrev lows (d : FVec Ideal S128x8192 .f32) : FVec Ideal S128x8192 .f32 :=
  broadcastTo S128x8192 (shapeCast S128x1 (low d) shapeCasts_S128_S128x1) broadcasts_S128x1_S128x8192

/-- The lanes where the row is smallest, and 8192 elsewhere. -/
abbrev candidates (d : FVec Ideal S128x8192 .f32) : IVec S128x8192 32 :=
  select (cmpf .oeq d (lows d)) lane (broadcast S128x8192 8192#32)

/-- The smallest candidate of each row. -/
abbrev first (d : FVec Ideal S128x8192 .f32) : IVec S128 32 :=
  multiReductionI .minsi [1] S128 (candidates d) 2147483647#32 reduces_S128x8192_S128 rfl

/-- A row's word beside every lane. -/
abbrev spread (k : IVec S128x1 32) : IVec S128x8192 32 := broadcastTo S128x8192 k broadcasts_S128x1_S128x8192

variable {D : Fin 128 → Fin 8192 → EReal} {d : FVec Ideal S128x8192 .f32} {a : IVec S128x32 32}

theorem three {j : ℕ} (hj : j + 2 < 32) (h : After D j d a) :
    After D (j + 3) (round (round (round d)))
      (note (note (note a (BitVec.ofNat 32 j) (nearest d)) (BitVec.ofNat 32 (j + 1)) (nearest (round d))) (BitVec.ofNat 32 (j + 2)) (nearest (round (round d)))) :=
  after_round (j + 2) hj (after_round (j + 1) (by omega) (after_round j (by omega) h))

theorem two {j : ℕ} (hj : j + 1 < 32) (h : After D j d a) :
    After D (j + 2) (round (round d))
      (note (note a (BitVec.ofNat 32 j) (nearest d)) (BitVec.ofNat 32 (j + 1)) (nearest (round d))) :=
  after_round (j + 1) hj (after_round j (by omega) h)

theorem rounds_1 (h : After D 1 d a) :
    After D 4 (k0_pay24 lane d (spread (nearest d))) (k0_pay23 lane place d (note a 1#32 (nearest d)) (spread (nearest d))) :=
  three (by decide) h

theorem rounds_4 (h : After D 4 d a) : After D 7 (k0_pay31 lane d (nearest d)) (k0_pay30 lane place a d (nearest d) 4#32) :=
  three (by decide) h

theorem rounds_7 (h : After D 7 d a) :
    After D 10 (k0_pay39 lane d (cmpf .oeq d (lows d)) 8192#32) (k0_pay38 lane place a d (cmpf .oeq d (lows d)) 8192#32) :=
  three (by decide) h

theorem rounds_10 (h : After D 10 d a) : After D 12 (k0_pay44 lane d) (k0_pay43 lane place a d) :=
  two (by decide) h

theorem rounds_12 (h : After D 12 d a) :
    After D 15 (k0_pay53 lane d (nearest d)) (k0_pay52 lane place a d (nearest d) (k0_pay46 place)
      (broadcastTo S128x32 (shapeCast S128x1 (nearest d) shapeCasts_S128x1_S128x1) broadcasts_S128x1_S128x32)) :=
  three (by decide) h

theorem rounds_15 (h : After D 15 d a) : After D 18 (k0_pay61 lane d (first d)) (k0_pay60 lane place a d (first d)) :=
  three (by decide) h

theorem rounds_18 (h : After D 18 d a) :
    After D 20 (k0_pay66 lane d (lows d)) (note (note a 18#32 (nearest d)) 19#32 (nearest (round d))) :=
  two (by decide) h

theorem rounds_20 (h : After D 20 d a) :
    After D 23 (k0_pay75 lane d (cmpi .eq lane (spread (nearest d))) (Scalar.ofBits .f32 0x7F800000#32))
      (k0_pay74 lane place d (note a 20#32 (nearest d)) (cmpi .eq lane (spread (nearest d))) (Scalar.ofBits .f32 0x7F800000#32)) :=
  three (by decide) h

theorem rounds_23 (h : After D 23 d a) :
    After D 26 (k0_pay83 lane d (nearest d)) (k0_pay82 lane place a d (nearest d) (k0_pay77 place)) :=
  three (by decide) h

theorem rounds_26 (h : After D 26 d a) : After D 29 (k0_pay91 lane d (candidates d)) (k0_pay90 lane place a d (candidates d)) :=
  three (by decide) h

theorem rounds_29 (h : After D 29 d a) (p : Fin 128) (i : Fin 32) :
    k0_pay93 lane place a d (low d) (ix3 (0 : Fin 1) p i) = BitVec.ofNat 32 (Nearest.taken (D p) i.val).val := by
  unfold k0_pay93
  refine (listed_at _ p i).trans ?_
  exact after_note 31 (by decide) (two (by decide) h) p i i.isLt

theorem rounds_0 (h : ∀ p n, (d (ix2 p n) : EReal) = D p n) :
    After D 1 (round d) (note (broadcast S128x32 0#32) 0#32 (nearest d)) :=
  after_round 0 (by decide) (after_zero D d _ h)

end Groups

/-- The block the body writes lists the indices that 32 rounds take from each row. -/
theorem out_at {D : Fin 128 → Fin 8192 → EReal} (h : ∀ p n, (dists x0 x1 x2 x3 x4 x5 (ix2 p n) : EReal) = D p n)
    (p : Fin 128) (i : Fin 32) :
    out0_6 x0 x1 x2 x3 x4 x5 (ix3 (0 : Fin 1) p i) = BitVec.ofNat 32 (Nearest.taken (D p) i.val).val := by
  have h1 := rounds_0 h
  have h4 := rounds_1 h1
  have h7 := rounds_4 h4
  have h10 := rounds_7 h7
  have h12 := rounds_10 h10
  have h15 := rounds_12 h12
  have h18 := rounds_15 h15
  have h20 := rounds_18 h18
  have h23 := rounds_20 h20
  have h26 := rounds_23 h23
  have h29 := rounds_26 h26
  unfold out0_6
  rw [View.canon_unit_zero (by funext a; fin_cases a <;> rfl)]
  exact rounds_29 h29 p i

end Cert.Proof.SelectIdeal

end
-- ==== Proof.KnnDist.lean ====
/-
  The distance of a centre and a point over the extended reals, from their coordinates: the root of the sum of the two
  squared lengths less twice the inner product, cut at zero.
-/
module

public import proofs.«01_k».proof.Proof.Nearest

@[expose] public section

set_option maxRecDepth 16384

noncomputable section

namespace Cert.Proof.KnnDist

open Idealize.ShloMosaic

/-- The word 2.0. -/
def two : EReal := FloatOps.ofBits (F := Ideal) .f32 0x40000000#32

theorem two_eq : two = ((2 : ℝ) : EReal) := by
  show Ideal.ofBits .f32 0x40000000#32 = _
  simp only [Ideal.ofBits, Ideal.ieee]
  simp
  rw [← EReal.coe_mul]
  norm_num

def dist (cx cy cz x y z : EReal) : EReal :=
  Ideal.sqrt (max (((cx * cx + cy * cy + cz * cz) + (x * x + y * y + z * z)) - two * (cx * x + cy * y + cz * z)) 0)

/-- From its parts. -/
theorem dist_plain (cx cy cz x y z : EReal) {sc sx ip zero : EReal} (hc : sc = cx * cx + cy * cy + cz * cz) (hx : sx = x * x + y * y + z * z)
    (hi : ip = cx * x + cy * y + cz * z) (h0 : zero = 0) : Ideal.sqrt (max ((sc + sx) - two * ip) zero) = dist cx cy cz x y z := by
  subst hc hx hi h0
  rfl

/-- The sums in another order, from equal parts. -/
theorem dist_of (cx cy cz x y z : EReal) {sc sx zz xx yy zero : EReal} (hc : sc = cx * cx + cz * cz + cy * cy) (hx : sx = x * x + z * z + y * y)
    (hz : zz = cz * z) (hxx : xx = cx * x) (hyy : yy = cy * y) (h0 : zero = 0) :
    Ideal.sqrt (max ((sc + sx) - two * ((xx + yy) + zz)) zero) = dist cx cy cz x y z := by
  subst hc hx hz hxx hyy h0
  unfold dist
  rw [add_right_comm (cx * cx), add_right_comm (x * x)]

/-- Between finite coordinates it is finite. -/
theorem dist_lt (cx cy cz x y z : ℝ) : dist cx cy cz x y z < ⊤ := by
  unfold dist
  rw [two_eq]
  norm_cast
  rw [show ∀ r : ℝ, max (r : EReal) 0 = ((max r 0 : ℝ) : EReal) from fun r => (EReal.coe_strictMono.monotone.map_max (a := r) (b := 0)).symm,
    Ideal.sqrt_coe, if_neg (not_lt.2 (le_max_right _ _))]
  exact EReal.coe_lt_top _

/-- An extended real whose absolute value is below plus infinity is a real. -/
theorem real_of {x : EReal} (h : max x (-x) < ⊤) : ∃ r : ℝ, x = r := by
  induction x with
  | bot => simp at h
  | top => simp at h
  | coe r => exact ⟨r, rfl⟩

end Cert.Proof.KnnDist

end
-- ==== Proof.SelectIdealMath.lean ====
/-
  The selecting kernel's distances read at an index, on the extended reals: the distance of the block's centre and the point.
-/
module

public import proofs.«01_k».proof.Proof.SelectIdealRounds
public import proofs.«01_k».proof.Proof.KnnDist

@[expose] public section

set_option maxRecDepth 16384

noncomputable section

namespace Cert.Proof.SelectIdeal

open Cert.SelectIdeal Cert.SelectIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

variable (x0 x1 x2 : Vec Ideal S128x1 .f32) (x3 x4 x5 : Vec Ideal S1x1x8192 .f32)

theorem ld0 (x : Vec Ideal S128x1 .f32) : View.ld x r0_0 = x := View.ld_unit_zero (by funext a; fin_cases a <;> rfl) _ x
theorem ld1 (x : Vec Ideal S1x1x8192 .f32) : View.ld x r0_1 = x := View.ld_unit_zero (by funext a; fin_cases a <;> rfl) _ x

theorem flat_at {α : Type} (v : S1x1x8192.Idx → α) (n : Fin 8192) :
    shapeCast S1x8192 v shapeCasts_S1x1x8192_S1x8192 (ix2 (0 : Fin 1) n) = v (ix3 (0 : Fin 1) (0 : Fin 1) n) :=
  shapeCast_apply _ _ (ix2 (0 : Fin 1) n) (ix3 (0 : Fin 1) (0 : Fin 1) n) (by
    rw [Shape.rowMajor_val_three, Shape.rowMajor_val_two]
    show (0 * 1 + 0) * 8192 + n.val = 0 * 8192 + n.val
    omega)

theorem spreadRow_at {α : Type} (v : S1x8192.Idx → α) (p : Fin 128) (n : Fin 8192) :
    broadcastTo S128x8192 v broadcasts_S1x8192_S128x8192 (ix2 p n) = v (ix2 (0 : Fin 1) n) :=
  broadcastTo_apply _ _ (ix2 p n) (ix2 (0 : Fin 1) n) fun a => by
    match a with
    | ⟨0, _⟩ => rfl
    | ⟨1, _⟩ => rfl

theorem pay1_eq : k0_pay1 x0 = x0 := shapeCast_self _ _
theorem pay2_eq : k0_pay2 x0 = x0 := shapeCast_self _ _
theorem pay3_eq : k0_pay3 x0 = x0 := shapeCast_self _ _
theorem pay4_at (n : Fin 8192) : k0_pay4 x3 (ix2 (0 : Fin 1) n) = x3 (ix3 (0 : Fin 1) (0 : Fin 1) n) := by
  unfold k0_pay4
  refine (flat_at _ n).trans ?_
  rw [shapeCast_self]
theorem pay5_at (n : Fin 8192) : k0_pay5 x3 (ix2 (0 : Fin 1) n) = x3 (ix3 (0 : Fin 1) (0 : Fin 1) n) := by
  unfold k0_pay5
  refine (flat_at _ n).trans ?_
  rw [shapeCast_self]
theorem pay6_at (n : Fin 8192) : k0_pay6 x3 (ix2 (0 : Fin 1) n) = x3 (ix3 (0 : Fin 1) (0 : Fin 1) n) := by
  unfold k0_pay6
  refine (flat_at _ n).trans ?_
  rw [shapeCast_self]

theorem centre_at (p : Fin 128) : (k0_pay94 x0 x1 x2 x3 x4 x5 (ix2 p (0 : Fin 1)) : EReal)
    = x0 (ix2 p (0 : Fin 1)) * x0 (ix2 p (0 : Fin 1)) + x2 (ix2 p (0 : Fin 1)) * x2 (ix2 p (0 : Fin 1)) + x1 (ix2 p (0 : Fin 1)) * x1 (ix2 p (0 : Fin 1)) := by
  unfold k0_pay94 k0_pay7
  rw [ld0, ld0, ld0, pay1_eq, pay2_eq, pay3_eq]
  rfl

theorem point_at (n : Fin 8192) : (k0_pay95 x0 x1 x2 x3 x4 x5 (ix2 (0 : Fin 1) n) : EReal)
    = x3 (ix3 (0 : Fin 1) (0 : Fin 1) n) * x3 (ix3 (0 : Fin 1) (0 : Fin 1) n) + x5 (ix3 (0 : Fin 1) (0 : Fin 1) n) * x5 (ix3 (0 : Fin 1) (0 : Fin 1) n)
      + x4 (ix3 (0 : Fin 1) (0 : Fin 1) n) * x4 (ix3 (0 : Fin 1) (0 : Fin 1) n) := by
  unfold k0_pay95 k0_pay8
  rw [ld1, ld1, ld1, ← pay4_at x3, ← pay5_at x4, ← pay6_at x5]
  rfl

theorem z_at (n : Fin 8192) : (k0_pay96 x0 x1 x2 x3 x4 x5 (ix2 (0 : Fin 1) n) : EReal) = x5 (ix3 (0 : Fin 1) (0 : Fin 1) n) := by
  unfold k0_pay96 k0_pay9
  rw [ld1, ← pay6_at x5]
  rfl

theorem cz_at (p : Fin 128) : (k0_pay97 x0 x1 x2 x3 x4 x5 (ix2 p (0 : Fin 1)) : EReal) = x2 (ix2 p (0 : Fin 1)) := by
  unfold k0_pay97 k0_pay10
  rw [ld0, pay3_eq]
  rfl

theorem xx_at (p : Fin 128) (n : Fin 8192) : (k0_pay98 x0 x1 x2 x3 x4 x5 (ix2 p n) : EReal) = x0 (ix2 p (0 : Fin 1)) * x3 (ix3 (0 : Fin 1) (0 : Fin 1) n) := by
  unfold k0_pay98 k0_pay11
  rw [ld0, ld1, pay1_eq, ← pay4_at x3]
  exact congrArg₂ (fun a b : EReal => a * b) (spread_at _ p n) (spreadRow_at _ p n)

theorem yy_at (p : Fin 128) (n : Fin 8192) : (k0_pay99 x0 x1 x2 x3 x4 x5 (ix2 p n) : EReal) = x1 (ix2 p (0 : Fin 1)) * x4 (ix3 (0 : Fin 1) (0 : Fin 1) n) := by
  unfold k0_pay99 k0_pay12
  rw [ld0, ld1, pay2_eq, ← pay5_at x4]
  exact congrArg₂ (fun a b : EReal => a * b) (spread_at _ p n) (spreadRow_at _ p n)

theorem dists_at (p : Fin 128) (n : Fin 8192) : (dists x0 x1 x2 x3 x4 x5 (ix2 p n) : EReal)
    = KnnDist.dist (x0 (ix2 p (0 : Fin 1))) (x1 (ix2 p (0 : Fin 1))) (x2 (ix2 p (0 : Fin 1)))
        (x3 (ix3 (0 : Fin 1) (0 : Fin 1) n)) (x4 (ix3 (0 : Fin 1) (0 : Fin 1) n)) (x5 (ix3 (0 : Fin 1) (0 : Fin 1) n)) := by
  have hc := (spread_at (k0_pay94 x0 x1 x2 x3 x4 x5) p n).trans (centre_at x0 x1 x2 x3 x4 x5 p)
  have hx := (spreadRow_at (k0_pay95 x0 x1 x2 x3 x4 x5) p n).trans (point_at x0 x1 x2 x3 x4 x5 n)
  have hcz := (spread_at (k0_pay97 x0 x1 x2 x3 x4 x5) p n).trans (cz_at x0 x1 x2 x3 x4 x5 p)
  have hz := (spreadRow_at (k0_pay96 x0 x1 x2 x3 x4 x5) p n).trans (z_at x0 x1 x2 x3 x4 x5 n)
  have hxx := xx_at x0 x1 x2 x3 x4 x5 p n
  have hyy := yy_at x0 x1 x2 x3 x4 x5 p n
  unfold dists k0_pay13
  exact KnnDist.dist_of _ _ _ _ _ _ hc hx (congrArg₂ (fun a b : EReal => a * b) hcz hz) hxx hyy Ideal.ofBits_zero_f32

end Cert.Proof.SelectIdeal

end
-- ==== Proof.SelectIdealValue.lean ====
/-
  The selecting kernel over its grid: point `8b + g` holds 128 centres of cloud `b` and all its points, and writes their
  lists; so the array of indices, read at a centre, lists the first 32 places of the stable sort of that centre's distances.
-/
module

public import proofs.«01_k».proof.Proof.SelectIdealMath

@[expose] public section

set_option maxRecDepth 16384

noncomputable section

namespace Cert.Proof.SelectIdeal

open Cert.SelectIdeal Cert.SelectIdeal.Gen Cert.SelectIdeal.Value
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

section Host
variable {F : FTy → Type} [FloatOps F]

/-! ## What the host lays out -/

/-- Coordinate `e` of the points, a row for each cloud, and of the centres, one after another. -/
def planeOf (p : S16x8192x3.Idx → F .f32) : Fin 3 → Vec F S16x1x8192 .f32
  | 0 => broadcastInDim S16x1x8192 ![0, 2] bcast_S16x8192_S16x1x8192_0_2
      (shapeCast S16x8192 (extractStridedSlice S16x8192x1 ![0, 0, 0] p slices_S16x8192x3_S16x8192x1_0_0_0) shapeCasts_S16x8192x1_S16x8192)
  | 1 => broadcastInDim S16x1x8192 ![0, 2] bcast_S16x8192_S16x1x8192_0_2
      (shapeCast S16x8192 (extractStridedSlice S16x8192x1 ![0, 0, 1] p slices_S16x8192x3_S16x8192x1_0_0_1) shapeCasts_S16x8192x1_S16x8192)
  | 2 => broadcastInDim S16x1x8192 ![0, 2] bcast_S16x8192_S16x1x8192_0_2
      (shapeCast S16x8192 (extractStridedSlice S16x8192x1 ![0, 0, 2] p slices_S16x8192x3_S16x8192x1_0_0_2) shapeCasts_S16x8192x1_S16x8192)
def columnOf (q : S16x1024x3.Idx → F .f32) : Fin 3 → Vec F S16384x1 .f32
  | 0 => shapeCast S16384x1 (shapeCast S16x1024 (extractStridedSlice S16x1024x1 ![0, 0, 0] q slices_S16x1024x3_S16x1024x1_0_0_0)
      shapeCasts_S16x1024x1_S16x1024) shapeCasts_S16x1024_S16384x1
  | 1 => shapeCast S16384x1 (shapeCast S16x1024 (extractStridedSlice S16x1024x1 ![0, 0, 1] q slices_S16x1024x3_S16x1024x1_0_0_1)
      shapeCasts_S16x1024x1_S16x1024) shapeCasts_S16x1024_S16384x1
  | 2 => shapeCast S16384x1 (shapeCast S16x1024 (extractStridedSlice S16x1024x1 ![0, 0, 2] q slices_S16x1024x3_S16x1024x1_0_0_2)
      shapeCasts_S16x1024x1_S16x1024) shapeCasts_S16x1024_S16384x1

theorem lifted_at {α : Type} (v : S16x8192.Idx → α) (b : Fin 16) (n : Fin 8192) :
    broadcastInDim S16x1x8192 ![0, 2] bcast_S16x8192_S16x1x8192_0_2 v (ix3 b (0 : Fin 1) n) = v (ix2 b n) :=
  broadcastInDim_apply ![0, 2] bcast_S16x8192_S16x1x8192_0_2 v (ix3 b (0 : Fin 1) n) (ix2 b n) fun a => by
    match a with
    | ⟨0, _⟩ => rfl
    | ⟨1, _⟩ => rfl

theorem dropPoint_at {α : Type} (v : S16x8192x1.Idx → α) (b : Fin 16) (n : Fin 8192) :
    shapeCast S16x8192 v shapeCasts_S16x8192x1_S16x8192 (ix2 b n) = v (ix3 b n (0 : Fin 1)) :=
  shapeCast_apply _ _ (ix2 b n) (ix3 b n (0 : Fin 1)) (by
    rw [Shape.rowMajor_val_three, Shape.rowMajor_val_two]
    show (b.val * 8192 + n.val) * 1 + 0 = b.val * 8192 + n.val
    omega)

theorem dropCentre_at {α : Type} (v : S16x1024x1.Idx → α) (b : Fin 16) (s : Fin 1024) :
    shapeCast S16x1024 v shapeCasts_S16x1024x1_S16x1024 (ix2 b s) = v (ix3 b s (0 : Fin 1)) :=
  shapeCast_apply _ _ (ix2 b s) (ix3 b s (0 : Fin 1)) (by
    rw [Shape.rowMajor_val_three, Shape.rowMajor_val_two]
    show (b.val * 1024 + s.val) * 1 + 0 = b.val * 1024 + s.val
    omega)

theorem column_at {α : Type} (v : S16x1024.Idx → α) (r : Fin 16384) (b : Fin 16) (s : Fin 1024) (h : r.val = b.val * 1024 + s.val) :
    shapeCast S16384x1 v shapeCasts_S16x1024_S16384x1 (ix2 r (0 : Fin 1)) = v (ix2 b s) :=
  shapeCast_apply _ _ (ix2 r (0 : Fin 1)) (ix2 b s) (by
    rw [Shape.rowMajor_val_two, Shape.rowMajor_val_two]
    show b.val * 1024 + s.val = r.val * 1 + 0
    omega)

theorem planeOf_at (p : S16x8192x3.Idx → F .f32) (e : Fin 3) (b : Fin 16) (n : Fin 8192) : planeOf p e (ix3 b (0 : Fin 1) n) = p (ix3 b n e) := by
  match e with
  | ⟨0, _⟩ => exact (lifted_at _ b n).trans ((dropPoint_at _ b n).trans (extractStridedSlice_apply ![0, 0, 0] p _ (ix3 b n (0 : Fin 1)) (ix3 b n (0 : Fin 3)) fun a => by
      match a with
      | ⟨0, _⟩ => exact (Nat.zero_add _).symm
      | ⟨1, _⟩ => exact (Nat.zero_add _).symm
      | ⟨2, _⟩ => rfl))
  | ⟨1, _⟩ => exact (lifted_at _ b n).trans ((dropPoint_at _ b n).trans (extractStridedSlice_apply ![0, 0, 1] p _ (ix3 b n (0 : Fin 1)) (ix3 b n (1 : Fin 3)) fun a => by
      match a with
      | ⟨0, _⟩ => exact (Nat.zero_add _).symm
      | ⟨1, _⟩ => exact (Nat.zero_add _).symm
      | ⟨2, _⟩ => rfl))
  | ⟨2, _⟩ => exact (lifted_at _ b n).trans ((dropPoint_at _ b n).trans (extractStridedSlice_apply ![0, 0, 2] p _ (ix3 b n (0 : Fin 1)) (ix3 b n (2 : Fin 3)) fun a => by
      match a with
      | ⟨0, _⟩ => exact (Nat.zero_add _).symm
      | ⟨1, _⟩ => exact (Nat.zero_add _).symm
      | ⟨2, _⟩ => rfl))

theorem columnOf_at (q : S16x1024x3.Idx → F .f32) (e : Fin 3) (r : Fin 16384) (b : Fin 16) (s : Fin 1024) (h : r.val = b.val * 1024 + s.val) :
    columnOf q e (ix2 r (0 : Fin 1)) = q (ix3 b s e) := by
  match e with
  | ⟨0, _⟩ => exact (column_at _ r b s h).trans ((dropCentre_at _ b s).trans (extractStridedSlice_apply ![0, 0, 0] q _ (ix3 b s (0 : Fin 1)) (ix3 b s (0 : Fin 3)) fun a => by
      match a with
      | ⟨0, _⟩ => exact (Nat.zero_add _).symm
      | ⟨1, _⟩ => exact (Nat.zero_add _).symm
      | ⟨2, _⟩ => rfl))
  | ⟨1, _⟩ => exact (column_at _ r b s h).trans ((dropCentre_at _ b s).trans (extractStridedSlice_apply ![0, 0, 1] q _ (ix3 b s (0 : Fin 1)) (ix3 b s (1 : Fin 3)) fun a => by
      match a with
      | ⟨0, _⟩ => exact (Nat.zero_add _).symm
      | ⟨1, _⟩ => exact (Nat.zero_add _).symm
      | ⟨2, _⟩ => rfl))
  | ⟨2, _⟩ => exact (column_at _ r b s h).trans ((dropCentre_at _ b s).trans (extractStridedSlice_apply ![0, 0, 2] q _ (ix3 b s (0 : Fin 1)) (ix3 b s (2 : Fin 3)) fun a => by
      match a with
      | ⟨0, _⟩ => exact (Nat.zero_add _).symm
      | ⟨1, _⟩ => exact (Nat.zero_add _).symm
      | ⟨2, _⟩ => rfl))

variable (m : (ℓ : Loc nD τ sig) → Buf (Elt F) ℓ)

/-- The arguments at launch. -/
def points (c : Dev nD) : S16x8192x3.Idx → F .f32 := m ((c : Thread nD τ).loc main_arg0)
def centres (c : Dev nD) : S16x1024x3.Idx → F .f32 := m ((c : Thread nD τ).loc main_arg1)

set_option maxHeartbeats 4000000

theorem V_cx (c : Dev nD) : (V m c main_v8 : Vec F S16384x1 .f32) = columnOf (centres m c) 0 := by
  unfold V
  simp only [hostOps0]
  after_results <;> rfl
theorem V_cy (c : Dev nD) : (V m c main_v11 : Vec F S16384x1 .f32) = columnOf (centres m c) 1 := by
  unfold V
  simp only [hostOps0]
  after_results <;> rfl
theorem V_cz (c : Dev nD) : (V m c main_v14 : Vec F S16384x1 .f32) = columnOf (centres m c) 2 := by
  unfold V
  simp only [hostOps0]
  after_results <;> rfl
theorem V_x (c : Dev nD) : (V m c main_v15 : Vec F S16x1x8192 .f32) = planeOf (points m c) 0 := by
  unfold V
  simp only [hostOps0]
  after_results <;> rfl
theorem V_y (c : Dev nD) : (V m c main_v16 : Vec F S16x1x8192 .f32) = planeOf (points m c) 1 := by
  unfold V
  simp only [hostOps0]
  after_results <;> rfl
theorem V_z (c : Dev nD) : (V m c main_v17 : Vec F S16x1x8192 .f32) = planeOf (points m c) 2 := by
  unfold V
  simp only [hostOps0]
  after_results <;> rfl

/-! ## The blocks of a grid point -/

theorem ixC0 : ∀ t : Fin cfg0.N, win0_0.index t 0 = t.val ∧ win0_0.index t 1 = 0 :=
  (by decide +kernel : ∀ t : Fin grid0.N, win0_0.index t 0 = t.val ∧ win0_0.index t 1 = 0)
theorem ixC1 : ∀ t : Fin cfg0.N, win0_1.index t 0 = t.val ∧ win0_1.index t 1 = 0 :=
  (by decide +kernel : ∀ t : Fin grid0.N, win0_1.index t 0 = t.val ∧ win0_1.index t 1 = 0)
theorem ixC2 : ∀ t : Fin cfg0.N, win0_2.index t 0 = t.val ∧ win0_2.index t 1 = 0 :=
  (by decide +kernel : ∀ t : Fin grid0.N, win0_2.index t 0 = t.val ∧ win0_2.index t 1 = 0)
theorem ixP3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem ixP4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem ixP5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)
theorem ixO6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

/-- The centre in row `p` of the point's block. -/
def centreOf (g : Fin 8) (p : Fin 128) : Fin 1024 := ⟨g.val * 128 + p.val, by omega⟩
theorem row_lt (b : Fin 16) (g : Fin 8) (p : Fin 128) : (b.val * 8 + g.val) * 128 + p.val < 16384 := by omega

variable (c : Dev nD) (t : Fin cfg0.N) (b : Fin 16) (g : Fin 8) (ht : t.val = b.val * 8 + g.val)
include ht

theorem iblk_cx (p : Fin 128) : (iblk m c 0 t : Vec F S128x1 .f32) (ix2 p (0 : Fin 1)) = centres m c (ix3 b (centreOf g p) (0 : Fin 3)) := by
  rw [← columnOf_at (centres m c) 0 ⟨(b.val * 8 + g.val) * 128 + p.val, row_lt b g p⟩ b (centreOf g p) (by show (b.val * 8 + g.val) * 128 + p.val = b.val * 1024 + (g.val * 128 + p.val); omega), ← V_cx]
  unfold iblk
  rw [View.read_apply]
  show V m c main_v8 _ = V m c main_v8 _
  congr 1
  funext a
  apply Fin.ext
  match a with
  | ⟨0, _⟩ => show win0_0.index t 0 * 128 + 1 * p.val = (b.val * 8 + g.val) * 128 + p.val; rw [(ixC0 t).1, ht]; omega
  | ⟨1, _⟩ => show win0_0.index t 1 * 1 + 1 * 0 = 0; rw [(ixC0 t).2]
theorem iblk_cy (p : Fin 128) : (iblk m c 1 t : Vec F S128x1 .f32) (ix2 p (0 : Fin 1)) = centres m c (ix3 b (centreOf g p) (1 : Fin 3)) := by
  rw [← columnOf_at (centres m c) 1 ⟨(b.val * 8 + g.val) * 128 + p.val, row_lt b g p⟩ b (centreOf g p) (by show (b.val * 8 + g.val) * 128 + p.val = b.val * 1024 + (g.val * 128 + p.val); omega), ← V_cy]
  unfold iblk
  rw [View.read_apply]
  show V m c main_v11 _ = V m c main_v11 _
  congr 1
  funext a
  apply Fin.ext
  match a with
  | ⟨0, _⟩ => show win0_1.index t 0 * 128 + 1 * p.val = (b.val * 8 + g.val) * 128 + p.val; rw [(ixC1 t).1, ht]; omega
  | ⟨1, _⟩ => show win0_1.index t 1 * 1 + 1 * 0 = 0; rw [(ixC1 t).2]
theorem iblk_cz (p : Fin 128) : (iblk m c 2 t : Vec F S128x1 .f32) (ix2 p (0 : Fin 1)) = centres m c (ix3 b (centreOf g p) (2 : Fin 3)) := by
  rw [← columnOf_at (centres m c) 2 ⟨(b.val * 8 + g.val) * 128 + p.val, row_lt b g p⟩ b (centreOf g p) (by show (b.val * 8 + g.val) * 128 + p.val = b.val * 1024 + (g.val * 128 + p.val); omega), ← V_cz]
  unfold iblk
  rw [View.read_apply]
  show V m c main_v14 _ = V m c main_v14 _
  congr 1
  funext a
  apply Fin.ext
  match a with
  | ⟨0, _⟩ => show win0_2.index t 0 * 128 + 1 * p.val = (b.val * 8 + g.val) * 128 + p.val; rw [(ixC2 t).1, ht]; omega
  | ⟨1, _⟩ => show win0_2.index t 1 * 1 + 1 * 0 = 0; rw [(ixC2 t).2]
theorem iblk_x (n : Fin 8192) : (iblk m c 3 t : Vec F S1x1x8192 .f32) (ix3 (0 : Fin 1) (0 : Fin 1) n) = points m c (ix3 b n (0 : Fin 3)) := by
  rw [← planeOf_at (points m c) 0 b n, ← V_x]
  unfold iblk
  rw [View.read_apply]
  show V m c main_v15 _ = V m c main_v15 _
  congr 1
  funext a
  apply Fin.ext
  match a with
  | ⟨0, _⟩ => show win0_3.index t 0 * 1 + 1 * 0 = b.val; rw [(ixP3 t).1, ht]; omega
  | ⟨1, _⟩ => show win0_3.index t 1 * 1 + 1 * 0 = 0; rw [(ixP3 t).2.1]
  | ⟨2, _⟩ => show win0_3.index t 2 * 8192 + 1 * n.val = n.val; rw [(ixP3 t).2.2]; omega
theorem iblk_y (n : Fin 8192) : (iblk m c 4 t : Vec F S1x1x8192 .f32) (ix3 (0 : Fin 1) (0 : Fin 1) n) = points m c (ix3 b n (1 : Fin 3)) := by
  rw [← planeOf_at (points m c) 1 b n, ← V_y]
  unfold iblk
  rw [View.read_apply]
  show V m c main_v16 _ = V m c main_v16 _
  congr 1
  funext a
  apply Fin.ext
  match a with
  | ⟨0, _⟩ => show win0_4.index t 0 * 1 + 1 * 0 = b.val; rw [(ixP4 t).1, ht]; omega
  | ⟨1, _⟩ => show win0_4.index t 1 * 1 + 1 * 0 = 0; rw [(ixP4 t).2.1]
  | ⟨2, _⟩ => show win0_4.index t 2 * 8192 + 1 * n.val = n.val; rw [(ixP4 t).2.2]; omega
theorem iblk_z (n : Fin 8192) : (iblk m c 5 t : Vec F S1x1x8192 .f32) (ix3 (0 : Fin 1) (0 : Fin 1) n) = points m c (ix3 b n (2 : Fin 3)) := by
  rw [← planeOf_at (points m c) 2 b n, ← V_z]
  unfold iblk
  rw [View.read_apply]
  show V m c main_v17 _ = V m c main_v17 _
  congr 1
  funext a
  apply Fin.ext
  match a with
  | ⟨0, _⟩ => show win0_5.index t 0 * 1 + 1 * 0 = b.val; rw [(ixP5 t).1, ht]; omega
  | ⟨1, _⟩ => show win0_5.index t 1 * 1 + 1 * 0 = 0; rw [(ixP5 t).2.1]
  | ⟨2, _⟩ => show win0_5.index t 2 * 8192 + 1 * n.val = n.val; rw [(ixP5 t).2.2]; omega

/-- The array of indices holds, at the point's block, what the point wrote. -/
theorem array_at (p : Fin 128) (i : Fin 32) :
    ((dats m 0 c).arrAt 6 cfg0.N : Vec F S16x1024x32 .i32) (ix3 b (centreOf g p) i)
      = out0_6 (iblk m c 0 t) (iblk m c 1 t) (iblk m c 2 t) (iblk m c 3 t) (iblk m c 4 t) (iblk m c 5 t) (ix3 (0 : Fin 1) p i) := by
  have hb := congrFun ((blocks6 m c t (flush0_6 t)).trans (flushed6 m c t)) (ix3 (0 : Fin 1) p i)
  rw [View.read_apply] at hb
  refine Eq.trans ?_ hb
  show (dats m 0 c).arrAt 6 cfg0.N _ = (dats m 0 c).arrAt 6 cfg0.N _
  congr 1
  funext a
  apply Fin.ext
  match a with
  | ⟨0, _⟩ => show b.val = win0_6.index t 0 * 1 + 1 * 0; rw [(ixO6 t).1, ht]; omega
  | ⟨1, _⟩ => show g.val * 128 + p.val = win0_6.index t 1 * 128 + 1 * p.val; rw [(ixO6 t).2.1, ht]; omega
  | ⟨2, _⟩ => show i.val = win0_6.index t 2 * 32 + 1 * i.val; rw [(ixO6 t).2.2]; omega

end Host

/-! ## The array of indices, on the extended reals -/

variable (m : (ℓ : Loc nD τ sig) → Buf (Elt Ideal) ℓ) (c : Dev nD)

/-- The distances of centre `s` of cloud `b`. -/
def distOf (x : S16x8192x3.Idx → EReal) (q : S16x1024x3.Idx → EReal) (b : Fin 16) (s : Fin 1024) (n : Fin 8192) : EReal :=
  KnnDist.dist (q (ix3 b s (0 : Fin 3))) (q (ix3 b s (1 : Fin 3))) (q (ix3 b s (2 : Fin 3))) (x (ix3 b n (0 : Fin 3))) (x (ix3 b n (1 : Fin 3))) (x (ix3 b n (2 : Fin 3)))

theorem array_eq (hD : ∀ b s n, distOf (points m c) (centres m c) b s n < ⊤) (b : Fin 16) (s : Fin 1024) (i : Fin 32) :
    ((dats m 0 c).arrAt 6 cfg0.N : Vec Ideal S16x1024x32 .i32) (ix3 b s i)
      = BitVec.ofNat 32 (Nearest.pick (distOf (points m c) (centres m c) b s) (i.castLE (by decide))).val := by
  obtain ⟨g, p, rfl⟩ : ∃ (g : Fin 8) (p : Fin 128), s = centreOf g p :=
    ⟨⟨s.val / 128, by omega⟩, ⟨s.val % 128, by omega⟩, Fin.ext (by show s.val = s.val / 128 * 128 + s.val % 128; omega)⟩
  have hN : b.val * 8 + g.val < cfg0.N := lt_of_lt_of_eq (show b.val * 8 + g.val < 128 by omega) N_0.symm
  refine (array_at m c ⟨_, hN⟩ b g rfl p i).trans ?_
  rw [← Nearest.taken_eq _ (hD b _) (i.castLE (by decide))]
  refine out_at _ _ _ _ _ _ (D := fun p n => distOf (points m c) (centres m c) b (centreOf g p) n) (fun p n => ?_) p i
  refine (dists_at _ _ _ _ _ _ p n).trans ?_
  rw [iblk_cx m c ⟨_, hN⟩ b g rfl p, iblk_cy m c ⟨_, hN⟩ b g rfl p, iblk_cz m c ⟨_, hN⟩ b g rfl p,
    iblk_x m c ⟨_, hN⟩ b g rfl n, iblk_y m c ⟨_, hN⟩ b g rfl n, iblk_z m c ⟨_, hN⟩ b g rfl n]
  rfl

end Cert.Proof.SelectIdeal

end
-- ==== Proof.Finite2.lean ====
/-
  What the precondition says: every coordinate of the points and of the centres is a real number, so every distance is
  below infinity.
-/
module

public import proofs.«01_k».proof.Proof.SelectIdealValue
public import proofs.«01_k».proof.Proof.Gen.Pre_finite2
public import Idealize.ShloMosaic.Lib.ReduceAll

@[expose] public section

set_option maxRecDepth 16384

noncomputable section

namespace Cert.Proof.Finite2

open Idealize.ShloMosaic hiding ix1 ix2 ix3 ix4 eq_ix1 eq_ix2 eq_ix3 eq_ix4
open Idealize.ShloMosaic.ValueIdx
open Cert.Pre_finite2 Cert.Pre_finite2.Gen

/-- "And" of two truth words is one only where both are. -/
theorem and_one : ∀ a b : BitVec 1, IntOp.andi a b = 1#1 → a = 1#1 ∧ b = 1#1 := by decide

/-- A truth word is one only where what it was made of is true. -/
theorem true_of : ∀ b : Bool, BitVec.ofBool b = 1#1 → b = true := by decide

theorem real_of_olt {x : EReal} (h : FloatOps.cmpf (F := Ideal) (φ := .f32) .olt (FloatOps.hostAbsf (F := Ideal) (φ := .f32) x)
    (FloatOps.ofBits (F := Ideal) .f32 0x7F800000#32) = 1#1) : ∃ r : ℝ, x = r := by
  rw [Nearest.ofBits_top] at h
  exact KnnDist.real_of (of_decide_eq_true (true_of _ h))

variable (x : S16x8192x3.Idx → Ideal .f32) (q : S16x1024x3.Idx → Ideal .f32)
    (h : Cert.Pre_finite2.fn (F := Ideal) x q = fun _ => 1#1)

include h

theorem point_real (j : S16x8192x3.Idx) : ∃ r : ℝ, (x j : EReal) = r := by
  have hand := (and_one _ _ (congrFun h (fun a => a.elim0))).1
  exact real_of_olt (Host.reduce_andi_all _ (constantI S_ 1 1#1) reducesTo_S16x8192x3_S_d0_1_2 h_S_ _ hand j)

theorem centre_real (j : S16x1024x3.Idx) : ∃ r : ℝ, (q j : EReal) = r := by
  have hand := (and_one _ _ (congrFun h (fun a => a.elim0))).2
  exact real_of_olt (Host.reduce_andi_all _ (constantI S_ 1 1#1) reducesTo_S16x1024x3_S_d0_1_2 h_S_ _ hand j)

theorem dist_lt_top (b : Fin 16) (s : Fin 1024) (n : Fin 8192) : SelectIdeal.distOf x q b s n < ⊤ := by
  obtain ⟨c0, h0⟩ := centre_real x q h (ix3 b s (0 : Fin 3))
  obtain ⟨c1, h1⟩ := centre_real x q h (ix3 b s (1 : Fin 3))
  obtain ⟨c2, h2⟩ := centre_real x q h (ix3 b s (2 : Fin 3))
  obtain ⟨p0, k0⟩ := point_real x q h (ix3 b n (0 : Fin 3))
  obtain ⟨p1, k1⟩ := point_real x q h (ix3 b n (1 : Fin 3))
  obtain ⟨p2, k2⟩ := point_real x q h (ix3 b n (2 : Fin 3))
  unfold SelectIdeal.distOf
  rw [h0, h1, h2, k0, k1, k2]
  exact KnnDist.dist_lt c0 c1 c2 p0 p1 p2

end Cert.Proof.Finite2

end
-- ==== Proof.TopK.lean ====
/-
  The indices of the smallest entries, as the greatest of the negated ones: place `i` of the list is place `i` of the stable
  sort.
-/
module

public import proofs.«01_k».proof.Proof.Nearest
public import Idealize.ShloMosaic.Lib.ValueIdxCore
public import Idealize.ShloMosaic.Lib.Routing.OpsOne

@[expose] public section

set_option maxRecDepth 16384

noncomputable section

namespace Cert.Proof.TopK

open Idealize.ShloMosaic hiding ix1 ix2 ix3 ix4 eq_ix1 eq_ix2 eq_ix3 eq_ix4
open Idealize.ShloMosaic.ValueIdx

variable {A B C K : ℕ}

/-- One number is greater than another after negation when it was smaller. -/
theorem greater (x y : EReal) : (FloatOps.cmpfTotal (F := Ideal) (φ := .f32) .gt (-x : EReal) (-y : EReal) == 1#1) = decide (x < y) := by
  show (BitVec.ofBool (decide ((-y : EReal) < -x)) == 1#1) = _
  by_cases h : x < y
  · rw [decide_eq_true h, decide_eq_true (EReal.neg_lt_neg_iff.2 h)]; rfl
  · rw [decide_eq_false h, decide_eq_false fun e => h (EReal.neg_lt_neg_iff.1 e)]; rfl

/-- The last of three axes. -/
abbrev last : Fin (⟨3, ![A, B, C]⟩ : Shape).rank := (2 : Fin 3)

theorem along_eq (a : Fin A) (b : Fin B) (n k : Fin C) :
    Shape.Idx.along (ix3 a b n : (⟨3, ![A, B, C]⟩ : Shape).Idx) last (k : Fin ((⟨3, ![A, B, C]⟩ : Shape).size last)) = ix3 a b k := by
  unfold Shape.Idx.along
  funext r
  match r with
  | ⟨0, _⟩ => rfl
  | ⟨1, _⟩ => rfl
  | ⟨2, _⟩ => exact Function.update_self ..

theorem topK_at (hK : K ≤ C) (v : FVec Ideal ⟨3, ![A, B, C]⟩ .f32) (h : (⟨3, ![A, B, C]⟩ : Shape).Slices (fun _ => 0) ⟨3, ![A, B, K]⟩)
    (a : Fin A) (b : Fin B) (i : Fin K) :
    (Host.topK ⟨3, ![A, B, K]⟩ 2 (FloatOps.cmpfTotal .gt) (Host.negf v) h).2 (ix3 a b i)
      = BitVec.ofNat 32 (Nearest.pick (fun n => (v (ix3 a b n) : EReal)) (i.castLE hK)).val := by
  unfold Host.topK
  dsimp only
  refine (extractStridedSlice_apply (fun _ => 0) _ _ (ix3 a b i) (ix3 a b (i.castLE hK)) fun r => ?_).trans ?_
  · match r with
    | ⟨0, _⟩ => exact (Nat.zero_add _).symm
    | ⟨1, _⟩ => exact (Nat.zero_add _).symm
    | ⟨2, _⟩ => exact (Nat.zero_add _).symm
  unfold Host.sort2
  rw [dif_pos (show 2 < 3 by decide)]
  dsimp only
  rw [dif_pos (show 2 < 3 by decide)]
  have hp : (fun k k' : Fin C =>
      (FloatOps.cmpfTotal (F := Ideal) (φ := .f32) .gt
        (Host.negf v (Shape.Idx.along (ix3 a b (i.castLE hK) : (⟨3, ![A, B, C]⟩ : Shape).Idx) last (k : Fin ((⟨3, ![A, B, C]⟩ : Shape).size last))))
        (Host.negf v (Shape.Idx.along (ix3 a b (i.castLE hK) : (⟨3, ![A, B, C]⟩ : Shape).Idx) last (k' : Fin ((⟨3, ![A, B, C]⟩ : Shape).size last)))) == 1#1))
      = fun k k' : Fin C => decide ((v (ix3 a b k) : EReal) < v (ix3 a b k')) := by
    funext k k'
    rw [along_eq, along_eq]
    exact greater _ _
  unfold Nearest.pick
  rw [← hp]
  exact congrArg (fun k : Fin C => BitVec.ofNat 32 k.val)
    (Function.update_self (β := fun r => Fin ((⟨3, ![A, B, C]⟩ : Shape).size r)) last _ (ix3 a b (i.castLE hK)))

end Cert.Proof.TopK

end
-- ==== Proof.SelectRef.lean ====
/-
  The selecting reference read at an index, on the extended reals: place `i` of centre `s`'s list is place `i` of the stable
  sort of that centre's distances.
-/
module

public import proofs.«01_k».proof.Proof.Gen.SelectRefIdeal.Run
public import proofs.«01_k».proof.Proof.KnnDist
public import proofs.«01_k».proof.Proof.TopK
public import Idealize.ShloMosaic.Lib.ValueIdxCore
public import Idealize.ShloMosaic.Lib.Pointwise.Contract
public import Idealize.ShloMosaic.Lib.Routing.OpsOne

@[expose] public section

set_option maxRecDepth 16384

noncomputable section

namespace Cert.Proof.SelectRef

open Cert.SelectRefIdeal Cert.SelectRefIdeal.Gen
open Idealize.ShloMosaic hiding ix1 ix2 ix3 ix4 eq_ix1 eq_ix2 eq_ix3 eq_ix4
open Idealize.ShloMosaic.TcCoe Idealize.SL.Sem Idealize.ShloMosaic.StableHlo Idealize.ShloMosaic.ValueIdx

/-- The squared lengths of the centres beside every point, and of the points beside every centre. -/
def centreSq (q : FVec Ideal S16x1024x3 .f32) : FVec Ideal S16x1024x8192 .f32 :=
  broadcastInDim S16x1024x8192 ![0, 1, 2] bcast_S16x1024x1_S16x1024x8192_0_1_2 (broadcastInDim S16x1024x1 ![0, 1] bcast_S16x1024_S16x1024x1_0_1
    (Host.reduceAdd (mulf q q) (constant S_ .f32 0x00000000#32) reducesTo_S16x1024x3_S16x1024_d2 h_S_))
def pointSq (x : FVec Ideal S16x8192x3 .f32) : FVec Ideal S16x1024x8192 .f32 :=
  broadcastInDim S16x1024x8192 ![0, 1, 2] bcast_S16x1x8192_S16x1024x8192_0_1_2 (broadcastInDim S16x1x8192 ![0, 2] bcast_S16x8192_S16x1x8192_0_2
    (Host.reduceAdd (mulf x x) (constant S_ .f32 0x00000000#32) reducesTo_S16x8192x3_S16x8192_d2 h_S_))

/-- The inner products. -/
def inner (x : FVec Ideal S16x8192x3 .f32) (q : FVec Ideal S16x1024x3 .f32) : FVec Ideal S16x1024x8192 .f32 :=
  Host.dotGeneral dot_S16x1024x3_S16x8192x3_S16x1024x8192_2_2_1_1_0_0 none q x

/-- The distances. -/
def dists (x : FVec Ideal S16x8192x3 .f32) (q : FVec Ideal S16x1024x3 .f32) : FVec Ideal S16x1024x8192 .f32 :=
  Host.sqrt (maximumf (subf (addf (centreSq q) (pointSq x)) (mulf (broadcastInDim S16x1024x8192 ![] bcast_S_S16x1024x8192 (constant S_ .f32 0x40000000#32)) (inner x q)))
    (broadcastInDim S16x1024x8192 ![] bcast_S_S16x1024x8192 (constant S_ .f32 0x00000000#32)))

/-- The lists. -/
def lists (x : FVec Ideal S16x8192x3 .f32) (q : FVec Ideal S16x1024x3 .f32) : IVec S16x1024x32 32 :=
  (Host.topK S16x1024x32 2 (FloatOps.cmpfTotal .gt) (Host.negf (dists x q)) sliceFits_S16x1024x8192_S16x1024x32).2

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_indices) = lists (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.SelectRefIdeal.Value.run m ρ

/-! ## The distances at an index -/

theorem centreSum_at (v : FVec Ideal S16x1024x3 .f32) (b : Fin 16) (s : Fin 1024) :
    (Host.reduceAdd v (constant S_ .f32 0x00000000#32) reducesTo_S16x1024x3_S16x1024_d2 h_S_ (ix2 b s) : EReal)
      = (v (ix3 b s (0 : Fin 3)) : EReal) + v (ix3 b s (1 : Fin 3)) + v (ix3 b s (2 : Fin 3)) := by
  rw [Host.reduceAdd_apply]
  refine (Ideal.hostReduceAdd_r3_a2 reducesTo_S16x1024x3_S16x1024_d2 v (Ideal.ofBits .f32 0x00000000#32) (ix2 b s)).trans ?_
  rw [Ideal.ofBits_zero_f32, zero_add, Fin.sum_univ_three]; rfl

theorem pointSum_at (v : FVec Ideal S16x8192x3 .f32) (b : Fin 16) (n : Fin 8192) :
    (Host.reduceAdd v (constant S_ .f32 0x00000000#32) reducesTo_S16x8192x3_S16x8192_d2 h_S_ (ix2 b n) : EReal)
      = (v (ix3 b n (0 : Fin 3)) : EReal) + v (ix3 b n (1 : Fin 3)) + v (ix3 b n (2 : Fin 3)) := by
  rw [Host.reduceAdd_apply]
  refine (Ideal.hostReduceAdd_r3_a2 reducesTo_S16x8192x3_S16x8192_d2 v (Ideal.ofBits .f32 0x00000000#32) (ix2 b n)).trans ?_
  rw [Ideal.ofBits_zero_f32, zero_add, Fin.sum_univ_three]; rfl

theorem besideC_at {α : Type} (v : S16x1024.Idx → α) (b : Fin 16) (s : Fin 1024) (n : Fin 8192) :
    broadcastInDim S16x1024x8192 ![0, 1, 2] bcast_S16x1024x1_S16x1024x8192_0_1_2 (broadcastInDim S16x1024x1 ![0, 1] bcast_S16x1024_S16x1024x1_0_1 v) (ix3 b s n)
      = v (ix2 b s) := by
  rw [broadcastInDim_apply ![0, 1, 2] bcast_S16x1024x1_S16x1024x8192_0_1_2 _ (ix3 b s n) (ix3 b s (0 : Fin 1)) (fun a =>
      match a with | ⟨0, _⟩ => rfl | ⟨1, _⟩ => rfl | ⟨2, _⟩ => rfl),
    broadcastInDim_apply ![0, 1] bcast_S16x1024_S16x1024x1_0_1 v (ix3 b s (0 : Fin 1)) (ix2 b s) (fun a => match a with | ⟨0, _⟩ => rfl | ⟨1, _⟩ => rfl)]

theorem besideP_at {α : Type} (v : S16x8192.Idx → α) (b : Fin 16) (s : Fin 1024) (n : Fin 8192) :
    broadcastInDim S16x1024x8192 ![0, 1, 2] bcast_S16x1x8192_S16x1024x8192_0_1_2 (broadcastInDim S16x1x8192 ![0, 2] bcast_S16x8192_S16x1x8192_0_2 v) (ix3 b s n)
      = v (ix2 b n) := by
  rw [broadcastInDim_apply ![0, 1, 2] bcast_S16x1x8192_S16x1024x8192_0_1_2 _ (ix3 b s n) (ix3 b (0 : Fin 1) n) (fun a =>
      match a with | ⟨0, _⟩ => rfl | ⟨1, _⟩ => rfl | ⟨2, _⟩ => rfl),
    broadcastInDim_apply ![0, 2] bcast_S16x8192_S16x1x8192_0_2 v (ix3 b (0 : Fin 1) n) (ix2 b n) (fun a => match a with | ⟨0, _⟩ => rfl | ⟨1, _⟩ => rfl)]

variable (x : FVec Ideal S16x8192x3 .f32) (q : FVec Ideal S16x1024x3 .f32) (b : Fin 16) (s : Fin 1024) (n : Fin 8192)

theorem centreSq_at : (centreSq q (ix3 b s n) : EReal)
    = (q (ix3 b s (0 : Fin 3)) : EReal) * q (ix3 b s (0 : Fin 3)) + q (ix3 b s (1 : Fin 3)) * q (ix3 b s (1 : Fin 3)) + q (ix3 b s (2 : Fin 3)) * q (ix3 b s (2 : Fin 3)) := by
  unfold centreSq
  rw [besideC_at]
  exact centreSum_at (mulf q q) b s

theorem pointSq_at : (pointSq x (ix3 b s n) : EReal)
    = (x (ix3 b n (0 : Fin 3)) : EReal) * x (ix3 b n (0 : Fin 3)) + x (ix3 b n (1 : Fin 3)) * x (ix3 b n (1 : Fin 3)) + x (ix3 b n (2 : Fin 3)) * x (ix3 b n (2 : Fin 3)) := by
  unfold pointSq
  rw [besideP_at]
  exact pointSum_at (mulf x x) b n

theorem inner_at : (inner x q (ix3 b s n) : EReal)
    = (q (ix3 b s (0 : Fin 3)) : EReal) * x (ix3 b n (0 : Fin 3)) + q (ix3 b s (1 : Fin 3)) * x (ix3 b n (1 : Fin 3)) + q (ix3 b s (2 : Fin 3)) * x (ix3 b n (2 : Fin 3)) := by
  unfold inner
  simp only [Host.dotGeneral]
  rw [Ideal.dotGeneral_apply, DotDims.sum_contr₁ dot_S16x1024x3_S16x8192x3_S16x1024x8192_2_2_1_1_0_0 (a := 2) rfl (K := 3) rfl, Fin.sum_univ_three]
  have hl : ∀ k : Fin 3, dot_S16x1024x3_S16x8192x3_S16x1024x8192_2_2_1_1_0_0.lhsIdx (ix3 b s n)
      (dot_S16x1024x3_S16x8192x3_S16x1024x8192_2_2_1_1_0_0.contrIdx₁ (a := 2) rfl (K := 3) rfl k) = ix3 b s k := fun k => by
    funext a
    apply Fin.ext
    match a with
    | ⟨0, _⟩ => rfl
    | ⟨1, _⟩ => rfl
    | ⟨2, _⟩ => rfl
  have hr : ∀ k : Fin 3, dot_S16x1024x3_S16x8192x3_S16x1024x8192_2_2_1_1_0_0.rhsIdx (ix3 b s n)
      (dot_S16x1024x3_S16x8192x3_S16x1024x8192_2_2_1_1_0_0.contrIdx₁ (a := 2) rfl (K := 3) rfl k) = ix3 b n k := fun k => by
    funext a
    apply Fin.ext
    match a with
    | ⟨0, _⟩ => rfl
    | ⟨1, _⟩ => rfl
    | ⟨2, _⟩ => rfl
  rw [hl, hl, hl, hr, hr, hr]

theorem dists_at : (dists x q (ix3 b s n) : EReal)
    = KnnDist.dist (q (ix3 b s (0 : Fin 3))) (q (ix3 b s (1 : Fin 3))) (q (ix3 b s (2 : Fin 3))) (x (ix3 b n (0 : Fin 3))) (x (ix3 b n (1 : Fin 3))) (x (ix3 b n (2 : Fin 3))) := by
  unfold dists
  exact KnnDist.dist_plain _ _ _ _ _ _ (centreSq_at q b s n) (pointSq_at x b s n) (inner_at x q b s n) Ideal.ofBits_zero_f32

/-! ## The lists at an index -/

theorem lists_at (D : Fin 8192 → EReal) (hD : ∀ n, (dists x q (ix3 b s n) : EReal) = D n) (i : Fin 32) :
    lists x q (ix3 b s i) = BitVec.ofNat 32 (Nearest.pick D (i.castLE (by decide))).val := by
  obtain rfl : (fun n => (dists x q (ix3 b s n) : EReal)) = D := funext hD
  exact TopK.topK_at (by decide) (dists x q) sliceFits_S16x1024x8192_S16x1024x32 b s i

end Cert.Proof.SelectRef

end
-- ==== Proof.SelectClaims.lean ====
/-
  The claims about the selecting kernel: it runs and leaves its arguments, and its indices are the reference's.
-/
module

public import proofs.«01_k».proof.Defs
public import proofs.«01_k».proof.Proof.Gen.Select.Frame
public import proofs.«01_k».proof.Proof.Finite2
public import proofs.«01_k».proof.Proof.SelectRef
public import Idealize.ShloMosaic.Lib.Quiescent

@[expose] public section

set_option maxRecDepth 16384

noncomputable section

namespace Cert.Proof.SelectClaims

open Idealize.ShloMosaic hiding ix1 ix2 ix3 ix4 eq_ix1 eq_ix2 eq_ix3 eq_ix4
open Idealize.ShloMosaic.TcCoe Idealize.SL.Sem Idealize.ShloMosaic.ValueIdx
open Cert.SelectIdeal.Gen

theorem frame_p : Cert.quiescent_Select := fun m ρ _ => Cert.Select.Gen.frame m ρ

theorem frame_pi : Cert.quiescent_SelectIdeal := fun m ρ _ => Cert.SelectIdeal.Gen.frame m ρ

theorem frame_ri : Cert.quiescent_SelectRefIdeal := fun m ρ _ =>
  (θ_run Cert.SelectRefIdeal.defs _ _).mono (fun r h => ⟨fun c => (h c).2, sem_eq_zero_of_no_sems (by decide) r.2⟩)
    (Cert.Proof.SelectRef.run m ρ)

theorem frame_pi_finite : Cert.quiescent_SelectIdeal_pre_finite2 := fun m ρ _ => Cert.SelectIdeal.Gen.frame m ρ

theorem frame_ri_finite : Cert.quiescent_SelectRefIdeal_pre_finite2 := fun m ρ _ => frame_ri m ρ trivial

/-- From the same points and centres, all real, the kernel's array of indices is the reference's lists. -/
theorem lists_eq (m : (ℓ : Loc Cert.SelectIdeal.nD Cert.SelectIdeal.τ Cert.SelectIdeal.sig) → Buf (Elt Ideal) ℓ) (c : Dev Cert.SelectIdeal.nD)
    (h : Cert.Pre_finite2.fn (F := Ideal) (SelectIdeal.points m c) (SelectIdeal.centres m c) = fun _ => 1#1)
    {x : (⟨3, ![16, 8192, 3]⟩ : Shape).Idx → Ideal .f32} {q : (⟨3, ![16, 1024, 3]⟩ : Shape).Idx → Ideal .f32}
    (hx : x = SelectIdeal.points m c) (hq : q = SelectIdeal.centres m c) :
    SelectRef.lists x q = ((dats m 0 c).arrAt 6 Cert.SelectIdeal.cfg0.N : Vec Ideal Cert.SelectIdeal.S16x1024x32 .i32) := by
  subst hx; subst hq
  funext j
  obtain ⟨b, s, i, rfl⟩ : ∃ (b : Fin 16) (s : Fin 1024) (i : Fin 32), j = ix3 b s i := ⟨j 0, j 1, j 2, eq_ix3 j⟩
  rw [SelectIdeal.array_eq m c (fun b s n => Finite2.dist_lt_top _ _ h b s n) b s i]
  exact SelectRef.lists_at _ _ b s _ (fun n => SelectRef.dists_at _ _ b s n) i

theorem algebraic : Cert.algebraic_SelectIdeal_SelectRefIdeal_pre_finite2 := by
  intro m ρ m' ρ' h hagree
  refine ⟨fun c => (dats m 0 c).arrAt 6 Cert.SelectIdeal.cfg0.N, (θ_run Cert.SelectIdeal.defs _ _).mono (fun _ r c => r c) (Cert.SelectIdeal.Value.run_blocks m ρ), ?_⟩
  exact (θ_run Cert.SelectRefIdeal.defs _ _).mono (fun _ r c => ⟨(r c).1.trans (lists_eq m c (h c) (hagree c).1 (hagree c).2), (r c).2⟩)
    (Cert.Proof.SelectRef.run m' ρ')

end Cert.Proof.SelectClaims

end
-- ==== Proof.KernelTile.lean ====
/-
  One vector subcore's part of the SparseCore call. Subcore `s` of SparseCore `c` is worker `w = 2 s + c`. It copies row
  `w` of the index array into its memory, then gathers 384 groups of 128 table entries, one group after the other, and
  copies the 49152 words it has gathered to row `w` of the result.

  The table and the index array are arbitrary here (`tb`, `ix`), every index below 393216. What the worker leaves is
  stated as a value: word `p` of its row is the table's entry at the index `(w, p / 128, p % 128)` of the index array.
  Everything is for an arbitrary float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ViewIndex
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × (UR sig nD τ × Counters)

local notation "𝕄" => MT nD τ sig (HIx 1) (Elt F) ℕ UU ℕ

/-! ## The arrays -/

/-- The table, the index array and the result of the call, on device `d`. -/
abbrev tLoc (d : Dev nD) : Loc nD τ sig := (SparseCore.T d).loc main_v30
abbrev iLoc (d : Dev nD) : Loc nD τ sig := (SparseCore.T d).loc main_v46
abbrev oLoc (d : Dev nD) : Loc nD τ sig := (SparseCore.T d).loc main_v47

/-- The three arrays, and the two scratch arrays, as a vector subcore names them. -/
abbrev tV : Memref sig .scVector .hbm S393216 .f32 := Memref.whole main_v30_scv
abbrev iV : Memref sig .scVector .hbm S32x384x128 .i32 := Memref.whole main_v46_scv
abbrev oV : Memref sig .scVector .hbm S32x49152 .f32 := Memref.whole main_v47_scv
abbrev sV : Memref sig .scVector .vmem S384x128 .i32 := Memref.whole cc2_scratch0
abbrev rV : Memref sig .scVector .vmem S49152 .f32 := Memref.whole cc2_scratch1

/-- Entry `n` of the table's index set (a number past the end wraps round). -/
def entry (n : ℕ) : S393216.Idx := ix1 (⟨n % 393216, Nat.mod_lt _ (by decide)⟩ : Fin 393216)

/-- Word `p` of worker `w`'s result: the table at the `p`-th index of the worker's row. -/
def word (tb : S393216.Idx → Elt F .f32) (ix : S32x384x128.Idx → BitVec 32) (w : Fin 32) (p : Fin 49152) : Elt F .f32 :=
  tb (entry (ix (ix3 w (⟨p.val / 128, by omega⟩ : Fin 384) (⟨p.val % 128, by omega⟩ : Fin 128))).toNat)

/-- The whole result: row `w` holds worker `w`'s words. -/
def gathered (tb : S393216.Idx → Elt F .f32) (ix : S32x384x128.Idx → BitVec 32) : S32x49152.Idx → Elt F .f32 :=
  fun j => word tb ix (j 0) (j 1)

/-- Row `w` of the index array and of the result. -/
def iSet (w : Fin 32) : Finset S32x384x128.Idx := Finset.univ.filter fun j => (j 0).val = w.val
def oSet (w : Fin 32) : Finset S32x49152.Idx := Finset.univ.filter fun j => (j 0).val = w.val

/-- Worker `w`'s share of the table: one of the thirty-two halvings of the whole. -/
abbrev tq (w : Fin 32) : PosShare TreeShare := ShareLeaves.leaf 5 fullShare w

/-! ## The worker's views -/

section Tile

variable (d : Dev nD) (L : grid2.Coords)

abbrev cV (L : grid2.Coords) : Fin τ.nSC := (L 0).castLE hcore2
abbrev jV (L : grid2.Coords) : Fin τ.nSub := (L 1).castLE hsub2

theorem L0_lt : (L 0).val < 2 := (L 0).isLt
theorem L1_lt : (L 1).val < 16 := (L 1).isLt

/-- The worker's number. -/
def wk (L : grid2.Coords) : Fin 32 := ⟨2 * (L 1).val + (L 0).val, by have := L0_lt L; have := L1_lt L; omega⟩

/-- The worker's row of the index array and of the result, squeezed to the row's own shape. -/
abbrev iRow (L : grid2.Coords) : Memref sig .scVector .hbm S384x128 .i32 :=
  ((iV).slice (Rect.unit (s := S32x384x128) (k2_off1 L) S1x384x128.size (k2_off1_inb L)) (fun _ => rfl)).squeeze S384x128 squeezes_S1x384x128_S384x128
abbrev oRow (L : grid2.Coords) : Memref sig .scVector .hbm S49152 .f32 :=
  ((oV).slice (Rect.unit (s := S32x49152) (k2_off4 L) S1x49152.size (k2_off4_inb L)) (fun _ => rfl)).squeeze S49152 squeezes_S1x49152_S49152
/-- Trip `t`'s 128 words of the gathered array, its 128 indices, and the whole table. -/
abbrev dstW (t : Fin k2_t1_loop.trips) : Memref sig .scVector .vmem S128 .f32 :=
  (rV).slice (Rect.unit (s := S49152) (k2_off2 t) S128.size (k2_off2_inb t)) (fun _ => rfl)
abbrev idxW (t : Fin k2_t1_loop.trips) : Memref sig .scVector .vmem S128 .i32 :=
  ((sV).slice (Rect.unit (s := S384x128) (k2_off3 t) S1x128.size (k2_off3_inb t)) (fun _ => rfl)).squeeze S128 squeezes_S1x128_S128
abbrev tAll : Memref sig .scVector .hbm S393216 .f32 :=
  (tV).slice (Rect.unit (s := S393216) ![0] S393216.size inb_S393216_S393216_0) (fun _ => rfl)

theorem trips_eq : k2_t1_loop.trips = 384 := by decide +kernel
theorem trip_lt (t : Fin k2_t1_loop.trips) : t.val < 384 := trips_eq ▸ t.isLt

theorem set_iRow : (iRow L).view.set = iSet (wk L) := by
  show (((iV).view.slice (Rect.unit (s := S32x384x128) (k2_off1 L) S1x384x128.size (k2_off1_inb L))).reshape S384x128 _).set = _
  rw [View.set_reshape]
  refine (View.set_slice_whole _ _).trans ?_
  ext (j : S32x384x128.Idx)
  have b1 : (j 1).val < 384 := (j 1).isLt
  have b2 : (j 2).val < 128 := (j 2).isLt
  refine (Rect.mem_set_unit).trans ?_
  rw [k2_off1_eq]
  refine Iff.trans ?_ (Finset.mem_filter.trans (and_iff_right (Finset.mem_univ j))).symm
  constructor
  · intro h
    have h0 : 2 * (L 1).val + (L 0).val ≤ (j 0).val ∧ (j 0).val < 2 * (L 1).val + (L 0).val + 1 := h 0
    exact show (j 0).val = 2 * (L 1).val + (L 0).val by omega
  · intro h
    have h0 : (j 0).val = 2 * (L 1).val + (L 0).val := h
    intro a
    match a with
    | 0 => exact show 2 * (L 1).val + (L 0).val ≤ (j 0).val ∧ (j 0).val < 2 * (L 1).val + (L 0).val + 1 by omega
    | 1 => exact show 0 ≤ (j 1).val ∧ (j 1).val < 0 + 384 by omega
    | 2 => exact show 0 ≤ (j 2).val ∧ (j 2).val < 0 + 128 by omega

theorem set_oRow : (oRow L).view.set = oSet (wk L) := by
  show (((oV).view.slice (Rect.unit (s := S32x49152) (k2_off4 L) S1x49152.size (k2_off4_inb L))).reshape S49152 _).set = _
  rw [View.set_reshape]
  refine (View.set_slice_whole _ _).trans ?_
  ext (j : S32x49152.Idx)
  have b1 : (j 1).val < 49152 := (j 1).isLt
  refine (Rect.mem_set_unit).trans ?_
  rw [k2_off4_eq]
  refine Iff.trans ?_ (Finset.mem_filter.trans (and_iff_right (Finset.mem_univ j))).symm
  constructor
  · intro h
    have h0 : 2 * (L 1).val + (L 0).val ≤ (j 0).val ∧ (j 0).val < 2 * (L 1).val + (L 0).val + 1 := h 0
    exact show (j 0).val = 2 * (L 1).val + (L 0).val by omega
  · intro h
    have h0 : (j 0).val = 2 * (L 1).val + (L 0).val := h
    intro a
    match a with
    | 0 => exact show 2 * (L 1).val + (L 0).val ≤ (j 0).val ∧ (j 0).val < 2 * (L 1).val + (L 0).val + 1 by omega
    | 1 => exact show 0 ≤ (j 1).val ∧ (j 1).val < 0 + 49152 by omega

/-! Where the worker's views place their words. -/

theorem iRow_emb (r : Fin 384) (l : Fin 128) : (iRow L).view.emb (ix2 r l) = ix3 (wk L) r l := by
  show (Rect.unit (s := S32x384x128) (k2_off1 L) S1x384x128.size (k2_off1_inb L)).emb (Shape.reshapeEquiv _ (ix2 r l)) = _
  rw [show Shape.reshapeEquiv squeezes_S1x384x128_S384x128.numel_eq (ix2 r l) = (ix3 (0 : Fin 1) r l : S1x384x128.Idx) from
    Shape.reshapeEquiv_eq_of_rowMajor _ (by rw [Shape.rowMajor_val_two, Shape.rowMajor_val_three]; simp)]
  funext a
  refine Fin.ext ?_
  rw [Rect.emb_apply]
  refine (congrArg (· + 1 * _) (congrFun (k2_off1_eq L) a)).trans ?_
  match a with
  | 0 => exact Nat.add_zero _
  | 1 => exact show 0 + 1 * r.val = r.val by omega
  | 2 => exact show 0 + 1 * l.val = l.val by omega

theorem oRow_emb (p : Fin 49152) : (oRow L).view.emb (ix1 p) = ix2 (wk L) p := by
  show (Rect.unit (s := S32x49152) (k2_off4 L) S1x49152.size (k2_off4_inb L)).emb (Shape.reshapeEquiv _ (ix1 p)) = _
  rw [show Shape.reshapeEquiv squeezes_S1x49152_S49152.numel_eq (ix1 p) = (ix2 (0 : Fin 1) p : S1x49152.Idx) from
    Shape.reshapeEquiv_eq_of_rowMajor _ (by rw [Shape.rowMajor_val_one, Shape.rowMajor_val_two]; simp)]
  funext a
  refine Fin.ext ?_
  rw [Rect.emb_apply]
  refine (congrArg (· + 1 * _) (congrFun (k2_off4_eq L) a)).trans ?_
  match a with
  | 0 => exact Nat.add_zero _
  | 1 => exact show 0 + 1 * p.val = p.val by omega

theorem idxW_emb (t : Fin k2_t1_loop.trips) (l : Fin 128) : (idxW t).view.emb (ix1 l) = ix2 (⟨t.val, trip_lt t⟩ : Fin 384) l := by
  show (Rect.unit (s := S384x128) (k2_off3 t) S1x128.size (k2_off3_inb t)).emb (Shape.reshapeEquiv _ (ix1 l)) = _
  rw [show Shape.reshapeEquiv squeezes_S1x128_S128.numel_eq (ix1 l) = (ix2 (0 : Fin 1) l : S1x128.Idx) from
    Shape.reshapeEquiv_eq_of_rowMajor _ (by rw [Shape.rowMajor_val_one, Shape.rowMajor_val_two]; simp)]
  funext a
  refine Fin.ext ?_
  rw [Rect.emb_apply]
  refine (congrArg (· + 1 * _) (congrFun (k2_off3_eq t) a)).trans ?_
  match a with
  | 0 => exact Nat.add_zero _
  | 1 => exact show 0 + 1 * l.val = l.val by omega

theorem dstW_emb (t : Fin k2_t1_loop.trips) (l : Fin 128) :
    (dstW t).view.emb (ix1 l) = ix1 (⟨128 * t.val + l.val, by have := trip_lt t; omega⟩ : Fin 49152) := by
  show (Rect.unit (s := S49152) (k2_off2 t) S128.size (k2_off2_inb t)).emb (ix1 l) = _
  funext a
  refine Fin.ext ?_
  rw [Rect.emb_apply]
  refine (congrArg (· + 1 * _) (congrFun (k2_off2_eq t) a)).trans ?_
  match a with
  | 0 => exact show 128 * t.val + 1 * l.val = 128 * t.val + l.val by omega

theorem tAll_emb (x : S393216.Idx) : (tAll).view.emb x = x := by
  show (Rect.unit (s := S393216) ![0] S393216.size inb_S393216_S393216_0).emb x = x
  funext a
  refine Fin.ext ?_
  rw [Rect.emb_apply]
  match a with
  | 0 => exact show 0 + 1 * (x 0).val = (x 0).val by omega

theorem mem_dstW {t : Fin k2_t1_loop.trips} {p : Fin 49152} :
    (ix1 p : S49152.Idx) ∈ (dstW t).view.set ↔ 128 * t.val ≤ p.val ∧ p.val < 128 * t.val + 128 := by
  show (ix1 p : S49152.Idx) ∈ ((rV).view.slice (Rect.unit (s := S49152) (k2_off2 t) S128.size (k2_off2_inb t))).set ↔ _
  rw [show ((rV).view.slice (Rect.unit (s := S49152) (k2_off2 t) S128.size (k2_off2_inb t))).set = _ from View.set_slice_whole _ _]
  refine (Rect.mem_set_unit).trans ?_
  rw [k2_off2_eq]
  exact ⟨fun h => h 0, fun h a => match a with | 0 => h⟩

/-! ## The worker's run -/

variable [FloatOps F]
variable (tb : S393216.Idx → Elt F .f32) (ix : S32x384x128.Idx → BitVec 32)

/-- The worker's row of the index array, as its scratch holds it. -/
def idxRow (ix : S32x384x128.Idx → BitVec 32) (w : Fin 32) : S384x128.Idx → BitVec 32 := fun j => ix (ix3 w (j 0) (j 1))

omit [FloatOps F] in
theorem fetched (fs : S384x128.Idx → BitVec 32) (pay : S384x128.Idx → BitVec 32) (hpay : pay = (iRow L).view.read (Elt F) ix) :
    View.write (Elt F) (sV).view fs pay Finset.univ = idxRow ix (wk L) := by
  subst hpay
  rw [View.write_whole_univ]
  funext j
  rw [View.read_apply]
  refine (cast_eq _ _).trans ?_
  rw [eq_ix2 j]
  exact congrArg ix (iRow_emb L _ _)

/-- Trip `t`'s indices, as the gather reads them. -/
theorem read_idxW (w : Fin 32) (t : Fin k2_t1_loop.trips) (x : S128.Idx) :
    (idxW t).view.read (Elt F) (idxRow ix w) x = ix (ix3 w (⟨t.val, trip_lt t⟩ : Fin 384) (x 0)) := by
  rw [View.read_apply]
  refine (cast_eq _ _).trans ?_
  rw [eq_ix1 x]
  exact congrArg (idxRow ix w) (idxW_emb t _)

abbrev thr (d : Dev nD) (L : grid2.Coords) : Thread nD τ := V d (cV L) (jV L)

/-- What holds before trip `k`: the first `128 k` words gathered are the worker's first words. -/
def inv (O : CellTallies nD τ sig (HIx 1)) (W : Waits sig (HIx 1)) (k : Nat) (_ : PUnit) : sProp 𝕄 :=
  iprop(Transfers.MayWaits (thr d L) (default : HIx 1) O
    ∗ ((tV).view.loc (thr d L) ↦{tq (wk L)} tb)
    ∗ ((sV).view.loc (thr d L) ↦{fullShare} idxRow ix (wk L))
    ∗ (∃ f : S49152.Idx → Elt F .f32, ⌜∀ p : Fin 49152, p.val < 128 * k → f (ix1 p) = word tb ix (wk L) p⌝
        ∗ ((rV).view.loc (thr d L) ↦{fullShare} f))
    ∗ semVal (thr d L, SemLoc.dma cc2_scratch2.sem) 0
    ∗ ∃ W', ⌜∀ p ∈ W', p ∈ W ∨ p.2 = none⌝ ∗ owes (thr d L) O W')

/-- The table's entry that a trip's gather puts at place `l` of its 128 words. -/
theorem payload (w : Fin 32) (t : Fin k2_t1_loop.trips)
    (hin : ∀ x : S128.Idx, ((idxW t).view.read (Elt F) (idxRow ix w) x).toNat < S393216.size gathers_S393216_S128.axis)
    (hn : S128.numel = S128.size gathers_S393216_S128.axis') (l : Fin 128) (p : Fin 49152) (hp : p.val = 128 * t.val + l.val) :
    SparseCore.gatherPayload gathers_S393216_S128 ((tAll).view.read (Elt F) tb)
      (SparseCore.rows ((idxW t).view.read (Elt F) (idxRow ix w)) hn hin) (ix1 l : S128.Idx) = word tb ix w p := by
  unfold SparseCore.gatherPayload
  rw [View.read_apply]
  refine (cast_eq _ _).trans ?_
  rw [tAll_emb]
  unfold word
  refine congrArg tb ?_
  rw [eq_ix1 (Shape.Gathers.idx _ _ _)]
  unfold entry
  refine congrArg ix1 (Fin.ext ?_)
  refine (congrArg Fin.val (Shape.Gathers.idx_axis gathers_S393216_S128 _ _)).trans ?_
  have hsym : S128.rowMajor.symm ((l : Fin 128).cast (rfl : (128 : ℕ) = S128.numel)) = ix1 l := by
    rw [Equiv.symm_apply_eq]
    exact Fin.ext (Shape.rowMajor_val_one (d := ![128]) (ix1 l)).symm
  show ((idxW t).view.read (Elt F) (idxRow ix w) (S128.rowMajor.symm ((l : Fin 128).cast _))).toNat = _
  have hlt := hin (ix1 l)
  rw [hsym]
  have hl : p.val % 128 = l.val := by omega
  have ht : p.val / 128 = t.val := by omega
  rw [read_idxW] at hlt ⊢
  have e : (ix3 w (⟨t.val, trip_lt t⟩ : Fin 384) ((ix1 l : S128.Idx) 0) : S32x384x128.Idx)
      = ix3 w (⟨p.val / 128, by omega⟩ : Fin 384) (⟨p.val % 128, by omega⟩ : Fin 128) := by
    congr 1
    · exact Fin.ext ht.symm
    · exact Fin.ext hl.symm
  rw [e] at hlt ⊢
  exact (Nat.mod_eq_of_lt hlt).symm

/-- A trip's gather leaves the first `128 (t + 1)` words as they should be, when the first `128 t` are. -/
theorem stored (w : Fin 32) (t : Fin k2_t1_loop.trips) (f : S49152.Idx → Elt F .f32) (pay : S128.Idx → Elt F .f32)
    (hpay : ∀ (l : Fin 128) (p : Fin 49152), p.val = 128 * t.val + l.val → pay (ix1 l) = word tb ix w p)
    (hf : ∀ p : Fin 49152, p.val < 128 * t.val → f (ix1 p) = word tb ix w p) (p : Fin 49152) (hp : p.val < 128 * (t.val + 1)) :
    View.write (Elt F) (dstW t).view f pay Finset.univ (ix1 p) = word tb ix w p := by
  by_cases h : p.val < 128 * t.val
  · refine (View.write_of_not_mem (v := (dstW t).view) f pay Finset.univ ?_).trans (hf p h)
    rw [View.setOn_univ, mem_dstW]
    omega
  · have e : (dstW t).view.emb (ix1 (⟨p.val - 128 * t.val, by omega⟩ : Fin 128)) = (ix1 p : S49152.Idx) := by
      rw [dstW_emb]
      exact congrArg ix1 (Fin.ext (by simp only; omega))
    refine (congrArg (View.write (Elt F) (dstW t).view f pay Finset.univ) e.symm).trans ?_
    refine (View.write_emb_of_mem (v := (dstW t).view) f pay (Finset.mem_univ _)).trans ?_
    exact (cast_eq _ _).trans (hpay _ p (by simp only; omega))

/-- One trip: the gather of its 128 words and its wait. -/
theorem trip (hix : ∀ j, (ix j).toNat < 393216) (O : CellTallies nD τ sig (HIx 1)) (W : Waits sig (HIx 1)) (t : Fin k2_t1_loop.trips) :
    inv d L tb ix O W t.val ⟨⟩ ⊢ wp frame (wpE (defs₀ (F := F)) 𝒱₀ (thr d L) none) Set.univ
      (k2_t1_body L tV (Memref.isWhole_whole _) iV (Memref.isWhole_whole _) oV (Memref.isWhole_whole _)
            sV (Memref.isWhole_whole _) rV (Memref.isWhole_whole _) cc2_scratch2 cc2_scoped0 cc2_scoped1 t ())
      (inv d L tb ix O W (t.val + 1)) := by
  have hin : ∀ x, ((idxW t).view.read (Elt F) (idxRow ix (wk L)) x).toNat < S393216.size gathers_S393216_S128.axis := fun x => by
    rw [read_idxW]; exact hix _
  unfold inv k2_t1_body
  iintro ⟨Hmw, Ht, Hs, ⟨%f, %hf, Hr⟩, Hsem, %W', %hW', HO⟩
  sl_exec
  sl_step
  isplitl [Hmw]; · iexact Hmw
  isplitl [Ht]; · iexact Ht
  isplitl [Hs]; · iexact Hs
  isplitl [Hr]
  · iexists _
    isplitr
    swap; · iexact Hr
    ipureintro
    exact stored tb ix (wk L) t f _ (fun l p hp => payload tb ix (wk L) t hin rfl l p hp) hf
  isplitl [Hsem]; · iexact Hsem
  iexists _
  isplitr
  swap; · iexact HO
  ipureintro
  intro p hp
  rcases Finset.mem_insert.mp hp with hp | hp
  · exact .inr (hp ▸ rfl)
  · exact hW' p hp

/-- Contents whose row, as the worker sees it, holds the gathered words agree with the result on that row. -/
theorem written (g : S32x49152.Idx → Elt F .f32)
    (hg : ∀ p : Fin 49152, (oRow L).view.read (Elt F) g (ix1 p) = word tb ix (wk L) p) (j : S32x49152.Idx) (hj : j ∈ oSet (wk L)) :
    g j = gathered tb ix j := by
  have h0 : j 0 = wk L := Fin.ext (Finset.mem_filter.mp hj).2
  have e : (oRow L).view.emb (ix1 (j 1 : Fin 49152)) = j := by
    refine (oRow_emb L _).trans (Eq.trans ?_ (eq_ix2 j).symm)
    exact congrArg (fun w : Fin 32 => (ix2 w (j 1 : Fin 49152) : S32x49152.Idx)) h0.symm
  refine (congrArg g e.symm).trans ?_
  refine ((cast_eq _ _).symm.trans (hg (j 1 : Fin 49152))).trans ?_
  exact congrArg (fun w : Fin 32 => word tb ix w (j 1 : Fin 49152)) h0.symm

/-! The worker's own semaphores and buffers: those the kernel names, and the rest. -/

abbrev gCell : GSem nD τ sig := (thr d L, .dma cc2_scratch2.sem)
abbrev aCell : GSem nD τ sig := (thr d L, .dma cc2_scoped0.sem)
abbrev bCell : GSem nD τ sig := (thr d L, .dma cc2_scoped1.sem)

omit [FloatOps F] in
theorem ownSems_eq :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  have hg : gCell d L ∈ ownCells (thr d L) := mem_ownCells.mpr ⟨rfl, show (SemLoc.dma cc2_scratch2.sem : SemLoc sig).isScoped .scVector = true by decide⟩
  have ha : aCell d L ∈ ownCells (thr d L) := mem_ownCells.mpr ⟨rfl, show (SemLoc.dma cc2_scoped0.sem : SemLoc sig).isScoped .scVector = true by decide⟩
  have hb : bCell d L ∈ ownCells (thr d L) := mem_ownCells.mpr ⟨rfl, show (SemLoc.dma cc2_scoped1.sem : SemLoc sig).isScoped .scVector = true by decide⟩
  have hag : aCell d L ≠ gCell d L := fun e =>
    absurd (congrArg Prod.snd e) (show (SemLoc.dma cc2_scoped0.sem : SemLoc sig) ≠ .dma cc2_scratch2.sem by decide)
  have hbg : bCell d L ≠ gCell d L := fun e =>
    absurd (congrArg Prod.snd e) (show (SemLoc.dma cc2_scoped1.sem : SemLoc sig) ≠ .dma cc2_scratch2.sem by decide)
  have hba : bCell d L ≠ aCell d L := fun e =>
    absurd (congrArg Prod.snd e) (show (SemLoc.dma cc2_scoped1.sem : SemLoc sig) ≠ .dma cc2_scoped0.sem by decide)
  unfold SparseCore.Cfg.ownSems0
  rw [SparseCore.bigSep_erase' hg, SparseCore.bigSep_erase' (Finset.mem_erase.mpr ⟨hag, ha⟩),
    SparseCore.bigSep_erase' (Finset.mem_erase.mpr ⟨hba, Finset.mem_erase.mpr ⟨hbg, hb⟩⟩)]

omit [FloatOps F] in
theorem ownBufs_eq :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  have hne : (cc2_scratch1 : Ref sig .scVector) ≠ cc2_scratch0 := by decide
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => hne (Proc.devRef_injective _ e),
    SparseCore.Cfg.mem_ownRefs_of_owner (p := Proc.scVector (cV L) (jV L)) (b := (Proc.scVector (cV L) (jV L)).devRef cc2_scratch1) rfl⟩)]

omit [FloatOps F] in
theorem pts_iRow (f : Buf (Elt F) (iLoc d)) :
    ((iRow L).view.loc (thr d L) ↦[(iRow L).view.set]{fullShare} f : sProp 𝕄) = iLoc d ↦[iSet (wk L)]{fullShare} f := by
  rw [set_iRow]
omit [FloatOps F] in
theorem pts_oRow (f : Buf (Elt F) (oLoc d)) :
    ((oRow L).view.loc (thr d L) ↦[(oRow L).view.set]{fullShare} f : sProp 𝕄) = oLoc d ↦[oSet (wk L)]{fullShare} f := by
  rw [set_oRow]

/-- The worker's row of the result, once written out. -/
theorem out_row (fo : S32x49152.Idx → Elt F .f32) (pay : S49152.Idx → Elt F .f32)
    (hpay : ∀ p : Fin 49152, pay (ix1 p) = word tb ix (wk L) p) :
    ((oRow L).view.loc (thr d L) ↦[(oRow L).view.set]{fullShare} (oRow L).view.writes (Elt F) fo [⟨Rect.whole S49152, pay⟩] : sProp 𝕄)
      ⊢ oLoc d ↦[oSet (wk L)]{fullShare} gathered tb ix := by
  rw [set_oRow]
  refine Entails.of_eq (pointsTo_congr (ℓ := oLoc d) (I := oSet (wk L)) (q := fullShare) (g := gathered tb ix)
      (fun (j : S32x49152.Idx) hj => written L tb ix _ (fun p => ?_) j hj))
  rw [View.read_writes_whole]
  exact hpay p

/-- What a worker is handed — its row of the index array, its share of the table, its row of the result — and what it
    hands back, the row of the result at its value. -/
abbrev piece (d : Dev nD) (w : Fin 32) : sProp 𝕄 :=
  iprop((tLoc d ↦{tq w} tb) ∗ (iLoc d ↦[iSet w]{fullShare} ix) ∗ ∃ f, oLoc d ↦[oSet w]{fullShare} f)
abbrev piece' (d : Dev nD) (w : Fin 32) : sProp 𝕄 :=
  iprop((tLoc d ↦{tq w} tb) ∗ (iLoc d ↦[iSet w]{fullShare} ix) ∗ oLoc d ↦[oSet w]{fullShare} gathered tb ix)

set_option maxHeartbeats 2000000 in
/-- The worker's whole run. -/
theorem tile_body (hF : (K (F := F)).Facts) (hix : ∀ j, (ix j).toNat < 393216) (O : CellTallies nD τ sig (HIx 1)) (W : Waits sig (HIx 1))
    (hO : ∀ g, O g none = 0) :
    iprop(levAts (K (F := F)).L (K (F := F)).lev ∗ emp ∗ piece tb ix d (wk L)
        ∗ scopedBufs (thr d L) ∗ scopedSems0 (thr d L) ∗ owes (thr d L) O W)
      ⊢ wp frame (wpE (defs₀ (F := F)) 𝒱₀ (thr d L) none) Set.univ
          (cc2__sc_gather_kernel L tV (Memref.isWhole_whole _) iV (Memref.isWhole_whole _) oV (Memref.isWhole_whole _)
            sV (Memref.isWhole_whole _) rV (Memref.isWhole_whole _) cc2_scratch2 cc2_scoped0 cc2_scoped1)
          fun _ => iprop(piece' tb ix d (wk L) ∗ scopedBufs (thr d L) ∗ scopedSems0 (thr d L)
            ∗ ∃ W', ⌜∀ p ∈ W', p ∈ W ∨ p.2 = none⌝ ∗ owes (thr d L) O W') := by
  simp only [cc2__sc_gather_kernel_eq_skeleton]; unfold cc2__sc_gather_kernel_skel
  rw [(K (F := F)).scopedBufs_V hF d (cV L) (jV L), SparseCore.Cfg.scopedSems0_V (Val := Elt F) d (cV L) (jV L), ownSems_eq, ownBufs_eq]
  iintro ⟨#Hlv, -, ⟨Ht, Hi, %fo, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRow (F := F) d L _).symm) $$ Hi
  ihave Ho' := (Entails.of_eq (pts_oRow (F := F) d L _).symm) $$ Ho
  ihave Ht' := (Entails.of_eq (show (tLoc d ↦{tq (wk L)} tb : sProp 𝕄) = (tV).view.loc (thr d L) ↦{tq (wk L)} tb from rfl)) $$ Ht
  ihave Hs' := (Entails.of_eq (show ((thr d L).loc cc2_scratch0 ↦{fullShare} fs : sProp 𝕄) = (sV).view.loc (thr d L) ↦{fullShare} fs from rfl)) $$ Hs
  ihave Hr' := (Entails.of_eq (show ((thr d L).loc cc2_scratch1 ↦{fullShare} fr : sProp 𝕄) = (rV).view.loc (thr d L) ↦{fullShare} fr from rfl)) $$ Hr
  sl_exec
  ihave Hs2 := (Entails.of_eq (congrArg (fun f => ((sV).view.loc (thr d L) ↦{fullShare} f : sProp 𝕄))
    (fetched L ix fs (tile_body.sl.dma0 L ix) rfl))) $$ Hs'
  sl_for (inv d L tb ix O W) $$ [Hmw Ht' Hs2 Hr' HsemG HO]
  case region =>
    intro k _
    exact trip d L tb ix hix O W k
  · unfold inv
    isplitl [Hmw]; · iexact Hmw
    isplitl [Ht']; · iexact Ht'
    isplitl [Hs2]; · iexact Hs2
    isplitl [Hr']
    · iexists fr
      isplitr
      · ipureintro
        intro p hp
        exact absurd hp (Nat.not_lt_zero _)
      · iexact Hr'
    isplitl [HsemG]; · iexact HsemG
    iexists _; isplitr
    swap; · iexact HO
    ipureintro
    intro p hp
    rcases Finset.mem_insert.mp hp with hp | hp; · exact .inr (hp ▸ rfl)
    exact .inl hp
  iintro %_ HI
  unfold inv
  icases HI with ⟨Hmw, Ht, Hs, ⟨%f, %hf, Hr⟩, HsemG, %W', %hW', HO⟩
  have hword : ∀ p : Fin 49152, f (ix1 p) = word tb ix (wk L) p := fun p => hf p (by
    have e : Scf.trips k2_t1_loop.lb k2_t1_loop.ub k2_t1_loop.st = 384 := trips_eq
    rw [e]; have := p.isLt; omega)
  sl_exec
  sl_step
  isplitl [Ht Hi' Ho']
  · isplitl [Ht]; · iexact Ht
    isplitl [Hi']; · iapply (Entails.of_eq (pts_iRow (F := F) d L _)); iexact Hi'
    iapply (out_row d L tb ix fo _ ?_) $$ Ho'
    exact fun p => hword p
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  exact hW' p hp

end Tile

end Cert.Proof.KernelIdeal

end
-- ==== Proof.KernelKnn.lean ====
/-
  The selecting kernel inside the whole program: what its body does at a grid point, from the library's view of the region.
  The body is the selecting call's own, so what it leaves in the window of indices is stated by that call's function of the
  six input blocks. The arrays' contents at the region's entry are arbitrary (`V`), and the TensorCore owes the SparseCores
  their start signals throughout.
-/
module

public import proofs.«01_k».proof.Proof.KernelTile
public import proofs.«01_k».proof.Proof.Gen.KernelIdeal.Launch
public import proofs.«01_k».proof.Proof.Gen.KernelIdeal.Points
public import proofs.«01_k».proof.Proof.Gen.SelectIdeal.Frame
public import Idealize.ShloMosaic.Lib.Pipeline.FrameBody
public import Idealize.ShloMosaic.Lib.Pipeline.Frame

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's triple -/

set_option maxHeartbeats 37107050 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem knn_sound_kernel (c : Dev nD) (E : Set ℕ) (i : grid1.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x32 .i32) (harg8 : arg8.IsWhole)
    (x0 : Vec F S128x1 .f32) (x1 : Vec F S128x1 .f32) (x2 : Vec F S128x1 .f32) (x3 : Vec F S1x1x8192 .f32) (x4 : Vec F S1x1x8192 .f32) (x5 : Vec F S1x1x8192 .f32) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (Cert.SelectIdeal.Gen.out0_6 x0 x1 x2 x3 x4 x5)) -∗ Q ⟨⟩))
      ⊢ wp frame (wpE (defs₀ (F := F)) Variants.none c none) E (cc1__knn_body i arg2 harg2 arg3 harg3 arg4 harg4 arg5 harg5 arg6 harg6 arg7 harg7 arg8 harg8) Q := by
  simp only [cc1__knn_body_eq_skeleton]; unfold cc1__knn_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (Cert.SelectIdeal.Gen.cover0_6 _)).trans ?_
  rfl

/-! ## The pipeline's proof data -/

/-! The arrays' contents when the region is entered are `V`. -/
variable (V : Dev nD → Valuation τ sig (Elt F))

/-- Window `w`'s block at point `t`, read off its array as the region finds it. -/
def knnBlk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The waits the TensorCore may have recorded before the SparseCore call. -/
abbrev early (c : Dev nD) : Set (SemLoc sig × HIx 1) := {p | (K (F := F)).lev (SparseCore.T c, p.1) p.2 ≤ 0}

/-- The proof data of the region on device `c`: each input's buffer keeps its block, the window of indices ends at the
    selecting call's function of the six blocks, and the start signals stay owed. -/
def knnDat (c : Dev nD) : Dat τ (Elt F) (HIx 1) ℕ UU ℕ cfg1 c where
  A w := V c (Proc.devRef .tc (Pipeline.arrRef spec1 w))
  after w t := match w with
    | ⟨0, _⟩ => knnBlk V c 0 t
    | ⟨1, _⟩ => knnBlk V c 1 t
    | ⟨2, _⟩ => knnBlk V c 2 t
    | ⟨3, _⟩ => knnBlk V c 3 t
    | ⟨4, _⟩ => knnBlk V c 4 t
    | ⟨5, _⟩ => knnBlk V c 5 t
    | ⟨6, _⟩ => Cert.SelectIdeal.Gen.out0_6 (knnBlk V c 0 t) (knnBlk V c 1 t) (knnBlk V c 2 t) (knnBlk V c 3 t) (knnBlk V c 4 t) (knnBlk V c 5 t)
  Φ _ := Pipeline.scopedRest spec1 c
  q _ := fullShare
  owed _ := (K (F := F)).Otc c 0
  recorded _ := early (F := F) c

theorem knnA_eq (c : Dev nD) (w : Fin cfg1.W) : (knnDat V c).A w = V c (Proc.devRef .tc (Pipeline.arrRef spec1 w)) := by
  dsimp only [knnDat]

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = V c (Proc.devRef .tc (Pipeline.arrRef spec1 0)))
    (hafter : ∀ t, dat.after 0 t = knnBlk V c 0 t) (t : Fin cfg1.N) (d) : dat.before 0 t d = knnBlk V c 0 t :=
  (dat.before_in_eq_fetched 0 rfl (fun _ => rfl) (fun _ _ _ => rfl) (fun t => by rw [hafter]; unfold Dat.blockOf knnBlk; rw [hA]; try rfl) t d).trans
    (by unfold Dat.fetched Dat.blockOf knnBlk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = V c (Proc.devRef .tc (Pipeline.arrRef spec1 1)))
    (hafter : ∀ t, dat.after 1 t = knnBlk V c 1 t) (t : Fin cfg1.N) (d) : dat.before 1 t d = knnBlk V c 1 t :=
  (dat.before_in_eq_fetched 1 rfl (fun _ => rfl) (fun _ _ _ => rfl) (fun t => by rw [hafter]; unfold Dat.blockOf knnBlk; rw [hA]; try rfl) t d).trans
    (by unfold Dat.fetched Dat.blockOf knnBlk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = V c (Proc.devRef .tc (Pipeline.arrRef spec1 2)))
    (hafter : ∀ t, dat.after 2 t = knnBlk V c 2 t) (t : Fin cfg1.N) (d) : dat.before 2 t d = knnBlk V c 2 t :=
  (dat.before_in_eq_fetched 2 rfl (fun _ => rfl) (fun _ _ _ => rfl) (fun t => by rw [hafter]; unfold Dat.blockOf knnBlk; rw [hA]; try rfl) t d).trans
    (by unfold Dat.fetched Dat.blockOf knnBlk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = V c (Proc.devRef .tc (Pipeline.arrRef spec1 3)))
    (hafter : ∀ t, dat.after 3 t = knnBlk V c 3 t) (t : Fin cfg1.N) (d) : dat.before 3 t d = knnBlk V c 3 t :=
  (dat.before_in_eq_fetched 3 rfl (fun _ => rfl) (fun _ _ _ => rfl) (fun t => by rw [hafter]; unfold Dat.blockOf knnBlk; rw [hA]; try rfl) t d).trans
    (by unfold Dat.fetched Dat.blockOf knnBlk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) (HIx 1) ℕ UU ℕ cfg1 c) (hA : dat.A 4 = V c (Proc.devRef .tc (Pipeline.arrRef spec1 4)))
    (hafter : ∀ t, dat.after 4 t = knnBlk V c 4 t) (t : Fin cfg1.N) (d) : dat.before 4 t d = knnBlk V c 4 t :=
  (dat.before_in_eq_fetched 4 rfl (fun _ => rfl) (fun _ _ _ => rfl) (fun t => by rw [hafter]; unfold Dat.blockOf knnBlk; rw [hA]; try rfl) t d).trans
    (by unfold Dat.fetched Dat.blockOf knnBlk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) (HIx 1) ℕ UU ℕ cfg1 c) (hA : dat.A 5 = V c (Proc.devRef .tc (Pipeline.arrRef spec1 5)))
    (hafter : ∀ t, dat.after 5 t = knnBlk V c 5 t) (t : Fin cfg1.N) (d) : dat.before 5 t d = knnBlk V c 5 t :=
  (dat.before_in_eq_fetched 5 rfl (fun _ => rfl) (fun _ _ _ => rfl) (fun t => by rw [hafter]; unfold Dat.blockOf knnBlk; rw [hA]; try rfl) t d).trans
    (by unfold Dat.fetched Dat.blockOf knnBlk; rw [hA]; try rfl)

/-- What the body leaves, window by window (the proof data's `match` reduced by `dsimp`, never `rfl`: Lib/Pipeline.lean `Dat`). -/
theorem after1_0 (c : Dev nD) (t : Fin cfg1.N) : (knnDat V c).after 0 t = knnBlk V c 0 t := by dsimp only [knnDat]
theorem after1_1 (c : Dev nD) (t : Fin cfg1.N) : (knnDat V c).after 1 t = knnBlk V c 1 t := by dsimp only [knnDat]
theorem after1_2 (c : Dev nD) (t : Fin cfg1.N) : (knnDat V c).after 2 t = knnBlk V c 2 t := by dsimp only [knnDat]
theorem after1_3 (c : Dev nD) (t : Fin cfg1.N) : (knnDat V c).after 3 t = knnBlk V c 3 t := by dsimp only [knnDat]
theorem after1_4 (c : Dev nD) (t : Fin cfg1.N) : (knnDat V c).after 4 t = knnBlk V c 4 t := by dsimp only [knnDat]
theorem after1_5 (c : Dev nD) (t : Fin cfg1.N) : (knnDat V c).after 5 t = knnBlk V c 5 t := by dsimp only [knnDat]
theorem after1_6 (c : Dev nD) (t : Fin cfg1.N) : (knnDat V c).after 6 t = Cert.SelectIdeal.Gen.out0_6 (knnBlk V c 0 t) (knnBlk V c 1 t) (knnBlk V c 2 t) (knnBlk V c 3 t) (knnBlk V c 4 t) (knnBlk V c 5 t) := by dsimp only [knnDat]

/-- Each input's current staging buffer holds its block at every point, fetched there or not (`beforeK_W_of`). -/
theorem before1_0 (c : Dev nD) (t : Fin cfg1.N) (d) : (knnDat V c).before 0 t d = knnBlk V c 0 t :=
  before1_0_of V (knnDat V c) (knnA_eq V c 0) (after1_0 V c) t d
theorem before1_1 (c : Dev nD) (t : Fin cfg1.N) (d) : (knnDat V c).before 1 t d = knnBlk V c 1 t :=
  before1_1_of V (knnDat V c) (knnA_eq V c 1) (after1_1 V c) t d
theorem before1_2 (c : Dev nD) (t : Fin cfg1.N) (d) : (knnDat V c).before 2 t d = knnBlk V c 2 t :=
  before1_2_of V (knnDat V c) (knnA_eq V c 2) (after1_2 V c) t d
theorem before1_3 (c : Dev nD) (t : Fin cfg1.N) (d) : (knnDat V c).before 3 t d = knnBlk V c 3 t :=
  before1_3_of V (knnDat V c) (knnA_eq V c 3) (after1_3 V c) t d
theorem before1_4 (c : Dev nD) (t : Fin cfg1.N) (d) : (knnDat V c).before 4 t d = knnBlk V c 4 t :=
  before1_4_of V (knnDat V c) (knnA_eq V c 4) (after1_4 V c) t d
theorem before1_5 (c : Dev nD) (t : Fin cfg1.N) (d) : (knnDat V c).before 5 t d = knnBlk V c 5 t :=
  before1_5_of V (knnDat V c) (knnA_eq V c 5) (after1_5 V c) t d

/-! ## The body obligation, at a generic point -/

/-- What the body is called with at point `t` (Lib/Pipeline.lean `BodyObligation`'s precondition, the windows one by one), -/
def knn_bodyPre (c : Dev nD) (t : Fin cfg1.N) : sProp 𝕄 :=
  iprop((knnDat V c).Φ t.castSucc ∗ (knnDat V c).owesAt none t.castSucc
    ∗ (∃ d, owns (c : Thread nD τ) (st1_0 t) fullShare ((knnDat V c).before 0 t d))
    ∗ (∃ d, owns (c : Thread nD τ) (st1_1 t) fullShare ((knnDat V c).before 1 t d))
    ∗ (∃ d, owns (c : Thread nD τ) (st1_2 t) fullShare ((knnDat V c).before 2 t d))
    ∗ (∃ d, owns (c : Thread nD τ) (st1_3 t) fullShare ((knnDat V c).before 3 t d))
    ∗ (∃ d, owns (c : Thread nD τ) (st1_4 t) fullShare ((knnDat V c).before 4 t d))
    ∗ (∃ d, owns (c : Thread nD τ) (st1_5 t) fullShare ((knnDat V c).before 5 t d))
    ∗ (∃ d, owns (c : Thread nD τ) (st1_6 t) fullShare ((knnDat V c).before 6 t d)))

/-- and what it returns. -/
def knn_bodyPost (c : Dev nD) (t : Fin cfg1.N) : sProp 𝕄 :=
  iprop((knnDat V c).Φ t.succ ∗ (knnDat V c).owesAt none t.succ
    ∗ owns (c : Thread nD τ) (st1_0 t) fullShare ((knnDat V c).after 0 t)
    ∗ owns (c : Thread nD τ) (st1_1 t) fullShare ((knnDat V c).after 1 t)
    ∗ owns (c : Thread nD τ) (st1_2 t) fullShare ((knnDat V c).after 2 t)
    ∗ owns (c : Thread nD τ) (st1_3 t) fullShare ((knnDat V c).after 3 t)
    ∗ owns (c : Thread nD τ) (st1_4 t) fullShare ((knnDat V c).after 4 t)
    ∗ owns (c : Thread nD τ) (st1_5 t) fullShare ((knnDat V c).after 5 t)
    ∗ owns (c : Thread nD τ) (st1_6 t) fullShare ((knnDat V c).after 6 t))

/-- The body at any point: the inputs' memrefs hold their blocks (`before1_W`), so `knn_sound_kernel` applies; the invariant and
    the core's `owes` pass through unread. -/
theorem knn_sound_body (c : Dev nD) (t : Fin cfg1.N) :
    knn_bodyPre V c t ⊢ wp frame (wpE (defs₀ (F := F)) Variants.none c none) Set.univ (bodyAt1 t) (fun _ => knn_bodyPost V c t) := by
  unfold knn_bodyPre knn_bodyPost bodyAt1
  simp only [before1_0, before1_1, before1_2, before1_3, before1_4, before1_5]
  rw [show (knnDat V c).Φ t.succ = (knnDat V c).Φ t.castSucc from rfl,
    show (knnDat V c).owesAt none t.succ = (knnDat V c).owesAt none t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (knn_sound_kernel c Set.univ (grid1.coords t) _ _ _ _ _ _ _ _ _ _ _ _ _ _ (knnBlk V c 0 t) (knnBlk V c 1 t) (knnBlk V c 2 t) (knnBlk V c 3 t) (knnBlk V c 4 t) (knnBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem knn_row (t : Fin cfg1.N) :
    defs₀ (F := F) .tc cfg1.body (cfg1.bodyArgs t (cfg1.slots t)) = bodyAt1 t := by
  rfl

/-- The library's body obligation, at every point: the body's triple restated (Lib/Pipeline/FrameBody.lean `triple_restated`). -/
theorem knn_body_obligation (c : Dev nD) : BodyObligation (knnDat (F := F) V c) (defs₀ (F := F)) Variants.none none Set.univ := fun t => by
  rw [bigSep_W1, bigSep_W1, knn_row]
  exact triple_restated (knn_sound_body V c t) rfl .rfl fun _ => .rfl

end Cert.Proof.KernelIdeal

end
-- ==== Proof.KernelFps.lean ====
/-
  The sampling kernel inside the whole program: what its body does at a grid point, from the library's view of the region.
  The first point resets the two carried buffers and every later one finds in them what the point before left; the state
  before point `n` is `kst n` of the sampling call. The arrays' contents at the region's entry are arbitrary (`V`).
-/
module

public import proofs.«01_k».proof.Proof.KernelKnn
public import proofs.«01_k».proof.Proof.SampleIdealValue
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.SampleIdeal (kst stepD stepF hz2 hz3 kst_dist kst_far)

variable {F : FTy → Type} [FloatOps F]

local notation "𝕄" => MT nD τ sig (HIx 1) (Elt F) ℕ UU ℕ

/-! ## The body's triples, at the first point and at a later one -/

/-- Whether a point is the first: the body's own test. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val % 1024 = 0 :=
  (fun t => by
    have ht : t.val < 1024 := Nat.lt_of_lt_of_eq t.isLt N_0
    have e0 : (grid0.coords t 0).val = t.val / 1 % 1024 := Pipeline.Grid.coords_val t 0 (by decide) rfl
    simp only [first, e0]
    word_cmp
   : ∀ t : Fin grid0.N, first (grid0.coords t) ↔ t.val % 1024 = 0)

/-- What one round writes: the row it was given, its three coordinates, and the distance of the row it found. -/
abbrev outFar (far : Vec F S16x1 .i32) : Vec F S1x16x1 .i32 := k0_pay9 far
abbrev outX (far : Vec F S16x1 .i32) (x : Vec F S16x8192 .f32) : Vec F S1x16x1 .f32 := k0_pay17 far x
abbrev outY (far : Vec F S16x1 .i32) (y : Vec F S16x8192 .f32) : Vec F S1x16x1 .f32 := k0_pay18 far y
abbrev outZ (far : Vec F S16x1 .i32) (z : Vec F S16x8192 .f32) : Vec F S1x16x1 .f32 := k0_pay1 (k0_pay16 far z)
abbrev outD (x y z d : Vec F S16x8192 .f32) (far : Vec F S16x1 .i32) : Vec F S1x16x1 .f32 :=
  k0_pay6 (k0_pay11 x) (k0_pay12 y) (k0_pay13 z) (k0_pay14 far x) (k0_pay15 far y) (k0_pay16 far z) d

set_option maxHeartbeats 4000000 in
/-- The first point: the carried buffers, at anything, are reset and then stepped once. -/
theorem fps_first (c : Dev nD) (E : Set ℕ) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S1x16x1 .i32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (a9 : Memref sig .tc .vmem S16x8192 .f32) (h9 : a9.IsWhole) (a10 : Memref sig .tc .vmem S16x1 .i32) (h10 : a10.IsWhole)
    (hc : first i) (x y z : Vec F S16x8192 .f32) (Q : PUnit → sProp 𝕄) :
    iprop(owns (c : Thread nD τ) a1 fullShare x ∗ owns (c : Thread nD τ) a2 fullShare y ∗ owns (c : Thread nD τ) a3 fullShare z ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x ∗ owns (c : Thread nD τ) a2 fullShare y ∗ owns (c : Thread nD τ) a3 fullShare z ∗ owns (c : Thread nD τ) a4 fullShare (outFar k0_pay8) ∗ owns (c : Thread nD τ) a5 fullShare (outX k0_pay8 x) ∗ owns (c : Thread nD τ) a6 fullShare (outY k0_pay8 y) ∗ owns (c : Thread nD τ) a7 fullShare (outZ k0_pay8 z) ∗ owns (c : Thread nD τ) a8 fullShare (outD x y z k0_pay7 k0_pay8) ∗ owns (c : Thread nD τ) a9 fullShare (stepD x y z k0_pay7 k0_pay8) ∗ owns (c : Thread nD τ) a10 fullShare (stepF x y z k0_pay7 k0_pay8)) -∗ Q ⟨⟩))
      ⊢ wp frame (wpE (defs₀ (F := F)) Variants.none c none) E (cc0__fps_body i a1 h1 a2 h2 a3 h3 a4 h4 a5 h5 a6 h6 a7 h7 a8 h8 a9 h9 a10 h10) Q := by
  simp only [cc0__fps_body_eq_skeleton]; unfold cc0__fps_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := h1.eq_unread hf0; obtain rfl := h2.eq_unread hf1; obtain rfl := h3.eq_unread hf2
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H4]
  · iexists _; isplitr
    swap; · iexact H4
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H5]
  · iexists _; isplitr
    swap; · iexact H5
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H6]
  · iexists _; isplitr
    swap; · iexact H6
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H7]
  · iexists _; isplitr
    swap; · iexact H7
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [HS0]
  · iexists _; isplitr
    swap; · iexact HS0
    ipureintro
    refine (View.read_writes_eq_canon _ _ _ (fun y => View.cover_of_tiledL _ S16x8192.size (by sl_kernel_rfl) y)).trans ?_
    sl_unfold_words
    rw [View.canon_cons_unit_zero (S := S16x8192) hz2]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  iexists _; isplitr
  swap; · iexact HS1
  ipureintro
  refine (View.read_writes_eq_canon _ _ _ (fun y => View.cover_of_tiledL _ S16x1.size (by sl_kernel_rfl) y)).trans ?_
  sl_unfold_words
  rw [View.canon_cons_unit_zero (S := S16x1) hz2]
  simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
  try rfl

set_option maxHeartbeats 4000000 in
/-- A later point: the carried buffers, at the state before it, are stepped once. -/
theorem fps_later (c : Dev nD) (E : Set ℕ) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S1x16x1 .i32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (a9 : Memref sig .tc .vmem S16x8192 .f32) (h9 : a9.IsWhole) (a10 : Memref sig .tc .vmem S16x1 .i32) (h10 : a10.IsWhole)
    (hc : ¬first i) (x y z d : Vec F S16x8192 .f32) (far : Vec F S16x1 .i32) (Q : PUnit → sProp 𝕄) :
    iprop(owns (c : Thread nD τ) a1 fullShare x ∗ owns (c : Thread nD τ) a2 fullShare y ∗ owns (c : Thread nD τ) a3 fullShare z ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ owns (c : Thread nD τ) a9 fullShare d ∗ owns (c : Thread nD τ) a10 fullShare far
        ∗ (iprop(owns (c : Thread nD τ) a1 fullShare x ∗ owns (c : Thread nD τ) a2 fullShare y ∗ owns (c : Thread nD τ) a3 fullShare z ∗ owns (c : Thread nD τ) a4 fullShare (outFar far) ∗ owns (c : Thread nD τ) a5 fullShare (outX far x) ∗ owns (c : Thread nD τ) a6 fullShare (outY far y) ∗ owns (c : Thread nD τ) a7 fullShare (outZ far z) ∗ owns (c : Thread nD τ) a8 fullShare (outD x y z d far) ∗ owns (c : Thread nD τ) a9 fullShare (stepD x y z d far) ∗ owns (c : Thread nD τ) a10 fullShare (stepF x y z d far)) -∗ Q ⟨⟩))
      ⊢ wp frame (wpE (defs₀ (F := F)) Variants.none c none) E (cc0__fps_body i a1 h1 a2 h2 a3 h3 a4 h4 a5 h5 a6 h6 a7 h7 a8 h8 a9 h9 a10 h10) Q := by
  simp only [cc0__fps_body_eq_skeleton]; unfold cc0__fps_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
  obtain rfl := h1.eq_unread hf0; obtain rfl := h2.eq_unread hf1; obtain rfl := h3.eq_unread hf2
  obtain rfl := h9.eq_unread hfs0; obtain rfl := h10.eq_unread hfs1
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H4]
  · iexists _; isplitr
    swap; · iexact H4
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H5]
  · iexists _; isplitr
    swap; · iexact H5
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H6]
  · iexists _; isplitr
    swap; · iexact H6
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [H7]
  · iexists _; isplitr
    swap; · iexact H7
    ipureintro
    refine (View.read_writes_eq_canon _ _ _ (fun y => View.cover_of_tiledL _ S1x16x1.size (by sl_kernel_rfl) y)).trans ?_
    sl_unfold_words
    rw [View.canon_unit_zero hz3]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  isplitl [HS0]
  · iexists _; isplitr
    swap; · iexact HS0
    ipureintro
    refine (View.read_writes_eq_canon _ _ _ (fun y => View.cover_of_tiledL _ S16x8192.size (by sl_kernel_rfl) y)).trans ?_
    sl_unfold_words
    rw [View.canon_unit_zero hz2]
    simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
    try rfl
  iexists _; isplitr
  swap; · iexact HS1
  ipureintro
  refine (View.read_writes_eq_canon _ _ _ (fun y => View.cover_of_tiledL _ S16x1.size (by sl_kernel_rfl) y)).trans ?_
  sl_unfold_words
  rw [View.canon_unit_zero hz2]
  simp only [View.readCov_unit_zero (S := S16x8192) _ hz2, View.readCov_unit_zero (S := S16x1) _ hz2, View.readAt_eq_ld, h1.read_unread, h2.read_unread, h3.read_unread, h9.read_unread, h10.read_unread,
      View.ld_unit_zero (S := S16x8192) hz2, View.ld_unit_zero (S := S16x1) hz2]
  try rfl

/-! ## The pipeline's proof data -/

/-! The arrays' contents when the region is entered are `V`. -/
variable (V : Dev nD → Valuation τ sig (Elt F))

/-- Window `w`'s block at point `t`, read off its array as the region finds it. -/
def fpsBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The three coordinate planes the region finds. -/
abbrev fX (c : Dev nD) : Vec F S16x8192 .f32 := V c (Proc.devRef .tc main_v1)
abbrev fY (c : Dev nD) : Vec F S16x8192 .f32 := V c (Proc.devRef .tc main_v3)
abbrev fZ (c : Dev nD) : Vec F S16x8192 .f32 := V c (Proc.devRef .tc main_v5)

/-- The carried buffers before point `n`. -/
abbrev fD (c : Dev nD) (n : ℕ) : Vec F S16x8192 .f32 := (kst (fX V c) (fY V c) (fZ V c) n).1
abbrev fF (c : Dev nD) (n : ℕ) : Vec F S16x1 .i32 := (kst (fX V c) (fY V c) (fZ V c) n).2

/-- The scoped buffers no point of this pipeline touches. -/
def fpsRest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The invariant: anything before the first point, then the carried buffers at the state. -/
def fpsPhi (c : Dev nD) : ℕ → sProp 𝕄
  | 0 => Pipeline.scopedRest spec0 c
  | n + 1 => iprop(owns (c : Thread nD τ) (Memref.whole cc0_scratch0) fullShare (fD V c (n + 1)) ∗ owns (c : Thread nD τ) (Memref.whole cc0_scratch1) fullShare (fF V c (n + 1)) ∗ fpsRest c)

/-- The proof data of the region on device `c`. -/
def fpsDat (c : Dev nD) : Dat τ (Elt F) (HIx 1) ℕ UU ℕ cfg0 c where
  A w := V c (Proc.devRef .tc (Pipeline.arrRef spec0 w))
  after w t := match w with
    | ⟨0, _⟩ => fpsBlk V c 0 t
    | ⟨1, _⟩ => fpsBlk V c 1 t
    | ⟨2, _⟩ => fpsBlk V c 2 t
    | ⟨3, _⟩ => outFar (fF V c t.val)
    | ⟨4, _⟩ => outX (fF V c t.val) (fX V c)
    | ⟨5, _⟩ => outY (fF V c t.val) (fY V c)
    | ⟨6, _⟩ => outZ (fF V c t.val) (fZ V c)
    | ⟨7, _⟩ => outD (fX V c) (fY V c) (fZ V c) (fD V c t.val) (fF V c t.val)
  Φ t := fpsPhi V c t.val
  q _ := fullShare
  owed _ := (K (F := F)).Otc c 0
  recorded _ := early (F := F) c

theorem fpsA_eq (c : Dev nD) (w : Fin cfg0.W) : (fpsDat V c).A w = V c (Proc.devRef .tc (Pipeline.arrRef spec0 w)) := by
  dsimp only [fpsDat]

theorem fps_index0 (t : Fin cfg0.N) (a : Fin 2) : win0_0.index t a = 0 := by
  have ha : a = (0 : Fin 2) ∨ a = (1 : Fin 2) := by
    match a with
    | ⟨0, _⟩ => exact Or.inl rfl
    | ⟨1, _⟩ => exact Or.inr rfl
  rcases ha with rfl | rfl <;> rfl

theorem fpsBlk_x (c : Dev nD) (t : Fin cfg0.N) : (fpsBlk V c 0 t : Vec F S16x8192 .f32) = fX V c := by
  funext j
  unfold fpsBlk
  rw [View.read_apply]
  show V c (Proc.devRef .tc main_v1) _ = V c (Proc.devRef .tc main_v1) _
  congr 1
  funext a
  apply Fin.ext
  match a with
  | ⟨0, _⟩ => show win0_0.index t 0 * 16 + 1 * (j 0).val = (j 0).val; rw [fps_index0]; omega
  | ⟨1, _⟩ => show win0_0.index t 1 * 8192 + 1 * (j 1).val = (j 1).val; rw [fps_index0]; omega

theorem fps_index1 (t : Fin cfg0.N) (a : Fin 2) : win0_1.index t a = 0 := by
  have ha : a = (0 : Fin 2) ∨ a = (1 : Fin 2) := by
    match a with
    | ⟨0, _⟩ => exact Or.inl rfl
    | ⟨1, _⟩ => exact Or.inr rfl
  rcases ha with rfl | rfl <;> rfl

theorem fpsBlk_y (c : Dev nD) (t : Fin cfg0.N) : (fpsBlk V c 1 t : Vec F S16x8192 .f32) = fY V c := by
  funext j
  unfold fpsBlk
  rw [View.read_apply]
  show V c (Proc.devRef .tc main_v3) _ = V c (Proc.devRef .tc main_v3) _
  congr 1
  funext a
  apply Fin.ext
  match a with
  | ⟨0, _⟩ => show win0_1.index t 0 * 16 + 1 * (j 0).val = (j 0).val; rw [fps_index1]; omega
  | ⟨1, _⟩ => show win0_1.index t 1 * 8192 + 1 * (j 1).val = (j 1).val; rw [fps_index1]; omega

theorem fps_index2 (t : Fin cfg0.N) (a : Fin 2) : win0_2.index t a = 0 := by
  have ha : a = (0 : Fin 2) ∨ a = (1 : Fin 2) := by
    match a with
    | ⟨0, _⟩ => exact Or.inl rfl
    | ⟨1, _⟩ => exact Or.inr rfl
  rcases ha with rfl | rfl <;> rfl

theorem fpsBlk_z (c : Dev nD) (t : Fin cfg0.N) : (fpsBlk V c 2 t : Vec F S16x8192 .f32) = fZ V c := by
  funext j
  unfold fpsBlk
  rw [View.read_apply]
  show V c (Proc.devRef .tc main_v5) _ = V c (Proc.devRef .tc main_v5) _
  congr 1
  funext a
  apply Fin.ext
  match a with
  | ⟨0, _⟩ => show win0_2.index t 0 * 16 + 1 * (j 0).val = (j 0).val; rw [fps_index2]; omega
  | ⟨1, _⟩ => show win0_2.index t 1 * 8192 + 1 * (j 1).val = (j 1).val; rw [fps_index2]; omega

theorem fps_before0 (c : Dev nD) (t : Fin cfg0.N) (d) : (fpsDat V c).before 0 t d = fpsBlk V c 0 t :=
  ((fpsDat V c).before_in_eq_fetched 0 rfl (fun _ => rfl) (fun _ _ _ => rfl)
    (fun t => by rw [show (fpsDat V c).after 0 t = fpsBlk V c 0 t from by dsimp only [fpsDat]]; unfold Dat.blockOf fpsBlk; rw [fpsA_eq]; try rfl) t d).trans
    (by unfold Dat.fetched Dat.blockOf fpsBlk; rw [fpsA_eq]; try rfl)

theorem fps_before1 (c : Dev nD) (t : Fin cfg0.N) (d) : (fpsDat V c).before 1 t d = fpsBlk V c 1 t :=
  ((fpsDat V c).before_in_eq_fetched 1 rfl (fun _ => rfl) (fun _ _ _ => rfl)
    (fun t => by rw [show (fpsDat V c).after 1 t = fpsBlk V c 1 t from by dsimp only [fpsDat]]; unfold Dat.blockOf fpsBlk; rw [fpsA_eq]; try rfl) t d).trans
    (by unfold Dat.fetched Dat.blockOf fpsBlk; rw [fpsA_eq]; try rfl)

theorem fps_before2 (c : Dev nD) (t : Fin cfg0.N) (d) : (fpsDat V c).before 2 t d = fpsBlk V c 2 t :=
  ((fpsDat V c).before_in_eq_fetched 2 rfl (fun _ => rfl) (fun _ _ _ => rfl)
    (fun t => by rw [show (fpsDat V c).after 2 t = fpsBlk V c 2 t from by dsimp only [fpsDat]]; unfold Dat.blockOf fpsBlk; rw [fpsA_eq]; try rfl) t d).trans
    (by unfold Dat.fetched Dat.blockOf fpsBlk; rw [fpsA_eq]; try rfl)

theorem fps_after0 (c : Dev nD) (t : Fin cfg0.N) : (fpsDat V c).after 0 t = fpsBlk V c 0 t := by dsimp only [fpsDat]
theorem fps_after1 (c : Dev nD) (t : Fin cfg0.N) : (fpsDat V c).after 1 t = fpsBlk V c 1 t := by dsimp only [fpsDat]
theorem fps_after2 (c : Dev nD) (t : Fin cfg0.N) : (fpsDat V c).after 2 t = fpsBlk V c 2 t := by dsimp only [fpsDat]
theorem fps_after3 (c : Dev nD) (t : Fin cfg0.N) : (fpsDat V c).after 3 t = outFar (fF V c t.val) := by dsimp only [fpsDat]
theorem fps_after4 (c : Dev nD) (t : Fin cfg0.N) : (fpsDat V c).after 4 t = outX (fF V c t.val) (fX V c) := by dsimp only [fpsDat]
theorem fps_after5 (c : Dev nD) (t : Fin cfg0.N) : (fpsDat V c).after 5 t = outY (fF V c t.val) (fY V c) := by dsimp only [fpsDat]
theorem fps_after6 (c : Dev nD) (t : Fin cfg0.N) : (fpsDat V c).after 6 t = outZ (fF V c t.val) (fZ V c) := by dsimp only [fpsDat]
theorem fps_after7 (c : Dev nD) (t : Fin cfg0.N) : (fpsDat V c).after 7 t = outD (fX V c) (fY V c) (fZ V c) (fD V c t.val) (fF V c t.val) := by dsimp only [fpsDat]

/-! ## The body obligation, at a generic point -/

/-- What the body is called with at point `t`, the windows one by one, -/
def fps_bodyPre (c : Dev nD) (t : Fin cfg0.N) : sProp 𝕄 :=
  iprop((fpsDat V c).Φ t.castSucc ∗ (fpsDat V c).owesAt none t.castSucc
    ∗ (∃ d, owns (c : Thread nD τ) (st0_0 t) fullShare ((fpsDat V c).before 0 t d))
    ∗ (∃ d, owns (c : Thread nD τ) (st0_1 t) fullShare ((fpsDat V c).before 1 t d))
    ∗ (∃ d, owns (c : Thread nD τ) (st0_2 t) fullShare ((fpsDat V c).before 2 t d))
    ∗ (∃ d, owns (c : Thread nD τ) (st0_3 t) fullShare ((fpsDat V c).before 3 t d))
    ∗ (∃ d, owns (c : Thread nD τ) (st0_4 t) fullShare ((fpsDat V c).before 4 t d))
    ∗ (∃ d, owns (c : Thread nD τ) (st0_5 t) fullShare ((fpsDat V c).before 5 t d))
    ∗ (∃ d, owns (c : Thread nD τ) (st0_6 t) fullShare ((fpsDat V c).before 6 t d))
    ∗ (∃ d, owns (c : Thread nD τ) (st0_7 t) fullShare ((fpsDat V c).before 7 t d)))

/-- and what it returns. -/
def fps_bodyPost (c : Dev nD) (t : Fin cfg0.N) : sProp 𝕄 :=
  iprop((fpsDat V c).Φ t.succ ∗ (fpsDat V c).owesAt none t.succ
    ∗ owns (c : Thread nD τ) (st0_0 t) fullShare ((fpsDat V c).after 0 t)
    ∗ owns (c : Thread nD τ) (st0_1 t) fullShare ((fpsDat V c).after 1 t)
    ∗ owns (c : Thread nD τ) (st0_2 t) fullShare ((fpsDat V c).after 2 t)
    ∗ owns (c : Thread nD τ) (st0_3 t) fullShare ((fpsDat V c).after 3 t)
    ∗ owns (c : Thread nD τ) (st0_4 t) fullShare ((fpsDat V c).after 4 t)
    ∗ owns (c : Thread nD τ) (st0_5 t) fullShare ((fpsDat V c).after 5 t)
    ∗ owns (c : Thread nD τ) (st0_6 t) fullShare ((fpsDat V c).after 6 t)
    ∗ owns (c : Thread nD τ) (st0_7 t) fullShare ((fpsDat V c).after 7 t))

/-- Before the first point nothing is known of the carried buffers. -/
theorem fpsPhi_zero (c : Dev nD) : fpsPhi V c 0
    = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ fpsRest c) := by
  unfold fpsPhi fpsRest
  exact scopedRest0_eq c

theorem fpsPhi_succ (c : Dev nD) (n : ℕ) : fpsPhi V c (n + 1)
    = iprop(owns (c : Thread nD τ) (Memref.whole cc0_scratch0) fullShare (fD V c (n + 1)) ∗ owns (c : Thread nD τ) (Memref.whole cc0_scratch1) fullShare (fF V c (n + 1)) ∗ fpsRest c) := by
  rw [fpsPhi]

set_option maxHeartbeats 1000000 in
theorem fps_sound_body (c : Dev nD) (t : Fin cfg0.N) :
    fps_bodyPre V c t ⊢ wp frame (wpE (defs₀ (F := F)) Variants.none c none) Set.univ (bodyAt0 t) (fun _ => fps_bodyPost V c t) := by
  unfold fps_bodyPre fps_bodyPost bodyAt0
  simp only [fps_before0, fps_before1, fps_before2]
  rw [show (fpsDat V c).Φ t.succ = fpsPhi V c (t.val + 1) from rfl, show (fpsDat V c).Φ t.castSucc = fpsPhi V c t.val from rfl,
    show (fpsDat V c).owesAt none t.succ = (fpsDat V c).owesAt none t.castSucc from rfl,
    fps_after0, fps_after1, fps_after2, fps_after3, fps_after4, fps_after5, fps_after6, fps_after7, fpsPhi_succ]
  rw [show fpsBlk V c 0 t = fX V c from fpsBlk_x V c t, show fpsBlk V c 1 t = fY V c from fpsBlk_y V c t, show fpsBlk V c 2 t = fZ V c from fpsBlk_z V c t]
  simp only [fD, fF, kst_dist, kst_far]
  have hN : t.val < 1024 := lt_of_lt_of_eq t.isLt (show cfg0.N = 1024 from N_0)
  by_cases h0 : t.val = 0
  · have hf : first (grid0.coords t) := (first_iff t).mpr (by omega)
    rw [h0, fpsPhi_zero]
    simp only [kst]
    iintro ⟨⟨⟨%g0, HS0⟩, ⟨%g1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (fps_first c Set.univ (grid0.coords t) _ _ _ _ _ _ _ _ _ _ _ _ _ _ _ _ _ _ _ _ hf (fX V c) (fY V c) (fZ V c) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists g0; iapply (Entails.of_eq (owns_whole (c : Thread nD τ) cc0_scratch0 fullShare g0).symm); iexact HS0
    isplitl [HS1]; · iexists g1; iapply (Entails.of_eq (owns_whole (c : Thread nD τ) cc0_scratch1 fullShare g1).symm); iexact HS1
    iintro ⟨H0, H1, H2, H3, H4, H5, H6, H7, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hf : ¬first (grid0.coords t) := fun h => by have := (first_iff t).mp h; omega
    obtain ⟨n, hn⟩ : ∃ n, t.val = n + 1 := ⟨t.val - 1, by omega⟩
    rw [hn, fpsPhi_succ]
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (fps_later c Set.univ (grid0.coords t) _ _ _ _ _ _ _ _ _ _ _ _ _ _ _ _ _ _ _ _ hf (fX V c) (fY V c) (fZ V c) (fD V c (n + 1)) (fF V c (n + 1)) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    simp only [fD, fF, kst_dist, kst_far]
    iintro ⟨H0, H1, H2, H3, H4, H5, H6, H7, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem fps_row (t : Fin cfg0.N) :
    defs₀ (F := F) .tc cfg0.body (cfg0.bodyArgs t (cfg0.slots t)) = bodyAt0 t := by
  rfl

/-- The library's body obligation, at every point. -/
theorem fps_body_obligation (c : Dev nD) : BodyObligation (fpsDat (F := F) V c) (defs₀ (F := F)) Variants.none none Set.univ := fun t => by
  rw [bigSep_W0, bigSep_W0, fps_row]
  exact triple_restated (fps_sound_body V c t) rfl .rfl fun _ => .rfl

/-- After the last point the carried buffers' contents are forgotten. -/
theorem fps_out (c : Dev nD) : (fpsDat V c).Φ (Fin.last cfg0.N) ⊢ Pipeline.scopedRest spec0 c := by
  rw [show (fpsDat V c).Φ (Fin.last cfg0.N) = fpsPhi V c (1023 + 1) from congrArg (fpsPhi V c) (show cfg0.N = 1024 from N_0), fpsPhi_succ]
  refine BIBase.Entails.trans ?_ (Entails.of_eq (fpsPhi_zero V c).symm)
  iintro ⟨HS0, HS1, HR⟩
  isplitl [HS0]
  · iexists (fD V c (1023 + 1)); iapply (Entails.of_eq (owns_whole (c : Thread nD τ) cc0_scratch0 fullShare (fD V c (1023 + 1)))); iexact HS0
  isplitl [HS1]
  · iexists (fF V c (1023 + 1)); iapply (Entails.of_eq (owns_whole (c : Thread nD τ) cc0_scratch1 fullShare (fF V c (1023 + 1)))); iexact HS1
  iexact HR

end Cert.Proof.KernelIdeal

end
-- ==== Proof.KernelRegions.lean ====
/-
  The two TensorCore regions of the whole program, as steps of @main.

  A region is entered with every array of the program held at a valuation `W`; it is left with them held at `W'`, which
  differs from `W` only in the arrays the region's windows name. Meanwhile the TensorCore still owes the SparseCores their
  start signals; the region's own waits lie below those in the order of the levels, so they may be made.
-/
module

public import proofs.«01_k».proof.Proof.KernelFps
public import Idealize.ShloMosaic.Lib.Pipeline.RegionArrays
public import Idealize.ShloMosaic.Lib.Pipeline.Regions

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig (HIx 1) (Elt F) ℕ UU ℕ

/-! ## The pipelines, as the region library names them -/

/-- Neither pipeline prefetches a table. -/
abbrev aP : (p : Fin 2) → (pcfgs (F := F) p).Adm := fun q => (cfgs q).toPCfg_adm

/-- The staging cells' part of the proof's resource algebra. -/
abbrev EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

/-- The two regions' proof data, at the contents each is entered from. -/
def dats (V V' : Dev nD → Valuation τ sig (Elt F)) :
    (p : Fin 2) → (c : Dev nD) → Dat τ (Elt F) (HIx 1) ℕ UU ℕ (Pipeline.pin (pcfgs (F := F)) aP p) c
  | ⟨0, _⟩ => fun c => fpsDat V c
  | ⟨1, _⟩ => fun c => knnDat V' c

theorem cells_inj : Function.Injective (cellOf (nD := nD) (τ := τ) (Pipeline.pin (pcfgs (F := F)) aP)) := cellOf_inj

/-- A wait recorded early, or one of the pipeline's own, is below every level the TensorCore owes. -/
theorem wbelow_of_bound (c : Dev nD) (p : Fin 2) (dat : Dat τ (Elt F) (HIx 1) ℕ UU ℕ (Pipeline.pin (pcfgs (F := F)) aP p) c)
    (t : Fin ((Pipeline.pin (pcfgs (F := F)) aP p).N + 1)) (hrec : dat.recorded t = early (F := F) c) (W : Waits sig (HIx 1))
    (hW : ↑W ⊆ dat.bound (none : HIx 1) t) : (K (F := F)).WBelow (SparseCore.T c) W 0 := by
  intro q hq
  rcases hW hq with h | ⟨w, s, rfl⟩
  · rw [hrec] at h; exact h
  · exact le_of_eq (by simp; try rfl)

/-- What the TensorCore owes before the SparseCore call: nothing recorded above the regions' waits. -/
abbrev owesEarly (c : Dev nD) : sProp 𝕄 :=
  iprop(∃ Wd, ⌜(K (F := F)).WBelow (SparseCore.T c) Wd 0⌝ ∗ owes (c : Thread nD τ) ((K (F := F)).Otc c 0) Wd)

section Region

variable (pd : (p : Fin 2) → (c : Dev nD) → Dat τ (Elt F) (HIx 1) ℕ UU ℕ (Pipeline.pin (pcfgs (F := F)) aP p) c)

/-- A region between two valuations of the program's arrays. -/
def region (p : Fin 2) (kit : Pipeline.PLaunchFacts (nD := nD) (τ := τ) (pcfgs (F := F)) p) (hK : (pcfgs (F := F) p).pre.K = 0)
    (hbody : ∀ c, Pipeline.BodyObligationLoose (pd p c) defs₀ 𝒱₀ none Set.univ)
    (howed : ∀ c t, (pd p c).owed t = (K (F := F)).Otc c 0) (hrec : ∀ c t, (pd p c).recorded t = early (F := F) c)
    (hshare : ∀ c w, (pd p c).share w = fullShare)
    (hin : ∀ c, Pipeline.scopedRest (Pipeline.pin (pcfgs (F := F)) aP p).spec c ⊢ (pd p c).Φ 0)
    (hout : ∀ c, (pd p c).Φ (Fin.last (Pipeline.pin (pcfgs (F := F)) aP p).N) ⊢ Pipeline.scopedRest (Pipeline.pin (pcfgs (F := F)) aP p).spec c)
    (W W' : Dev nD → Valuation τ sig (Elt F))
    (hW : ∀ c w, (pd p c).arrAt w 0 = W c (Proc.devRef .tc (Pipeline.arrRef (Pipeline.pin (pcfgs (F := F)) aP p).spec w)))
    (hW' : ∀ c w, (pd p c).arrAt w (Pipeline.pin (pcfgs (F := F)) aP p).N = W' c (Proc.devRef .tc (Pipeline.arrRef (Pipeline.pin (pcfgs (F := F)) aP p).spec w)))
    (hrest : ∀ c, ∀ b ∈ Pipeline.ucRefs τ sig \ Pipeline.arrRefs (pcfgs (F := F) p).spec, W c b = W' c b) :
    Pipeline.RegionSeg (pcfgs (F := F)) aP pd none defs₀ 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) aP) pd none p c 0 ((K (F := F)).Otc c 0) (howed c)
    (fun w s => Finset.mem_univ _) (fun w s => le_of_eq (by simp))
    (fun g i h => ⟨Finset.mem_univ _, by have := SparseCore.Cfg.lev_of_Otc_pos (K := K (F := F)) h; omega⟩)
  pre c := iprop(held c.tc (Pipeline.ucRefs τ sig) (W c) ∗ owesEarly (F := F) c)
  post c := iprop(held c.tc (Pipeline.ucRefs τ sig) (W' c) ∗ owesEarly (F := F) c)
  X _ := iprop(emp)
  Y _ := iprop(emp)
  Z c := held c.tc (Pipeline.ucRefs τ sig \ Pipeline.arrRefs (pcfgs (F := F) p).spec) (W c)
  hentry c := by
    rw [Pipeline.ownSems0_none, Pipeline.prefHeld_of_none _ hK,
      held_sub_split c.tc (Pipeline.arrRefs_sub_ucRefs (pcfgs (F := F) p).spec kit.win.arr_unscoped) (W c),
      ← Pipeline.arrays_held (pcfgs (F := F)) aP pd p kit c (hshare c) ((pd p c).arrAt · 0) (W c) (hW c)]
    iintro ⟨⟨⟨Ha, HR⟩, HO⟩, -, -⟩
    imodintro
    isplitl [Ha]; · iexact Ha
    isplitr; · iempintro
    isplitl [HO]
    · unfold Dat.owesAt Pipeline.owesWithin Dat.bound
      rw [howed c 0, hrec c]
      icases HO with ⟨%Wd, %hWd, HO⟩; iexists Wd; isplitr; · ipureintro; exact fun q hq => Or.inl (hWd q hq)
      iexact HO
    isplitr; · iempintro
    iexact HR
  hin c := (show _ ⊢ Pipeline.scopedRest (Pipeline.pin (pcfgs (F := F)) aP p).spec c from by
    iintro ⟨-, -, Hr⟩
    iexact Hr).trans (hin c)
  hout c := (hout c).trans (by
    rw [Pipeline.ownSems0_none]
    iintro Hr
    isplitr; · iempintro
    isplitr; · iempintro
    iexact Hr)
  hexit c := by
    rw [held_sub_split c.tc (Pipeline.arrRefs_sub_ucRefs (pcfgs (F := F) p).spec kit.win.arr_unscoped) (W' c),
      ← held_congr c.tc (hrest c),
      ← Pipeline.arrays_held (pcfgs (F := F)) aP pd p kit c (hshare c) ((pd p c).arrAt · (Pipeline.pin (pcfgs (F := F)) aP p).N) (W' c) (hW' c)]
    iintro ⟨Ha, HO, -, HR⟩
    imodintro
    isplitl [Ha HR]
    · isplitl [Ha]; · iexact Ha
      iexact HR
    unfold Dat.owesAt Pipeline.owesWithin
    icases HO with ⟨%Wd, %hWd, HO⟩; iexists Wd; isplitr; · ipureintro; exact wbelow_of_bound c p (pd p c) _ (hrec c _) Wd hWd
    rw [howed c (Fin.last _)]
    iexact HO

/-- A region's step of @main: from the boundary, the arrays at `W`, the levels and the pipeline's ghost state, the call of
    the region runs on to the continuation, which has the boundary and the arrays at `W'`. -/
theorem region_step (p : Fin 2) (R : Pipeline.RegionSeg (pcfgs (F := F)) aP pd none defs₀ 𝒱₀ (K (F := F)).L (K (F := F)).lev p)
    (c : Dev nD) (Q : PUnit → sProp 𝕄) :
    iprop((iprop(boundary (c.tc : Thread nD τ) ∗ R.post c) -∗ Q ⟨⟩)
        ∗ boundary (c.tc : Thread nD τ) ∗ R.pre c ∗ levAts (K (F := F)).L (K (F := F)).lev
        ∗ Pipeline.cellsGhost (Pipeline.pin (pcfgs (F := F)) aP) EP p c ∗ Pipeline.toksInit (Pipeline.pin (pcfgs (F := F)) aP) EP p c)
      ⊢ wp frame (wpE ((K (F := F)).defs (D (F := F))) 𝒱 (SparseCore.T c) none) Set.univ
          (Prog.lift (.customCall (SparseCore.inner (Pipeline.entry p)) ())) Q := by
  have h1 := Pipeline.RegionSeg.wp (pcfgs (F := F)) aP pd none cells_inj EP defs₀ 𝒱₀ (K (F := F)).L (K (F := F)).lev R c none
    (fun u hu => by cases hu) (fun x => Prog.ret x) Q
  have h2 := (K (F := F)).wp_liftProg (D (F := F)) 𝒱 (SparseCore.T c) Set.univ none
    (Prog.op (.customCall (Pipeline.entry p) ()) fun x => Prog.ret x) Q
  refine BIBase.Entails.trans ?_ h2
  refine BIBase.Entails.trans ?_ h1
  iintro ⟨Hk, Hb, Hp, Hl, Hc, Ht⟩
  isplitl [Hk]
  · iintro H
    rw [wp_ret]
    imodintro
    iapply Hk
    iexact H
  isplitl [Hb]; · iexact Hb
  isplitl [Hp]; · iexact Hp
  isplitl [Hl]; · iexact Hl
  isplitl [Hc]; · iexact Hc
  iexact Ht

end Region

end Cert.Proof.KernelIdeal

end
-- ==== Proof.KernelOps.lean ====
/-
  The whole program's host operations in four stretches, around the two TensorCore regions and the SparseCore call, and the
  arrays' contents along @main: after each stretch, after the region of the sampling kernel (its five results written),
  after the region of the selecting kernel (its indices written), after the call (its words written).
-/
module

public import proofs.«01_k».proof.Proof.KernelRegions
public import Idealize.ShloMosaic.Lib.Pipeline.Frame

@[expose] public section

set_option maxRecDepth 16384

noncomputable section

namespace Cert.Proof.KernelIdeal

open Cert.KernelIdeal Cert.KernelIdeal.Gen

open Idealize.ShloMosaic Idealize.ShloMosaic.ValueIdx Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## @main's operations -/

abbrev opsA : List (HloOp τ sig (Elt F)) :=
  [ unary main_arg0 main_v0 ((extractStridedSlice S16x8192x1 ![0, 0, 0] · slices_S16x8192x3_S16x8192x1_0_0_0) : (⟨S16x8192x3, .f32⟩ : BufTy).Contents (Elt F) → (⟨S16x8192x1, .f32⟩ : BufTy).Contents (Elt F)),
    reshape main_v0 main_v1 (rfl : (.f32 : EltTy) = .f32) shapeCasts_S16x8192x1_S16x8192,
    unary main_arg0 main_v2 ((extractStridedSlice S16x8192x1 ![0, 0, 1] · slices_S16x8192x3_S16x8192x1_0_0_1) : (⟨S16x8192x3, .f32⟩ : BufTy).Contents (Elt F) → (⟨S16x8192x1, .f32⟩ : BufTy).Contents (Elt F)),
    reshape main_v2 main_v3 (rfl : (.f32 : EltTy) = .f32) shapeCasts_S16x8192x1_S16x8192,
    unary main_arg0 main_v4 ((extractStridedSlice S16x8192x1 ![0, 0, 2] · slices_S16x8192x3_S16x8192x1_0_0_2) : (⟨S16x8192x3, .f32⟩ : BufTy).Contents (Elt F) → (⟨S16x8192x1, .f32⟩ : BufTy).Contents (Elt F)),
    reshape main_v4 main_v5 (rfl : (.f32 : EltTy) = .f32) shapeCasts_S16x8192x1_S16x8192 ]

abbrev opsB : List (HloOp τ sig (Elt F)) :=
  [ reshape main_v6_1 main_v7 (rfl : (.f32 : EltTy) = .f32) shapeCasts_S1024x16x1_S1024x16,
    unary main_v7 main_v8 ((transpose S16x1024 [1, 0] · transposes_S1024x16_S16x1024_1_0) : (⟨S1024x16, .f32⟩ : BufTy).Contents (Elt F) → (⟨S16x1024, .f32⟩ : BufTy).Contents (Elt F)),
    reshape main_v6_2 main_v9 (rfl : (.f32 : EltTy) = .f32) shapeCasts_S1024x16x1_S1024x16,
    unary main_v9 main_v10 ((transpose S16x1024 [1, 0] · transposes_S1024x16_S16x1024_1_0) : (⟨S1024x16, .f32⟩ : BufTy).Contents (Elt F) → (⟨S16x1024, .f32⟩ : BufTy).Contents (Elt F)),
    reshape main_v6_3 main_v11 (rfl : (.f32 : EltTy) = .f32) shapeCasts_S1024x16x1_S1024x16,
    unary main_v11 main_v12 ((transpose S16x1024 [1, 0] · transposes_S1024x16_S16x1024_1_0) : (⟨S1024x16, .f32⟩ : BufTy).Contents (Elt F) → (⟨S16x1024, .f32⟩ : BufTy).Contents (Elt F)),
    unary main_v8 main_v13 (broadcastInDim S16x1024x1 ![0, 1] bcast_S16x1024_S16x1024x1_0_1 : (⟨S16x1024, .f32⟩ : BufTy).Contents (Elt F) → (⟨S16x1024x1, .f32⟩ : BufTy).Contents (Elt F)),
    unary main_v10 main_v14 (broadcastInDim S16x1024x1 ![0, 1] bcast_S16x1024_S16x1024x1_0_1 : (⟨S16x1024, .f32⟩ : BufTy).Contents (Elt F) → (⟨S16x1024x1, .f32⟩ : BufTy).Contents (Elt F)),
    unary main_v12 main_v15 (broadcastInDim S16x1024x1 ![0, 1] bcast_S16x1024_S16x1024x1_0_1 : (⟨S16x1024, .f32⟩ : BufTy).Contents (Elt F) → (⟨S16x1024x1, .f32⟩ : BufTy).Contents (Elt F)),
    nary ![main_v13, main_v14, main_v15] main_v16 (fun u => (concatenate S16x1024x3 2 [⟨S16x1024x1, (u 0 : (⟨S16x1024x1, .f32⟩ : BufTy).Contents (Elt F))⟩, ⟨S16x1024x1, (u 1 : (⟨S16x1024x1, .f32⟩ : BufTy).Contents (Elt F))⟩, ⟨S16x1024x1, (u 2 : (⟨S16x1024x1, .f32⟩ : BufTy).Contents (Elt F))⟩] concatenates_S16x1024x1_S16x1024x1_S16x1024x1_S16x1024x3_d2 : (⟨S16x1024x3, .f32⟩ : BufTy).Contents (Elt F))),
    reshape main_v6_1 main_v17 (rfl : (.f32 : EltTy) = .f32) shapeCasts_S1024x16x1_S1024x16,
    unary main_v17 main_v18 ((transpose S16x1024 [1, 0] · transposes_S1024x16_S16x1024_1_0) : (⟨S1024x16, .f32⟩ : BufTy).Contents (Elt F) → (⟨S16x1024, .f32⟩ : BufTy).Contents (Elt F)),
    reshape main_v18 main_v19 (rfl : (.f32 : EltTy) = .f32) shapeCasts_S16x1024_S16384x1,
    reshape main_v6_2 main_v20 (rfl : (.f32 : EltTy) = .f32) shapeCasts_S1024x16x1_S1024x16,
    unary main_v20 main_v21 ((transpose S16x1024 [1, 0] · transposes_S1024x16_S16x1024_1_0) : (⟨S1024x16, .f32⟩ : BufTy).Contents (Elt F) → (⟨S16x1024, .f32⟩ : BufTy).Contents (Elt F)),
    reshape main_v21 main_v22 (rfl : (.f32 : EltTy) = .f32) shapeCasts_S16x1024_S16384x1,
    reshape main_v6_3 main_v23 (rfl : (.f32 : EltTy) = .f32) shapeCasts_S1024x16x1_S1024x16,
    unary main_v23 main_v24 ((transpose S16x1024 [1, 0] · transposes_S1024x16_S16x1024_1_0) : (⟨S1024x16, .f32⟩ : BufTy).Contents (Elt F) → (⟨S16x1024, .f32⟩ : BufTy).Contents (Elt F)),
    reshape main_v24 main_v25 (rfl : (.f32 : EltTy) = .f32) shapeCasts_S16x1024_S16384x1,
    unary main_v1 main_v26 (broadcastInDim S16x1x8192 ![0, 2] bcast_S16x8192_S16x1x8192_0_2 : (⟨S16x8192, .f32⟩ : BufTy).Contents (Elt F) → (⟨S16x1x8192, .f32⟩ : BufTy).Contents (Elt F)),
    unary main_v3 main_v27 (broadcastInDim S16x1x8192 ![0, 2] bcast_S16x8192_S16x1x8192_0_2 : (⟨S16x8192, .f32⟩ : BufTy).Contents (Elt F) → (⟨S16x1x8192, .f32⟩ : BufTy).Contents (Elt F)),
    unary main_v5 main_v28 (broadcastInDim S16x1x8192 ![0, 2] bcast_S16x8192_S16x1x8192_0_2 : (⟨S16x8192, .f32⟩ : BufTy).Contents (Elt F) → (⟨S16x1x8192, .f32⟩ : BufTy).Contents (Elt F)) ]

abbrev opsC : List (HloOp τ sig (Elt F)) :=
  [ reshape main_arg0 main_v30 (rfl : (.f32 : EltTy) = .f32) shapeCasts_S16x8192x3_S393216,
    nullary main_v31 (iotaInDim S16 32 0),
    nullary main_c (constantI S_ 32 8192#32),
    unary main_c main_v32 (broadcastInDim S16 ![] bcast_S_S16 : (⟨S_, .i32⟩ : BufTy).Contents (Elt F) → (⟨S16, .i32⟩ : BufTy).Contents (Elt F)),
    binary main_v31 main_v32 main_v33 (muli : (⟨S16, .i32⟩ : BufTy).Contents (Elt F) → (⟨S16, .i32⟩ : BufTy).Contents (Elt F) → (⟨S16, .i32⟩ : BufTy).Contents (Elt F)),
    unary main_v33 main_v34 (broadcastInDim S16x1x1 ![0] bcast_S16_S16x1x1_0 : (⟨S16, .i32⟩ : BufTy).Contents (Elt F) → (⟨S16x1x1, .i32⟩ : BufTy).Contents (Elt F)),
    unary main_v34 main_v35 (broadcastInDim S16x1024x32 ![0, 1, 2] bcast_S16x1x1_S16x1024x32_0_1_2 : (⟨S16x1x1, .i32⟩ : BufTy).Contents (Elt F) → (⟨S16x1024x32, .i32⟩ : BufTy).Contents (Elt F)),
    binary main_v29 main_v35 main_v36 (addi : (⟨S16x1024x32, .i32⟩ : BufTy).Contents (Elt F) → (⟨S16x1024x32, .i32⟩ : BufTy).Contents (Elt F) → (⟨S16x1024x32, .i32⟩ : BufTy).Contents (Elt F)),
    reshape main_v36 main_v37 (rfl : (.i32 : EltTy) = .i32) shapeCasts_S16x1024x32_S16x32768,
    unary main_v37 main_v38 (broadcastInDim S16x32768x1 ![0, 1] bcast_S16x32768_S16x32768x1_0_1 : (⟨S16x32768, .i32⟩ : BufTy).Contents (Elt F) → (⟨S16x32768x1, .i32⟩ : BufTy).Contents (Elt F)),
    nullary main_c_0 (constantI S_ 32 3#32),
    unary main_c_0 main_v39 (broadcastInDim S16x32768x1 ![] bcast_S_S16x32768x1 : (⟨S_, .i32⟩ : BufTy).Contents (Elt F) → (⟨S16x32768x1, .i32⟩ : BufTy).Contents (Elt F)),
    binary main_v38 main_v39 main_v40 (muli : (⟨S16x32768x1, .i32⟩ : BufTy).Contents (Elt F) → (⟨S16x32768x1, .i32⟩ : BufTy).Contents (Elt F) → (⟨S16x32768x1, .i32⟩ : BufTy).Contents (Elt F)),
    nullary main_v41 (iotaInDim S3 32 0),
    unary main_v41 main_v42 (broadcastInDim S1x1x3 ![2] bcast_S3_S1x1x3_2 : (⟨S3, .i32⟩ : BufTy).Contents (Elt F) → (⟨S1x1x3, .i32⟩ : BufTy).Contents (Elt F)),
    unary main_v40 main_v43 (broadcastInDim S16x32768x3 ![0, 1, 2] bcast_S16x32768x1_S16x32768x3_0_1_2 : (⟨S16x32768x1, .i32⟩ : BufTy).Contents (Elt F) → (⟨S16x32768x3, .i32⟩ : BufTy).Contents (Elt F)),
    unary main_v42 main_v44 (broadcastInDim S16x32768x3 ![0, 1, 2] bcast_S1x1x3_S16x32768x3_0_1_2 : (⟨S1x1x3, .i32⟩ : BufTy).Contents (Elt F) → (⟨S16x32768x3, .i32⟩ : BufTy).Contents (Elt F)),
    binary main_v43 main_v44 main_v45 (addi : (⟨S16x32768x3, .i32⟩ : BufTy).Contents (Elt F) → (⟨S16x32768x3, .i32⟩ : BufTy).Contents (Elt F) → (⟨S16x32768x3, .i32⟩ : BufTy).Contents (Elt F)),
    reshape main_v45 main_v46 (rfl : (.i32 : EltTy) = .i32) shapeCasts_S16x32768x3_S32x384x128 ]

abbrev opsD : List (HloOp τ sig (Elt F)) :=
  [ reshape main_v47 main_v48 (rfl : (.f32 : EltTy) = .f32) shapeCasts_S32x49152_S16x1024x32x3,
    unary main_v16 main_v49 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    unary main_v49 main_v50 (broadcastInDim S16x1024x32x3 ![0, 1, 2, 3] bcast_S16x1024x1x3_S16x1024x32x3_0_1_2_3 : (⟨S16x1024x1x3, .f32⟩ : BufTy).Contents (Elt F) → (⟨S16x1024x32x3, .f32⟩ : BufTy).Contents (Elt F)),
    binary main_v48 main_v50 main_v51 (subf : (⟨S16x1024x32x3, .f32⟩ : BufTy).Contents (Elt F) → (⟨S16x1024x32x3, .f32⟩ : BufTy).Contents (Elt F) → (⟨S16x1024x32x3, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub ..⟩
theorem opsB_sub : (opsB : List (HloOp τ sig (Elt F))).Forall fun op => op.bufs ⊆ tcRefs τ sig :=
  ⟨reshape_bufs_sub .., unary_bufs_sub .., reshape_bufs_sub .., unary_bufs_sub .., reshape_bufs_sub .., unary_bufs_sub .., unary_bufs_sub .., unary_bufs_sub .., unary_bufs_sub .., nary_bufs_sub .., reshape_bufs_sub .., unary_bufs_sub .., reshape_bufs_sub .., reshape_bufs_sub .., unary_bufs_sub .., reshape_bufs_sub .., reshape_bufs_sub .., unary_bufs_sub .., reshape_bufs_sub .., unary_bufs_sub .., unary_bufs_sub .., unary_bufs_sub ..⟩
theorem opsC_sub : (opsC : List (HloOp τ sig (Elt F))).Forall fun op => op.bufs ⊆ tcRefs τ sig :=
  ⟨reshape_bufs_sub .., nullary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
theorem opsD_sub : (opsD : List (HloOp τ sig (Elt F))).Forall fun op => op.bufs ⊆ tcRefs τ sig :=
  ⟨reshape_bufs_sub .., unary_bufs_sub .., unary_bufs_sub .., binary_bufs_sub ..⟩
theorem opsA_fresh : (opsA : List (HloOp τ sig (Elt F))).Forall fun op => op.fresh = ∅ := forall_fresh_of_map rfl
theorem opsB_fresh : (opsB : List (HloOp τ sig (Elt F))).Forall fun op => op.fresh = ∅ := forall_fresh_of_map rfl
theorem opsC_fresh : (opsC : List (HloOp τ sig (Elt F))).Forall fun op => op.fresh = ∅ := forall_fresh_of_map rfl
theorem opsD_fresh : (opsD : List (HloOp τ sig (Elt F))).Forall fun op => op.fresh = ∅ := forall_fresh_of_map rfl

theorem main_eq (d : Dev nD) :
    main (F := F) d = seq opsA >>= fun _ => Prog.lift (.customCall (SparseCore.inner (Pipeline.entry 0)) ()) >>= fun _ =>
      seq opsB >>= fun _ => Prog.lift (.customCall (SparseCore.inner (Pipeline.entry 1)) ()) >>= fun _ =>
      seq opsC >>= fun _ => (K (F := F)).run d 0 >>= fun _ => seq opsD >>= fun _ => pure ⟨⟩ := by
  simp only [main, opsA, opsB, opsC, opsD, seq, bind_assoc, pure_bind]
  try rfl

/-! ## The arrays' contents along @main -/

variable (m : (ℓ : Loc nD τ sig) → Buf (Elt F) ℓ)

/-- At the launch, and at the sampling region's entry. -/
def V0 (d : Dev nD) : Valuation τ sig (Elt F) := fun b => m (d, b)
def VA (d : Dev nD) : Valuation τ sig (Elt F) := after opsA (V0 m d)

/-- The sampling region's result in window `w`. -/
abbrev fpsOut (d : Dev nD) (w : Fin cfg0.W) := (fpsDat (VA m) d).arrAt w cfg0.N

/-- After the sampling region. -/
def V6 (d : Dev nD) : Valuation τ sig (Elt F) :=
  Function.update (Function.update (Function.update (Function.update (Function.update (VA m d)
    (Proc.devRef .tc main_v6_0) (fpsOut m d 3)) (Proc.devRef .tc main_v6_1) (fpsOut m d 4)) (Proc.devRef .tc main_v6_2) (fpsOut m d 5))
    (Proc.devRef .tc main_v6_3) (fpsOut m d 6)) (Proc.devRef .tc main_v6_4) (fpsOut m d 7)
/-- At the selecting region's entry, and after it. -/
def VB (d : Dev nD) : Valuation τ sig (Elt F) := after opsB (V6 m d)
def V29 (d : Dev nD) : Valuation τ sig (Elt F) :=
  Function.update (VB m d) (Proc.devRef .tc main_v29) ((knnDat (VB m) d).arrAt 6 cfg1.N)
/-- Before the call: the table and the index array it is given. -/
def VC (d : Dev nD) : Valuation τ sig (Elt F) := after opsC (V29 m d)
def tb (d : Dev nD) : S393216.Idx → Elt F .f32 := VC m d (Proc.devRef .tc main_v30)
def ix (d : Dev nD) : S32x384x128.Idx → BitVec 32 := VC m d (Proc.devRef .tc main_v46)
/-- After the call, and at the end. -/
def V47 (d : Dev nD) : Valuation τ sig (Elt F) := Function.update (VC m d) (Proc.devRef .tc main_v47) (gathered (tb m d) (ix m d))
def VD (d : Dev nD) : Valuation τ sig (Elt F) := after opsD (V47 m d)

/-- What the proof asks of the contents: every index of the index array is an entry of the table. -/
def IxOK : Prop := ∀ (d : Dev nD) (j : S32x384x128.Idx), (ix m d j).toNat < 393216

/-! ## The two regions -/

theorem ref_mem {gr W : ℕ} (win : Fin W → Pipeline.WinSpec sig gr) (w : Fin W) :
    Proc.devRef .tc (Pipeline.arrRef win w) ∈ Pipeline.arrRefs (τ := τ) win :=
  Finset.mem_map.mpr ⟨_, Finset.mem_image.mpr ⟨w, Finset.mem_univ _, rfl⟩, rfl⟩

theorem V6_of_ne (d : Dev nD) (b : DevRef τ sig) (h0 : b ≠ Proc.devRef .tc main_v6_0) (h1 : b ≠ Proc.devRef .tc main_v6_1)
    (h2 : b ≠ Proc.devRef .tc main_v6_2) (h3 : b ≠ Proc.devRef .tc main_v6_3) (h4 : b ≠ Proc.devRef .tc main_v6_4) : V6 m d b = VA m d b := by
  unfold V6
  rw [Function.update_of_ne h4, Function.update_of_ne h3, Function.update_of_ne h2, Function.update_of_ne h1, Function.update_of_ne h0]

theorem V6_0 (d : Dev nD) : V6 m d (Proc.devRef .tc main_v6_0) = fpsOut m d 3 := by
  unfold V6
  rw [Function.update_of_ne (by decide), Function.update_of_ne (by decide), Function.update_of_ne (by decide), Function.update_of_ne (by decide), Function.update_self]
theorem V6_1 (d : Dev nD) : V6 m d (Proc.devRef .tc main_v6_1) = fpsOut m d 4 := by
  unfold V6
  rw [Function.update_of_ne (by decide), Function.update_of_ne (by decide), Function.update_of_ne (by decide), Function.update_self]
theorem V6_2 (d : Dev nD) : V6 m d (Proc.devRef .tc main_v6_2) = fpsOut m d 5 := by
  unfold V6
  rw [Function.update_of_ne (by decide), Function.update_of_ne (by decide), Function.update_self]
theorem V6_3 (d : Dev nD) : V6 m d (Proc.devRef .tc main_v6_3) = fpsOut m d 6 := by
  unfold V6
  rw [Function.update_of_ne (by decide), Function.update_self]
theorem V6_4 (d : Dev nD) : V6 m d (Proc.devRef .tc main_v6_4) = fpsOut m d 7 := by
  unfold V6
  rw [Function.update_self]

theorem fps_held_out (d : Dev nD) : ∀ w : Fin cfg0.W, (fpsDat (VA m) d).arrAt w cfg0.N = V6 m d (Proc.devRef .tc (Pipeline.arrRef spec0 w))
  | ⟨0, _⟩ => ((fpsDat (VA m) d).arrAt_in 0 rfl _).trans ((fpsA_eq (VA m) d 0).trans (V6_of_ne m d (Proc.devRef .tc main_v1) (by decide) (by decide) (by decide) (by decide) (by decide)).symm)
  | ⟨1, _⟩ => ((fpsDat (VA m) d).arrAt_in 1 rfl _).trans ((fpsA_eq (VA m) d 1).trans (V6_of_ne m d (Proc.devRef .tc main_v3) (by decide) (by decide) (by decide) (by decide) (by decide)).symm)
  | ⟨2, _⟩ => ((fpsDat (VA m) d).arrAt_in 2 rfl _).trans ((fpsA_eq (VA m) d 2).trans (V6_of_ne m d (Proc.devRef .tc main_v5) (by decide) (by decide) (by decide) (by decide) (by decide)).symm)
  | ⟨3, _⟩ => (V6_0 m d).symm
  | ⟨4, _⟩ => (V6_1 m d).symm
  | ⟨5, _⟩ => (V6_2 m d).symm
  | ⟨6, _⟩ => (V6_3 m d).symm
  | ⟨7, _⟩ => (V6_4 m d).symm

theorem V29_of_ne (d : Dev nD) (b : DevRef τ sig) (h : b ≠ Proc.devRef .tc main_v29) : V29 m d b = VB m d b := by
  unfold V29
  rw [Function.update_of_ne h]
theorem V29_v29 (d : Dev nD) : V29 m d (Proc.devRef .tc main_v29) = (knnDat (VB m) d).arrAt 6 cfg1.N := by
  unfold V29
  rw [Function.update_self]

theorem knn_held_out (d : Dev nD) : ∀ w : Fin cfg1.W, (knnDat (VB m) d).arrAt w cfg1.N = V29 m d (Proc.devRef .tc (Pipeline.arrRef spec1 w))
  | ⟨0, _⟩ => ((knnDat (VB m) d).arrAt_in 0 rfl _).trans ((knnA_eq (VB m) d 0).trans (V29_of_ne m d (Proc.devRef .tc main_v19) (by decide)).symm)
  | ⟨1, _⟩ => ((knnDat (VB m) d).arrAt_in 1 rfl _).trans ((knnA_eq (VB m) d 1).trans (V29_of_ne m d (Proc.devRef .tc main_v22) (by decide)).symm)
  | ⟨2, _⟩ => ((knnDat (VB m) d).arrAt_in 2 rfl _).trans ((knnA_eq (VB m) d 2).trans (V29_of_ne m d (Proc.devRef .tc main_v25) (by decide)).symm)
  | ⟨3, _⟩ => ((knnDat (VB m) d).arrAt_in 3 rfl _).trans ((knnA_eq (VB m) d 3).trans (V29_of_ne m d (Proc.devRef .tc main_v26) (by decide)).symm)
  | ⟨4, _⟩ => ((knnDat (VB m) d).arrAt_in 4 rfl _).trans ((knnA_eq (VB m) d 4).trans (V29_of_ne m d (Proc.devRef .tc main_v27) (by decide)).symm)
  | ⟨5, _⟩ => ((knnDat (VB m) d).arrAt_in 5 rfl _).trans ((knnA_eq (VB m) d 5).trans (V29_of_ne m d (Proc.devRef .tc main_v28) (by decide)).symm)
  | ⟨6, _⟩ => (V29_v29 m d).symm

theorem fps_in (V : Dev nD → Valuation τ sig (Elt F)) (c : Dev nD) : Pipeline.scopedRest spec0 c ⊢ (fpsDat V c).Φ 0 := by
  have h : (fpsDat V c).Φ 0 = fpsPhi V c 0 := congrArg (fpsPhi V c) (Fin.val_zero (cfg0.N + 1))
  rw [h, fpsPhi]

theorem knn_phi (V : Dev nD → Valuation τ sig (Elt F)) (c : Dev nD) (t : Fin (cfg1.N + 1)) : (knnDat V c).Φ t = Pipeline.scopedRest spec1 c := by
  dsimp only [knnDat]
theorem knn_in (V : Dev nD → Valuation τ sig (Elt F)) (c : Dev nD) : Pipeline.scopedRest spec1 c ⊢ (knnDat V c).Φ 0 :=
  Entails.of_eq (knn_phi V c 0).symm
theorem knn_out (V : Dev nD → Valuation τ sig (Elt F)) (c : Dev nD) : (knnDat V c).Φ (Fin.last cfg1.N) ⊢ Pipeline.scopedRest spec1 c :=
  Entails.of_eq (knn_phi V c (Fin.last cfg1.N))

/-- The sampling kernel's region: from the planes of the points to the planes with the sampled points written. -/
def fpsRegion : Pipeline.RegionSeg (pcfgs (F := F)) aP (dats (VA m) (VB m)) none defs₀ 𝒱₀ (K (F := F)).L (K (F := F)).lev 0 :=
  region (dats (VA m) (VB m)) 0 launch0.toP rfl (fun c => (fps_body_obligation (VA m) c).loose) (fun _ _ => rfl) (fun _ _ => rfl)
    (fun c w => (fpsDat (VA m) c).share_full (fun _ => rfl) w) (fun c => fps_in (VA m) c) (fun c => fps_out (VA m) c) (VA m) (V6 m)
    (fun c w => fpsA_eq (VA m) c w) (fun c w => fps_held_out m c w)
    (fun c b hb => (V6_of_ne m c b
      (fun e => (Finset.mem_sdiff.mp hb).2 (e ▸ ref_mem spec0 3)) (fun e => (Finset.mem_sdiff.mp hb).2 (e ▸ ref_mem spec0 4))
      (fun e => (Finset.mem_sdiff.mp hb).2 (e ▸ ref_mem spec0 5)) (fun e => (Finset.mem_sdiff.mp hb).2 (e ▸ ref_mem spec0 6))
      (fun e => (Finset.mem_sdiff.mp hb).2 (e ▸ ref_mem spec0 7))).symm)

/-- The selecting kernel's region: the indices written. -/
def knnRegion : Pipeline.RegionSeg (pcfgs (F := F)) aP (dats (VA m) (VB m)) none defs₀ 𝒱₀ (K (F := F)).L (K (F := F)).lev 1 :=
  region (dats (VA m) (VB m)) 1 launch1.toP rfl (fun c => (knn_body_obligation (VB m) c).loose) (fun _ _ => rfl) (fun _ _ => rfl)
    (fun c w => (knnDat (VB m) c).share_full (fun _ => rfl) w) (fun c => knn_in (VB m) c) (fun c => knn_out (VB m) c) (VB m) (V29 m)
    (fun c w => knnA_eq (VB m) c w) (fun c w => knn_held_out m c w)
    (fun c b hb => (V29_of_ne m c b (fun e => (Finset.mem_sdiff.mp hb).2 (e ▸ ref_mem spec1 6))).symm)

end Cert.Proof.KernelIdeal

end
-- ==== Proof.KernelFpsValue.lean ====
/-
  The sampling kernel inside the whole program, its arrays: each array of coordinates, read at a centre, is what the grid
  point of that centre wrote. The arrays' contents at the region's entry are arbitrary (`V`).
-/
module

public import proofs.«01_k».proof.Proof.KernelFps
public import Idealize.ShloMosaic.Lib.ValueIdxCore

@[expose] public section

set_option maxRecDepth 16384

noncomputable section

namespace Cert.Proof.KernelIdeal

open Cert.KernelIdeal Cert.KernelIdeal.Gen

open Idealize.ShloMosaic
open Idealize.ShloMosaic.TcCoe Idealize.ShloMosaic.ValueIdx
open Idealize.ShloMosaic.Pipeline (Dat Cfg Window)

variable {F : FTy → Type} [FloatOps F] (V : Dev nD → Valuation τ sig (Elt F)) (c : Dev nD) (s : Fin 1024) (b : Fin 16)

theorem fps_ix4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem fps_apart4 (t t' : Fin cfg0.N) (_ : (cfg0.win 4).flush t = true) (_ : (cfg0.win 4).flush t' = true) (h : t ≠ t') :
    Disjoint ((cfg0.win 4).blk t).view.set ((cfg0.win 4).blk t').view.set :=
  (cfg0.win 4).disjoint_blk fun e => h (Fin.ext ((fps_ix4 t).1.symm.trans ((congrFun e 0).trans (fps_ix4 t').1)))

/-- Window 4's array at centre `s` of cloud `b`. -/
theorem fps_at4 : ((fpsDat V c).arrAt 4 cfg0.N : Vec F S1024x16x1 .f32) (ix3 s b (0 : Fin 1)) = outX (fF V c s.val) (fX V c) (ix3 (0 : Fin 1) b (0 : Fin 1)) := by
  obtain ⟨t, ht⟩ : ∃ t : Fin cfg0.N, t.val = s.val := ⟨⟨s.val, lt_of_lt_of_eq s.isLt N_0.symm⟩, rfl⟩
  have hb := congrFun ((fpsDat V c).read_blk_arrAt_eq_flushed 4 fps_apart4 cfg0.N t t.isLt (flush0_4 t)) (ix3 (0 : Fin 1) b (0 : Fin 1))
  rw [View.read_apply, show (fpsDat V c).flushed 4 t = (cfg0.win 4).cut (grid0.coords t) ((fpsDat V c).after 4 t) from rfl, fps_after4, ht] at hb
  refine Eq.trans ?_ hb
  show (fpsDat V c).arrAt 4 cfg0.N _ = (fpsDat V c).arrAt 4 cfg0.N _
  congr 1
  funext a
  apply Fin.ext
  match a with
  | ⟨0, _⟩ => show s.val = win0_4.index t 0 * 1 + 1 * 0; rw [(fps_ix4 t).1, ht]; omega
  | ⟨1, _⟩ => show b.val = win0_4.index t 1 * 16 + 1 * b.val; rw [(fps_ix4 t).2.1]; omega
  | ⟨2, _⟩ => show 0 = win0_4.index t 2 * 1 + 1 * 0; rw [(fps_ix4 t).2.2]

theorem fps_ix5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem fps_apart5 (t t' : Fin cfg0.N) (_ : (cfg0.win 5).flush t = true) (_ : (cfg0.win 5).flush t' = true) (h : t ≠ t') :
    Disjoint ((cfg0.win 5).blk t).view.set ((cfg0.win 5).blk t').view.set :=
  (cfg0.win 5).disjoint_blk fun e => h (Fin.ext ((fps_ix5 t).1.symm.trans ((congrFun e 0).trans (fps_ix5 t').1)))

/-- Window 5's array at centre `s` of cloud `b`. -/
theorem fps_at5 : ((fpsDat V c).arrAt 5 cfg0.N : Vec F S1024x16x1 .f32) (ix3 s b (0 : Fin 1)) = outY (fF V c s.val) (fY V c) (ix3 (0 : Fin 1) b (0 : Fin 1)) := by
  obtain ⟨t, ht⟩ : ∃ t : Fin cfg0.N, t.val = s.val := ⟨⟨s.val, lt_of_lt_of_eq s.isLt N_0.symm⟩, rfl⟩
  have hb := congrFun ((fpsDat V c).read_blk_arrAt_eq_flushed 5 fps_apart5 cfg0.N t t.isLt (flush0_5 t)) (ix3 (0 : Fin 1) b (0 : Fin 1))
  rw [View.read_apply, show (fpsDat V c).flushed 5 t = (cfg0.win 5).cut (grid0.coords t) ((fpsDat V c).after 5 t) from rfl, fps_after5, ht] at hb
  refine Eq.trans ?_ hb
  show (fpsDat V c).arrAt 5 cfg0.N _ = (fpsDat V c).arrAt 5 cfg0.N _
  congr 1
  funext a
  apply Fin.ext
  match a with
  | ⟨0, _⟩ => show s.val = win0_5.index t 0 * 1 + 1 * 0; rw [(fps_ix5 t).1, ht]; omega
  | ⟨1, _⟩ => show b.val = win0_5.index t 1 * 16 + 1 * b.val; rw [(fps_ix5 t).2.1]; omega
  | ⟨2, _⟩ => show 0 = win0_5.index t 2 * 1 + 1 * 0; rw [(fps_ix5 t).2.2]

theorem fps_ix6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

theorem fps_apart6 (t t' : Fin cfg0.N) (_ : (cfg0.win 6).flush t = true) (_ : (cfg0.win 6).flush t' = true) (h : t ≠ t') :
    Disjoint ((cfg0.win 6).blk t).view.set ((cfg0.win 6).blk t').view.set :=
  (cfg0.win 6).disjoint_blk fun e => h (Fin.ext ((fps_ix6 t).1.symm.trans ((congrFun e 0).trans (fps_ix6 t').1)))

/-- Window 6's array at centre `s` of cloud `b`. -/
theorem fps_at6 : ((fpsDat V c).arrAt 6 cfg0.N : Vec F S1024x16x1 .f32) (ix3 s b (0 : Fin 1)) = outZ (fF V c s.val) (fZ V c) (ix3 (0 : Fin 1) b (0 : Fin 1)) := by
  obtain ⟨t, ht⟩ : ∃ t : Fin cfg0.N, t.val = s.val := ⟨⟨s.val, lt_of_lt_of_eq s.isLt N_0.symm⟩, rfl⟩
  have hb := congrFun ((fpsDat V c).read_blk_arrAt_eq_flushed 6 fps_apart6 cfg0.N t t.isLt (flush0_6 t)) (ix3 (0 : Fin 1) b (0 : Fin 1))
  rw [View.read_apply, show (fpsDat V c).flushed 6 t = (cfg0.win 6).cut (grid0.coords t) ((fpsDat V c).after 6 t) from rfl, fps_after6, ht] at hb
  refine Eq.trans ?_ hb
  show (fpsDat V c).arrAt 6 cfg0.N _ = (fpsDat V c).arrAt 6 cfg0.N _
  congr 1
  funext a
  apply Fin.ext
  match a with
  | ⟨0, _⟩ => show s.val = win0_6.index t 0 * 1 + 1 * 0; rw [(fps_ix6 t).1, ht]; omega
  | ⟨1, _⟩ => show b.val = win0_6.index t 1 * 16 + 1 * b.val; rw [(fps_ix6 t).2.1]; omega
  | ⟨2, _⟩ => show 0 = win0_6.index t 2 * 1 + 1 * 0; rw [(fps_ix6 t).2.2]

end Cert.Proof.KernelIdeal

end
-- ==== Proof.KernelKnnValue.lean ====
/-
  The selecting kernel inside the whole program, its array: place `i` of centre `s`'s list is what round `i` takes from that
  centre's distances, whenever the region finds the coordinates of centres and points laid out as columns and rows; it is
  place `i` of the stable sort of those distances where all of them are below infinity.
-/
module

public import proofs.«01_k».proof.Proof.KernelKnn
public import proofs.«01_k».proof.Proof.SelectIdealValue
public import Idealize.ShloMosaic.Lib.ValueIdxCore

@[expose] public section

set_option maxRecDepth 16384

noncomputable section

namespace Cert.Proof.KernelIdeal

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.ShloMosaic.Pipeline (Dat Cfg Window)
open Cert.Proof.SelectIdeal (centreOf row_lt distOf out_at dists_at)

section Blocks

variable {F : FTy → Type} [FloatOps F] (V : Dev nD → Valuation τ sig (Elt F)) (c : Dev nD)
variable (t : Fin cfg1.N) (b : Fin 16) (g : Fin 8) (ht : t.val = b.val * 8 + g.val)

theorem knn_ix0 : ∀ t : Fin cfg1.N, win1_0.index t 0 = t.val ∧ win1_0.index t 1 = 0 :=
  (by decide +kernel : ∀ t : Fin grid1.N, win1_0.index t 0 = t.val ∧ win1_0.index t 1 = 0)
theorem knn_ix1 : ∀ t : Fin cfg1.N, win1_1.index t 0 = t.val ∧ win1_1.index t 1 = 0 :=
  (by decide +kernel : ∀ t : Fin grid1.N, win1_1.index t 0 = t.val ∧ win1_1.index t 1 = 0)
theorem knn_ix2 : ∀ t : Fin cfg1.N, win1_2.index t 0 = t.val ∧ win1_2.index t 1 = 0 :=
  (by decide +kernel : ∀ t : Fin grid1.N, win1_2.index t 0 = t.val ∧ win1_2.index t 1 = 0)
theorem knn_ix3 : ∀ t : Fin cfg1.N, win1_3.index t 0 = t.val / 8 ∧ win1_3.index t 1 = 0 ∧ win1_3.index t 2 = 0 :=
  (by decide +kernel : ∀ t : Fin grid1.N, win1_3.index t 0 = t.val / 8 ∧ win1_3.index t 1 = 0 ∧ win1_3.index t 2 = 0)
theorem knn_ix4 : ∀ t : Fin cfg1.N, win1_4.index t 0 = t.val / 8 ∧ win1_4.index t 1 = 0 ∧ win1_4.index t 2 = 0 :=
  (by decide +kernel : ∀ t : Fin grid1.N, win1_4.index t 0 = t.val / 8 ∧ win1_4.index t 1 = 0 ∧ win1_4.index t 2 = 0)
theorem knn_ix5 : ∀ t : Fin cfg1.N, win1_5.index t 0 = t.val / 8 ∧ win1_5.index t 1 = 0 ∧ win1_5.index t 2 = 0 :=
  (by decide +kernel : ∀ t : Fin grid1.N, win1_5.index t 0 = t.val / 8 ∧ win1_5.index t 1 = 0 ∧ win1_5.index t 2 = 0)
theorem knn_ix6 : ∀ t : Fin cfg1.N, win1_6.index t 0 = t.val / 8 ∧ win1_6.index t 1 = t.val % 8 ∧ win1_6.index t 2 = 0 :=
  (by decide +kernel : ∀ t : Fin grid1.N, win1_6.index t 0 = t.val / 8 ∧ win1_6.index t 1 = t.val % 8 ∧ win1_6.index t 2 = 0)
theorem knn_apart6 (t t' : Fin cfg1.N) (_ : (cfg1.win 6).flush t = true) (_ : (cfg1.win 6).flush t' = true) (h : t ≠ t') :
    Disjoint ((cfg1.win 6).blk t).view.set ((cfg1.win 6).blk t').view.set :=
  (cfg1.win 6).disjoint_blk fun e => h (Fin.ext (by
    have h0 := (knn_ix6 t).1.symm.trans ((congrFun e 0).trans (knn_ix6 t').1)
    have h1 := (knn_ix6 t).2.1.symm.trans ((congrFun e 1).trans (knn_ix6 t').2.1)
    omega))

include ht

theorem knnBlk_at0 (p : Fin 128) : (knnBlk V c 0 t : Vec F S128x1 .f32) (ix2 p (0 : Fin 1))
    = (V c main_v19 : Vec F S16384x1 .f32) (ix2 (⟨(b.val * 8 + g.val) * 128 + p.val, row_lt b g p⟩ : Fin 16384) (0 : Fin 1)) := by
  unfold knnBlk
  rw [View.read_apply]
  show V c main_v19 _ = V c main_v19 _
  congr 1
  funext a
  apply Fin.ext
  match a with
  | ⟨0, _⟩ => show win1_0.index t 0 * 128 + 1 * p.val = (b.val * 8 + g.val) * 128 + p.val; rw [(knn_ix0 t).1, ht]; omega
  | ⟨1, _⟩ => show win1_0.index t 1 * 1 + 1 * 0 = 0; rw [(knn_ix0 t).2]
theorem knnBlk_at1 (p : Fin 128) : (knnBlk V c 1 t : Vec F S128x1 .f32) (ix2 p (0 : Fin 1))
    = (V c main_v22 : Vec F S16384x1 .f32) (ix2 (⟨(b.val * 8 + g.val) * 128 + p.val, row_lt b g p⟩ : Fin 16384) (0 : Fin 1)) := by
  unfold knnBlk
  rw [View.read_apply]
  show V c main_v22 _ = V c main_v22 _
  congr 1
  funext a
  apply Fin.ext
  match a with
  | ⟨0, _⟩ => show win1_1.index t 0 * 128 + 1 * p.val = (b.val * 8 + g.val) * 128 + p.val; rw [(knn_ix1 t).1, ht]; omega
  | ⟨1, _⟩ => show win1_1.index t 1 * 1 + 1 * 0 = 0; rw [(knn_ix1 t).2]
theorem knnBlk_at2 (p : Fin 128) : (knnBlk V c 2 t : Vec F S128x1 .f32) (ix2 p (0 : Fin 1))
    = (V c main_v25 : Vec F S16384x1 .f32) (ix2 (⟨(b.val * 8 + g.val) * 128 + p.val, row_lt b g p⟩ : Fin 16384) (0 : Fin 1)) := by
  unfold knnBlk
  rw [View.read_apply]
  show V c main_v25 _ = V c main_v25 _
  congr 1
  funext a
  apply Fin.ext
  match a with
  | ⟨0, _⟩ => show win1_2.index t 0 * 128 + 1 * p.val = (b.val * 8 + g.val) * 128 + p.val; rw [(knn_ix2 t).1, ht]; omega
  | ⟨1, _⟩ => show win1_2.index t 1 * 1 + 1 * 0 = 0; rw [(knn_ix2 t).2]
theorem knnBlk_at3 (n : Fin 8192) : (knnBlk V c 3 t : Vec F S1x1x8192 .f32) (ix3 (0 : Fin 1) (0 : Fin 1) n)
    = (V c main_v26 : Vec F S16x1x8192 .f32) (ix3 b (0 : Fin 1) n) := by
  unfold knnBlk
  rw [View.read_apply]
  show V c main_v26 _ = V c main_v26 _
  congr 1
  funext a
  apply Fin.ext
  match a with
  | ⟨0, _⟩ => show win1_3.index t 0 * 1 + 1 * 0 = b.val; rw [(knn_ix3 t).1, ht]; omega
  | ⟨1, _⟩ => show win1_3.index t 1 * 1 + 1 * 0 = 0; rw [(knn_ix3 t).2.1]
  | ⟨2, _⟩ => show win1_3.index t 2 * 8192 + 1 * n.val = n.val; rw [(knn_ix3 t).2.2]; omega
theorem knnBlk_at4 (n : Fin 8192) : (knnBlk V c 4 t : Vec F S1x1x8192 .f32) (ix3 (0 : Fin 1) (0 : Fin 1) n)
    = (V c main_v27 : Vec F S16x1x8192 .f32) (ix3 b (0 : Fin 1) n) := by
  unfold knnBlk
  rw [View.read_apply]
  show V c main_v27 _ = V c main_v27 _
  congr 1
  funext a
  apply Fin.ext
  match a with
  | ⟨0, _⟩ => show win1_4.index t 0 * 1 + 1 * 0 = b.val; rw [(knn_ix4 t).1, ht]; omega
  | ⟨1, _⟩ => show win1_4.index t 1 * 1 + 1 * 0 = 0; rw [(knn_ix4 t).2.1]
  | ⟨2, _⟩ => show win1_4.index t 2 * 8192 + 1 * n.val = n.val; rw [(knn_ix4 t).2.2]; omega
theorem knnBlk_at5 (n : Fin 8192) : (knnBlk V c 5 t : Vec F S1x1x8192 .f32) (ix3 (0 : Fin 1) (0 : Fin 1) n)
    = (V c main_v28 : Vec F S16x1x8192 .f32) (ix3 b (0 : Fin 1) n) := by
  unfold knnBlk
  rw [View.read_apply]
  show V c main_v28 _ = V c main_v28 _
  congr 1
  funext a
  apply Fin.ext
  match a with
  | ⟨0, _⟩ => show win1_5.index t 0 * 1 + 1 * 0 = b.val; rw [(knn_ix5 t).1, ht]; omega
  | ⟨1, _⟩ => show win1_5.index t 1 * 1 + 1 * 0 = 0; rw [(knn_ix5 t).2.1]
  | ⟨2, _⟩ => show win1_5.index t 2 * 8192 + 1 * n.val = n.val; rw [(knn_ix5 t).2.2]; omega

/-- The array of indices holds, at the point's block, what the point wrote. -/
theorem knn_array_at (p : Fin 128) (i : Fin 32) :
    ((knnDat V c).arrAt 6 cfg1.N : Vec F S16x1024x32 .i32) (ix3 b (centreOf g p) i)
      = Cert.SelectIdeal.Gen.out0_6 (knnBlk V c 0 t) (knnBlk V c 1 t) (knnBlk V c 2 t) (knnBlk V c 3 t) (knnBlk V c 4 t) (knnBlk V c 5 t) (ix3 (0 : Fin 1) p i) := by
  have hb := congrFun ((knnDat V c).read_blk_arrAt_eq_flushed 6 knn_apart6 cfg1.N t t.isLt (flush1_6 t)) (ix3 (0 : Fin 1) p i)
  rw [View.read_apply, show (knnDat V c).flushed 6 t = (cfg1.win 6).cut (grid1.coords t) ((knnDat V c).after 6 t) from rfl, after1_6] at hb
  refine Eq.trans ?_ hb
  show (knnDat V c).arrAt 6 cfg1.N _ = (knnDat V c).arrAt 6 cfg1.N _
  congr 1
  funext a
  apply Fin.ext
  match a with
  | ⟨0, _⟩ => show b.val = win1_6.index t 0 * 1 + 1 * 0; rw [(knn_ix6 t).1, ht]; omega
  | ⟨1, _⟩ => show g.val * 128 + p.val = win1_6.index t 1 * 128 + 1 * p.val; rw [(knn_ix6 t).2.1, ht]; omega
  | ⟨2, _⟩ => show i.val = win1_6.index t 2 * 32 + 1 * i.val; rw [(knn_ix6 t).2.2]; omega

end Blocks

/-- What the region finds: the centres' coordinates one after another, the points' coordinates a row for each cloud. -/
structure Laid (W : Valuation τ sig (Elt Ideal)) (x : S16x8192x3.Idx → Ideal .f32) (q : S16x1024x3.Idx → Ideal .f32) : Prop where
  cx : ∀ (r : Fin 16384) (b : Fin 16) (s : Fin 1024), r.val = b.val * 1024 + s.val → (W main_v19 : Vec Ideal S16384x1 .f32) (ix2 r (0 : Fin 1)) = q (ix3 b s (0 : Fin 3))
  cy : ∀ (r : Fin 16384) (b : Fin 16) (s : Fin 1024), r.val = b.val * 1024 + s.val → (W main_v22 : Vec Ideal S16384x1 .f32) (ix2 r (0 : Fin 1)) = q (ix3 b s (1 : Fin 3))
  cz : ∀ (r : Fin 16384) (b : Fin 16) (s : Fin 1024), r.val = b.val * 1024 + s.val → (W main_v25 : Vec Ideal S16384x1 .f32) (ix2 r (0 : Fin 1)) = q (ix3 b s (2 : Fin 3))
  px : ∀ (b : Fin 16) (n : Fin 8192), (W main_v26 : Vec Ideal S16x1x8192 .f32) (ix3 b (0 : Fin 1) n) = x (ix3 b n (0 : Fin 3))
  py : ∀ (b : Fin 16) (n : Fin 8192), (W main_v27 : Vec Ideal S16x1x8192 .f32) (ix3 b (0 : Fin 1) n) = x (ix3 b n (1 : Fin 3))
  pz : ∀ (b : Fin 16) (n : Fin 8192), (W main_v28 : Vec Ideal S16x1x8192 .f32) (ix3 b (0 : Fin 1) n) = x (ix3 b n (2 : Fin 3))

/-- Whatever the coordinates: place `i` of the list is what round `i` takes. -/
theorem knn_array_taken (V : Dev nD → Valuation τ sig (Elt Ideal)) (c : Dev nD) (x : S16x8192x3.Idx → Ideal .f32) (q : S16x1024x3.Idx → Ideal .f32)
    (hL : Laid (V c) x q) (b : Fin 16) (s : Fin 1024) (i : Fin 32) :
    ((knnDat V c).arrAt 6 cfg1.N : Vec Ideal S16x1024x32 .i32) (ix3 b s i)
      = BitVec.ofNat 32 (Nearest.taken (distOf x q b s) i.val).val := by
  obtain ⟨g, p, rfl⟩ : ∃ (g : Fin 8) (p : Fin 128), s = centreOf g p :=
    ⟨⟨s.val / 128, by omega⟩, ⟨s.val % 128, by omega⟩, Fin.ext (by show s.val = s.val / 128 * 128 + s.val % 128; omega)⟩
  have hN : b.val * 8 + g.val < cfg1.N := lt_of_lt_of_eq (show b.val * 8 + g.val < 128 by omega) N_1.symm
  have hr : ∀ p : Fin 128, (b.val * 8 + g.val) * 128 + p.val = b.val * 1024 + (centreOf g p).val := fun p => by
    show (b.val * 8 + g.val) * 128 + p.val = b.val * 1024 + (g.val * 128 + p.val)
    omega
  refine (knn_array_at V c ⟨_, hN⟩ b g rfl p i).trans ?_
  refine out_at _ _ _ _ _ _ (D := fun p n => distOf x q b (centreOf g p) n) (fun p n => ?_) p i
  refine (dists_at _ _ _ _ _ _ p n).trans ?_
  rw [knnBlk_at0 V c ⟨_, hN⟩ b g rfl p, knnBlk_at1 V c ⟨_, hN⟩ b g rfl p, knnBlk_at2 V c ⟨_, hN⟩ b g rfl p,
    knnBlk_at3 V c ⟨_, hN⟩ b g rfl n, knnBlk_at4 V c ⟨_, hN⟩ b g rfl n, knnBlk_at5 V c ⟨_, hN⟩ b g rfl n,
    hL.cx _ b (centreOf g p) (hr p), hL.cy _ b (centreOf g p) (hr p), hL.cz _ b (centreOf g p) (hr p), hL.px, hL.py, hL.pz]
  rfl

theorem knn_array_eq (V : Dev nD → Valuation τ sig (Elt Ideal)) (c : Dev nD) (x : S16x8192x3.Idx → Ideal .f32) (q : S16x1024x3.Idx → Ideal .f32)
    (hL : Laid (V c) x q) (hD : ∀ b s n, distOf x q b s n < ⊤) (b : Fin 16) (s : Fin 1024) (i : Fin 32) :
    ((knnDat V c).arrAt 6 cfg1.N : Vec Ideal S16x1024x32 .i32) (ix3 b s i)
      = BitVec.ofNat 32 (Nearest.pick (distOf x q b s) (i.castLE (by decide))).val := by
  rw [← Nearest.taken_eq _ (hD b s) (i.castLE (by decide))]
  exact knn_array_taken V c x q hL b s i

end Cert.Proof.KernelIdeal

end
-- ==== Proof.KernelCentres.lean ====
/-
  The whole program's centres: what the sampling region leaves is, coordinate by coordinate, the points that the reference
  samples, so the array of centres is the reference's; and the selecting region finds centres and points laid out.
-/
module

public import proofs.«01_k».proof.Proof.KernelOps
public import proofs.«01_k».proof.Proof.KernelFpsValue
public import proofs.«01_k».proof.Proof.KernelKnnValue
public import proofs.«01_k».proof.Proof.SampleEq

@[expose] public section

set_option maxRecDepth 16384

noncomputable section

namespace Cert.Proof.KernelIdeal

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx Idealize.ShloMosaic.StableHlo
open Cert.Proof.SampleIdeal (planeX planeY planeZ)
open Cert.Proof.SampleEq (row row_kernel row_ref)

/-! ## The host's layouts at an index -/

section Layout
variable {α : Type}

/-- One coordinate of the centres, a row for each cloud. -/
def byCloud (v : S1024x16x1.Idx → α) : S16x1024.Idx → α :=
  transpose S16x1024 [1, 0] (shapeCast S1024x16 v shapeCasts_S1024x16x1_S1024x16) transposes_S1024x16_S16x1024_1_0

theorem byCloud_at (v : S1024x16x1.Idx → α) (b : Fin 16) (s : Fin 1024) : byCloud v (ix2 b s) = v (ix3 s b (0 : Fin 1)) := by
  unfold byCloud
  rw [transpose_apply [1, 0] _ transposes_S1024x16_S16x1024_1_0 (ix2 b s) (ix2 s b) (fun a => match a with | ⟨0, _⟩ => rfl | ⟨1, _⟩ => rfl)]
  exact shapeCast_apply _ _ (ix2 s b) (ix3 s b (0 : Fin 1)) (by
    rw [Shape.rowMajor_val_three, Shape.rowMajor_val_two]
    show (s.val * 16 + b.val) * 1 + 0 = s.val * 16 + b.val
    omega)

/-- A coordinate of the centres as a slab, and the three slabs side by side. -/
def slab (v : S16x1024.Idx → α) : S16x1024x1.Idx → α := broadcastInDim S16x1024x1 ![0, 1] bcast_S16x1024_S16x1024x1_0_1 v

theorem slab_at (v : S16x1024.Idx → α) (b : Fin 16) (s : Fin 1024) : slab v (ix3 b s (0 : Fin 1)) = v (ix2 b s) := by
  unfold slab
  exact broadcastInDim_apply ![0, 1] bcast_S16x1024_S16x1024x1_0_1 v (ix3 b s (0 : Fin 1)) (ix2 b s) fun a => by
    match a with
    | ⟨0, _⟩ => rfl
    | ⟨1, _⟩ => rfl

abbrev pieces (u v w : S16x1024x1.Idx → α) : List (Σ s : Shape, s.Idx → α) := [⟨S16x1024x1, u⟩, ⟨S16x1024x1, v⟩, ⟨S16x1024x1, w⟩]

def join (u v w : S16x1024x1.Idx → α) : S16x1024x3.Idx → α :=
  concatenate S16x1024x3 2 (pieces u v w) concatenates_S16x1024x1_S16x1024x1_S16x1024x1_S16x1024x3_d2

theorem off_axis (b : Fin 16) (s : Fin 1024) (e : Fin 3) : ∀ a : Fin S16x1024x1.rank, a.cast (show S16x1024x1.rank = S16x1024x3.rank from rfl) ≠ 2 →
    ((ix3 b s (0 : Fin 1) : S16x1024x1.Idx) a).val = ((ix3 b s e : S16x1024x3.Idx) (a.cast rfl)).val := fun a ha => by
  match a with
  | ⟨0, _⟩ => rfl
  | ⟨1, _⟩ => rfl
  | ⟨2, _⟩ => exact absurd rfl ha

theorem join_at (u v w : S16x1024x1.Idx → α) (b : Fin 16) (s : Fin 1024) :
    join u v w (ix3 b s (0 : Fin 3)) = u (ix3 b s (0 : Fin 1)) ∧ join u v w (ix3 b s (1 : Fin 3)) = v (ix3 b s (0 : Fin 1))
      ∧ join u v w (ix3 b s (2 : Fin 3)) = w (ix3 b s (0 : Fin 1)) :=
  ⟨concatenate_apply_piece 2 (pieces u v w) _ (ix3 b s (0 : Fin 3)) 0 (show 0 < 3 by decide) S16x1024x1 u rfl rfl 0 rfl (ix3 b s (0 : Fin 1)) (off_axis b s 0) rfl,
    concatenate_apply_piece 2 (pieces u v w) _ (ix3 b s (1 : Fin 3)) 1 (show 1 < 3 by decide) S16x1024x1 v rfl rfl 1 rfl (ix3 b s (0 : Fin 1)) (off_axis b s 1) rfl,
    concatenate_apply_piece 2 (pieces u v w) _ (ix3 b s (2 : Fin 3)) 2 (show 2 < 3 by decide) S16x1024x1 w rfl rfl 2 rfl (ix3 b s (0 : Fin 1)) (off_axis b s 2) rfl⟩

end Layout

variable (m : (ℓ : Loc nD τ sig) → Buf (Elt Ideal) ℓ) (d : Dev nD)

/-- The points at launch. -/
def pts : S16x8192x3.Idx → Ideal .f32 := m (d, Proc.devRef .tc main_arg0)

/-! ## The sampling region -/

theorem fX_eq : fX (VA m) d = planeX (pts m d) := by
  unfold fX VA V0 pts
  simp only [opsA]
  after_results <;> rfl
theorem fY_eq : fY (VA m) d = planeY (pts m d) := by
  unfold fY VA V0 pts
  simp only [opsA]
  after_results <;> rfl
theorem fZ_eq : fZ (VA m) d = planeZ (pts m d) := by
  unfold fZ VA V0 pts
  simp only [opsA]
  after_results <;> rfl

/-- The farthest point that round `s` is given, in cloud `b`. -/
theorem far_eq (b : Fin 16) (s : Fin 1024) : fF (VA m) d s.val (ix2 b (0 : Fin 1)) = BitVec.ofNat 32 (row (pts m d) b s).val := by
  unfold fF
  rw [fX_eq, fY_eq, fZ_eq]
  exact row_kernel (pts m d) b s

theorem x_at (s : Fin 1024) (b : Fin 16) :
    (V6 m d (Proc.devRef .tc main_v6_1) : Vec Ideal S1024x16x1 .f32) (ix3 s b (0 : Fin 1)) = pts m d (ix3 b (row (pts m d) b s) (0 : Fin 3)) := by
  rw [V6_1]
  refine (fps_at4 (VA m) d s b).trans ((Cert.Proof.SampleIdeal.out4_at _ _ b _ (far_eq m d b s)).trans ?_)
  rw [fX_eq]
  exact Cert.Proof.SampleIdeal.planeX_at _ b _
theorem y_at (s : Fin 1024) (b : Fin 16) :
    (V6 m d (Proc.devRef .tc main_v6_2) : Vec Ideal S1024x16x1 .f32) (ix3 s b (0 : Fin 1)) = pts m d (ix3 b (row (pts m d) b s) (1 : Fin 3)) := by
  rw [V6_2]
  refine (fps_at5 (VA m) d s b).trans ((Cert.Proof.SampleIdeal.out5_at _ _ b _ (far_eq m d b s)).trans ?_)
  rw [fY_eq]
  exact Cert.Proof.SampleIdeal.planeY_at _ b _
theorem z_at (s : Fin 1024) (b : Fin 16) :
    (V6 m d (Proc.devRef .tc main_v6_3) : Vec Ideal S1024x16x1 .f32) (ix3 s b (0 : Fin 1)) = pts m d (ix3 b (row (pts m d) b s) (2 : Fin 3)) := by
  rw [V6_3]
  refine (fps_at6 (VA m) d s b).trans ((Cert.Proof.SampleIdeal.out6_at _ _ b _ (far_eq m d b s)).trans ?_)
  rw [fZ_eq]
  exact Cert.Proof.SampleIdeal.planeZ_at _ b _

/-! ## The centres -/

/-- The reference's centres. -/
abbrev ctr : S16x1024x3.Idx → Ideal .f32 := SampleRef.centres (F := Ideal) (pts m d)

/-- A centre is a sampled point. -/
theorem ctr_at (b : Fin 16) (s : Fin 1024) (e : Fin 3) : ctr m d (ix3 b s e) = pts m d (ix3 b (row (pts m d) b s) e) :=
  SampleRef.centres_at (pts m d) (row (pts m d)) (row_ref (pts m d)) s b e

set_option maxHeartbeats 4000000

theorem VB_join : (VB m d (Proc.devRef .tc main_v16) : Vec Ideal S16x1024x3 .f32)
    = join (slab (byCloud (V6 m d (Proc.devRef .tc main_v6_1) : Vec Ideal S1024x16x1 .f32))) (slab (byCloud (V6 m d (Proc.devRef .tc main_v6_2) : Vec Ideal S1024x16x1 .f32)))
        (slab (byCloud (V6 m d (Proc.devRef .tc main_v6_3) : Vec Ideal S1024x16x1 .f32))) := by
  unfold VB
  simp only [opsB]
  after_results <;> rfl

theorem VB_ctr : (VB m d (Proc.devRef .tc main_v16) : Vec Ideal S16x1024x3 .f32) = ctr m d := by
  rw [VB_join]
  funext j
  obtain ⟨b, s, e, rfl⟩ : ∃ (b : Fin 16) (s : Fin 1024) (e : Fin 3), j = ix3 b s e := ⟨j 0, j 1, j 2, eq_ix3 j⟩
  rw [ctr_at]
  match e with
  | ⟨0, _⟩ => exact (join_at _ _ _ b s).1.trans ((slab_at _ b s).trans ((byCloud_at _ b s).trans (x_at m d s b)))
  | ⟨1, _⟩ => exact (join_at _ _ _ b s).2.1.trans ((slab_at _ b s).trans ((byCloud_at _ b s).trans (y_at m d s b)))
  | ⟨2, _⟩ => exact (join_at _ _ _ b s).2.2.trans ((slab_at _ b s).trans ((byCloud_at _ b s).trans (z_at m d s b)))

/-! ## What the selecting region finds -/

theorem VB_cx : (VB m d (Proc.devRef .tc main_v19) : Vec Ideal S16384x1 .f32)
    = shapeCast S16384x1 (byCloud (V6 m d (Proc.devRef .tc main_v6_1) : Vec Ideal S1024x16x1 .f32)) shapeCasts_S16x1024_S16384x1 := by
  unfold VB; simp only [opsB]; after_results <;> rfl
theorem VB_cy : (VB m d (Proc.devRef .tc main_v22) : Vec Ideal S16384x1 .f32)
    = shapeCast S16384x1 (byCloud (V6 m d (Proc.devRef .tc main_v6_2) : Vec Ideal S1024x16x1 .f32)) shapeCasts_S16x1024_S16384x1 := by
  unfold VB; simp only [opsB]; after_results <;> rfl
theorem VB_cz : (VB m d (Proc.devRef .tc main_v25) : Vec Ideal S16384x1 .f32)
    = shapeCast S16384x1 (byCloud (V6 m d (Proc.devRef .tc main_v6_3) : Vec Ideal S1024x16x1 .f32)) shapeCasts_S16x1024_S16384x1 := by
  unfold VB; simp only [opsB]; after_results <;> rfl
theorem VB_px : (VB m d (Proc.devRef .tc main_v26) : Vec Ideal S16x1x8192 .f32)
    = broadcastInDim S16x1x8192 ![0, 2] bcast_S16x8192_S16x1x8192_0_2 (V6 m d (Proc.devRef .tc main_v1) : Vec Ideal S16x8192 .f32) := by
  unfold VB; simp only [opsB]; after_results <;> rfl
theorem VB_py : (VB m d (Proc.devRef .tc main_v27) : Vec Ideal S16x1x8192 .f32)
    = broadcastInDim S16x1x8192 ![0, 2] bcast_S16x8192_S16x1x8192_0_2 (V6 m d (Proc.devRef .tc main_v3) : Vec Ideal S16x8192 .f32) := by
  unfold VB; simp only [opsB]; after_results <;> rfl
theorem VB_pz : (VB m d (Proc.devRef .tc main_v28) : Vec Ideal S16x1x8192 .f32)
    = broadcastInDim S16x1x8192 ![0, 2] bcast_S16x8192_S16x1x8192_0_2 (V6 m d (Proc.devRef .tc main_v5) : Vec Ideal S16x8192 .f32) := by
  unfold VB; simp only [opsB]; after_results <;> rfl

theorem V6_x : (V6 m d (Proc.devRef .tc main_v1) : Vec Ideal S16x8192 .f32) = planeX (pts m d) :=
  (V6_of_ne m d _ (by decide) (by decide) (by decide) (by decide) (by decide)).trans (fX_eq m d)
theorem V6_y : (V6 m d (Proc.devRef .tc main_v3) : Vec Ideal S16x8192 .f32) = planeY (pts m d) :=
  (V6_of_ne m d _ (by decide) (by decide) (by decide) (by decide) (by decide)).trans (fY_eq m d)
theorem V6_z : (V6 m d (Proc.devRef .tc main_v5) : Vec Ideal S16x8192 .f32) = planeZ (pts m d) :=
  (V6_of_ne m d _ (by decide) (by decide) (by decide) (by decide) (by decide)).trans (fZ_eq m d)

theorem laid : Laid (VB m d) (pts m d) (ctr m d) where
  cx r b s h := by
    rw [ctr_at]
    exact (congrFun (VB_cx m d) _).trans ((SelectIdeal.column_at _ r b s h).trans ((byCloud_at _ b s).trans (x_at m d s b)))
  cy r b s h := by
    rw [ctr_at]
    exact (congrFun (VB_cy m d) _).trans ((SelectIdeal.column_at _ r b s h).trans ((byCloud_at _ b s).trans (y_at m d s b)))
  cz r b s h := by
    rw [ctr_at]
    exact (congrFun (VB_cz m d) _).trans ((SelectIdeal.column_at _ r b s h).trans ((byCloud_at _ b s).trans (z_at m d s b)))
  px b n := (congrFun (VB_px m d) _).trans ((SelectIdeal.lifted_at _ b n).trans ((congrFun (V6_x m d) _).trans (SampleIdeal.planeX_at _ b n)))
  py b n := (congrFun (VB_py m d) _).trans ((SelectIdeal.lifted_at _ b n).trans ((congrFun (V6_y m d) _).trans (SampleIdeal.planeY_at _ b n)))
  pz b n := (congrFun (VB_pz m d) _).trans ((SelectIdeal.lifted_at _ b n).trans ((congrFun (V6_z m d) _).trans (SampleIdeal.planeZ_at _ b n)))

end Cert.Proof.KernelIdeal

end
-- ==== Proof.KernelLaunch.lean ====
/-
  The launch of the whole program. The TensorCore runs @main: the host operations over the arrays it holds whole, the two
  regions (`KernelRegions.lean`), and the SparseCore call, which hands each of the thirty-two workers its row of the index
  array, its share of the table and its row of the result, and takes them back with the rows filled in. The run's end is
  stated as a value for every array of @main (`VD`).
-/
module

public import proofs.«01_k».proof.Proof.KernelOps
public import Idealize.ShloMosaic.Lib.Pipeline.Frame

@[expose] public section

set_option maxRecDepth 16384

noncomputable section

namespace Cert.Proof.KernelIdeal

open Cert.KernelIdeal Cert.KernelIdeal.Gen

open Idealize.ShloMosaic Idealize.ShloMosaic.ValueIdx Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

variable (m : (ℓ : Loc nD τ sig) → Buf (Elt F) ℓ) (ρ : Dev nD → PrngReg)

/-! ## What the handshakes carry -/

/-- The worker that subcore `i` of SparseCore `c` is. -/
def wOf (c : Fin ((K (F := F)).nCore 0)) (i : Fin ((K (F := F)).nSub 0)) : Fin 32 :=
  ⟨2 * i.val + c.val, by
    have h1 : i.val < 16 := i.isLt
    have h2 : c.val < 2 := c.isLt
    omega⟩

/-- Each worker is handed its piece and hands it back filled in; a sequencer, its sixteen workers' pieces. -/
def P : (K (F := F)).Pay (nD := nD) (Val := Elt F) (Name := ℕ) (U := UU) where
  st := fun q d c => match q with
    | 0 => bigSep Finset.univ fun i : Fin ((K (F := F)).nSub 0) => piece (tb m d) (ix m d) d (wOf c i)
  dn := fun q d c => match q with
    | 0 => bigSep Finset.univ fun i : Fin ((K (F := F)).nSub 0) => piece' (tb m d) (ix m d) d (wOf c i)
  go := fun q d c i => match q with | 0 => piece (tb m d) (ix m d) d (wOf c i)
  td := fun q d c i => match q with | 0 => piece' (tb m d) (ix m d) d (wOf c i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => piece (tb m d) (ix m d) d (wOf c i)))
  dn q d c := match q with
    | 0 => (inferInstance : BI.Storable (upEmb : UEmb _ 𝕄)
      (bigSep Finset.univ fun i : Fin ((K (F := F)).nSub 0) => piece' (tb m d) (ix m d) d (wOf c i)))
  go q d c i := match q with
    | 0 => (inferInstance : BI.Storable (upEmb : UEmb _ 𝕄) (piece (tb m d) (ix m d) d (wOf c i)))
  td q d c i := match q with
    | 0 => (inferInstance : BI.Storable (upEmb : UEmb _ 𝕄) (piece' (tb m d) (ix m d) d (wOf c i)))

/-! ## The workers' obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_gather_kernel (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : IxOK m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb m d) (ix m d) hF (hix d) O W hO).trans (wp_mono frame _ _ fun _ => obl_post)

theorem vecSplit : (K (F := F)).VecSplit' (P m) 0 := by
  intro d c
  show (bigSep Finset.univ fun i : Fin ((K (F := F)).nSub 0) => piece (tb m d) (ix m d) d (wOf c i)) ⊢ |={Set.univ}=> iprop(
      (bigSep Finset.univ fun i : Fin ((K (F := F)).nSub 0) => piece (tb m d) (ix m d) d (wOf c i))
      ∗ ((bigSep Finset.univ fun i : Fin ((K (F := F)).nSub 0) => piece' (tb m d) (ix m d) d (wOf c i))
          -∗ (bigSep Finset.univ fun i : Fin ((K (F := F)).nSub 0) => piece' (tb m d) (ix m d) d (wOf c i))))
  iintro H; imodintro
  isplitl [H]; · iexact H
  iintro H; iexact H

/-! ## The three arrays dealt to the workers, and taken back -/

/-- Every worker is one subcore of one SparseCore. -/
def workers : Fin ((K (F := F)).nCore 0) × Fin ((K (F := F)).nSub 0) ≃ Fin 32 where
  toFun x := wOf x.1 x.2
  invFun w := ((⟨w.val % 2, show w.val % 2 < 2 by omega⟩ : Fin ((K (F := F)).nCore 0)), (⟨w.val / 2, show w.val / 2 < 16 by omega⟩ : Fin ((K (F := F)).nSub 0)))
  left_inv x := by
    obtain ⟨c, i⟩ := x
    have h1 : i.val < 16 := i.isLt
    have h2 : c.val < 2 := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem bigSep_workers (Φ : Fin 32 → sProp 𝕄) :
    (bigSep Finset.univ fun c : Fin ((K (F := F)).nCore 0) => bigSep Finset.univ fun i : Fin ((K (F := F)).nSub 0) => Φ (wOf c i))
      = bigSep Finset.univ Φ := by
  rw [bigSep_univ_equiv (workers (F := F)) Φ, bigSep_univ_prod]
  rfl

omit [FloatOps F] in
theorem iSet_disjoint : ∀ w ∈ (Finset.univ : Finset (Fin 32)), ∀ w' ∈ (Finset.univ : Finset (Fin 32)), w ≠ w' → Disjoint (iSet w) (iSet w') :=
  fun w _ w' _ h => Finset.disjoint_left.mpr fun j hj hj' =>
    h (Fin.ext ((Finset.mem_filter.mp hj).2.symm.trans (Finset.mem_filter.mp hj').2))
omit [FloatOps F] in
theorem oSet_disjoint : ∀ w ∈ (Finset.univ : Finset (Fin 32)), ∀ w' ∈ (Finset.univ : Finset (Fin 32)), w ≠ w' → Disjoint (oSet w) (oSet w') :=
  fun w _ w' _ h => Finset.disjoint_left.mpr fun j hj hj' =>
    h (Fin.ext ((Finset.mem_filter.mp hj).2.symm.trans (Finset.mem_filter.mp hj').2))
omit [FloatOps F] in
theorem iSet_cover : (Finset.univ : Finset (Fin 32)).biUnion iSet = Finset.univ :=
  Finset.eq_univ_of_forall fun (j : S32x384x128.Idx) => Finset.mem_biUnion.mpr
    ⟨(⟨(j 0).val, (j 0).isLt⟩ : Fin 32), Finset.mem_univ _, Finset.mem_filter.mpr ⟨Finset.mem_univ _, rfl⟩⟩
omit [FloatOps F] in
theorem oSet_cover : (Finset.univ : Finset (Fin 32)).biUnion oSet = Finset.univ :=
  Finset.eq_univ_of_forall fun (j : S32x49152.Idx) => Finset.mem_biUnion.mpr
    ⟨(⟨(j 0).val, (j 0).isLt⟩ : Fin 32), Finset.mem_univ _, Finset.mem_filter.mpr ⟨Finset.mem_univ _, rfl⟩⟩

omit [FloatOps F] in
theorem pts_rows_i (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
omit [FloatOps F] in
theorem pts_rows_o (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
omit [FloatOps F] in
theorem pts_shares (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

omit [FloatOps F] in
/-- The three arrays whole are the workers' pieces, before … -/
theorem deal (d : Dev nD) (t : Buf (Elt F) (tLoc d)) (x : Buf (Elt F) (iLoc d)) (f : Buf (Elt F) (oLoc d)) :
    iprop((tLoc d ↦{fullShare} t) ∗ (iLoc d ↦{fullShare} x) ∗ oLoc d ↦{fullShare} f)
      ⊢ (bigSep Finset.univ fun w : Fin 32 => piece t x d w : sProp 𝕄) := by
  rw [bigSep_sep', bigSep_sep', pts_shares, pts_rows_i, pts_rows_o]
  iintro ⟨Ht, Hi, Ho⟩
  isplitl [Ht]; · iexact Ht
  isplitl [Hi]; · iexact Hi
  have h : (bigSep Finset.univ fun w : Fin 32 => oLoc d ↦[oSet w]{fullShare} f : sProp 𝕄)
      ⊢ bigSep Finset.univ fun w : Fin 32 => iprop(∃ f, oLoc d ↦[oSet w]{fullShare} f) :=
    bigSep_mono fun w _ => exists_intro (Φ := fun f => (oLoc d ↦[oSet w]{fullShare} f : sProp 𝕄)) f
  iapply h
  iexact Ho
omit [FloatOps F] in
/-- … and after. -/
theorem undeal (d : Dev nD) (t : Buf (Elt F) (tLoc d)) (x : Buf (Elt F) (iLoc d)) :
    (bigSep Finset.univ fun w : Fin 32 => piece' t x d w : sProp 𝕄)
      = iprop((tLoc d ↦{fullShare} t) ∗ (iLoc d ↦{fullShare} x) ∗ oLoc d ↦{fullShare} gathered t x) := by
  rw [bigSep_sep', bigSep_sep', pts_shares, pts_rows_i, pts_rows_o]

/-! ## The launch element of the certificate's ghost state -/

/-- The handshakes' cells, the staging cells, and no counters. -/
def u₀ : UU := (initOf (K (F := F)).hsCells (K (F := F)).hsToks,
  (initOf (Pipeline.cells (Pipeline.pin (pcfgs (F := F)) aP) cells_inj) (Pipeline.launchToks (Pipeline.pin (pcfgs (F := F)) aP) cells_inj), 1))

/-- What a device's TensorCore is dealt of the staging cells. -/
abbrev G (d : Dev nD) : sProp 𝕄 :=
  iprop((bigSep Finset.univ fun p : Fin 2 => Pipeline.cellsGhost (Pipeline.pin (pcfgs (F := F)) aP) EP p d)
    ∗ bigSep Finset.univ fun p : Fin 2 => Pipeline.toksInit (Pipeline.pin (pcfgs (F := F)) aP) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells (Pipeline.pin (pcfgs (F := F)) aP) cells_inj) (Pipeline.launchToks (Pipeline.pin (pcfgs (F := F)) aP) cells_inj), 1) : UR sig nD τ × Counters)) $$ Hu
  icases H with ⟨HH, HR⟩
  ihave H2 := (own_pair_emb (embR : Emb (UR sig nD τ × Counters) 𝕄) _ _) $$ HR
  icases H2 with ⟨HP, -⟩
  imod (Pipeline.fund_ghost (Pipeline.pin (pcfgs (F := F)) aP) (EP (F := F)) cells_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem two (Φ : Fin 2 → sProp 𝕄) : bigSep Finset.univ Φ = iprop(Φ 0 ∗ Φ 1) :=
  bigSep_univ_eq_bigSepL [(0 : Fin 2), (1 : Fin 2)] (by decide) (by decide) Φ

/-! ## @main on the TensorCore -/

/-- The arrays the call reads and writes. -/
def callRefs : Finset (DevRef τ sig) := {Proc.devRef .tc main_v30, Proc.devRef .tc main_v46, Proc.devRef .tc main_v47}

theorem callRefs_sub : callRefs ⊆ Pipeline.ucRefs τ sig := by decide

theorem held_call (d : Dev nD) (W : Valuation τ sig (Elt F)) :
    (held (T d) callRefs W : sProp 𝕄)
      = iprop((tLoc d ↦{fullShare} W (Proc.devRef .tc main_v30)) ∗ (iLoc d ↦{fullShare} W (Proc.devRef .tc main_v46))
          ∗ oLoc d ↦{fullShare} W (Proc.devRef .tc main_v47)) := by
  unfold held callRefs
  rw [SparseCore.bigSep_insert' (by decide), SparseCore.bigSep_insert' (by decide), bigSep_singleton]

theorem V47_v30 (d : Dev nD) : V47 m d (Proc.devRef .tc main_v30) = tb m d := Function.update_of_ne (by decide) _ _
theorem V47_v46 (d : Dev nD) : V47 m d (Proc.devRef .tc main_v46) = ix m d := Function.update_of_ne (by decide) _ _
theorem V47_v47 (d : Dev nD) : V47 m d (Proc.devRef .tc main_v47) = gathered (tb m d) (ix m d) := Function.update_self _ _ _

theorem held_rest (d : Dev nD) :
    (held d.tc (Pipeline.ucRefs τ sig \ callRefs) (after opsC (V29 m d)) : sProp 𝕄) = held d.tc (Pipeline.ucRefs τ sig \ callRefs) (V47 m d) :=
  held_congr d.tc fun b hb => by
    have h : b ≠ Proc.devRef .tc main_v47 := fun e => (Finset.mem_sdiff.mp hb).2 (by rw [e]; decide)
    exact (Function.update_of_ne h _ _).symm

theorem unscoped_held (d : Dev nD) :
    (unscopedBufs d (fun b => m ((SparseCore.T d).loc b)) : sProp 𝕄) = held (T d) (Pipeline.ucRefs τ sig) (V0 m d) :=
  Pipeline.unscopedBufs_held d (V0 m d)

theorem st_eq (d : Dev nD) : (bigSep Finset.univ fun c : Fin ((K (F := F)).nCore 0) => (P m).st 0 d c)
    = bigSep Finset.univ fun w : Fin 32 => piece (tb m d) (ix m d) d w :=
  bigSep_workers fun w => piece (tb m d) (ix m d) d w
theorem dn_eq (d : Dev nD) : (bigSep Finset.univ fun c : Fin ((K (F := F)).nCore 0) => (P m).dn 0 d c)
    = bigSep Finset.univ fun w : Fin 32 => piece' (tb m d) (ix m d) d w :=
  bigSep_workers fun w => piece' (tb m d) (ix m d) d w

theorem deal_call (d : Dev nD) : (held d.tc callRefs (after opsC (V29 m d)) : sProp 𝕄)
    ⊢ bigSep Finset.univ fun w : Fin 32 => piece (tb m d) (ix m d) d w :=
  (Entails.of_eq (held_call d (after opsC (V29 m d)))).trans (deal d (tb m d) (ix m d) _)

theorem undeal_call (d : Dev nD) : (bigSep Finset.univ fun w : Fin 32 => piece' (tb m d) (ix m d) d w : sProp 𝕄)
    ⊢ held d.tc callRefs (V47 m d) := by
  refine (Entails.of_eq (undeal d (tb m d) (ix m d))).trans (Entails.of_eq ?_)
  refine Eq.trans ?_ (held_call d (V47 m d)).symm
  rw [V47_v30, V47_v46, V47_v47]

/-- Before the call the TensorCore's state is what it owes, with the call's tickets. -/
theorem tcSt_split (d : Dev nD) : ∃ R : sProp 𝕄, (K (F := F)).tcSt EH d 0 = iprop(owesEarly (F := F) d ∗ R) := ⟨_, rfl⟩

/-- What @main ends with: every array, at its final contents. -/
abbrev FIN (d : Dev nD) : sProp 𝕄 := held (T d) (Pipeline.ucRefs τ sig) (VD m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_split (F := F) d
  unfold SparseCore.Cfg.tcRes SparseCore.Cfg.tcEnd G
  rw [unscoped_held, main_eq, two, two]
  iintro ⟨#Hctx, Hst, ⟨Hb, Hheld, Hts, -⟩, ⟨Hc0, Hc1⟩, Ht0, Ht1⟩
  ihave #Hlev := ((K (F := F)).ctx_levAts (EH := EH) (P := P m) κ) $$ Hctx
  ihave Hst' := (Entails.of_eq hR) $$ Hst
  icases Hst' with ⟨Howe, HR⟩
  iapply (wp_seq 𝒱 none Set.univ d (Pipeline.ucRefs τ sig) _ opsA
    (fun op h => Pipeline.sub_ucRefs op ((List.forall_iff_forall_mem.mp opsA_sub) op h))
    (List.forall_iff_forall_mem.mp opsA_fresh) (V0 m d)) $$ [Hb Hheld]
  · isplitl [Hb] <;> iassumption
  iintro ⟨Hb, Hheld⟩
  rw [wp_bind]
  iapply (region_step (dats (VA m) (VB m)) 0 (fpsRegion m) d _)
  isplitr [Hb Hheld Howe Hc0 Ht0]
  rotate_left
  · isplitl [Hb]; · iexact Hb
    isplitl [Hheld Howe]
    · unfold fpsRegion region
      isplitl [Hheld]; · iexact Hheld
      iexact Howe
    isplitr; · iexact Hlev
    isplitl [Hc0]; · iexact Hc0
    iexact Ht0
  unfold fpsRegion region
  iintro ⟨Hb, Hheld, Howe⟩
  iapply (wp_seq 𝒱 none Set.univ d (Pipeline.ucRefs τ sig) _ opsB
    (fun op h => Pipeline.sub_ucRefs op ((List.forall_iff_forall_mem.mp opsB_sub) op h))
    (List.forall_iff_forall_mem.mp opsB_fresh) (V6 m d)) $$ [Hb Hheld]
  · isplitl [Hb] <;> iassumption
  iintro ⟨Hb, Hheld⟩
  rw [wp_bind]
  iapply (region_step (dats (VA m) (VB m)) 1 (knnRegion m) d _)
  isplitr [Hb Hheld Howe Hc1 Ht1]
  rotate_left
  · isplitl [Hb]; · iexact Hb
    isplitl [Hheld Howe]
    · unfold knnRegion region
      isplitl [Hheld]; · iexact Hheld
      iexact Howe
    isplitr; · iexact Hlev
    isplitl [Hc1]; · iexact Hc1
    iexact Ht1
  unfold knnRegion region
  iintro ⟨Hb, Hheld, Howe⟩
  iapply (wp_seq 𝒱 none Set.univ d (Pipeline.ucRefs τ sig) _ opsC
    (fun op h => Pipeline.sub_ucRefs op ((List.forall_iff_forall_mem.mp opsC_sub) op h))
    (List.forall_iff_forall_mem.mp opsC_fresh) (V29 m d)) $$ [Hb Hheld]
  · isplitl [Hb] <;> iassumption
  iintro ⟨Hb, Hheld⟩
  ihave Hh := (Entails.of_eq (held_sub_split d.tc callRefs_sub (after opsC (V29 m d)))) $$ Hheld
  icases Hh with ⟨Hcall, Hrest⟩
  ihave Hp := (deal_call m d) $$ Hcall
  rw [wp_bind]
  iapply ((K (F := F)).wp_run (D (F := F)) 𝒱 (EH := EH) (P := P m) κ d 0) $$ [Howe HR Hp Hb Hrest Hts]
  isplitr; · iexact Hctx
  isplitl [Howe HR]
  · iapply (Entails.of_eq hR.symm)
    isplitl [Howe]; · iexact Howe
    iexact HR
  isplitl [Hp]
  · rw [st_eq]; iexact Hp
  iintro ⟨Hst, Hdn⟩
  ihave Hdn' := (Entails.of_eq (dn_eq m d)) $$ Hdn
  ihave Hc := (undeal_call m d) $$ Hdn'
  ihave Hr := (Entails.of_eq (held_rest m d)) $$ Hrest
  iapply (wp_seq 𝒱 none Set.univ d (Pipeline.ucRefs τ sig) _ opsD
    (fun op h => Pipeline.sub_ucRefs op ((List.forall_iff_forall_mem.mp opsD_sub) op h))
    (List.forall_iff_forall_mem.mp opsD_fresh) (V47 m d)) $$ [Hb Hc Hr]
  · isplitl [Hb]; · iexact Hb
    iapply (Entails.of_eq (held_sub_split d.tc callRefs_sub (V47 m d)).symm)
    isplitl [Hc]; · iexact Hc
    iexact Hr
  iintro ⟨Hb, Hheld⟩
  rw [wp_pure]; imodintro
  isplitl [Hst]; · iexact Hst
  isplitl [Hheld]; · iexact Hheld
  isplitl [Hb] <;> iassumption

/-! ## The run -/

def fq (d : Dev nD) (s' : Phys nD τ sig (Elt F)) : Prop := ∀ b ∈ Pipeline.ucRefs τ sig, s'.mem.mem (d, b) = VD m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

def QC : PUnit × MemSt nD τ sig (Elt F) → Prop := fun r =>
  (∀ c : Dev nD, ∀ b ∈ Pipeline.ucRefs τ sig, r.2.mem (c, b) = VD m c b) ∧ r.2.sem = fun _ => 0

/-- Every execution ends, every array of @main at its final contents and every semaphore at zero. -/
theorem run_main [∀ e, Nonempty (Elt F e)] (hix : IxOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hix)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KernelIdeal

end
-- ==== Proof.KernelValue.lean ====
/-
  What the whole program leaves: the centres the reference samples, the indices the selecting region lists, and the
  neighbourhoods of those, the points themselves unchanged. The indices are below 8192, so the SparseCore call gathers
  inside its table. At points that are real numbers the indices are the ones the reference selects.
-/
module

public import proofs.«01_k».proof.Proof.KernelCentres
public import proofs.«01_k».proof.Proof.KernelLaunch
public import proofs.«01_k».proof.Proof.SelectRef
public import proofs.«01_k».proof.Proof.GatherIdealValue
public import proofs.«01_k».proof.Proof.Finite2
public import proofs.«01_k».proof.Proof.Gen.Pre_finite

@[expose] public section

set_option maxRecDepth 16384

noncomputable section

namespace Cert.Proof.KernelIdeal

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx Idealize.ShloMosaic.StableHlo Idealize.SL.Sem
open Cert.Proof.SampleEq (row)
open Cert.Proof.GatherIdeal (entries entries_apply entry_word)
open Cert.Proof.Points

variable (m : (ℓ : Loc nD τ sig) → Buf (Elt Ideal) ℓ) (ρ : Dev nD → PrngReg) (d : Dev nD)

/-! ## The points are real numbers -/

/-- The precondition: every coordinate is a real number. -/
abbrev Real : Prop := ∀ d, Cert.Pre_finite.fn (F := Ideal) (pts m d) = fun _ => 1#1

theorem point_real (h : Real m) (j : S16x8192x3.Idx) : ∃ r : ℝ, (pts m d j : EReal) = r := by
  have hand := congrFun (h d) (fun a => a.elim0)
  generalize pts m d = x at hand ⊢
  unfold Cert.Pre_finite.fn at hand
  dsimp only at hand
  exact Finite2.real_of_olt (Host.reduce_andi_all _ (constantI S_ 1 1#1) Cert.Pre_finite.Gen.reducesTo_S16x8192x3_S_d0_1_2 Cert.Pre_finite.Gen.h_S_ _ hand j)

/-- A centre is a point, so its distances from the points are below infinity. -/
theorem dist_lt_top (h : Real m) (b : Fin 16) (s : Fin 1024) (n : Fin 8192) : SelectIdeal.distOf (pts m d) (ctr m d) b s n < ⊤ := by
  obtain ⟨c0, h0⟩ := point_real m d h (ix3 b (row (pts m d) b s) (0 : Fin 3))
  obtain ⟨c1, h1⟩ := point_real m d h (ix3 b (row (pts m d) b s) (1 : Fin 3))
  obtain ⟨c2, h2⟩ := point_real m d h (ix3 b (row (pts m d) b s) (2 : Fin 3))
  obtain ⟨p0, k0⟩ := point_real m d h (ix3 b n (0 : Fin 3))
  obtain ⟨p1, k1⟩ := point_real m d h (ix3 b n (1 : Fin 3))
  obtain ⟨p2, k2⟩ := point_real m d h (ix3 b n (2 : Fin 3))
  unfold SelectIdeal.distOf
  rw [ctr_at, ctr_at, ctr_at, h0, h1, h2, k0, k1, k2]
  exact KnnDist.dist_lt c0 c1 c2 p0 p1 p2

/-! ## The indices -/

/-- The indices that the selecting region leaves. -/
def nb : S16x1024x32.Idx → BitVec 32 := V29 m d (Proc.devRef .tc main_v29)

theorem nb_lt (j : S16x1024x32.Idx) : (nb m d j).toNat < 8192 := by
  obtain ⟨b, s, i, rfl⟩ : ∃ (b : Fin 16) (s : Fin 1024) (i : Fin 32), j = ix3 b s i := ⟨j 0, j 1, j 2, eq_ix3 j⟩
  unfold nb
  rw [V29_v29, knn_array_taken (VB m) d (pts m d) (ctr m d) (laid m d) b s i]
  have hp := (Nearest.taken (SelectIdeal.distOf (pts m d) (ctr m d) b s) i.val).isLt
  rw [BitVec.toNat_ofNat]
  exact (Nat.mod_le _ _).trans_lt hp

/-- The reference's indices, for the reference's centres. -/
abbrev grp : S16x1024x32.Idx → BitVec 32 := SelectRef.lists (pts m d) (ctr m d)

/-- At real points the two are the same. -/
theorem nb_eq (h : Real m) : nb m d = grp m d := by
  unfold nb
  rw [V29_v29]
  funext j
  obtain ⟨b, s, i, rfl⟩ : ∃ (b : Fin 16) (s : Fin 1024) (i : Fin 32), j = ix3 b s i := ⟨j 0, j 1, j 2, eq_ix3 j⟩
  rw [knn_array_eq (VB m) d (pts m d) (ctr m d) (laid m d) (fun b s n => dist_lt_top m d h b s n) b s i]
  exact (SelectRef.lists_at _ _ b s _ (fun n => SelectRef.dists_at _ _ b s n) i).symm

/-! ## The arrays that a stretch leaves alone -/

set_option maxHeartbeats 4000000

theorem VA_arg0 : VA m d (Proc.devRef .tc main_arg0) = pts m d := by
  unfold VA V0 pts; simp only [opsA]; after_results <;> rfl

theorem V6_arg0 : V6 m d (Proc.devRef .tc main_arg0) = pts m d :=
  (V6_of_ne m d _ (by decide) (by decide) (by decide) (by decide) (by decide)).trans (VA_arg0 m d)

theorem VB_arg0 : VB m d (Proc.devRef .tc main_arg0) = pts m d := by
  refine Eq.trans ?_ (V6_arg0 m d)
  unfold VB; simp only [opsB]; after_results <;> rfl

theorem V29_arg0 : V29 m d (Proc.devRef .tc main_arg0) = pts m d := (V29_of_ne m d _ (by decide)).trans (VB_arg0 m d)

theorem V29_ctr : V29 m d (Proc.devRef .tc main_v16) = ctr m d := (V29_of_ne m d _ (by decide)).trans (VB_ctr m d)

theorem VC_arg0 : VC m d (Proc.devRef .tc main_arg0) = pts m d := by
  refine Eq.trans ?_ (V29_arg0 m d)
  unfold VC; simp only [opsC]; after_results <;> rfl

theorem VC_ctr : VC m d (Proc.devRef .tc main_v16) = ctr m d := by
  refine Eq.trans ?_ (V29_ctr m d)
  unfold VC; simp only [opsC]; after_results <;> rfl

theorem VC_nb : VC m d (Proc.devRef .tc main_v29) = nb m d := by
  refine Eq.trans ?_ (show V29 m d (Proc.devRef .tc main_v29) = nb m d from rfl)
  unfold VC; simp only [opsC]; after_results <;> rfl

theorem tb_eq : tb m d = shapeCast S393216 (pts m d) shapeCasts_S16x8192x3_S393216 := by
  refine Eq.trans ?_ (congrArg (fun x : S16x8192x3.Idx → Ideal .f32 => shapeCast S393216 x shapeCasts_S16x8192x3_S393216) (V29_arg0 m d))
  unfold tb VC; simp only [opsC]; after_results <;> rfl

theorem ix_eq : ix m d = shapeCast S32x384x128 (entries (nb m d)) shapeCasts_S16x32768x3_S32x384x128 := by
  unfold ix nb VC; simp only [opsC]; after_results <;> rfl

theorem V47_other (b : Ref sig .tc) (h : b ≠ main_v47) : V47 m d (Proc.devRef .tc b) = VC m d (Proc.devRef .tc b) := by
  unfold V47
  exact Function.update_of_ne (fun e => h (Proc.devRef_injective _ e)) _ _

/-! ## The gathered words -/

/-- The index array at the place of coordinate `c` of the index `(b, s, k)`. -/
theorem ix_at (w : Fin 32) (r : Fin 384) (l : Fin 128) (b : Fin 16) (s : Fin 1024) (k : Fin 32) (c : Fin 3)
    (h : (w.val * 384 + r.val) * 128 + l.val = ((b.val * 1024 + s.val) * 32 + k.val) * 3 + c.val) :
    (ix m d (ix3 w r l)).toNat = (b.val * 8192 + (nb m d (ix3 b s k)).toNat) * 3 + c.val := by
  have hs := s.isLt
  have hk := k.isLt
  rw [ix_eq m d, shapeCast_apply _ _ (ix3 w r l) (ix3 b (⟨s.val * 32 + k.val, by omega⟩ : Fin 32768) c) (by
    rw [Shape.rowMajor_val_three, Shape.rowMajor_val_three]
    show (b.val * 32768 + (s.val * 32 + k.val)) * 3 + c.val = (w.val * 384 + r.val) * 128 + l.val
    omega)]
  exact (congrArg BitVec.toNat (entries_apply (nb m d) b s k _ c rfl)).trans (entry_word (nb_lt m d _) b c)

/-- A flat position as batch, centre, place in the list and coordinate. -/
theorem split (n : ℕ) (hn : n < 1572864) : ∃ (b : Fin 16) (s : Fin 1024) (k : Fin 32) (c : Fin 3),
    n = ((b.val * 1024 + s.val) * 32 + k.val) * 3 + c.val :=
  ⟨⟨n / 3 / 32 / 1024, by omega⟩, ⟨n / 3 / 32 % 1024, by omega⟩, ⟨n / 3 % 32, by omega⟩, ⟨n % 3, by omega⟩, by dsimp only; omega⟩

theorem ix_ok : IxOK m := by
  intro d j
  obtain ⟨w, r, l, rfl⟩ : ∃ (w : Fin 32) (r : Fin 384) (l : Fin 128), j = ix3 w r l := ⟨j 0, j 1, j 2, eq_ix3 j⟩
  have h0 := w.isLt
  have h1 := r.isLt
  have h2 := l.isLt
  obtain ⟨b, s, k, c, h⟩ := split ((w.val * 384 + r.val) * 128 + l.val) (by omega)
  have hb := b.isLt
  have hc := c.isLt
  have hg := nb_lt m d (ix3 b s k)
  rw [ix_at m d w r l b s k c h]
  omega

theorem gathered_at (w : Fin 32) (p : Fin 49152) (b : Fin 16) (s : Fin 1024) (k : Fin 32) (c : Fin 3)
    (h : w.val * 49152 + p.val = ((b.val * 1024 + s.val) * 32 + k.val) * 3 + c.val) :
    gathered (tb m d) (ix m d) (ix2 w p)
      = pts m d (ix3 b (⟨(nb m d (ix3 b s k)).toNat % 8192, Nat.mod_lt _ (by decide)⟩ : Fin 8192) c) := by
  show word (tb m d) (ix m d) w p = _
  unfold word
  have hb := b.isLt
  have hc := c.isLt
  have hg := nb_lt m d (ix3 b s k)
  rw [ix_at m d w _ _ b s k c (by dsimp only; omega), tb_eq]
  refine shapeCast_apply _ _ _ _ ?_
  rw [Shape.rowMajor_val_three, Shape.rowMajor_val_one]
  show (b.val * 8192 + (nb m d (ix3 b s k)).toNat % 8192) * 3 + c.val = ((b.val * 8192 + (nb m d (ix3 b s k)).toNat) * 3 + c.val) % 393216
  omega

/-! ## The end -/

theorem VD_arg0 : VD m d (Proc.devRef .tc main_arg0) = pts m d := by
  refine Eq.trans ?_ ((V47_other m d _ (by decide)).trans (VC_arg0 m d))
  unfold VD; simp only [opsD]; after_results <;> rfl

theorem VD_ctr : VD m d (Proc.devRef .tc main_v16) = ctr m d := by
  refine Eq.trans ?_ ((V47_other m d _ (by decide)).trans (VC_ctr m d))
  unfold VD; simp only [opsD]; after_results <;> rfl

theorem VD_nb : VD m d (Proc.devRef .tc main_v29) = nb m d := by
  refine Eq.trans ?_ ((V47_other m d _ (by decide)).trans (VC_nb m d))
  unfold VD; simp only [opsD]; after_results <;> rfl

/-- The first result before the pointwise reading. -/
theorem VD_res : VD m d (Proc.devRef .tc main_v51)
    = subf (shapeCast S16x1024x32x3 (gathered (tb m d) (ix m d)) shapeCasts_S32x49152_S16x1024x32x3)
        (broadcastInDim S16x1024x32x3 ![0, 1, 2, 3] bcast_S16x1024x1x3_S16x1024x32x3_0_1_2_3
          (broadcastInDim S16x1024x1x3 ![0, 1, 3] bcast_S16x1024x3_S16x1024x1x3_0_1_3 (ctr m d))) := by
  have h47 : V47 m d (Proc.devRef .tc main_v47) = gathered (tb m d) (ix m d) := by
    unfold V47; exact Function.update_self ..
  have hc : V47 m d (Proc.devRef .tc main_v16) = ctr m d := (V47_other m d _ (by decide)).trans (VC_ctr m d)
  unfold VD; simp only [opsD]; after_results
  rw [h47, hc] <;> rfl

theorem VD_nbr : VD m d (Proc.devRef .tc main_v51) = nbr (F := Ideal) (pts m d) (ctr m d) (nb m d) := by
  rw [VD_res]
  funext j
  obtain ⟨b, s, k, c, rfl⟩ : ∃ (b : Fin 16) (s : Fin 1024) (k : Fin 32) (c : Fin 3), j = ix4 b s k c := ⟨j 0, j 1, j 2, j 3, eq_ix4 j⟩
  have h0 := b.isLt
  have h1 := s.isLt
  have h2 := k.isLt
  have h3 := c.isLt
  obtain ⟨w, p, hn⟩ : ∃ (w : Fin 32) (p : Fin 49152), w.val * 49152 + p.val = ((b.val * 1024 + s.val) * 32 + k.val) * 3 + c.val :=
    ⟨⟨(((b.val * 1024 + s.val) * 32 + k.val) * 3 + c.val) / 49152, by omega⟩,
      ⟨(((b.val * 1024 + s.val) * 32 + k.val) * 3 + c.val) % 49152, Nat.mod_lt _ (by decide)⟩, by dsimp only; omega⟩
  have hx := shapeCast_apply (gathered (tb m d) (ix m d)) shapeCasts_S32x49152_S16x1024x32x3 (ix4 b s k c) (ix2 w p) (by
    rw [Shape.rowMajor_val_two, Shape.rowMajor_val_four]
    exact hn)
  rw [gathered_at m d w p b s k c hn] at hx
  have hc := broadcastInDim_apply ![0, 1, 2, 3] bcast_S16x1024x1x3_S16x1024x32x3_0_1_2_3
    (broadcastInDim S16x1024x1x3 ![0, 1, 3] bcast_S16x1024x3_S16x1024x1x3_0_1_3 (ctr m d)) (ix4 b s k c) (ix4 b s (0 : Fin 1) c)
    (fun a => match a with | ⟨0, _⟩ => rfl | ⟨1, _⟩ => rfl | ⟨2, _⟩ => rfl | ⟨3, _⟩ => rfl)
  rw [broadcastInDim_apply ![0, 1, 3] bcast_S16x1024x3_S16x1024x1x3_0_1_3 (ctr m d) (ix4 b s (0 : Fin 1) c) (ix3 b s c)
    (fun a => match a with | ⟨0, _⟩ => rfl | ⟨1, _⟩ => rfl | ⟨2, _⟩ => rfl)] at hc
  unfold nbr
  exact congrArg₂ FloatOps.subf hx hc

/-- The program runs: it ends with the neighbourhoods, the centres and the indices, the points unchanged, every semaphore
    at zero. -/
theorem run :
    θ_run (Cert.KernelIdeal.defs (F := Ideal)) (Cert.KernelIdeal.threads (F := Ideal)) ⟨m, fun _ => 0, ρ⟩ fun r =>
      (∀ d : Dev nD, r.2.mem (d, Proc.devRef .tc main_v51) = nbr (F := Ideal) (pts m d) (ctr m d) (nb m d)
        ∧ r.2.mem (d, Proc.devRef .tc main_v16) = ctr m d ∧ r.2.mem (d, Proc.devRef .tc main_v29) = nb m d
        ∧ r.2.mem (d, Proc.devRef .tc main_arg0) = pts m d) ∧ r.2.sem = fun _ => 0 :=
  (θ_run _ _ _).mono (fun r h => ⟨fun d =>
    ⟨(h.1 d _ (by decide)).trans (VD_nbr m d), (h.1 d _ (by decide)).trans (VD_ctr m d),
      (h.1 d _ (by decide)).trans (VD_nb m d), (h.1 d _ (by decide)).trans (VD_arg0 m d)⟩, h.2⟩)
    (run_main m ρ (ix_ok m))

end Cert.Proof.KernelIdeal

end
-- ==== Proof.KernelRefRun.lean ====
/-
  The reference of the whole kernel: its operations before the sampling loop, the loop's condition and body, and its
  operations after the loop, as lists; and what the body does to the arrays that the loop carries, in the functions of
  the sampling call's reference.
-/
module

public import proofs.«01_k».proof.Proof.Gen.KernelRefIdeal
public import proofs.«01_k».proof.Proof.SampleRef

@[expose] public section

set_option maxRecDepth 16384

noncomputable section

namespace Cert.Proof.KernelRef

open Cert.KernelRefIdeal Cert.KernelRefIdeal.Gen

open Idealize.ShloMosaic Idealize.ShloMosaic.StableHlo Idealize.ShloMosaic.TcCoe Idealize.SL.Sem Idealize.SL Idealize.SL.BI
open Idealize.ShloMosaic.Pipeline
open Cert.Proof.SampleRef (put nextDist nextFar st lst centres iv_step put_congr)

variable {F : FTy → Type} [FloatOps F]

/-- The operations before the loop. -/
abbrev pre : List (HloOp τ sig (Elt F)) :=
  [ nullary main_c (constantI S_ 32 0#32),
    unary main_c main_v0 (broadcastInDim S16x1024 ![] bcast_S_S16x1024 : (⟨S_, .i32⟩ : BufTy).Contents (Elt F) → (⟨S16x1024, .i32⟩ : BufTy).Contents (Elt F)),
    nullary main_cst (constant S_ .f32 0x501502F9#32),
    unary main_cst main_v1 (broadcastInDim S16x8192 ![] bcast_S_S16x8192 : (⟨S_, .f32⟩ : BufTy).Contents (Elt F) → (⟨S16x8192, .f32⟩ : BufTy).Contents (Elt F)),
    nullary main_c_0 (constantI S_ 32 0#32),
    unary main_c_0 main_v2 (broadcastInDim S16 ![] bcast_S_S16 : (⟨S_, .i32⟩ : BufTy).Contents (Elt F) → (⟨S16, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id ]

theorem pre_sub : (pre : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

/-- The operations of the loop's condition. -/
abbrev condOps : List (HloOp τ sig (Elt F)) :=
  [ nullary main_while0c_c_12 (constantI S_ 32 1024#32),
    binary main_v3_1 main_while0c_c_12 main_while0c_v30 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ tcRefs τ sig :=
  ⟨nullary_bufs_sub .., binary_bufs_sub ..⟩

/-- The body's first part: the centre's number goes into the list of centres. -/
abbrev body0 : List (HloOp τ sig (Elt F)) :=
  [ nullary main_while0b_c_12 (constantI S_ 32 1#32),
    binary main_v3_2 main_while0b_c_12 main_while0b_v30 (addi : (⟨S_, .i32⟩ : BufTy).Contents (Elt F) → (⟨S_, .i32⟩ : BufTy).Contents (Elt F) → (⟨S_, .i32⟩ : BufTy).Contents (Elt F)),
    nullary main_while0b_c_13 (constantI S_ 32 0#32),
    binary main_v3_2 main_while0b_c_13 main_while0b_v31 (cmpi .slt : (⟨S_, .i32⟩ : BufTy).Contents (Elt F) → (⟨S_, .i32⟩ : BufTy).Contents (Elt F) → (⟨S_, .i1⟩ : BufTy).Contents (Elt F)),
    nullary main_while0b_c_14 (constantI S_ 32 1024#32),
    binary main_v3_2 main_while0b_c_14 main_while0b_v32 (addi : (⟨S_, .i32⟩ : BufTy).Contents (Elt F) → (⟨S_, .i32⟩ : BufTy).Contents (Elt F) → (⟨S_, .i32⟩ : BufTy).Contents (Elt F)),
    ternary main_while0b_v31 main_while0b_v32 main_v3_2 main_while0b_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v33 main_while0b_v34 (id : (⟨S_, .i32⟩ : BufTy).Contents (Elt F) → (⟨S_, .i32⟩ : BufTy).Contents (Elt F)),
    unary main_while0b_v34 main_while0b_v35 (broadcastInDim S1 ![] bcast_S_S1 : (⟨S_, .i32⟩ : BufTy).Contents (Elt F) → (⟨S1, .i32⟩ : BufTy).Contents (Elt F)),
    ternary main_v3_3 main_while0b_v35 main_v3_5 main_while0b_v36 ((fun x i u => Host.scatter scatter_S16x1024_S1_S16_0_1_1_0 (fun _ b => b) x i u) : (⟨S16x1024, .i32⟩ : BufTy).Contents (Elt F) → (⟨S1, .i32⟩ : BufTy).Contents (Elt F) → (⟨S16, .i32⟩ : BufTy).Contents (Elt F) → (⟨S16x1024, .i32⟩ : BufTy).Contents (Elt F)),
    unary main_v3_5 main_while0b_v37 (broadcastInDim S16x1x1 ![0] bcast_S16_S16x1x1_0 : (⟨S16, .i32⟩ : BufTy).Contents (Elt F) → (⟨S16x1x1, .i32⟩ : BufTy).Contents (Elt F)) ]

theorem body0_sub : (body0 : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub ..⟩

/-- The body's second part: the centre's coordinates are taken. -/
abbrev body1 : List (HloOp τ sig (Elt F)) :=
  [ TRef.nullary (TRef.of (T := ⟨S_, .i32⟩) main_while0b_call0_c) (constantI S_ 32 0#32),
    TRef.unary (TRef.of (T := ⟨S_, .i32⟩) main_while0b_call0_c) (TRef.of (T := ⟨S16x1x1, .i32⟩) main_while0b_call0_v0) (broadcastInDim S16x1x1 ![] bcast_S_S16x1x1),
    TRef.binary (TRef.of (T := ⟨S16x1x1, .i32⟩) main_while0b_v37) (TRef.of (T := ⟨S16x1x1, .i32⟩) main_while0b_call0_v0) (TRef.of (T := ⟨S16x1x1, .i1⟩) main_while0b_call0_v1) (cmpi .slt),
    TRef.nullary (TRef.of (T := ⟨S_, .i32⟩) main_while0b_call0_c_0) (constantI S_ 32 8192#32),
    TRef.unary (TRef.of (T := ⟨S_, .i32⟩) main_while0b_call0_c_0) (TRef.of (T := ⟨S16x1x1, .i32⟩) main_while0b_call0_v2) (broadcastInDim S16x1x1 ![] bcast_S_S16x1x1),
    TRef.binary (TRef.of (T := ⟨S16x1x1, .i32⟩) main_while0b_v37) (TRef.of (T := ⟨S16x1x1, .i32⟩) main_while0b_call0_v2) (TRef.of (T := ⟨S16x1x1, .i32⟩) main_while0b_call0_v3) addi,
    TRef.ternary (TRef.of (T := ⟨S16x1x1, .i1⟩) main_while0b_call0_v1) (TRef.of (T := ⟨S16x1x1, .i32⟩) main_while0b_call0_v3) (TRef.of (T := ⟨S16x1x1, .i32⟩) main_while0b_v37) (TRef.of (T := ⟨S16x1x1, .i32⟩) main_while0b_call0_v4) select,
    TRef.nullary (TRef.of (T := ⟨S1, .i32⟩) main_while0b_call0_c_1) (constantI S1 32 8191#32),
    TRef.nullary (TRef.of (T := ⟨S_, .i32⟩) main_while0b_call0_c_2) (constantI S_ 32 0#32),
    TRef.unary (TRef.of (T := ⟨S_, .i32⟩) main_while0b_call0_c_2) (TRef.of (T := ⟨S16x1x1, .i32⟩) main_while0b_call0_v5) (broadcastInDim S16x1x1 ![] bcast_S_S16x1x1),
    TRef.binary (TRef.of (T := ⟨S16x1x1, .i32⟩) main_while0b_call0_v4) (TRef.of (T := ⟨S16x1x1, .i32⟩) main_while0b_call0_v5) (TRef.of (T := ⟨S16x1x1, .i1⟩) main_while0b_call0_v6) (cmpi .sge),
    TRef.unary (TRef.of (T := ⟨S1, .i32⟩) main_while0b_call0_c_1) (TRef.of (T := ⟨S1x1x1, .i32⟩) main_while0b_call0_v7) (broadcastInDim S1x1x1 ![2] bcast_S1_S1x1x1_2),
    TRef.unary (TRef.of (T := ⟨S1x1x1, .i32⟩) main_while0b_call0_v7) (TRef.of (T := ⟨S16x1x1, .i32⟩) main_while0b_call0_v8) (broadcastInDim S16x1x1 ![0, 1, 2] bcast_S1x1x1_S16x1x1_0_1_2),
    TRef.binary (TRef.of (T := ⟨S16x1x1, .i32⟩) main_while0b_call0_v4) (TRef.of (T := ⟨S16x1x1, .i32⟩) main_while0b_call0_v8) (TRef.of (T := ⟨S16x1x1, .i1⟩) main_while0b_call0_v9) (cmpi .sle),
    TRef.binary (TRef.of (T := ⟨S16x1x1, .i1⟩) main_while0b_call0_v6) (TRef.of (T := ⟨S16x1x1, .i1⟩) main_while0b_call0_v9) (TRef.of (T := ⟨S16x1x1, .i1⟩) main_while0b_call0_v10) andi,
    TRef.nullary (TRef.of (T := ⟨S_, .i1⟩) main_while0b_call0_c_3) (constantI S_ 1 1#1),
    TRef.binary (TRef.of (T := ⟨S16x1x1, .i1⟩) main_while0b_call0_v10) (TRef.of (T := ⟨S_, .i1⟩) main_while0b_call0_c_3) (TRef.of (T := ⟨S16x1, .i1⟩) main_while0b_call0_v11) (fun x v => Host.reduce IntOp.andi x v reducesTo_S16x1x1_S16x1_d2 h_S_),
    TRef.binary (TRef.of (T := ⟨S16x8192x3, .f32⟩) main_v3_0) (TRef.of (T := ⟨S16x1x1, .i32⟩) main_while0b_call0_v4) (TRef.of (T := ⟨S16x1x3, .f32⟩) main_while0b_call0_v12) (fun x i => Host.gather gather_S16x8192x3_S16x1x1_S16x1x3_2_1_0_0_1_2_113 x i),
    TRef.unary (TRef.of (T := ⟨S16x1, .i1⟩) main_while0b_call0_v11) (TRef.of (T := ⟨S16x1x3, .i1⟩) main_while0b_call0_v13) (broadcastInDim S16x1x3 ![0, 1] bcast_S16x1_S16x1x3_0_1),
    TRef.nullary (TRef.of (T := ⟨S_, .f32⟩) main_while0b_call0_cst) (constant S_ .f32 0x7FC00000#32),
    TRef.unary (TRef.of (T := ⟨S_, .f32⟩) main_while0b_call0_cst) (TRef.of (T := ⟨S16x1x3, .f32⟩) main_while0b_call0_v14) (broadcastInDim S16x1x3 ![] bcast_S_S16x1x3),
    TRef.ternary (TRef.of (T := ⟨S16x1x3, .i1⟩) main_while0b_call0_v13) (TRef.of (T := ⟨S16x1x3, .f32⟩) main_while0b_call0_v12) (TRef.of (T := ⟨S16x1x3, .f32⟩) main_while0b_call0_v14) (TRef.of (T := ⟨S16x1x3, .f32⟩) main_while0b_v38) select ]

theorem body1_sub : (body1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The body's third part: the new distances and the farthest point. -/
abbrev body2 : List (HloOp τ sig (Elt F)) :=
  [ unary main_while0b_v38 main_while0b_v39 (broadcastInDim S16x8192x3 ![0, 1, 2] bcast_S16x1x3_S16x8192x3_0_1_2 : (⟨S16x1x3, .f32⟩ : BufTy).Contents (Elt F) → (⟨S16x8192x3, .f32⟩ : BufTy).Contents (Elt F)),
    binary main_v3_0 main_while0b_v39 main_while0b_v40 (subf : (⟨S16x8192x3, .f32⟩ : BufTy).Contents (Elt F) → (⟨S16x8192x3, .f32⟩ : BufTy).Contents (Elt F) → (⟨S16x8192x3, .f32⟩ : BufTy).Contents (Elt F)),
    binary main_while0b_v40 main_while0b_v40 main_while0b_v41 (mulf : (⟨S16x8192x3, .f32⟩ : BufTy).Contents (Elt F) → (⟨S16x8192x3, .f32⟩ : BufTy).Contents (Elt F) → (⟨S16x8192x3, .f32⟩ : BufTy).Contents (Elt F)),
    nullary main_while0b_cst_15 (constant S_ .f32 0x00000000#32),
    binary main_while0b_v41 main_while0b_cst_15 main_while0b_v42 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    binary main_while0b_v42 main_v3_4 main_while0b_v43 (cmpf .olt : (⟨S16x8192, .f32⟩ : BufTy).Contents (Elt F) → (⟨S16x8192, .f32⟩ : BufTy).Contents (Elt F) → (⟨S16x8192, .i1⟩ : BufTy).Contents (Elt F)),
    TRef.ternary (TRef.of (T := ⟨S16x8192, .i1⟩) main_while0b_v43) (TRef.of (T := ⟨S16x8192, .f32⟩) main_while0b_v42) (TRef.of (T := ⟨S16x8192, .f32⟩) main_v3_4) (TRef.of (T := ⟨S16x8192, .f32⟩) main_while0b_v44) select,
    TRef.nullary (TRef.of (T := ⟨S16x8192, .i32⟩) main_while0b_call2_v0) (iotaInDim S16x8192 32 1),
    TRef.nullary (TRef.of (T := ⟨S_, .f32⟩) main_while0b_call2_cst) (constant S_ .f32 0xFF800000#32),
    TRef.nullary (TRef.of (T := ⟨S_, .i32⟩) main_while0b_call2_c) (constantI S_ 32 0#32),
    TRef.quaternary (TRef.of (T := ⟨S16x8192, .f32⟩) main_while0b_v44) (TRef.of (T := ⟨S16x8192, .i32⟩) main_while0b_call2_v0) (TRef.of (T := ⟨S_, .f32⟩) main_while0b_call2_cst) (TRef.of (T := ⟨S_, .i32⟩) main_while0b_call2_c) (TRef.of (T := ⟨S16, .f32⟩) main_while0b_call2_v1_0) (fun x y u v j => (Host.argReduce reducer_argmax_f32_i32 x y u v reducesTo_S16x8192_S16_d1 h_S_ j).1),
    TRef.quaternary (TRef.of (T := ⟨S16x8192, .f32⟩) main_while0b_v44) (TRef.of (T := ⟨S16x8192, .i32⟩) main_while0b_call2_v0) (TRef.of (T := ⟨S_, .f32⟩) main_while0b_call2_cst) (TRef.of (T := ⟨S_, .i32⟩) main_while0b_call2_c) (TRef.of (T := ⟨S16, .i32⟩) main_while0b_v45) (fun x y u v j => (Host.argReduce reducer_argmax_f32_i32 x y u v reducesTo_S16x8192_S16_d1 h_S_ j).2) ]

theorem body2_sub : (body2 : List (HloOp τ sig (Elt F))).Forall fun op => op.bufs ⊆ tcRefs τ sig :=
  ⟨unary_bufs_sub .., binary_bufs_sub .., binary_bufs_sub .., nullary_bufs_sub .., binary_bufs_sub .., binary_bufs_sub .., ternary_bufs_sub .., nullary_bufs_sub .., nullary_bufs_sub .., nullary_bufs_sub .., quaternary_bufs_sub .., quaternary_bufs_sub ..⟩

/-- The body's end: the counter, and the carried arrays are written back. -/
abbrev body3 : List (HloOp τ sig (Elt F)) :=
  [ nullary main_while0b_c_16 (constantI S_ 32 1#32),
    binary main_v3_1 main_while0b_c_16 main_while0b_v46 (addi : (⟨S_, .i32⟩ : BufTy).Contents (Elt F) → (⟨S_, .i32⟩ : BufTy).Contents (Elt F) → (⟨S_, .i32⟩ : BufTy).Contents (Elt F)),
    unary main_while0b_v46 main_v3_1 id,
    unary main_while0b_v30 main_v3_2 id,
    unary main_while0b_v36 main_v3_3 id,
    unary main_while0b_v44 main_v3_4 id,
    unary main_while0b_v45 main_v3_5 id ]

theorem body3_sub : (body3 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

/-- After the loop: the list of centres as indices. -/
abbrev post0 : List (HloOp τ sig (Elt F)) :=
  [ unary main_v3_3 main_v4 (broadcastInDim S16x1024x1 ![0, 1] bcast_S16x1024_S16x1024x1_0_1 : (⟨S16x1024, .i32⟩ : BufTy).Contents (Elt F) → (⟨S16x1024x1, .i32⟩ : BufTy).Contents (Elt F)) ]

theorem post0_sub : (post0 : List (HloOp τ sig (Elt F))).Forall fun op => op.bufs ⊆ tcRefs τ sig :=
  unary_bufs_sub ..

/-- After the loop: the centres are taken. -/
abbrev post1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16x1024x1, .i32⟩) main_call3_v0) (broadcastInDim S16x1024x1 ![] bcast_S_S16x1024x1),
    TRef.binary (TRef.of (T := ⟨S16x1024x1, .i32⟩) main_v4) (TRef.of (T := ⟨S16x1024x1, .i32⟩) main_call3_v0) (TRef.of (T := ⟨S16x1024x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S16x1024x1, .i32⟩) main_call3_v2) (broadcastInDim S16x1024x1 ![] bcast_S_S16x1024x1),
    TRef.binary (TRef.of (T := ⟨S16x1024x1, .i32⟩) main_v4) (TRef.of (T := ⟨S16x1024x1, .i32⟩) main_call3_v2) (TRef.of (T := ⟨S16x1024x1, .i32⟩) main_call3_v3) addi,
    TRef.ternary (TRef.of (T := ⟨S16x1024x1, .i1⟩) main_call3_v1) (TRef.of (T := ⟨S16x1024x1, .i32⟩) main_call3_v3) (TRef.of (T := ⟨S16x1024x1, .i32⟩) main_v4) (TRef.of (T := ⟨S16x1024x1, .i32⟩) main_call3_v4) select,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S16x1024x1, .i32⟩) main_call3_v5) (broadcastInDim S16x1024x1 ![] bcast_S_S16x1024x1),
    TRef.binary (TRef.of (T := ⟨S16x1024x1, .i32⟩) main_call3_v4) (TRef.of (T := ⟨S16x1024x1, .i32⟩) main_call3_v5) (TRef.of (T := ⟨S16x1024x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S16x1024x1, .i32⟩) main_call3_v8) (broadcastInDim S16x1024x1 ![0, 1, 2] bcast_S1x1x1_S16x1024x1_0_1_2),
    TRef.binary (TRef.of (T := ⟨S16x1024x1, .i32⟩) main_call3_v4) (TRef.of (T := ⟨S16x1024x1, .i32⟩) main_call3_v8) (TRef.of (T := ⟨S16x1024x1, .i1⟩) main_call3_v9) (cmpi .sle),
    TRef.binary (TRef.of (T := ⟨S16x1024x1, .i1⟩) main_call3_v6) (TRef.of (T := ⟨S16x1024x1, .i1⟩) main_call3_v9) (TRef.of (T := ⟨S16x1024x1, .i1⟩) main_call3_v10) andi,
    TRef.nullary (TRef.of (T := ⟨S_, .i1⟩) main_call3_c_3) (constantI S_ 1 1#1),
    TRef.binary (TRef.of (T := ⟨S16x1024x1, .i1⟩) main_call3_v10) (TRef.of (T := ⟨S_, .i1⟩) main_call3_c_3) (TRef.of (T := ⟨S16x1024, .i1⟩) main_call3_v11) (fun x v => Host.reduce IntOp.andi x v reducesTo_S16x1024x1_S16x1024_d2 h_S_),
    TRef.binary (TRef.of (T := ⟨S16x8192x3, .f32⟩) main_arg0) (TRef.of (T := ⟨S16x1024x1, .i32⟩) main_call3_v4) (TRef.of (T := ⟨S16x1024x3, .f32⟩) main_call3_v12) (fun x i => Host.gather gather_S16x8192x3_S16x1024x1_S16x1024x3_2_1_0_0_1_2_113 x i),
    TRef.unary (TRef.of (T := ⟨S16x1024, .i1⟩) main_call3_v11) (TRef.of (T := ⟨S16x1024x3, .i1⟩) main_call3_v13) (broadcastInDim S16x1024x3 ![0, 1] bcast_S16x1024_S16x1024x3_0_1),
    TRef.nullary (TRef.of (T := ⟨S_, .f32⟩) main_call3_cst) (constant S_ .f32 0x7FC00000#32),
    TRef.unary (TRef.of (T := ⟨S_, .f32⟩) main_call3_cst) (TRef.of (T := ⟨S16x1024x3, .f32⟩) main_call3_v14) (broadcastInDim S16x1024x3 ![] bcast_S_S16x1024x3),
    TRef.ternary (TRef.of (T := ⟨S16x1024x3, .i1⟩) main_call3_v13) (TRef.of (T := ⟨S16x1024x3, .f32⟩) main_call3_v12) (TRef.of (T := ⟨S16x1024x3, .f32⟩) main_call3_v14) (TRef.of (T := ⟨S16x1024x3, .f32⟩) main_v5) select ]

theorem post1_sub : (post1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- After the loop: the distances from every centre to every point, and the 32 nearest points. -/
abbrev post2 : List (HloOp τ sig (Elt F)) :=
  [ binary main_v5 main_v5 main_v6 (mulf : (⟨S16x1024x3, .f32⟩ : BufTy).Contents (Elt F) → (⟨S16x1024x3, .f32⟩ : BufTy).Contents (Elt F) → (⟨S16x1024x3, .f32⟩ : BufTy).Contents (Elt F)),
    nullary main_cst_3 (constant S_ .f32 0x00000000#32),
    binary main_v6 main_cst_3 main_v7 ((fun x v => Host.reduceAdd x v reducesTo_S16x1024x3_S16x1024_d2 h_S_) : (⟨S16x1024x3, .f32⟩ : BufTy).Contents (Elt F) → (⟨S_, .f32⟩ : BufTy).Contents (Elt F) → (⟨S16x1024, .f32⟩ : BufTy).Contents (Elt F)),
    unary main_v7 main_v8 (broadcastInDim S16x1024x1 ![0, 1] bcast_S16x1024_S16x1024x1_0_1 : (⟨S16x1024, .f32⟩ : BufTy).Contents (Elt F) → (⟨S16x1024x1, .f32⟩ : BufTy).Contents (Elt F)),
    binary main_arg0 main_arg0 main_v9 (mulf : (⟨S16x8192x3, .f32⟩ : BufTy).Contents (Elt F) → (⟨S16x8192x3, .f32⟩ : BufTy).Contents (Elt F) → (⟨S16x8192x3, .f32⟩ : BufTy).Contents (Elt F)),
    nullary main_cst_4 (constant S_ .f32 0x00000000#32),
    binary main_v9 main_cst_4 main_v10 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    unary main_v10 main_v11 (broadcastInDim S16x1x8192 ![0, 2] bcast_S16x8192_S16x1x8192_0_2 : (⟨S16x8192, .f32⟩ : BufTy).Contents (Elt F) → (⟨S16x1x8192, .f32⟩ : BufTy).Contents (Elt F)),
    unary main_v8 main_v12 (broadcastInDim S16x1024x8192 ![0, 1, 2] bcast_S16x1024x1_S16x1024x8192_0_1_2 : (⟨S16x1024x1, .f32⟩ : BufTy).Contents (Elt F) → (⟨S16x1024x8192, .f32⟩ : BufTy).Contents (Elt F)),
    unary main_v11 main_v13 (broadcastInDim S16x1024x8192 ![0, 1, 2] bcast_S16x1x8192_S16x1024x8192_0_1_2 : (⟨S16x1x8192, .f32⟩ : BufTy).Contents (Elt F) → (⟨S16x1024x8192, .f32⟩ : BufTy).Contents (Elt F)),
    binary main_v12 main_v13 main_v14 (addf : (⟨S16x1024x8192, .f32⟩ : BufTy).Contents (Elt F) → (⟨S16x1024x8192, .f32⟩ : BufTy).Contents (Elt F) → (⟨S16x1024x8192, .f32⟩ : BufTy).Contents (Elt F)),
    binary main_v5 main_arg0 main_v15 ((fun l r => Host.dotGeneral dot_S16x1024x3_S16x8192x3_S16x1024x8192_2_2_1_1_0_0 none l r) : (⟨S16x1024x3, .f32⟩ : BufTy).Contents (Elt F) → (⟨S16x8192x3, .f32⟩ : BufTy).Contents (Elt F) → (⟨S16x1024x8192, .f32⟩ : BufTy).Contents (Elt F)),
    nullary main_cst_5 (constant S_ .f32 0x40000000#32),
    unary main_cst_5 main_v16 (broadcastInDim S16x1024x8192 ![] bcast_S_S16x1024x8192 : (⟨S_, .f32⟩ : BufTy).Contents (Elt F) → (⟨S16x1024x8192, .f32⟩ : BufTy).Contents (Elt F)),
    binary main_v16 main_v15 main_v17 (mulf : (⟨S16x1024x8192, .f32⟩ : BufTy).Contents (Elt F) → (⟨S16x1024x8192, .f32⟩ : BufTy).Contents (Elt F) → (⟨S16x1024x8192, .f32⟩ : BufTy).Contents (Elt F)),
    binary main_v14 main_v17 main_v18 (subf : (⟨S16x1024x8192, .f32⟩ : BufTy).Contents (Elt F) → (⟨S16x1024x8192, .f32⟩ : BufTy).Contents (Elt F) → (⟨S16x1024x8192, .f32⟩ : BufTy).Contents (Elt F)),
    nullary main_cst_6 (constant S_ .f32 0x00000000#32),
    unary main_cst_6 main_v19 (broadcastInDim S16x1024x8192 ![] bcast_S_S16x1024x8192 : (⟨S_, .f32⟩ : BufTy).Contents (Elt F) → (⟨S16x1024x8192, .f32⟩ : BufTy).Contents (Elt F)),
    binary main_v18 main_v19 main_v20 (maximumf : (⟨S16x1024x8192, .f32⟩ : BufTy).Contents (Elt F) → (⟨S16x1024x8192, .f32⟩ : BufTy).Contents (Elt F) → (⟨S16x1024x8192, .f32⟩ : BufTy).Contents (Elt F)),
    unary main_v20 main_v21 (Host.sqrt : (⟨S16x1024x8192, .f32⟩ : BufTy).Contents (Elt F) → (⟨S16x1024x8192, .f32⟩ : BufTy).Contents (Elt F)),
    unary main_v21 main_v22 (Host.negf : (⟨S16x1024x8192, .f32⟩ : BufTy).Contents (Elt F) → (⟨S16x1024x8192, .f32⟩ : BufTy).Contents (Elt F)),
    unary main_v22 main_values ((fun x => (Host.topK S16x1024x32 2 (FloatOps.cmpfTotal .gt) x sliceFits_S16x1024x8192_S16x1024x32).1) : (⟨S16x1024x8192, .f32⟩ : BufTy).Contents (Elt F) → (⟨S16x1024x32, .f32⟩ : BufTy).Contents (Elt F)),
    unary main_v22 main_indices ((fun x => (Host.topK S16x1024x32 2 (FloatOps.cmpfTotal .gt) x sliceFits_S16x1024x8192_S16x1024x32).2) : (⟨S16x1024x8192, .f32⟩ : BufTy).Contents (Elt F) → (⟨S16x1024x32, .i32⟩ : BufTy).Contents (Elt F)),
    reshape main_indices main_v23 (rfl : (.i32 : EltTy) = .i32) shapeCasts_S16x1024x32_S16x32768,
    unary main_v23 main_v24 (broadcastInDim S16x32768x1 ![0, 1] bcast_S16x32768_S16x32768x1_0_1 : (⟨S16x32768, .i32⟩ : BufTy).Contents (Elt F) → (⟨S16x32768x1, .i32⟩ : BufTy).Contents (Elt F)) ]

theorem post2_sub : (post2 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., reshape_bufs_sub .., unary_bufs_sub ..⟩

/-- After the loop: the nearest points are taken. -/
abbrev post3 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16x32768x1, .i32⟩) main_call4_v0) (broadcastInDim S16x32768x1 ![] bcast_S_S16x32768x1),
    TRef.binary (TRef.of (T := ⟨S16x32768x1, .i32⟩) main_v24) (TRef.of (T := ⟨S16x32768x1, .i32⟩) main_call4_v0) (TRef.of (T := ⟨S16x32768x1, .i1⟩) main_call4_v1) (cmpi .slt),
    TRef.nullary (TRef.of (T := ⟨S_, .i32⟩) main_call4_c_0) (constantI S_ 32 8192#32),
    TRef.unary (TRef.of (T := ⟨S_, .i32⟩) main_call4_c_0) (TRef.of (T := ⟨S16x32768x1, .i32⟩) main_call4_v2) (broadcastInDim S16x32768x1 ![] bcast_S_S16x32768x1),
    TRef.binary (TRef.of (T := ⟨S16x32768x1, .i32⟩) main_v24) (TRef.of (T := ⟨S16x32768x1, .i32⟩) main_call4_v2) (TRef.of (T := ⟨S16x32768x1, .i32⟩) main_call4_v3) addi,
    TRef.ternary (TRef.of (T := ⟨S16x32768x1, .i1⟩) main_call4_v1) (TRef.of (T := ⟨S16x32768x1, .i32⟩) main_call4_v3) (TRef.of (T := ⟨S16x32768x1, .i32⟩) main_v24) (TRef.of (T := ⟨S16x32768x1, .i32⟩) main_call4_v4) select,
    TRef.nullary (TRef.of (T := ⟨S1, .i32⟩) main_call4_c_1) (constantI S1 32 8191#32),
    TRef.nullary (TRef.of (T := ⟨S_, .i32⟩) main_call4_c_2) (constantI S_ 32 0#32),
    TRef.unary (TRef.of (T := ⟨S_, .i32⟩) main_call4_c_2) (TRef.of (T := ⟨S16x32768x1, .i32⟩) main_call4_v5) (broadcastInDim S16x32768x1 ![] bcast_S_S16x32768x1),
    TRef.binary (TRef.of (T := ⟨S16x32768x1, .i32⟩) main_call4_v4) (TRef.of (T := ⟨S16x32768x1, .i32⟩) main_call4_v5) (TRef.of (T := ⟨S16x32768x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S16x32768x1, .i32⟩) main_call4_v8) (broadcastInDim S16x32768x1 ![0, 1, 2] bcast_S1x1x1_S16x32768x1_0_1_2),
    TRef.binary (TRef.of (T := ⟨S16x32768x1, .i32⟩) main_call4_v4) (TRef.of (T := ⟨S16x32768x1, .i32⟩) main_call4_v8) (TRef.of (T := ⟨S16x32768x1, .i1⟩) main_call4_v9) (cmpi .sle),
    TRef.binary (TRef.of (T := ⟨S16x32768x1, .i1⟩) main_call4_v6) (TRef.of (T := ⟨S16x32768x1, .i1⟩) main_call4_v9) (TRef.of (T := ⟨S16x32768x1, .i1⟩) main_call4_v10) andi,
    TRef.nullary (TRef.of (T := ⟨S_, .i1⟩) main_call4_c_3) (constantI S_ 1 1#1),
    TRef.binary (TRef.of (T := ⟨S16x32768x1, .i1⟩) main_call4_v10) (TRef.of (T := ⟨S_, .i1⟩) main_call4_c_3) (TRef.of (T := ⟨S16x32768, .i1⟩) main_call4_v11) (fun x v => Host.reduce IntOp.andi x v reducesTo_S16x32768x1_S16x32768_d2 h_S_),
    TRef.binary (TRef.of (T := ⟨S16x8192x3, .f32⟩) main_arg0) (TRef.of (T := ⟨S16x32768x1, .i32⟩) main_call4_v4) (TRef.of (T := ⟨S16x32768x3, .f32⟩) main_call4_v12) (fun x i => Host.gather gather_S16x8192x3_S16x32768x1_S16x32768x3_2_1_0_0_1_2_113 x i),
    TRef.unary (TRef.of (T := ⟨S16x32768, .i1⟩) main_call4_v11) (TRef.of (T := ⟨S16x32768x3, .i1⟩) main_call4_v13) (broadcastInDim S16x32768x3 ![0, 1] bcast_S16x32768_S16x32768x3_0_1),
    TRef.nullary (TRef.of (T := ⟨S_, .f32⟩) main_call4_cst) (constant S_ .f32 0x7FC00000#32),
    TRef.unary (TRef.of (T := ⟨S_, .f32⟩) main_call4_cst) (TRef.of (T := ⟨S16x32768x3, .f32⟩) main_call4_v14) (broadcastInDim S16x32768x3 ![] bcast_S_S16x32768x3),
    TRef.ternary (TRef.of (T := ⟨S16x32768x3, .i1⟩) main_call4_v13) (TRef.of (T := ⟨S16x32768x3, .f32⟩) main_call4_v12) (TRef.of (T := ⟨S16x32768x3, .f32⟩) main_call4_v14) (TRef.of (T := ⟨S16x32768x3, .f32⟩) main_v25) select ]

theorem post3_sub : (post3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- After the loop: each taken point less its centre. -/
abbrev post4 : List (HloOp τ sig (Elt F)) :=
  [ reshape main_v25 main_v26 (rfl : (.f32 : EltTy) = .f32) shapeCasts_S16x32768x3_S16x1024x32x3,
    unary main_v5 main_v27 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    unary main_v27 main_v28 (broadcastInDim S16x1024x32x3 ![0, 1, 2, 3] bcast_S16x1024x1x3_S16x1024x32x3_0_1_2_3 : (⟨S16x1024x1x3, .f32⟩ : BufTy).Contents (Elt F) → (⟨S16x1024x32x3, .f32⟩ : BufTy).Contents (Elt F)),
    binary main_v26 main_v28 main_v29 (subf : (⟨S16x1024x32x3, .f32⟩ : BufTy).Contents (Elt F) → (⟨S16x1024x32x3, .f32⟩ : BufTy).Contents (Elt F) → (⟨S16x1024x32x3, .f32⟩ : BufTy).Contents (Elt F)) ]

theorem post4_sub : (post4 : List (HloOp τ sig (Elt F))).Forall fun op => op.bufs ⊆ tcRefs τ sig :=
  ⟨reshape_bufs_sub .., unary_bufs_sub .., unary_bufs_sub .., binary_bufs_sub ..⟩

/-- The loop's body as its four parts, and what stands around the loop. -/
abbrev preI : List (List (HloOp τ sig (Elt F))) := [pre]
abbrev bodyI : List (List (HloOp τ sig (Elt F))) := [body0, body1, body2, body3]
abbrev postI : List (List (HloOp τ sig (Elt F))) := [post0, post1, post2, post3, post4]

theorem plain_pre : Plain (preI (F := F)) := .cons pre_sub .nil
theorem plain_body : Plain (bodyI (F := F)) := .cons body0_sub (.cons body1_sub (.cons body2_sub (.cons body3_sub .nil)))
theorem plain_post : Plain (postI (F := F)) := .cons post0_sub (.cons post1_sub (.cons post2_sub (.cons post3_sub (.cons post4_sub .nil))))

theorem main_eq (c : Dev nD) : main (F := F) c
    = Pipeline.chain ((preI.map fun ops => (seq ops : Prog _ PUnit)) ++ HostLoop.enter 0 :: postI.map fun ops => (seq ops : Prog _ PUnit)) := by
  show _ = Pipeline.chain [seq pre, HostLoop.enter 0, seq post0, seq post1, seq post2, seq post3, seq post4]
  rewrite [StableHlo.chain_seq_cons, Pipeline.chain_cons, StableHlo.chain_seq_cons, StableHlo.chain_seq_cons, StableHlo.chain_seq_cons,
    StableHlo.chain_seq_cons, StableHlo.chain_seq_cons]
  chain_rfl

theorem body_eq : main_while0_body (F := F) = Pipeline.chain (bodyI.map fun ops => (seq ops : Prog _ PUnit)) := by
  show _ = Pipeline.chain [seq body0, seq body1, seq body2, seq body3]
  rewrite [StableHlo.chain_seq_cons, StableHlo.chain_seq_cons, StableHlo.chain_seq_cons, StableHlo.chain_seq_cons]
  chain_rfl

/-! ## What the body computes -/

theorem body_xyz (V : Valuation τ sig (Elt F)) : afterL bodyI V main_v3_0 = V main_v3_0 := by
  simp only [bodyI, afterL, body0, body1, body2, body3, TRef.binary, TRef.nullary, TRef.ternary, TRef.unary, TRef.quaternary, TRef.toBuf, TRef.ofBuf, cast_eq]
  after_results <;> rfl

theorem body_arg (V : Valuation τ sig (Elt F)) : afterL bodyI V main_arg0 = V main_arg0 := by
  simp only [bodyI, afterL, body0, body1, body2, body3, TRef.binary, TRef.nullary, TRef.ternary, TRef.unary, TRef.quaternary, TRef.toBuf, TRef.ofBuf, cast_eq]
  after_results <;> rfl

theorem body_ctr (V : Valuation τ sig (Elt F)) :
    (afterL bodyI V main_v3_1 : (⟨S_, .i32⟩ : BufTy).Contents (Elt F))
      = addi (V main_v3_1 : (⟨S_, .i32⟩ : BufTy).Contents (Elt F)) (constantI S_ 32 1#32) := by
  simp only [bodyI, afterL, body0, body1, body2, body3, TRef.binary, TRef.nullary, TRef.ternary, TRef.unary, TRef.quaternary, TRef.toBuf, TRef.ofBuf, cast_eq]
  after_results <;> rfl

theorem body_pos (V : Valuation τ sig (Elt F)) :
    (afterL bodyI V main_v3_2 : (⟨S_, .i32⟩ : BufTy).Contents (Elt F))
      = addi (V main_v3_2 : (⟨S_, .i32⟩ : BufTy).Contents (Elt F)) (constantI S_ 32 1#32) := by
  simp only [bodyI, afterL, body0, body1, body2, body3, TRef.binary, TRef.nullary, TRef.ternary, TRef.unary, TRef.quaternary, TRef.toBuf, TRef.ofBuf, cast_eq]
  after_results <;> rfl

theorem body_list (V : Valuation τ sig (Elt F)) :
    (afterL bodyI V main_v3_3 : (⟨S16x1024, .i32⟩ : BufTy).Contents (Elt F))
      = put (V main_v3_3 : (⟨S16x1024, .i32⟩ : BufTy).Contents (Elt F)) (V main_v3_2 : (⟨S_, .i32⟩ : BufTy).Contents (Elt F))
          (V main_v3_5 : (⟨S16, .i32⟩ : BufTy).Contents (Elt F)) := by
  simp only [bodyI, afterL, body0, body1, body2, body3, TRef.binary, TRef.nullary, TRef.ternary, TRef.unary, TRef.quaternary, TRef.toBuf, TRef.ofBuf, cast_eq]
  after_results
  exact id_eq _

set_option maxHeartbeats 4000000 in
theorem body_dist (V : Valuation τ sig (Elt F)) :
    (afterL bodyI V main_v3_4 : (⟨S16x8192, .f32⟩ : BufTy).Contents (Elt F))
      = nextDist (V main_v3_0 : (⟨S16x8192x3, .f32⟩ : BufTy).Contents (Elt F)) (V main_v3_4 : (⟨S16x8192, .f32⟩ : BufTy).Contents (Elt F))
          (V main_v3_5 : (⟨S16, .i32⟩ : BufTy).Contents (Elt F)) := by
  simp only [bodyI, afterL, body0, body1, body2, body3, TRef.binary, TRef.nullary, TRef.ternary, TRef.unary, TRef.quaternary, TRef.toBuf, TRef.ofBuf, cast_eq]
  after_results <;> rfl

set_option maxHeartbeats 4000000 in
theorem body_far (V : Valuation τ sig (Elt F)) :
    (afterL bodyI V main_v3_5 : (⟨S16, .i32⟩ : BufTy).Contents (Elt F))
      = nextFar (nextDist (V main_v3_0 : (⟨S16x8192x3, .f32⟩ : BufTy).Contents (Elt F)) (V main_v3_4 : (⟨S16x8192, .f32⟩ : BufTy).Contents (Elt F))
          (V main_v3_5 : (⟨S16, .i32⟩ : BufTy).Contents (Elt F))) := by
  simp only [bodyI, afterL, body0, body1, body2, body3, TRef.binary, TRef.nullary, TRef.ternary, TRef.unary, TRef.quaternary, TRef.toBuf, TRef.ofBuf, cast_eq]
  after_results <;> rfl

/-! ## What the condition and the two ends compute -/

theorem cond_keep (V : Valuation τ sig (Elt F)) (b : Ref sig .tc) (h₁ : b ≠ main_while0c_c_12) (h₂ : b ≠ main_while0c_v30) :
    after condOps V (Proc.devRef .tc b) = V (Proc.devRef .tc b) := by
  simp only [after_cons, after_nil]
  rw [binary_result_ne (h := h₂), nullary_result_ne (h := h₁)]

end Cert.Proof.KernelRef

end
-- ==== Proof.KernelRef.lean ====
/-
  The reference of the whole kernel, run: the loop ends with the list of the 1024 farthest points; then come the centres,
  the 32 nearest points of each, and those points less their centre, each the function that the reference of the one call
  computes.
-/
module

public import proofs.«01_k».proof.Proof.KernelRefRun
public import proofs.«01_k».proof.Proof.SelectRef
public import proofs.«01_k».proof.Proof.GatherRef

@[expose] public section

set_option maxRecDepth 16384

noncomputable section

namespace Cert.Proof.KernelRef

open Cert.KernelRefIdeal Cert.KernelRefIdeal.Gen

open Idealize.ShloMosaic Idealize.ShloMosaic.StableHlo Idealize.ShloMosaic.TcCoe Idealize.SL.Sem Idealize.SL Idealize.SL.BI
open Idealize.ShloMosaic.Pipeline
open Cert.Proof.SampleRef (put nextDist nextFar st lst centres iv_step put_congr)

variable {F : FTy → Type} [FloatOps F]

/-- The carried arrays of a valuation. -/
def Carries (V : Valuation τ sig (Elt F)) (x : FVec F S16x8192x3 .f32) (n : ℕ) : Prop :=
  (V main_arg0 : FVec F S16x8192x3 .f32) = x
    ∧ (V main_v3_0 : FVec F S16x8192x3 .f32) = x
    ∧ (V main_v3_1 : IVec S_ 32) = (fun _ => Scf.iv 0#32 1#32 n)
    ∧ (V main_v3_2 : IVec S_ 32) = (fun _ => Scf.iv 0#32 1#32 n)
    ∧ (V main_v3_3 : IVec S16x1024 32) = lst x n
    ∧ (V main_v3_4 : FVec F S16x8192 .f32) = (st x n).1
    ∧ (V main_v3_5 : IVec S16 32) = (st x n).2

theorem carries_cond {V : Valuation τ sig (Elt F)} {x : FVec F S16x8192x3 .f32} {n : ℕ} (h : Carries V x n) : Carries (after condOps V) x n := by
  obtain ⟨ha, h0, h1, h2, h3, h4, h5⟩ := h
  exact ⟨(cond_keep V main_arg0 (by decide) (by decide)).trans ha, (cond_keep V main_v3_0 (by decide) (by decide)).trans h0,
    (cond_keep V main_v3_1 (by decide) (by decide)).trans h1, (cond_keep V main_v3_2 (by decide) (by decide)).trans h2,
    (cond_keep V main_v3_3 (by decide) (by decide)).trans h3, (cond_keep V main_v3_4 (by decide) (by decide)).trans h4,
    (cond_keep V main_v3_5 (by decide) (by decide)).trans h5⟩

theorem carries_body {V : Valuation τ sig (Elt F)} {x : FVec F S16x8192x3 .f32} {n : ℕ} (h : Carries V x n) : Carries (afterL bodyI V) x (n + 1) := by
  obtain ⟨ha, h0, h1, h2, h3, h4, h5⟩ := h
  refine ⟨(body_arg V).trans ha, (body_xyz V).trans h0, (body_ctr V).trans ?_, (body_pos V).trans ?_, (body_list V).trans ?_,
    (body_dist V).trans ?_, (body_far V).trans ?_⟩
  · rw [h1]; exact iv_step n
  · rw [h2]; exact iv_step n
  · rw [lst]; exact put_congr h3 h2 h5
  · rw [h0, h4, h5, st]
  · rw [h0, h4, h5, st]

theorem pre_arg (V : Valuation τ sig (Elt F)) : afterL preI V main_arg0 = V main_arg0 := by
  simp only [preI, afterL]
  after_results

theorem carries_pre (V : Valuation τ sig (Elt F)) : Carries (afterL preI V) (V main_arg0 : FVec F S16x8192x3 .f32) 0 := by
  refine ⟨pre_arg V, ?_, ?_, ?_, ?_, ?_, ?_⟩
  · simp only [preI, afterL]; after_results <;> rfl
  · simp only [preI, afterL]; after_results <;> exact (id_eq _).trans (funext fun _ => (Scf.iv_zero 0#32 1#32).symm)
  · simp only [preI, afterL]; after_results <;> exact (id_eq _).trans (funext fun _ => (Scf.iv_zero 0#32 1#32).symm)
  · simp only [preI, afterL]; after_results <;> rfl
  · simp only [preI, afterL]; after_results <;> rfl
  · simp only [preI, afterL]; after_results <;> rfl

variable (m : (ℓ : Loc nD τ sig) → Buf (Elt F) ℓ)

/-- The argument at launch. -/
def arg (c : Dev nD) : FVec F S16x8192x3 .f32 := m ((c.tc : Thread nD τ).loc main_arg0)

theorem carries (n : ℕ) (c : Dev nD) : Carries (atTrip condOps bodyI (entryContents preI m) n c) (arg m c) n := by
  induction n with
  | zero => exact carries_pre (launchContents m c)
  | succ n ih => exact carries_body (carries_cond ih)

set_option backward.isDefEq.respectTransparency.types false in
/-- The condition before trip `k`: the counter is `k`, so the loop goes on while `k < 1024`. -/
theorem cond_spec [∀ e, Nonempty (Elt F e)] :
    CondSpec (pcfgs (F := F)) defs₀ loops main_while0_cond condOps bodyI (entryContents preI m) 1024 := by
  intro k hk c bd
  have hctr := (carries m k c).2.2.1
  generalize atTrip condOps bodyI (entryContents preI m) k c = V at hctr ⊢
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v3_1 HostLoop.idx0)
        (HloOp.result _ V main_while0c_c_12 HostLoop.idx0) = 1#1) (k < 1024)
    have e₁ : HloOp.result (nullary main_while0c_c_12 (constantI S_ 32 1024#32)) V main_v3_1 = V main_v3_1 :=
      StableHlo.nullary_result_ne (y := main_while0c_c_12) _ _ V (by decide)
    have e₂ : HloOp.result (nullary main_while0c_c_12 (constantI S_ 32 1024#32)) V main_while0c_c_12 = constantI S_ 32 1024#32 :=
      StableHlo.nullary_result (y := main_while0c_c_12) _ _ V
    rw [e₁, e₂, hctr]
    exact Scf.cmpi_slt_iv_ub_iff main_while0_ok hk
  isplitl [Hb]; · iexact Hb
  rw [StableHlo.after_cons, StableHlo.after_cons, StableHlo.after_nil]; iexact Hh

/-! ## The end -/

set_option maxHeartbeats 4000000

/-! ## The parts after the loop, one at a time -/

/-- Taking the centres; finding the nearest points; taking them, less their centre. -/
abbrev takeI : List (List (HloOp τ sig (Elt F))) := [post0, post1]
abbrev nearI : List (List (HloOp τ sig (Elt F))) := [post2]
abbrev nbrI : List (List (HloOp τ sig (Elt F))) := [post3, post4]

theorem post_split (V : Valuation τ sig (Elt F)) : afterL postI V = afterL nbrI (afterL nearI (afterL takeI V)) := rfl

theorem take_arg (V : Valuation τ sig (Elt F)) : afterL takeI V main_arg0 = V main_arg0 := by
  simp only [takeI, afterL, post0, post1, TRef.binary, TRef.nullary, TRef.ternary, TRef.unary, TRef.quaternary, TRef.toBuf, TRef.ofBuf, cast_eq]
  after_results <;> rfl

theorem take_centres (V : Valuation τ sig (Elt F)) (x : FVec F S16x8192x3 .f32) (ha : (V main_arg0 : FVec F S16x8192x3 .f32) = x)
    (hl : (V main_v3_3 : IVec S16x1024 32) = lst x 1024) : (afterL takeI V main_v5 : FVec F S16x1024x3 .f32) = centres x := by
  unfold centres
  rw [← hl, ← ha]
  simp only [takeI, afterL, post0, post1, TRef.binary, TRef.nullary, TRef.ternary, TRef.unary, TRef.quaternary, TRef.toBuf, TRef.ofBuf, cast_eq]
  after_results <;> rfl

theorem nbr_arg (V : Valuation τ sig (Elt F)) : afterL nbrI V main_arg0 = V main_arg0 := by
  simp only [nbrI, afterL, post3, post4, TRef.binary, TRef.nullary, TRef.ternary, TRef.unary, TRef.quaternary, TRef.toBuf, TRef.ofBuf, cast_eq]
  after_results <;> rfl

theorem nbr_centres (V : Valuation τ sig (Elt F)) : afterL nbrI V main_v5 = V main_v5 := by
  simp only [nbrI, afterL, post3, post4, TRef.binary, TRef.nullary, TRef.ternary, TRef.unary, TRef.quaternary, TRef.toBuf, TRef.ofBuf, cast_eq]
  after_results <;> rfl

theorem nbr_lists (V : Valuation τ sig (Elt F)) : afterL nbrI V main_indices = V main_indices := by
  simp only [nbrI, afterL, post3, post4, TRef.binary, TRef.nullary, TRef.ternary, TRef.unary, TRef.quaternary, TRef.toBuf, TRef.ofBuf, cast_eq]
  after_results <;> rfl

theorem nbr_result (V : Valuation τ sig (Elt F)) (g : S16x1024x32.Idx → BitVec 32) (hg : (V main_v24 : IVec S16x32768x1 32) = GatherRef.word g) :
    (afterL nbrI V main_v29 : FVec F S16x1024x32x3 .f32)
      = GatherRef.result (V main_arg0 : FVec F S16x8192x3 .f32) (V main_v5 : FVec F S16x1024x3 .f32) g := by
  unfold GatherRef.result GatherRef.wrapped
  rw [← hg]
  simp only [nbrI, afterL, post3, post4, TRef.binary, TRef.nullary, TRef.ternary, TRef.unary, TRef.quaternary, TRef.toBuf, TRef.ofBuf, cast_eq]
  after_results <;> rfl

theorem near_arg (V : Valuation τ sig (Elt F)) : afterL nearI V main_arg0 = V main_arg0 := by
  simp only [nearI, afterL, post2]; after_results

theorem near_centres (V : Valuation τ sig (Elt F)) : afterL nearI V main_v5 = V main_v5 := by
  simp only [nearI, afterL, post2]; after_results

theorem near_lists (V : Valuation τ sig (Elt Ideal)) : (afterL nearI V main_indices : IVec S16x1024x32 32)
    = SelectRef.lists (V main_arg0 : FVec Ideal S16x8192x3 .f32) (V main_v5 : FVec Ideal S16x1024x3 .f32) := by
  simp only [nearI, afterL, post2]
  after_results <;> rfl

theorem near_words (V : Valuation τ sig (Elt Ideal)) : (afterL nearI V main_v24 : IVec S16x32768x1 32)
    = GatherRef.word (SelectRef.lists (V main_arg0 : FVec Ideal S16x8192x3 .f32) (V main_v5 : FVec Ideal S16x1024x3 .f32)) := by
  simp only [nearI, afterL, post2]
  after_results <;> rfl

/-! ## The parts together -/

theorem post_arg (V : Valuation τ sig (Elt F)) : afterL postI V main_arg0 = V main_arg0 := by
  rw [post_split, nbr_arg, near_arg, take_arg]

section
variable (V : Valuation τ sig (Elt Ideal)) (x : FVec Ideal S16x8192x3 .f32) (ha : (V main_arg0 : FVec Ideal S16x8192x3 .f32) = x)
    (hl : (V main_v3_3 : IVec S16x1024 32) = lst x 1024)
include ha hl

theorem post_centres : (afterL postI V main_v5 : FVec Ideal S16x1024x3 .f32) = centres x := by
  rw [post_split, nbr_centres, near_centres]
  exact take_centres V x ha hl

theorem post_lists : (afterL postI V main_indices : IVec S16x1024x32 32) = SelectRef.lists x (centres x) := by
  rw [post_split, nbr_lists]
  refine (near_lists _).trans ?_
  rw [take_arg, take_centres V x ha hl, ha]

theorem post_result : (afterL postI V main_v29 : FVec Ideal S16x1024x32x3 .f32)
    = GatherRef.result x (centres x) (SelectRef.lists x (centres x)) := by
  rw [post_split]
  refine (nbr_result _ _ (near_words _)).trans ?_
  rw [near_arg, near_centres, take_arg, take_centres V x ha hl, ha]
end

/-- Every weakly fair execution ends, with the three results at the functions of the calls' references and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v29) = GatherRef.result (arg m c) (centres (arg m c)) (SelectRef.lists (arg m c) (centres (arg m c)))
        ∧ r.2.mem ((c.tc : Thread nD τ).loc main_v5) = centres (arg m c)
        ∧ r.2.mem ((c.tc : Thread nD τ).loc main_indices) = SelectRef.lists (arg m c) (centres (arg m c)))
      ∧ r.2.mem ((c.tc : Thread nD τ).loc main_arg0) = m ((c.tc : Thread nD τ).loc main_arg0) :=
  (θ_run defs _ _).mono (fun _ h c => by
      have hk := carries_cond (carries m 1024 c)
      exact ⟨⟨(h c main_v29 rfl).trans (post_result _ _ hk.1 hk.2.2.2.2.1), (h c main_v5 rfl).trans (post_centres _ _ hk.1 hk.2.2.2.2.1),
          (h c main_indices rfl).trans (post_lists _ _ hk.1 hk.2.2.2.2.1)⟩, (h c main_arg0 rfl).trans ((post_arg _).trans hk.1)⟩)
    (StableHlo.run_loop pcfgs defs₀ loops main 0 main_while0_cond main_while0_body rfl preI bodyI postI condOps
      plain_pre plain_body plain_post main_eq body_eq 1024 m ρ (cond_spec m))

end Cert.Proof.KernelRef

end
-- ==== Proof.KernelClaims.lean ====
/-
  The claims about the whole program: over the extended reals it runs and leaves its argument, the reference runs,
  and at real points the two end with equal neighbourhoods, centres and indices.
-/
module

public import proofs.«01_k».proof.Defs
public import proofs.«01_k».proof.Proof.KernelValue
public import proofs.«01_k».proof.Proof.KernelRef
public import Idealize.ShloMosaic.Lib.Quiescent

@[expose] public section

set_option maxRecDepth 16384

noncomputable section

namespace Cert.Proof.KernelClaims

open Idealize.ShloMosaic hiding ix1 ix2 ix3 ix4 eq_ix1 eq_ix2 eq_ix3 eq_ix4
open Idealize.ShloMosaic.TcCoe Idealize.SL.Sem Cert.Proof.Points

theorem frame_pi : Cert.quiescent_KernelIdeal := fun m ρ _ =>
  (θ_run Cert.KernelIdeal.defs _ _).mono (fun _ r => ⟨fun c => (r.1 c).2.2.2, r.2⟩) (KernelIdeal.run m ρ)

theorem frame_ri : Cert.quiescent_KernelRefIdeal := fun m ρ _ =>
  (θ_run Cert.KernelRefIdeal.defs _ _).mono (fun r h => ⟨fun c => (h c).2, sem_eq_zero_of_no_sems (by decide) r.2⟩)
    (KernelRef.run m ρ)

theorem frame_pi_finite : Cert.quiescent_KernelIdeal_pre_finite := fun m ρ _ => frame_pi m ρ trivial

theorem frame_ri_finite : Cert.quiescent_KernelRefIdeal_pre_finite := fun m ρ _ => frame_ri m ρ trivial

/-- From the same points, the reference's three results are the program's. -/
theorem results_eq {x x' : (⟨3, ![16, 8192, 3]⟩ : Shape).Idx → Ideal .f32} (hx : x' = x)
    (hg : ∀ j, (SelectRef.lists x (SampleRef.centres (F := Ideal) x) j).toNat < 8192) :
    GatherRef.result (F := Ideal) x' (SampleRef.centres (F := Ideal) x') (SelectRef.lists x' (SampleRef.centres (F := Ideal) x'))
        = nbr (F := Ideal) x (SampleRef.centres (F := Ideal) x) (SelectRef.lists x (SampleRef.centres (F := Ideal) x))
      ∧ SampleRef.centres (F := Ideal) x' = SampleRef.centres (F := Ideal) x
      ∧ SelectRef.lists x' (SampleRef.centres (F := Ideal) x') = SelectRef.lists x (SampleRef.centres (F := Ideal) x) := by
  subst hx
  exact ⟨GatherRef.result_eq _ _ _ hg, rfl, rfl⟩

theorem algebraic : Cert.algebraic_KernelIdeal_KernelRefIdeal_pre_finite := by
  intro m ρ m' ρ' h hagree
  refine ⟨fun c => nbr (F := Ideal) (KernelIdeal.pts m c) (KernelIdeal.ctr m c) (KernelIdeal.nb m c), fun c => KernelIdeal.ctr m c,
    fun c => KernelIdeal.nb m c, (θ_run Cert.KernelIdeal.defs _ _).mono (fun _ r c => r.1 c) (KernelIdeal.run m ρ), ?_⟩
  refine (θ_run Cert.KernelRefIdeal.defs _ _).mono (fun _ r c => ?_) (KernelRef.run m' ρ')
  have hn := KernelIdeal.nb_eq m c h
  have he := results_eq (hagree c) fun j => (congrArg BitVec.toNat (congrFun hn j)).symm.trans_lt (KernelIdeal.nb_lt m c j)
  exact ⟨(r c).1.1.trans (he.1.trans (congrArg (nbr (F := Ideal) (KernelIdeal.pts m c) (KernelIdeal.ctr m c)) hn.symm)),
    (r c).1.2.1.trans he.2.1, (r c).1.2.2.trans (he.2.2.trans hn.symm), (r c).2⟩

end Cert.Proof.KernelClaims

end
-- ==== Proof.lean ====
/-
  The proof of `Cert.Claim`: each program's stated facts, then its claims from the module that proves them.
-/
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherRefIdeal
public import proofs.«01_k».proof.Proof.Gen.GatherRefIdeal.Run
public import proofs.«01_k».proof.Proof.Gen.Pre_idx_in_rows
public import proofs.«01_k».proof.Proof.Gen.Sample
public import proofs.«01_k».proof.Proof.Gen.SampleIdeal
public import proofs.«01_k».proof.Proof.Gen.SampleIdeal.Value
public import proofs.«01_k».proof.Proof.Gen.SampleRefIdeal
public import proofs.«01_k».proof.Proof.Gen.Select
public import proofs.«01_k».proof.Proof.Gen.SelectIdeal
public import proofs.«01_k».proof.Proof.Gen.SelectIdeal.Value
public import proofs.«01_k».proof.Proof.Gen.SelectRefIdeal
public import proofs.«01_k».proof.Proof.Gen.SelectRefIdeal.Run
public import proofs.«01_k».proof.Proof.Gen.Pre_finite2
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelRefIdeal
public import proofs.«01_k».proof.Proof.Gen.Pre_finite
public import proofs.«01_k».proof.Proof.GatherClaims
public import proofs.«01_k».proof.Proof.SampleClaims
public import proofs.«01_k».proof.Proof.SelectClaims
public import proofs.«01_k».proof.Proof.KernelClaims
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.GatherRefIdeal.Gen.facts,
  Cert.Sample.Gen.facts, Cert.SampleIdeal.Gen.facts, Cert.SampleRefIdeal.Gen.facts,
  Cert.Select.Gen.facts, Cert.SelectIdeal.Gen.facts, Cert.SelectRefIdeal.Gen.facts,
  Cert.KernelIdeal.Gen.facts, Cert.KernelRefIdeal.Gen.facts,
  Cert.Pre_idx_in_rows.Gen.facts, Cert.Pre_finite2.Gen.facts, Cert.Pre_finite.Gen.facts,
  GatherClaims.frame_p, GatherClaims.frame_pi, GatherClaims.frame_ri,
  SampleClaims.frame_p, SampleClaims.frame_pi, SampleClaims.frame_ri,
  SelectClaims.frame_p, SelectClaims.frame_pi, SelectClaims.frame_pi_finite, SelectClaims.frame_ri, SelectClaims.frame_ri_finite,
  KernelClaims.frame_pi, KernelClaims.frame_pi_finite, KernelClaims.frame_ri, KernelClaims.frame_ri_finite,
  trivial, GatherClaims.algebraic, trivial, SampleClaims.algebraic, trivial, SelectClaims.algebraic,
  KernelClaims.algebraic⟩

end Cert.Proof

end
